-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v22_0)) (v1 : (c : Dev Cert.Kernel5Ideal.nD) → Buf (Elt Ideal) ((c.tc : Thread Cert.Kernel5Ideal.nD Cert.Kernel5Ideal.τ).loc Cert.Kernel5Ideal.main_v22_1)) (v2 : (c : Dev Cert.Kernel5Ideal.nD) → Buf (Elt Ideal) ((c.tc : Thread Cert.Kernel5Ideal.nD Cert.Kernel5Ideal.τ).loc Cert.Kernel5Ideal.main_v22_2)) (v3 : (c : Dev Cert.Kernel5Ideal.nD) → Buf (Elt Ideal) ((c.tc : Thread Cert.Kernel5Ideal.nD Cert.Kernel5Ideal.τ).loc Cert.Kernel5Ideal.main_v22_3)) (v4 : (c : Dev Cert.Kernel5Ideal.nD) → Buf (Elt Ideal) ((c.tc : Thread Cert.Kernel5Ideal.nD Cert.Kernel5Ideal.τ).loc Cert.Kernel5Ideal.main_v22_4)) (v5 : (c : Dev Cert.Kernel5Ideal.nD) → Buf (Elt Ideal) ((c.tc : Thread Cert.Kernel5Ideal.nD Cert.Kernel5Ideal.τ).loc Cert.Kernel5Ideal.main_v22_5)) (v6 : (c : Dev Cert.Kernel5Ideal.nD) → Buf (Elt Ideal) ((c.tc : Thread Cert.Kernel5Ideal.nD Cert.Kernel5Ideal.τ).loc Cert.Kernel5Ideal.main_v22_6)) (v7 : (c : Dev Cert.Kernel5Ideal.nD) → Buf (Elt Ideal) ((c.tc : Thread Cert.Kernel5Ideal.nD Cert.Kernel5Ideal.τ).loc Cert.Kernel5Ideal.main_v22_7)) (v8 : (c : Dev Cert.Kernel5Ideal.nD) → Buf (Elt Ideal) ((c.tc : Thread Cert.Kernel5Ideal.nD Cert.Kernel5Ideal.τ).loc Cert.Kernel5Ideal.main_v22_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22_0) = v0 c
          ∧ r.2.mem ((c.tc : Thread Cert.Kernel5Ideal.nD Cert.Kernel5Ideal.τ).loc Cert.Kernel5Ideal.main_v22_1) = v1 c
          ∧ r.2.mem ((c.tc : Thread Cert.Kernel5Ideal.nD Cert.Kernel5Ideal.τ).loc Cert.Kernel5Ideal.main_v22_2) = v2 c
          ∧ r.2.mem ((c.tc : Thread Cert.Kernel5Ideal.nD Cert.Kernel5Ideal.τ).loc Cert.Kernel5Ideal.main_v22_3) = v3 c
          ∧ r.2.mem ((c.tc : Thread Cert.Kernel5Ideal.nD Cert.Kernel5Ideal.τ).loc Cert.Kernel5Ideal.main_v22_4) = v4 c
          ∧ r.2.mem ((c.tc : Thread Cert.Kernel5Ideal.nD Cert.Kernel5Ideal.τ).loc Cert.Kernel5Ideal.main_v22_5) = v5 c
          ∧ r.2.mem ((c.tc : Thread Cert.Kernel5Ideal.nD Cert.Kernel5Ideal.τ).loc Cert.Kernel5Ideal.main_v22_6) = v6 c
          ∧ r.2.mem ((c.tc : Thread Cert.Kernel5Ideal.nD Cert.Kernel5Ideal.τ).loc Cert.Kernel5Ideal.main_v22_7) = v7 c
          ∧ r.2.mem ((c.tc : Thread Cert.Kernel5Ideal.nD Cert.Kernel5Ideal.τ).loc Cert.Kernel5Ideal.main_v22_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v70) = v0 c
          ∧ r.2.mem ((c.tc : Thread Cert.Reference5Ideal.nD Cert.Reference5Ideal.τ).loc Cert.Reference5Ideal.main_v71) = v1 c
          ∧ r.2.mem ((c.tc : Thread Cert.Reference5Ideal.nD Cert.Reference5Ideal.τ).loc Cert.Reference5Ideal.main_v72) = v2 c
          ∧ r.2.mem ((c.tc : Thread Cert.Reference5Ideal.nD Cert.Reference5Ideal.τ).loc Cert.Reference5Ideal.main_v79) = v3 c
          ∧ r.2.mem ((c.tc : Thread Cert.Reference5Ideal.nD Cert.Reference5Ideal.τ).loc Cert.Reference5Ideal.main_v63) = v4 c
          ∧ r.2.mem ((c.tc : Thread Cert.Reference5Ideal.nD Cert.Reference5Ideal.τ).loc Cert.Reference5Ideal.main_v80) = v5 c
          ∧ r.2.mem ((c.tc : Thread Cert.Reference5Ideal.nD Cert.Reference5Ideal.τ).loc Cert.Reference5Ideal.main_v81) = v6 c
          ∧ r.2.mem ((c.tc : Thread Cert.Reference5Ideal.nD Cert.Reference5Ideal.τ).loc Cert.Reference5Ideal.main_v82) = v7 c
          ∧ r.2.mem ((c.tc : Thread Cert.Reference5Ideal.nD Cert.Reference5Ideal.τ).loc Cert.Reference5Ideal.main_v84) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v54) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v11)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v71) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite7 : Cert.Pre_finite7.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite7.lean ====
abbrev S65536x1024 : Shape := ⟨2, ![65536, 1024]⟩
abbrev S65536x128 : Shape := ⟨2, ![65536, 128]⟩
abbrev S4 : Shape := ⟨1, ![4]⟩
abbrev S1024 : Shape := ⟨1, ![1024]⟩
abbrev S_ : Shape := ⟨0, ![]⟩

class Facts : Prop where
  bitsLt_bf16_f32 : FTy.bits .bf16 < FTy.bits .f32
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S4 .f32) (main_v15 : IVec S_ 1) (main_v16 : FVec F S4 .f32) (main_cst_4 : FVec F S_ .f32) : IVec S_ 1 :=
  let main_v17 : FVec F S4 .f32 := broadcastInDim S4 ![] bcast_S_S4 main_cst_4
  let main_v18 : IVec S4 1 := cmpf .olt main_v16 main_v17
  let main_c_5 : IVec S_ 1 := constantI S_ 1 1#1
  let main_v19 : IVec S_ 1 := (fun x v => Host.reduce IntOp.andi x v reducesTo_S4_S_d0 h_S_) main_v18 main_c_5
  let main_v20 : IVec S_ 1 := andi main_v15 main_v19
  let main_v21 : FVec F S4 .f32 := Host.absf main_arg5
  let main_cst_6 : FVec F S_ .f32 := constant S_ .f32 0x7F800000#32
  let main_v22 : FVec F S4 .f32 := broadcastInDim S4 ![] bcast_S_S4 main_cst_6
  let main_v23 : IVec S4 1 := cmpf .olt main_v21 main_v22
  let main_c_7 : IVec S_ 1 := constantI S_ 1 1#1
  let main_v24 : IVec S_ 1 := (fun x v => Host.reduce IntOp.andi x v reducesTo_S4_S_d0 h_S_) main_v23 main_c_7
  let main_v25 : IVec S_ 1 := andi main_v20 main_v24
  main_v25

def fn {F : FTy → Type} [FloatOps F] (main_arg0 : FVec F S65536x1024 .bf16) (main_arg1 : FVec F S65536x1024 .bf16) (main_arg2 : FVec F S65536x1024 .bf16) (main_arg3 : FVec F S65536x128 .f32) (main_arg4 : FVec F S4 .f32) (main_arg5 : FVec F S4 .f32) (main_arg6 : FVec F S1024 .f32) : IVec S_ 1 :=
  let main_v0 : FVec F S65536x1024 .f32 := (extf .f32 · bitsLt_bf16_f32) main_arg0
  let main_v1 : FVec F S65536x1024 .f32 := Host.absf main_v0
  let main_cst : FVec F S_ .f32 := constant S_ .f32 0x7F800000#32
  let main_v2 : FVec F S65536x1024 .f32 := broadcastInDim S65536x1024 ![] bcast_S_S65536x1024 main_cst
  let main_v3 : IVec S65536x1024 1 := cmpf .olt main_v1 main_v2
  let main_c : IVec S_ 1 := constantI S_ 1 1#1
  let main_v4 : IVec S_ 1 := (fun x v => Host.reduce IntOp.andi x v reducesTo_S65536x1024_S_d0_1 h_S_) main_v3 main_c
  let main_v5 : FVec F S65536x1024 .f32 := (extf .f32 · bitsLt_bf16_f32) main_arg1
  let main_v6 : FVec F S65536x1024 .f32 := Host.absf main_v5
  let main_cst_0 : FVec F S_ .f32 := constant S_ .f32 0x7F800000#32
  let main_v7 : FVec F S65536x1024 .f32 := broadcastInDim S65536x1024 ![] bcast_S_S65536x1024 main_cst_0
  let main_v8 : IVec S65536x1024 1 := cmpf .olt main_v6 main_v7
  let main_c_1 : IVec S_ 1 := constantI S_ 1 1#1
  let main_v9 : IVec S_ 1 := (fun x v => Host.reduce IntOp.andi x v reducesTo_S65536x1024_S_d0_1 h_S_) main_v8 main_c_1
  let main_v10 : IVec S_ 1 := andi main_v4 main_v9
  let main_v11 : FVec F S65536x128 .f32 := Host.absf main_arg3
  let main_cst_2 : FVec F S_ .f32 := constant S_ .f32 0x7F800000#32
  let main_v12 : FVec F S65536x128 .f32 := broadcastInDim S65536x128 ![] bcast_S_S65536x128 main_cst_2
  let main_v13 : IVec S65536x128 1 := cmpf .olt main_v11 main_v12
  let main_c_3 : IVec S_ 1 := constantI S_ 1 1#1
  let main_v14 : IVec S_ 1 := (fun x v => Host.reduce IntOp.andi x v reducesTo_S65536x128_S_d0_1 h_S_) main_v13 main_c_3
  let main_v15 : IVec S_ 1 := andi main_v10 main_v14
  let main_v16 : FVec F S4 .f32 := Host.absf main_arg4
  let main_cst_4 : FVec F S_ .f32 := constant S_ .f32 0x7F800000#32
  fn_part1 (F := F) main_arg5 main_v15 main_v16 main_cst_4
-- ==== Kernel.lean ====
abbrev S65536x512 : Shape := ⟨2, ![65536, 512]⟩
abbrev S65536x256 : Shape := ⟨2, ![65536, 256]⟩
abbrev S65536x128 : Shape := ⟨2, ![65536, 128]⟩
abbrev S_ : Shape := ⟨0, ![]⟩
abbrev S512x512 : Shape := ⟨2, ![512, 512]⟩
abbrev S128x128 : Shape := ⟨2, ![128, 128]⟩
abbrev S1x128x1x128 : Shape := ⟨4, ![1, 128, 1, 128]⟩
abbrev S8x128x1x128 : Shape := ⟨4, ![8, 128, 1, 128]⟩
abbrev S1024x128 : Shape := ⟨2, ![1024, 128]⟩
abbrev S16x4096x512 : Shape := ⟨3, ![16, 4096, 512]⟩
abbrev S16x4096x256 : Shape := ⟨3, ![16, 4096, 256]⟩
abbrev S16x4096x128 : Shape := ⟨3, ![16, 4096, 128]⟩
abbrev S1x128x512 : Shape := ⟨3, ![1, 128, 512]⟩
abbrev S1x128x256 : Shape := ⟨3, ![1, 128, 256]⟩
abbrev S1x128x128 : Shape := ⟨3, ![1, 128, 128]⟩
abbrev S1x4096x256 : Shape := ⟨3, ![1, 4096, 256]⟩
abbrev S8x512x128 : Shape := ⟨3, ![8, 512, 128]⟩
abbrev S8x32x16x128 : Shape := ⟨4, ![8, 32, 16, 128]⟩
abbrev S8x16x128 : Shape := ⟨3, ![8, 16, 128]⟩
abbrev S512x1152 : Shape := ⟨2, ![512, 1152]⟩
abbrev S128x1152 : Shape := ⟨2, ![128, 1152]⟩
abbrev S8x128 : Shape := ⟨2, ![8, 128]⟩
abbrev S512x128 : Shape := ⟨2, ![512, 128]⟩
abbrev S1x128 : Shape := ⟨2, ![1, 128]⟩
abbrev S256x128 : Shape := ⟨2, ![256, 128]⟩
abbrev S1x256x128 : Shape := ⟨3, ![1, 256, 128]⟩
abbrev S256x512 : Shape := ⟨2, ![256, 512]⟩
abbrev S1x1x8x128 : Shape := ⟨4, ![1, 1, 8, 128]⟩
abbrev S16x128 : Shape := ⟨2, ![16, 128]⟩
abbrev S1x16x128 : Shape := ⟨3, ![1, 16, 128]⟩
abbrev S1x1x16x128 : Shape := ⟨4, ![1, 1, 16, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S1024x256 : Shape := ⟨2, ![1024, 256]⟩
abbrev S64x512 : Shape := ⟨2, ![64, 512]⟩
abbrev S1x512x128 : Shape := ⟨3, ![1, 512, 128]⟩
abbrev S8x64x128 : Shape := ⟨3, ![8, 64, 128]⟩
abbrev S64x128 : Shape := ⟨2, ![64, 128]⟩
abbrev S512x256 : Shape := ⟨2, ![512, 256]⟩
abbrev S512x1024 : Shape := ⟨2, ![512, 1024]⟩
abbrev S128x512 : Shape := ⟨2, ![128, 512]⟩
abbrev S128x1024 : Shape := ⟨2, ![128, 1024]⟩
abbrev S1x1024 : Shape := ⟨2, ![1, 1024]⟩

abbrev nBuf : Space → Nat
  | .hbm => 31
  | .vmem => 20
  | .smem => 0
  | _ => 0

abbrev bufTy : (tb : Table) → Fin (tcTables nBuf tb) → BufTy
  | .hbm, ⟨0, _⟩ => ⟨S65536x512, .bf16⟩
  | .hbm, ⟨1, _⟩ => ⟨S65536x256, .bf16⟩
  | .hbm, ⟨2, _⟩ => ⟨S65536x128, .f32⟩
  | .hbm, ⟨3, _⟩ => ⟨S65536x256, .bf16⟩
  | .hbm, ⟨4, _⟩ => ⟨S_, .bf16⟩
  | .hbm, ⟨5, _⟩ => ⟨S512x512, .bf16⟩
  | .hbm, ⟨6, _⟩ => ⟨S512x512, .i32⟩
  | .hbm, ⟨7, _⟩ => ⟨S_, .i32⟩
  | .hbm, ⟨8, _⟩ => ⟨S512x512, .i32⟩
  | .hbm, ⟨9, _⟩ => ⟨S512x512, .i32⟩
  | .hbm, ⟨10, _⟩ => ⟨S512x512, .i32⟩
  | .hbm, ⟨11, _⟩ => ⟨S512x512, .i1⟩
  | .hbm, ⟨12, _⟩ => ⟨S_, .bf16⟩
  | .hbm, ⟨13, _⟩ => ⟨S512x512, .bf16⟩
  | .hbm, ⟨14, _⟩ => ⟨S512x512, .bf16⟩
  | .hbm, ⟨15, _⟩ => ⟨S128x128, .i32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i32⟩
  | .hbm, ⟨20, _⟩ => ⟨S128x128, .i1⟩
  | .hbm, ⟨21, _⟩ => ⟨S128x128, .bf16⟩
  | .hbm, ⟨22, _⟩ => ⟨S1x128x1x128, .bf16⟩
  | .hbm, ⟨23, _⟩ => ⟨S8x128x1x128, .bf16⟩
  | .hbm, ⟨24, _⟩ => ⟨S1024x128, .bf16⟩
  | .hbm, ⟨25, _⟩ => ⟨S16x4096x512, .bf16⟩
  | .hbm, ⟨26, _⟩ => ⟨S16x4096x256, .bf16⟩
  | .hbm, ⟨27, _⟩ => ⟨S16x4096x128, .f32⟩
  | .hbm, ⟨28, _⟩ => ⟨S16x4096x256, .bf16⟩
  | .hbm, ⟨29, _⟩ => ⟨S16x4096x512, .bf16⟩
  | .hbm, ⟨30, _⟩ => ⟨S65536x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x128, .f32⟩
  | .local _ .vmem, ⟨5, _⟩ => ⟨S1x128x128, .f32⟩
  | .local _ .vmem, ⟨6, _⟩ => ⟨S1x4096x256, .bf16⟩
  | .local _ .vmem, ⟨7, _⟩ => ⟨S1x4096x256, .bf16⟩
  | .local _ .vmem, ⟨8, _⟩ => ⟨S512x512, .bf16⟩
  | .local _ .vmem, ⟨9, _⟩ => ⟨S1024x128, .bf16⟩
  | .local _ .vmem, ⟨10, _⟩ => ⟨S1x128x512, .bf16⟩
  | .local _ .vmem, ⟨11, _⟩ => ⟨S1x128x512, .bf16⟩
  | .local _ .vmem, ⟨12, _⟩ => ⟨S8x512x128, .i32⟩
  | .local _ .vmem, ⟨13, _⟩ => ⟨S8x32x16x128, .i32⟩
  | .local _ .vmem, ⟨14, _⟩ => ⟨S8x16x128, .i32⟩
  | .local _ .vmem, ⟨15, _⟩ => ⟨S512x1152, .f32⟩
  | .local _ .vmem, ⟨16, _⟩ => ⟨S512x1152, .f32⟩
  | .local _ .vmem, ⟨17, _⟩ => ⟨S512x1152, .bf16⟩
  | .local _ .vmem, ⟨18, _⟩ => ⟨S128x1152, .f32⟩
  | .local _ .vmem, ⟨19, _⟩ => ⟨S8x128, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [BitOps F]

abbrev grid0 : Pipeline.Grid := ⟨2, ![16, 32], ![false, false]⟩

@[reducible] def k0_t1_loop (i : grid0.Coords) : Scf.Loop 32 :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_20 : BitVec 32 := 1#32
  ⟨c0_i32_18, v58, c1_i32_20⟩
def k0_mult1 (i : grid0.Coords) (k0_t1 : Fin (k0_t1_loop i).trips) : BitVec 32 :=
  let c0_i32_18 : BitVec 32 := 0#32
  let c1_i32_20 : BitVec 32 := 1#32
  let arg17 : BitVec 32 := Scf.iv c0_i32_18 c1_i32_20 k0_t1
  let c512_i32_120 : BitVec 32 := 512#32
  let v236 : BitVec 32 := Scalar.muli arg17 c512_i32_120
  let c0_i32_121 : BitVec 32 := 0#32
  let v237 : BitVec 32 := Scalar.addi v236 c0_i32_121
  v237
def k0_off1 (i : grid0.Coords) (k0_t1 : Fin (k0_t1_loop i).trips) (c0_i32_121 : BitVec 32) : Fin 3 → Nat :=
  let c0_122 : Index := 0#32
  let c0_i32_18 : BitVec 32 := 0#32
  let c1_i32_20 : BitVec 32 := 1#32
  let arg17 : BitVec 32 := Scf.iv c0_i32_18 c1_i32_20 k0_t1
  let c512_i32_120 : BitVec 32 := 512#32
  let v236 : BitVec 32 := Scalar.muli arg17 c512_i32_120
  let v237 : BitVec 32 := Scalar.addi v236 c0_i32_121
  let v238 : BitVec 32 := v237
  let v239 : Index := Scalar.indexCast v238
  let c128_123 : Index := 128#32
  ![0, v239.toNat, 128]
def k0_off2 (i : grid0.Coords) (k0_t1 : Fin (k0_t1_loop i).trips) : Fin 3 → Nat :=
  let c0_i32_18 : BitVec 32 := 0#32
  let c1_i32_20 : BitVec 32 := 1#32
  let arg17 : BitVec 32 := Scf.iv c0_i32_18 c1_i32_20 k0_t1
  let v280 : Index := Scalar.indexCast arg17
  let c0_133 : Index := 0#32
  let c0_134 : Index := 0#32
  ![v280.toNat, 0, 0]
def k0_off3 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1038 : Index := Scalar.indexCast arg17
  let c0_367 : Index := 0#32
  let c0_368 : Index := 0#32
  let c0_369 : Index := 0#32
  ![v1038.toNat, 0, 0, 0]
def k0_off4 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1042 : Index := Scalar.indexCast arg17
  let c1 : Index := 1#32
  let c0_370 : Index := 0#32
  let c0_371 : Index := 0#32
  ![v1042.toNat, 1, 0, 0]
def k0_off5 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1046 : Index := Scalar.indexCast arg17
  let c2 : Index := 2#32
  let c0_372 : Index := 0#32
  let c0_373 : Index := 0#32
  ![v1046.toNat, 2, 0, 0]
def k0_off6 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1050 : Index := Scalar.indexCast arg17
  let c3 : Index := 3#32
  let c0_374 : Index := 0#32
  let c0_375 : Index := 0#32
  ![v1050.toNat, 3, 0, 0]
def k0_off7 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1054 : Index := Scalar.indexCast arg17
  let c4 : Index := 4#32
  let c0_376 : Index := 0#32
  let c0_377 : Index := 0#32
  ![v1054.toNat, 4, 0, 0]
def k0_off8 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1058 : Index := Scalar.indexCast arg17
  let c5 : Index := 5#32
  let c0_378 : Index := 0#32
  let c0_379 : Index := 0#32
  ![v1058.toNat, 5, 0, 0]
def k0_off9 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1062 : Index := Scalar.indexCast arg17
  let c6 : Index := 6#32
  let c0_380 : Index := 0#32
  let c0_381 : Index := 0#32
  ![v1062.toNat, 6, 0, 0]
def k0_off10 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1066 : Index := Scalar.indexCast arg17
  let c7 : Index := 7#32
  let c0_382 : Index := 0#32
  let c0_383 : Index := 0#32
  ![v1066.toNat, 7, 0, 0]
def k0_off11 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1070 : Index := Scalar.indexCast arg17
  let c8 : Index := 8#32
  let c0_384 : Index := 0#32
  let c0_385 : Index := 0#32
  ![v1070.toNat, 8, 0, 0]
def k0_off12 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1074 : Index := Scalar.indexCast arg17
  let c9 : Index := 9#32
  let c0_386 : Index := 0#32
  let c0_387 : Index := 0#32
  ![v1074.toNat, 9, 0, 0]
def k0_off13 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1078 : Index := Scalar.indexCast arg17
  let c10 : Index := 10#32
  let c0_388 : Index := 0#32
  let c0_389 : Index := 0#32
  ![v1078.toNat, 10, 0, 0]
def k0_off14 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1082 : Index := Scalar.indexCast arg17
  let c11 : Index := 11#32
  let c0_390 : Index := 0#32
  let c0_391 : Index := 0#32
  ![v1082.toNat, 11, 0, 0]
def k0_off15 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1086 : Index := Scalar.indexCast arg17
  let c12 : Index := 12#32
  let c0_392 : Index := 0#32
  let c0_393 : Index := 0#32
  ![v1086.toNat, 12, 0, 0]
def k0_off16 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1090 : Index := Scalar.indexCast arg17
  let c13 : Index := 13#32
  let c0_394 : Index := 0#32
  let c0_395 : Index := 0#32
  ![v1090.toNat, 13, 0, 0]
def k0_off17 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1094 : Index := Scalar.indexCast arg17
  let c14 : Index := 14#32
  let c0_396 : Index := 0#32
  let c0_397 : Index := 0#32
  ![v1094.toNat, 14, 0, 0]
def k0_off18 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1098 : Index := Scalar.indexCast arg17
  let c15 : Index := 15#32
  let c0_398 : Index := 0#32
  let c0_399 : Index := 0#32
  ![v1098.toNat, 15, 0, 0]
def k0_off19 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1102 : Index := Scalar.indexCast arg17
  let c16 : Index := 16#32
  let c0_400 : Index := 0#32
  let c0_401 : Index := 0#32
  ![v1102.toNat, 16, 0, 0]
def k0_off20 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1106 : Index := Scalar.indexCast arg17
  let c17 : Index := 17#32
  let c0_402 : Index := 0#32
  let c0_403 : Index := 0#32
  ![v1106.toNat, 17, 0, 0]
def k0_off21 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1110 : Index := Scalar.indexCast arg17
  let c18 : Index := 18#32
  let c0_404 : Index := 0#32
  let c0_405 : Index := 0#32
  ![v1110.toNat, 18, 0, 0]
def k0_off22 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1114 : Index := Scalar.indexCast arg17
  let c19 : Index := 19#32
  let c0_406 : Index := 0#32
  let c0_407 : Index := 0#32
  ![v1114.toNat, 19, 0, 0]
def k0_off23 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1118 : Index := Scalar.indexCast arg17
  let c20 : Index := 20#32
  let c0_408 : Index := 0#32
  let c0_409 : Index := 0#32
  ![v1118.toNat, 20, 0, 0]
def k0_off24 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1122 : Index := Scalar.indexCast arg17
  let c21 : Index := 21#32
  let c0_410 : Index := 0#32
  let c0_411 : Index := 0#32
  ![v1122.toNat, 21, 0, 0]
def k0_off25 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1126 : Index := Scalar.indexCast arg17
  let c22 : Index := 22#32
  let c0_412 : Index := 0#32
  let c0_413 : Index := 0#32
  ![v1126.toNat, 22, 0, 0]
def k0_off26 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1130 : Index := Scalar.indexCast arg17
  let c23 : Index := 23#32
  let c0_414 : Index := 0#32
  let c0_415 : Index := 0#32
  ![v1130.toNat, 23, 0, 0]
def k0_off27 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1134 : Index := Scalar.indexCast arg17
  let c24 : Index := 24#32
  let c0_416 : Index := 0#32
  let c0_417 : Index := 0#32
  ![v1134.toNat, 24, 0, 0]
def k0_off28 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1138 : Index := Scalar.indexCast arg17
  let c25 : Index := 25#32
  let c0_418 : Index := 0#32
  let c0_419 : Index := 0#32
  ![v1138.toNat, 25, 0, 0]
def k0_off29 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1142 : Index := Scalar.indexCast arg17
  let c26 : Index := 26#32
  let c0_420 : Index := 0#32
  let c0_421 : Index := 0#32
  ![v1142.toNat, 26, 0, 0]
def k0_off30 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1146 : Index := Scalar.indexCast arg17
  let c27 : Index := 27#32
  let c0_422 : Index := 0#32
  let c0_423 : Index := 0#32
  ![v1146.toNat, 27, 0, 0]
def k0_off31 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1150 : Index := Scalar.indexCast arg17
  let c28 : Index := 28#32
  let c0_424 : Index := 0#32
  let c0_425 : Index := 0#32
  ![v1150.toNat, 28, 0, 0]
def k0_off32 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1154 : Index := Scalar.indexCast arg17
  let c29 : Index := 29#32
  let c0_426 : Index := 0#32
  let c0_427 : Index := 0#32
  ![v1154.toNat, 29, 0, 0]
def k0_off33 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1158 : Index := Scalar.indexCast arg17
  let c30 : Index := 30#32
  let c0_428 : Index := 0#32
  let c0_429 : Index := 0#32
  ![v1158.toNat, 30, 0, 0]
def k0_off34 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1162 : Index := Scalar.indexCast arg17
  let c31 : Index := 31#32
  let c0_430 : Index := 0#32
  let c0_431 : Index := 0#32
  ![v1162.toNat, 31, 0, 0]
def k0_mult2 (i : grid0.Coords) (k0_t1 : Fin (k0_t1_loop i).trips) : BitVec 32 :=
  let c0_i32_18 : BitVec 32 := 0#32
  let c1_i32_20 : BitVec 32 := 1#32
  let arg17 : BitVec 32 := Scf.iv c0_i32_18 c1_i32_20 k0_t1
  let c512_i32_432 : BitVec 32 := 512#32
  let v1166 : BitVec 32 := Scalar.muli arg17 c512_i32_432
  let c256_i32 : BitVec 32 := 256#32
  let v1167 : BitVec 32 := Scalar.addi v1166 c256_i32
  v1167
def k0_off35 (i : grid0.Coords) (k0_t1 : Fin (k0_t1_loop i).trips) : Fin 3 → Nat :=
  let c0_i32_18 : BitVec 32 := 0#32
  let c1_i32_20 : BitVec 32 := 1#32
  let arg17 : BitVec 32 := Scf.iv c0_i32_18 c1_i32_20 k0_t1
  let v1210 : Index := Scalar.indexCast arg17
  let c256_445 : Index := 256#32
  let c0_446 : Index := 0#32
  ![v1210.toNat, 256, 0]
def k0_off36 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1968 : Index := Scalar.indexCast arg17
  let c0_688 : Index := 0#32
  let c8_689 : Index := 8#32
  let c0_690 : Index := 0#32
  ![v1968.toNat, 0, 8, 0]
def k0_off37 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1972 : Index := Scalar.indexCast arg17
  let c1_691 : Index := 1#32
  let c8_692 : Index := 8#32
  let c0_693 : Index := 0#32
  ![v1972.toNat, 1, 8, 0]
def k0_off38 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1976 : Index := Scalar.indexCast arg17
  let c2_694 : Index := 2#32
  let c8_695 : Index := 8#32
  let c0_696 : Index := 0#32
  ![v1976.toNat, 2, 8, 0]
def k0_off39 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1980 : Index := Scalar.indexCast arg17
  let c3_697 : Index := 3#32
  let c8_698 : Index := 8#32
  let c0_699 : Index := 0#32
  ![v1980.toNat, 3, 8, 0]
def k0_off40 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1984 : Index := Scalar.indexCast arg17
  let c4_700 : Index := 4#32
  let c8_701 : Index := 8#32
  let c0_702 : Index := 0#32
  ![v1984.toNat, 4, 8, 0]
def k0_off41 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1988 : Index := Scalar.indexCast arg17
  let c5_703 : Index := 5#32
  let c8_704 : Index := 8#32
  let c0_705 : Index := 0#32
  ![v1988.toNat, 5, 8, 0]
def k0_off42 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1992 : Index := Scalar.indexCast arg17
  let c6_706 : Index := 6#32
  let c8_707 : Index := 8#32
  let c0_708 : Index := 0#32
  ![v1992.toNat, 6, 8, 0]
def k0_off43 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v1996 : Index := Scalar.indexCast arg17
  let c7_709 : Index := 7#32
  let c8_710 : Index := 8#32
  let c0_711 : Index := 0#32
  ![v1996.toNat, 7, 8, 0]
def k0_off44 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2000 : Index := Scalar.indexCast arg17
  let c8_712 : Index := 8#32
  let c8_713 : Index := 8#32
  let c0_714 : Index := 0#32
  ![v2000.toNat, 8, 8, 0]
def k0_off45 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2004 : Index := Scalar.indexCast arg17
  let c9_715 : Index := 9#32
  let c8_716 : Index := 8#32
  let c0_717 : Index := 0#32
  ![v2004.toNat, 9, 8, 0]
def k0_off46 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2008 : Index := Scalar.indexCast arg17
  let c10_718 : Index := 10#32
  let c8_719 : Index := 8#32
  let c0_720 : Index := 0#32
  ![v2008.toNat, 10, 8, 0]
def k0_off47 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2012 : Index := Scalar.indexCast arg17
  let c11_721 : Index := 11#32
  let c8_722 : Index := 8#32
  let c0_723 : Index := 0#32
  ![v2012.toNat, 11, 8, 0]
def k0_off48 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2016 : Index := Scalar.indexCast arg17
  let c12_724 : Index := 12#32
  let c8_725 : Index := 8#32
  let c0_726 : Index := 0#32
  ![v2016.toNat, 12, 8, 0]
def k0_off49 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2020 : Index := Scalar.indexCast arg17
  let c13_727 : Index := 13#32
  let c8_728 : Index := 8#32
  let c0_729 : Index := 0#32
  ![v2020.toNat, 13, 8, 0]
def k0_off50 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2024 : Index := Scalar.indexCast arg17
  let c14_730 : Index := 14#32
  let c8_731 : Index := 8#32
  let c0_732 : Index := 0#32
  ![v2024.toNat, 14, 8, 0]
def k0_off51 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2028 : Index := Scalar.indexCast arg17
  let c15_733 : Index := 15#32
  let c8_734 : Index := 8#32
  let c0_735 : Index := 0#32
  ![v2028.toNat, 15, 8, 0]
def k0_off52 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2032 : Index := Scalar.indexCast arg17
  let c16_736 : Index := 16#32
  let c8_737 : Index := 8#32
  let c0_738 : Index := 0#32
  ![v2032.toNat, 16, 8, 0]
def k0_off53 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2036 : Index := Scalar.indexCast arg17
  let c17_739 : Index := 17#32
  let c8_740 : Index := 8#32
  let c0_741 : Index := 0#32
  ![v2036.toNat, 17, 8, 0]
def k0_off54 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2040 : Index := Scalar.indexCast arg17
  let c18_742 : Index := 18#32
  let c8_743 : Index := 8#32
  let c0_744 : Index := 0#32
  ![v2040.toNat, 18, 8, 0]
def k0_off55 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2044 : Index := Scalar.indexCast arg17
  let c19_745 : Index := 19#32
  let c8_746 : Index := 8#32
  let c0_747 : Index := 0#32
  ![v2044.toNat, 19, 8, 0]
def k0_off56 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2048 : Index := Scalar.indexCast arg17
  let c20_748 : Index := 20#32
  let c8_749 : Index := 8#32
  let c0_750 : Index := 0#32
  ![v2048.toNat, 20, 8, 0]
def k0_off57 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2052 : Index := Scalar.indexCast arg17
  let c21_751 : Index := 21#32
  let c8_752 : Index := 8#32
  let c0_753 : Index := 0#32
  ![v2052.toNat, 21, 8, 0]
def k0_off58 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2056 : Index := Scalar.indexCast arg17
  let c22_754 : Index := 22#32
  let c8_755 : Index := 8#32
  let c0_756 : Index := 0#32
  ![v2056.toNat, 22, 8, 0]
def k0_off59 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2060 : Index := Scalar.indexCast arg17
  let c23_757 : Index := 23#32
  let c8_758 : Index := 8#32
  let c0_759 : Index := 0#32
  ![v2060.toNat, 23, 8, 0]
def k0_off60 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2064 : Index := Scalar.indexCast arg17
  let c24_760 : Index := 24#32
  let c8_761 : Index := 8#32
  let c0_762 : Index := 0#32
  ![v2064.toNat, 24, 8, 0]
def k0_off61 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2068 : Index := Scalar.indexCast arg17
  let c25_763 : Index := 25#32
  let c8_764 : Index := 8#32
  let c0_765 : Index := 0#32
  ![v2068.toNat, 25, 8, 0]
def k0_off62 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2072 : Index := Scalar.indexCast arg17
  let c26_766 : Index := 26#32
  let c8_767 : Index := 8#32
  let c0_768 : Index := 0#32
  ![v2072.toNat, 26, 8, 0]
def k0_off63 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2076 : Index := Scalar.indexCast arg17
  let c27_769 : Index := 27#32
  let c8_770 : Index := 8#32
  let c0_771 : Index := 0#32
  ![v2076.toNat, 27, 8, 0]
def k0_off64 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2080 : Index := Scalar.indexCast arg17
  let c28_772 : Index := 28#32
  let c8_773 : Index := 8#32
  let c0_774 : Index := 0#32
  ![v2080.toNat, 28, 8, 0]
def k0_off65 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2084 : Index := Scalar.indexCast arg17
  let c29_775 : Index := 29#32
  let c8_776 : Index := 8#32
  let c0_777 : Index := 0#32
  ![v2084.toNat, 29, 8, 0]
def k0_off66 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2088 : Index := Scalar.indexCast arg17
  let c30_778 : Index := 30#32
  let c8_779 : Index := 8#32
  let c0_780 : Index := 0#32
  ![v2088.toNat, 30, 8, 0]
def k0_off67 (i : grid0.Coords) (k0_t1 : Fin (k0_t1_loop i).trips) : Fin 4 → Nat :=
  let c0_i32_18 : BitVec 32 := 0#32
  let c1_i32_20 : BitVec 32 := 1#32
  let arg17 : BitVec 32 := Scf.iv c0_i32_18 c1_i32_20 k0_t1
  let v2092 : Index := Scalar.indexCast arg17
  let c31_781 : Index := 31#32
  let c8_782 : Index := 8#32
  let c0_783 : Index := 0#32
  ![v2092.toNat, 31, 8, 0]
def k0_off68 (i : grid0.Coords) (k0_t1 : Fin (k0_t1_loop i).trips) : Fin 3 → Nat :=
  let c0_i32_18 : BitVec 32 := 0#32
  let c1_i32_20 : BitVec 32 := 1#32
  let arg17 : BitVec 32 := Scf.iv c0_i32_18 c1_i32_20 k0_t1
  let v2097 : Index := Scalar.indexCast arg17
  let c0_785 : Index := 0#32
  let c0_786 : Index := 0#32
  ![v2097.toNat, 0, 0]
@[reducible] def k0_t2_loop (i : grid0.Coords) : Scf.Loop 32 :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let v55 : BitVec 32 := Scalar.addi c0_i32_18 v54
  let c1_i32_21 : BitVec 32 := 1#32
  ⟨v58, v55, c1_i32_21⟩
def k0_mult3 (i : grid0.Coords) (k0_t2 : Fin (k0_t2_loop i).trips) : BitVec 32 :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let c512_i32_120 : BitVec 32 := 512#32
  let v236 : BitVec 32 := Scalar.muli arg17 c512_i32_120
  let c0_i32_121 : BitVec 32 := 0#32
  let v237 : BitVec 32 := Scalar.addi v236 c0_i32_121
  v237
def k0_off69 (i : grid0.Coords) (k0_t2 : Fin (k0_t2_loop i).trips) (c0_i32_121 : BitVec 32) : Fin 3 → Nat :=
  let c0_122 : Index := 0#32
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let c512_i32_120 : BitVec 32 := 512#32
  let v236 : BitVec 32 := Scalar.muli arg17 c512_i32_120
  let v237 : BitVec 32 := Scalar.addi v236 c0_i32_121
  let v238 : BitVec 32 := v237
  let v239 : Index := Scalar.indexCast v238
  let c128_123 : Index := 128#32
  ![0, v239.toNat, 128]
def k0_off70 (i : grid0.Coords) (k0_t2 : Fin (k0_t2_loop i).trips) : Fin 3 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v280 : Index := Scalar.indexCast arg17
  let c0_133 : Index := 0#32
  let c0_134 : Index := 0#32
  ![v280.toNat, 0, 0]
def k0_off71 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1038 : Index := Scalar.indexCast arg17
  let c0_367 : Index := 0#32
  let c0_368 : Index := 0#32
  let c0_369 : Index := 0#32
  ![v1038.toNat, 0, 0, 0]
def k0_off72 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1042 : Index := Scalar.indexCast arg17
  let c1 : Index := 1#32
  let c0_370 : Index := 0#32
  let c0_371 : Index := 0#32
  ![v1042.toNat, 1, 0, 0]
def k0_off73 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1046 : Index := Scalar.indexCast arg17
  let c2 : Index := 2#32
  let c0_372 : Index := 0#32
  let c0_373 : Index := 0#32
  ![v1046.toNat, 2, 0, 0]
def k0_off74 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1050 : Index := Scalar.indexCast arg17
  let c3 : Index := 3#32
  let c0_374 : Index := 0#32
  let c0_375 : Index := 0#32
  ![v1050.toNat, 3, 0, 0]
def k0_off75 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1054 : Index := Scalar.indexCast arg17
  let c4 : Index := 4#32
  let c0_376 : Index := 0#32
  let c0_377 : Index := 0#32
  ![v1054.toNat, 4, 0, 0]
def k0_off76 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1058 : Index := Scalar.indexCast arg17
  let c5 : Index := 5#32
  let c0_378 : Index := 0#32
  let c0_379 : Index := 0#32
  ![v1058.toNat, 5, 0, 0]
def k0_off77 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1062 : Index := Scalar.indexCast arg17
  let c6 : Index := 6#32
  let c0_380 : Index := 0#32
  let c0_381 : Index := 0#32
  ![v1062.toNat, 6, 0, 0]
def k0_off78 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1066 : Index := Scalar.indexCast arg17
  let c7 : Index := 7#32
  let c0_382 : Index := 0#32
  let c0_383 : Index := 0#32
  ![v1066.toNat, 7, 0, 0]
def k0_off79 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1070 : Index := Scalar.indexCast arg17
  let c8 : Index := 8#32
  let c0_384 : Index := 0#32
  let c0_385 : Index := 0#32
  ![v1070.toNat, 8, 0, 0]
def k0_off80 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1074 : Index := Scalar.indexCast arg17
  let c9 : Index := 9#32
  let c0_386 : Index := 0#32
  let c0_387 : Index := 0#32
  ![v1074.toNat, 9, 0, 0]
def k0_off81 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1078 : Index := Scalar.indexCast arg17
  let c10 : Index := 10#32
  let c0_388 : Index := 0#32
  let c0_389 : Index := 0#32
  ![v1078.toNat, 10, 0, 0]
def k0_off82 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1082 : Index := Scalar.indexCast arg17
  let c11 : Index := 11#32
  let c0_390 : Index := 0#32
  let c0_391 : Index := 0#32
  ![v1082.toNat, 11, 0, 0]
def k0_off83 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1086 : Index := Scalar.indexCast arg17
  let c12 : Index := 12#32
  let c0_392 : Index := 0#32
  let c0_393 : Index := 0#32
  ![v1086.toNat, 12, 0, 0]
def k0_off84 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1090 : Index := Scalar.indexCast arg17
  let c13 : Index := 13#32
  let c0_394 : Index := 0#32
  let c0_395 : Index := 0#32
  ![v1090.toNat, 13, 0, 0]
def k0_off85 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1094 : Index := Scalar.indexCast arg17
  let c14 : Index := 14#32
  let c0_396 : Index := 0#32
  let c0_397 : Index := 0#32
  ![v1094.toNat, 14, 0, 0]
def k0_off86 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1098 : Index := Scalar.indexCast arg17
  let c15 : Index := 15#32
  let c0_398 : Index := 0#32
  let c0_399 : Index := 0#32
  ![v1098.toNat, 15, 0, 0]
def k0_off87 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1102 : Index := Scalar.indexCast arg17
  let c16 : Index := 16#32
  let c0_400 : Index := 0#32
  let c0_401 : Index := 0#32
  ![v1102.toNat, 16, 0, 0]
def k0_off88 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1106 : Index := Scalar.indexCast arg17
  let c17 : Index := 17#32
  let c0_402 : Index := 0#32
  let c0_403 : Index := 0#32
  ![v1106.toNat, 17, 0, 0]
def k0_off89 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1110 : Index := Scalar.indexCast arg17
  let c18 : Index := 18#32
  let c0_404 : Index := 0#32
  let c0_405 : Index := 0#32
  ![v1110.toNat, 18, 0, 0]
def k0_off90 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1114 : Index := Scalar.indexCast arg17
  let c19 : Index := 19#32
  let c0_406 : Index := 0#32
  let c0_407 : Index := 0#32
  ![v1114.toNat, 19, 0, 0]
def k0_off91 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1118 : Index := Scalar.indexCast arg17
  let c20 : Index := 20#32
  let c0_408 : Index := 0#32
  let c0_409 : Index := 0#32
  ![v1118.toNat, 20, 0, 0]
def k0_off92 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1122 : Index := Scalar.indexCast arg17
  let c21 : Index := 21#32
  let c0_410 : Index := 0#32
  let c0_411 : Index := 0#32
  ![v1122.toNat, 21, 0, 0]
def k0_off93 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1126 : Index := Scalar.indexCast arg17
  let c22 : Index := 22#32
  let c0_412 : Index := 0#32
  let c0_413 : Index := 0#32
  ![v1126.toNat, 22, 0, 0]
def k0_off94 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1130 : Index := Scalar.indexCast arg17
  let c23 : Index := 23#32
  let c0_414 : Index := 0#32
  let c0_415 : Index := 0#32
  ![v1130.toNat, 23, 0, 0]
def k0_off95 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1134 : Index := Scalar.indexCast arg17
  let c24 : Index := 24#32
  let c0_416 : Index := 0#32
  let c0_417 : Index := 0#32
  ![v1134.toNat, 24, 0, 0]
def k0_off96 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1138 : Index := Scalar.indexCast arg17
  let c25 : Index := 25#32
  let c0_418 : Index := 0#32
  let c0_419 : Index := 0#32
  ![v1138.toNat, 25, 0, 0]
def k0_off97 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1142 : Index := Scalar.indexCast arg17
  let c26 : Index := 26#32
  let c0_420 : Index := 0#32
  let c0_421 : Index := 0#32
  ![v1142.toNat, 26, 0, 0]
def k0_off98 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1146 : Index := Scalar.indexCast arg17
  let c27 : Index := 27#32
  let c0_422 : Index := 0#32
  let c0_423 : Index := 0#32
  ![v1146.toNat, 27, 0, 0]
def k0_off99 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1150 : Index := Scalar.indexCast arg17
  let c28 : Index := 28#32
  let c0_424 : Index := 0#32
  let c0_425 : Index := 0#32
  ![v1150.toNat, 28, 0, 0]
def k0_off100 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1154 : Index := Scalar.indexCast arg17
  let c29 : Index := 29#32
  let c0_426 : Index := 0#32
  let c0_427 : Index := 0#32
  ![v1154.toNat, 29, 0, 0]
def k0_off101 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1158 : Index := Scalar.indexCast arg17
  let c30 : Index := 30#32
  let c0_428 : Index := 0#32
  let c0_429 : Index := 0#32
  ![v1158.toNat, 30, 0, 0]
def k0_off102 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1162 : Index := Scalar.indexCast arg17
  let c31 : Index := 31#32
  let c0_430 : Index := 0#32
  let c0_431 : Index := 0#32
  ![v1162.toNat, 31, 0, 0]
def k0_mult4 (i : grid0.Coords) (k0_t2 : Fin (k0_t2_loop i).trips) : BitVec 32 :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let c512_i32_432 : BitVec 32 := 512#32
  let v1166 : BitVec 32 := Scalar.muli arg17 c512_i32_432
  let c256_i32 : BitVec 32 := 256#32
  let v1167 : BitVec 32 := Scalar.addi v1166 c256_i32
  v1167
def k0_off103 (i : grid0.Coords) (k0_t2 : Fin (k0_t2_loop i).trips) : Fin 3 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1210 : Index := Scalar.indexCast arg17
  let c256_445 : Index := 256#32
  let c0_446 : Index := 0#32
  ![v1210.toNat, 256, 0]
def k0_off104 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1968 : Index := Scalar.indexCast arg17
  let c0_688 : Index := 0#32
  let c8_689 : Index := 8#32
  let c0_690 : Index := 0#32
  ![v1968.toNat, 0, 8, 0]
def k0_off105 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1972 : Index := Scalar.indexCast arg17
  let c1_691 : Index := 1#32
  let c8_692 : Index := 8#32
  let c0_693 : Index := 0#32
  ![v1972.toNat, 1, 8, 0]
def k0_off106 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1976 : Index := Scalar.indexCast arg17
  let c2_694 : Index := 2#32
  let c8_695 : Index := 8#32
  let c0_696 : Index := 0#32
  ![v1976.toNat, 2, 8, 0]
def k0_off107 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1980 : Index := Scalar.indexCast arg17
  let c3_697 : Index := 3#32
  let c8_698 : Index := 8#32
  let c0_699 : Index := 0#32
  ![v1980.toNat, 3, 8, 0]
def k0_off108 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1984 : Index := Scalar.indexCast arg17
  let c4_700 : Index := 4#32
  let c8_701 : Index := 8#32
  let c0_702 : Index := 0#32
  ![v1984.toNat, 4, 8, 0]
def k0_off109 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1988 : Index := Scalar.indexCast arg17
  let c5_703 : Index := 5#32
  let c8_704 : Index := 8#32
  let c0_705 : Index := 0#32
  ![v1988.toNat, 5, 8, 0]
def k0_off110 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1992 : Index := Scalar.indexCast arg17
  let c6_706 : Index := 6#32
  let c8_707 : Index := 8#32
  let c0_708 : Index := 0#32
  ![v1992.toNat, 6, 8, 0]
def k0_off111 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v1996 : Index := Scalar.indexCast arg17
  let c7_709 : Index := 7#32
  let c8_710 : Index := 8#32
  let c0_711 : Index := 0#32
  ![v1996.toNat, 7, 8, 0]
def k0_off112 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2000 : Index := Scalar.indexCast arg17
  let c8_712 : Index := 8#32
  let c8_713 : Index := 8#32
  let c0_714 : Index := 0#32
  ![v2000.toNat, 8, 8, 0]
def k0_off113 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2004 : Index := Scalar.indexCast arg17
  let c9_715 : Index := 9#32
  let c8_716 : Index := 8#32
  let c0_717 : Index := 0#32
  ![v2004.toNat, 9, 8, 0]
def k0_off114 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2008 : Index := Scalar.indexCast arg17
  let c10_718 : Index := 10#32
  let c8_719 : Index := 8#32
  let c0_720 : Index := 0#32
  ![v2008.toNat, 10, 8, 0]
def k0_off115 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2012 : Index := Scalar.indexCast arg17
  let c11_721 : Index := 11#32
  let c8_722 : Index := 8#32
  let c0_723 : Index := 0#32
  ![v2012.toNat, 11, 8, 0]
def k0_off116 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2016 : Index := Scalar.indexCast arg17
  let c12_724 : Index := 12#32
  let c8_725 : Index := 8#32
  let c0_726 : Index := 0#32
  ![v2016.toNat, 12, 8, 0]
def k0_off117 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2020 : Index := Scalar.indexCast arg17
  let c13_727 : Index := 13#32
  let c8_728 : Index := 8#32
  let c0_729 : Index := 0#32
  ![v2020.toNat, 13, 8, 0]
def k0_off118 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2024 : Index := Scalar.indexCast arg17
  let c14_730 : Index := 14#32
  let c8_731 : Index := 8#32
  let c0_732 : Index := 0#32
  ![v2024.toNat, 14, 8, 0]
def k0_off119 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2028 : Index := Scalar.indexCast arg17
  let c15_733 : Index := 15#32
  let c8_734 : Index := 8#32
  let c0_735 : Index := 0#32
  ![v2028.toNat, 15, 8, 0]
def k0_off120 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2032 : Index := Scalar.indexCast arg17
  let c16_736 : Index := 16#32
  let c8_737 : Index := 8#32
  let c0_738 : Index := 0#32
  ![v2032.toNat, 16, 8, 0]
def k0_off121 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2036 : Index := Scalar.indexCast arg17
  let c17_739 : Index := 17#32
  let c8_740 : Index := 8#32
  let c0_741 : Index := 0#32
  ![v2036.toNat, 17, 8, 0]
def k0_off122 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2040 : Index := Scalar.indexCast arg17
  let c18_742 : Index := 18#32
  let c8_743 : Index := 8#32
  let c0_744 : Index := 0#32
  ![v2040.toNat, 18, 8, 0]
def k0_off123 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2044 : Index := Scalar.indexCast arg17
  let c19_745 : Index := 19#32
  let c8_746 : Index := 8#32
  let c0_747 : Index := 0#32
  ![v2044.toNat, 19, 8, 0]
def k0_off124 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2048 : Index := Scalar.indexCast arg17
  let c20_748 : Index := 20#32
  let c8_749 : Index := 8#32
  let c0_750 : Index := 0#32
  ![v2048.toNat, 20, 8, 0]
def k0_off125 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2052 : Index := Scalar.indexCast arg17
  let c21_751 : Index := 21#32
  let c8_752 : Index := 8#32
  let c0_753 : Index := 0#32
  ![v2052.toNat, 21, 8, 0]
def k0_off126 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2056 : Index := Scalar.indexCast arg17
  let c22_754 : Index := 22#32
  let c8_755 : Index := 8#32
  let c0_756 : Index := 0#32
  ![v2056.toNat, 22, 8, 0]
def k0_off127 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2060 : Index := Scalar.indexCast arg17
  let c23_757 : Index := 23#32
  let c8_758 : Index := 8#32
  let c0_759 : Index := 0#32
  ![v2060.toNat, 23, 8, 0]
def k0_off128 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2064 : Index := Scalar.indexCast arg17
  let c24_760 : Index := 24#32
  let c8_761 : Index := 8#32
  let c0_762 : Index := 0#32
  ![v2064.toNat, 24, 8, 0]
def k0_off129 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2068 : Index := Scalar.indexCast arg17
  let c25_763 : Index := 25#32
  let c8_764 : Index := 8#32
  let c0_765 : Index := 0#32
  ![v2068.toNat, 25, 8, 0]
def k0_off130 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2072 : Index := Scalar.indexCast arg17
  let c26_766 : Index := 26#32
  let c8_767 : Index := 8#32
  let c0_768 : Index := 0#32
  ![v2072.toNat, 26, 8, 0]
def k0_off131 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2076 : Index := Scalar.indexCast arg17
  let c27_769 : Index := 27#32
  let c8_770 : Index := 8#32
  let c0_771 : Index := 0#32
  ![v2076.toNat, 27, 8, 0]
def k0_off132 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2080 : Index := Scalar.indexCast arg17
  let c28_772 : Index := 28#32
  let c8_773 : Index := 8#32
  let c0_774 : Index := 0#32
  ![v2080.toNat, 28, 8, 0]
def k0_off133 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2084 : Index := Scalar.indexCast arg17
  let c29_775 : Index := 29#32
  let c8_776 : Index := 8#32
  let c0_777 : Index := 0#32
  ![v2084.toNat, 29, 8, 0]
def k0_off134 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2088 : Index := Scalar.indexCast arg17
  let c30_778 : Index := 30#32
  let c8_779 : Index := 8#32
  let c0_780 : Index := 0#32
  ![v2088.toNat, 30, 8, 0]
def k0_off135 (i : grid0.Coords) (k0_t2 : Fin (k0_t2_loop i).trips) : Fin 4 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2092 : Index := Scalar.indexCast arg17
  let c31_781 : Index := 31#32
  let c8_782 : Index := 8#32
  let c0_783 : Index := 0#32
  ![v2092.toNat, 31, 8, 0]
def k0_off136 (i : grid0.Coords) (k0_t2 : Fin (k0_t2_loop i).trips) : Fin 3 → Nat :=
  let c0_i32_18 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v54 : BitVec 32 := Scalar.subi v18 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg17 : BitVec 32 := Scf.iv v58 c1_i32_21 k0_t2
  let v2097 : Index := Scalar.indexCast arg17
  let c0_785 : Index := 0#32
  let c0_786 : Index := 0#32
  ![v2097.toNat, 0, 0]
@[reducible] def k0_t3_loop (i : grid0.Coords) : Scf.Loop 32 :=
  let c0_i32_23 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v60 : BitVec 32 := Scalar.subi v18 c0_i32_23
  let c1_i32_24 : BitVec 32 := 1#32
  let v62 : BitVec 32 := Scalar.divsi v60 c1_i32_24
  let v63 : BitVec 32 := Scalar.muli v62 c1_i32_24
  let v64 : BitVec 32 := Scalar.addi c0_i32_23 v63
  let c1_i32_25 : BitVec 32 := 1#32
  ⟨c0_i32_23, v64, c1_i32_25⟩
def k0_off137 (i : grid0.Coords) (k0_t3 : Fin (k0_t3_loop i).trips) : Fin 3 → Nat :=
  let c0_i32_23 : BitVec 32 := 0#32
  let c1_i32_25 : BitVec 32 := 1#32
  let arg17 : BitVec 32 := Scf.iv c0_i32_23 c1_i32_25 k0_t3
  let v236 : Index := Scalar.indexCast arg17
  let c0_120 : Index := 0#32
  let c0_121 : Index := 0#32
  ![v236.toNat, 0, 0]
def k0_off138 (i : grid0.Coords) (k0_t3 : Fin (k0_t3_loop i).trips) : Fin 4 → Nat :=
  let c0_i32_23 : BitVec 32 := 0#32
  let c1_i32_25 : BitVec 32 := 1#32
  let arg17 : BitVec 32 := Scf.iv c0_i32_23 c1_i32_25 k0_t3
  let v239 : Index := Scalar.indexCast arg17
  let c0_122 : Index := 0#32
  let c0_123 : Index := 0#32
  let c0_124 : Index := 0#32
  ![v239.toNat, 0, 0, 0]
@[reducible] def k0_t4_loop (i : grid0.Coords) : Scf.Loop 32 :=
  let c0_i32_23 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v60 : BitVec 32 := Scalar.subi v18 c0_i32_23
  let c1_i32_24 : BitVec 32 := 1#32
  let v62 : BitVec 32 := Scalar.divsi v60 c1_i32_24
  let v63 : BitVec 32 := Scalar.muli v62 c1_i32_24
  let v64 : BitVec 32 := Scalar.addi c0_i32_23 v63
  let v61 : BitVec 32 := Scalar.addi c0_i32_23 v60
  let c1_i32_26 : BitVec 32 := 1#32
  ⟨v64, v61, c1_i32_26⟩
def k0_off139 (i : grid0.Coords) (k0_t4 : Fin (k0_t4_loop i).trips) : Fin 3 → Nat :=
  let c0_i32_23 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v60 : BitVec 32 := Scalar.subi v18 c0_i32_23
  let c1_i32_24 : BitVec 32 := 1#32
  let v62 : BitVec 32 := Scalar.divsi v60 c1_i32_24
  let v63 : BitVec 32 := Scalar.muli v62 c1_i32_24
  let v64 : BitVec 32 := Scalar.addi c0_i32_23 v63
  let c1_i32_26 : BitVec 32 := 1#32
  let arg17 : BitVec 32 := Scf.iv v64 c1_i32_26 k0_t4
  let v236 : Index := Scalar.indexCast arg17
  let c0_120 : Index := 0#32
  let c0_121 : Index := 0#32
  ![v236.toNat, 0, 0]
def k0_off140 (i : grid0.Coords) (k0_t4 : Fin (k0_t4_loop i).trips) : Fin 4 → Nat :=
  let c0_i32_23 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v60 : BitVec 32 := Scalar.subi v18 c0_i32_23
  let c1_i32_24 : BitVec 32 := 1#32
  let v62 : BitVec 32 := Scalar.divsi v60 c1_i32_24
  let v63 : BitVec 32 := Scalar.muli v62 c1_i32_24
  let v64 : BitVec 32 := Scalar.addi c0_i32_23 v63
  let c1_i32_26 : BitVec 32 := 1#32
  let arg17 : BitVec 32 := Scf.iv v64 c1_i32_26 k0_t4
  let v239 : Index := Scalar.indexCast arg17
  let c0_122 : Index := 0#32
  let c0_123 : Index := 0#32
  let c0_124 : Index := 0#32
  ![v239.toNat, 0, 0, 0]
@[reducible] def k0_t5_loop : Scf.Loop 32 :=
  let c1_i32_33 : BitVec 32 := 1#32
  let c31_i32_34 : BitVec 32 := 31#32
  let v84 : BitVec 32 := Scalar.addi c1_i32_33 c31_i32_34
  let c1_i32_35 : BitVec 32 := 1#32
  ⟨c1_i32_33, v84, c1_i32_35⟩
@[reducible] def k0_t6_loop (i : grid0.Coords) : Scf.Loop 32 :=
  let c0_i32_122 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v238 : BitVec 32 := Scalar.subi v18 c0_i32_122
  let c1_i32_123 : BitVec 32 := 1#32
  let v240 : BitVec 32 := Scalar.divsi v238 c1_i32_123
  let v241 : BitVec 32 := Scalar.muli v240 c1_i32_123
  let v242 : BitVec 32 := Scalar.addi c0_i32_122 v241
  let c1_i32_124 : BitVec 32 := 1#32
  ⟨c0_i32_122, v242, c1_i32_124⟩
def k0_off141 (i : grid0.Coords) (k0_t6 : Fin (k0_t6_loop i).trips) : Fin 3 → Nat :=
  let c0_i32_122 : BitVec 32 := 0#32
  let c1_i32_124 : BitVec 32 := 1#32
  let arg21 : BitVec 32 := Scf.iv c0_i32_122 c1_i32_124 k0_t6
  let v261 : Index := Scalar.indexCast arg21
  let c0_132 : Index := 0#32
  let c0_133 : Index := 0#32
  ![v261.toNat, 0, 0]
def k0_off142 (i : grid0.Coords) (k0_t5 : Fin k0_t5_loop.trips) (k0_t6 : Fin (k0_t6_loop i).trips) : Fin 4 → Nat :=
  let c0_i32_122 : BitVec 32 := 0#32
  let c1_i32_124 : BitVec 32 := 1#32
  let arg21 : BitVec 32 := Scf.iv c0_i32_122 c1_i32_124 k0_t6
  let v264 : Index := Scalar.indexCast arg21
  let c1_i32_33 : BitVec 32 := 1#32
  let c1_i32_35 : BitVec 32 := 1#32
  let arg17 : BitVec 32 := Scf.iv c1_i32_33 c1_i32_35 k0_t5
  let c1_i32_120 : BitVec 32 := 1#32
  let v236 : BitVec 32 := Scalar.subi arg17 c1_i32_120
  let v265 : Index := Scalar.indexCast v236
  let c0_134 : Index := 0#32
  let c0_135 : Index := 0#32
  ![v264.toNat, v265.toNat, 0, 0]
def k0_off143 (i : grid0.Coords) (k0_t5 : Fin k0_t5_loop.trips) (k0_t6 : Fin (k0_t6_loop i).trips) : Fin 4 → Nat :=
  let c0_i32_122 : BitVec 32 := 0#32
  let c1_i32_124 : BitVec 32 := 1#32
  let arg21 : BitVec 32 := Scf.iv c0_i32_122 c1_i32_124 k0_t6
  let v275 : Index := Scalar.indexCast arg21
  let c1_i32_33 : BitVec 32 := 1#32
  let c1_i32_35 : BitVec 32 := 1#32
  let arg17 : BitVec 32 := Scf.iv c1_i32_33 c1_i32_35 k0_t5
  let v276 : Index := Scalar.indexCast arg17
  let c0_138 : Index := 0#32
  let c0_139 : Index := 0#32
  ![v275.toNat, v276.toNat, 0, 0]
@[reducible] def k0_t7_loop (i : grid0.Coords) : Scf.Loop 32 :=
  let c0_i32_122 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v238 : BitVec 32 := Scalar.subi v18 c0_i32_122
  let c1_i32_123 : BitVec 32 := 1#32
  let v240 : BitVec 32 := Scalar.divsi v238 c1_i32_123
  let v241 : BitVec 32 := Scalar.muli v240 c1_i32_123
  let v242 : BitVec 32 := Scalar.addi c0_i32_122 v241
  let v239 : BitVec 32 := Scalar.addi c0_i32_122 v238
  let c1_i32_125 : BitVec 32 := 1#32
  ⟨v242, v239, c1_i32_125⟩
def k0_off144 (i : grid0.Coords) (k0_t7 : Fin (k0_t7_loop i).trips) : Fin 3 → Nat :=
  let c0_i32_122 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v238 : BitVec 32 := Scalar.subi v18 c0_i32_122
  let c1_i32_123 : BitVec 32 := 1#32
  let v240 : BitVec 32 := Scalar.divsi v238 c1_i32_123
  let v241 : BitVec 32 := Scalar.muli v240 c1_i32_123
  let v242 : BitVec 32 := Scalar.addi c0_i32_122 v241
  let c1_i32_125 : BitVec 32 := 1#32
  let arg21 : BitVec 32 := Scf.iv v242 c1_i32_125 k0_t7
  let v261 : Index := Scalar.indexCast arg21
  let c0_132 : Index := 0#32
  let c0_133 : Index := 0#32
  ![v261.toNat, 0, 0]
def k0_off145 (i : grid0.Coords) (k0_t5 : Fin k0_t5_loop.trips) (k0_t7 : Fin (k0_t7_loop i).trips) : Fin 4 → Nat :=
  let c0_i32_122 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v238 : BitVec 32 := Scalar.subi v18 c0_i32_122
  let c1_i32_123 : BitVec 32 := 1#32
  let v240 : BitVec 32 := Scalar.divsi v238 c1_i32_123
  let v241 : BitVec 32 := Scalar.muli v240 c1_i32_123
  let v242 : BitVec 32 := Scalar.addi c0_i32_122 v241
  let c1_i32_125 : BitVec 32 := 1#32
  let arg21 : BitVec 32 := Scf.iv v242 c1_i32_125 k0_t7
  let v264 : Index := Scalar.indexCast arg21
  let c1_i32_33 : BitVec 32 := 1#32
  let c1_i32_35 : BitVec 32 := 1#32
  let arg17 : BitVec 32 := Scf.iv c1_i32_33 c1_i32_35 k0_t5
  let c1_i32_120 : BitVec 32 := 1#32
  let v236 : BitVec 32 := Scalar.subi arg17 c1_i32_120
  let v265 : Index := Scalar.indexCast v236
  let c0_134 : Index := 0#32
  let c0_135 : Index := 0#32
  ![v264.toNat, v265.toNat, 0, 0]
def k0_off146 (i : grid0.Coords) (k0_t5 : Fin k0_t5_loop.trips) (k0_t7 : Fin (k0_t7_loop i).trips) : Fin 4 → Nat :=
  let c0_i32_122 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v238 : BitVec 32 := Scalar.subi v18 c0_i32_122
  let c1_i32_123 : BitVec 32 := 1#32
  let v240 : BitVec 32 := Scalar.divsi v238 c1_i32_123
  let v241 : BitVec 32 := Scalar.muli v240 c1_i32_123
  let v242 : BitVec 32 := Scalar.addi c0_i32_122 v241
  let c1_i32_125 : BitVec 32 := 1#32
  let arg21 : BitVec 32 := Scf.iv v242 c1_i32_125 k0_t7
  let v275 : Index := Scalar.indexCast arg21
  let c1_i32_33 : BitVec 32 := 1#32
  let c1_i32_35 : BitVec 32 := 1#32
  let arg17 : BitVec 32 := Scf.iv c1_i32_33 c1_i32_35 k0_t5
  let v276 : Index := Scalar.indexCast arg17
  let c0_138 : Index := 0#32
  let c0_139 : Index := 0#32
  ![v275.toNat, v276.toNat, 0, 0]
@[reducible] def k0_t8_loop (i : grid0.Coords) : Scf.Loop 32 :=
  let c0_i32_38 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v87 : BitVec 32 := Scalar.subi v18 c0_i32_38
  let c1_i32_39 : BitVec 32 := 1#32
  let v89 : BitVec 32 := Scalar.divsi v87 c1_i32_39
  let v90 : BitVec 32 := Scalar.muli v89 c1_i32_39
  let v91 : BitVec 32 := Scalar.addi c0_i32_38 v90
  let c1_i32_40 : BitVec 32 := 1#32
  ⟨c0_i32_38, v91, c1_i32_40⟩
def k0_off147 (i : grid0.Coords) (k0_t8 : Fin (k0_t8_loop i).trips) : Fin 3 → Nat :=
  let c0_i32_38 : BitVec 32 := 0#32
  let c1_i32_40 : BitVec 32 := 1#32
  let arg17 : BitVec 32 := Scf.iv c0_i32_38 c1_i32_40 k0_t8
  let v236 : Index := Scalar.indexCast arg17
  let c0_120 : Index := 0#32
  let c0_121 : Index := 0#32
  ![v236.toNat, 0, 0]
def k0_off148 (i : grid0.Coords) (k0_t8 : Fin (k0_t8_loop i).trips) : Fin 4 → Nat :=
  let c0_i32_38 : BitVec 32 := 0#32
  let c1_i32_40 : BitVec 32 := 1#32
  let arg17 : BitVec 32 := Scf.iv c0_i32_38 c1_i32_40 k0_t8
  let v239 : Index := Scalar.indexCast arg17
  let c31 : Index := 31#32
  let c0_122 : Index := 0#32
  let c0_123 : Index := 0#32
  ![v239.toNat, 31, 0, 0]
@[reducible] def k0_t9_loop (i : grid0.Coords) : Scf.Loop 32 :=
  let c0_i32_38 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v87 : BitVec 32 := Scalar.subi v18 c0_i32_38
  let c1_i32_39 : BitVec 32 := 1#32
  let v89 : BitVec 32 := Scalar.divsi v87 c1_i32_39
  let v90 : BitVec 32 := Scalar.muli v89 c1_i32_39
  let v91 : BitVec 32 := Scalar.addi c0_i32_38 v90
  let v88 : BitVec 32 := Scalar.addi c0_i32_38 v87
  let c1_i32_41 : BitVec 32 := 1#32
  ⟨v91, v88, c1_i32_41⟩
def k0_off149 (i : grid0.Coords) (k0_t9 : Fin (k0_t9_loop i).trips) : Fin 3 → Nat :=
  let c0_i32_38 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v87 : BitVec 32 := Scalar.subi v18 c0_i32_38
  let c1_i32_39 : BitVec 32 := 1#32
  let v89 : BitVec 32 := Scalar.divsi v87 c1_i32_39
  let v90 : BitVec 32 := Scalar.muli v89 c1_i32_39
  let v91 : BitVec 32 := Scalar.addi c0_i32_38 v90
  let c1_i32_41 : BitVec 32 := 1#32
  let arg17 : BitVec 32 := Scf.iv v91 c1_i32_41 k0_t9
  let v236 : Index := Scalar.indexCast arg17
  let c0_120 : Index := 0#32
  let c0_121 : Index := 0#32
  ![v236.toNat, 0, 0]
def k0_off150 (i : grid0.Coords) (k0_t9 : Fin (k0_t9_loop i).trips) : Fin 4 → Nat :=
  let c0_i32_38 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v87 : BitVec 32 := Scalar.subi v18 c0_i32_38
  let c1_i32_39 : BitVec 32 := 1#32
  let v89 : BitVec 32 := Scalar.divsi v87 c1_i32_39
  let v90 : BitVec 32 := Scalar.muli v89 c1_i32_39
  let v91 : BitVec 32 := Scalar.addi c0_i32_38 v90
  let c1_i32_41 : BitVec 32 := 1#32
  let arg17 : BitVec 32 := Scf.iv v91 c1_i32_41 k0_t9
  let v239 : Index := Scalar.indexCast arg17
  let c31 : Index := 31#32
  let c0_122 : Index := 0#32
  let c0_123 : Index := 0#32
  ![v239.toNat, 31, 0, 0]
def k0_mult5 : BitVec 32 :=
  let c0_i32_122 : BitVec 32 := 0#32
  c0_i32_122
@[reducible] def k0_t10_loop (i : grid0.Coords) : Scf.Loop 32 :=
  let c0_i32_147 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_141 : BitVec 32 := 0#32
  let v279 : BitVec 1 := Scalar.cmpi .sgt v236 c0_i32_141
  let v280 : BitVec 32 := Scalar.extui v279
  let c0_i32_142 : BitVec 32 := 0#32
  let v281 : BitVec 1 := Scalar.cmpi .slt v236 c0_i32_142
  let v282 : BitVec 32 := Scalar.extui v281
  let v283 : BitVec 32 := Scalar.subi v280 v282
  let c2_i32 : BitVec 32 := 2#32
  let c0_i32_143 : BitVec 32 := 0#32
  let v284 : BitVec 1 := Scalar.cmpi .sgt c2_i32 c0_i32_143
  let v285 : BitVec 32 := Scalar.extui v284
  let c0_i32_144 : BitVec 32 := 0#32
  let v286 : BitVec 1 := Scalar.cmpi .slt c2_i32 c0_i32_144
  let v287 : BitVec 32 := Scalar.extui v286
  let v288 : BitVec 32 := Scalar.subi v285 v287
  let v289 : BitVec 1 := Scalar.cmpi .ne v283 v288
  let v290 : BitVec 32 := Scalar.remsi v236 c2_i32
  let c0_i32_145 : BitVec 32 := 0#32
  let v291 : BitVec 1 := Scalar.cmpi .ne v290 c0_i32_145
  let v292 : BitVec 1 := Scalar.andi v289 v291
  let v278 : BitVec 32 := Scalar.divsi v236 c2_i32
  let c1_i32_146 : BitVec 32 := 1#32
  let v293 : BitVec 32 := Scalar.subi v278 c1_i32_146
  let v294 : BitVec 32 := Scalar.select v292 v293 v278
  let v295 : BitVec 32 := Scalar.subi v294 c0_i32_147
  let c1_i32_148 : BitVec 32 := 1#32
  let v297 : BitVec 32 := Scalar.divsi v295 c1_i32_148
  let v298 : BitVec 32 := Scalar.muli v297 c1_i32_148
  let v299 : BitVec 32 := Scalar.addi c0_i32_147 v298
  let c1_i32_149 : BitVec 32 := 1#32
  ⟨c0_i32_147, v299, c1_i32_149⟩
def k0_mult6 (i : grid0.Coords) (k0_t10 : Fin (k0_t10_loop i).trips) : BitVec 32 :=
  let c2_i32_154 : BitVec 32 := 2#32
  let c0_i32_147 : BitVec 32 := 0#32
  let c1_i32_149 : BitVec 32 := 1#32
  let arg17 : BitVec 32 := Scf.iv c0_i32_147 c1_i32_149 k0_t10
  let v309 : BitVec 32 := Scalar.muli c2_i32_154 arg17
  let c1_i32_155 : BitVec 32 := 1#32
  let v310 : BitVec 32 := Scalar.addi v309 c1_i32_155
  let c512_i32_156 : BitVec 32 := 512#32
  let v311 : BitVec 32 := Scalar.muli v310 c512_i32_156
  v311
def k0_off151 (i : grid0.Coords) (k0_t10 : Fin (k0_t10_loop i).trips) (c1_i32_155 : BitVec 32) : Fin 3 → Nat :=
  let c2_i32_154 : BitVec 32 := 2#32
  let c0_i32_147 : BitVec 32 := 0#32
  let c1_i32_149 : BitVec 32 := 1#32
  let arg17 : BitVec 32 := Scf.iv c0_i32_147 c1_i32_149 k0_t10
  let v309 : BitVec 32 := Scalar.muli c2_i32_154 arg17
  let v310 : BitVec 32 := Scalar.addi v309 c1_i32_155
  let v313 : Index := Scalar.indexCast v310
  let c0_157 : Index := 0#32
  let c0_158 : Index := 0#32
  ![v313.toNat, 0, 0]
def k0_off152 (i : grid0.Coords) (k0_t10 : Fin (k0_t10_loop i).trips) (c1_i32_155 : BitVec 32) : Fin 3 → Nat :=
  let c0_169 : Index := 0#32
  let c2_i32_154 : BitVec 32 := 2#32
  let c0_i32_147 : BitVec 32 := 0#32
  let c1_i32_149 : BitVec 32 := 1#32
  let arg17 : BitVec 32 := Scf.iv c0_i32_147 c1_i32_149 k0_t10
  let v309 : BitVec 32 := Scalar.muli c2_i32_154 arg17
  let v310 : BitVec 32 := Scalar.addi v309 c1_i32_155
  let c512_i32_156 : BitVec 32 := 512#32
  let v311 : BitVec 32 := Scalar.muli v310 c512_i32_156
  let v312 : BitVec 32 := v311
  let v345 : Index := Scalar.indexCast v312
  let c0_170 : Index := 0#32
  ![0, v345.toNat, 0]
def k0_mult7 (i : grid0.Coords) (k0_t10 : Fin (k0_t10_loop i).trips) : BitVec 32 :=
  let c2_i32_154 : BitVec 32 := 2#32
  let c0_i32_147 : BitVec 32 := 0#32
  let c1_i32_149 : BitVec 32 := 1#32
  let arg17 : BitVec 32 := Scf.iv c0_i32_147 c1_i32_149 k0_t10
  let v309 : BitVec 32 := Scalar.muli c2_i32_154 arg17
  let c512_i32_174 : BitVec 32 := 512#32
  let v353 : BitVec 32 := Scalar.muli v309 c512_i32_174
  v353
def k0_off153 (i : grid0.Coords) (k0_t10 : Fin (k0_t10_loop i).trips) : Fin 3 → Nat :=
  let c0_175 : Index := 0#32
  let c2_i32_154 : BitVec 32 := 2#32
  let c0_i32_147 : BitVec 32 := 0#32
  let c1_i32_149 : BitVec 32 := 1#32
  let arg17 : BitVec 32 := Scf.iv c0_i32_147 c1_i32_149 k0_t10
  let v309 : BitVec 32 := Scalar.muli c2_i32_154 arg17
  let c512_i32_174 : BitVec 32 := 512#32
  let v353 : BitVec 32 := Scalar.muli v309 c512_i32_174
  let v354 : BitVec 32 := v353
  let v355 : Index := Scalar.indexCast v354
  let c0_176 : Index := 0#32
  ![0, v355.toNat, 0]
def k0_mult8 (i : grid0.Coords) (k0_t10 : Fin (k0_t10_loop i).trips) : BitVec 32 :=
  let c2_i32_154 : BitVec 32 := 2#32
  let c0_i32_147 : BitVec 32 := 0#32
  let c1_i32_149 : BitVec 32 := 1#32
  let arg17 : BitVec 32 := Scf.iv c0_i32_147 c1_i32_149 k0_t10
  let v309 : BitVec 32 := Scalar.muli c2_i32_154 arg17
  let c2_i32_257 : BitVec 32 := 2#32
  let v525 : BitVec 32 := Scalar.addi v309 c2_i32_257
  let c512_i32_258 : BitVec 32 := 512#32
  let v526 : BitVec 32 := Scalar.muli v525 c512_i32_258
  v526
def k0_mult9 (i : grid0.Coords) (k0_t10 : Fin (k0_t10_loop i).trips) : BitVec 32 :=
  let c2_i32_154 : BitVec 32 := 2#32
  let c0_i32_147 : BitVec 32 := 0#32
  let c1_i32_149 : BitVec 32 := 1#32
  let arg17 : BitVec 32 := Scf.iv c0_i32_147 c1_i32_149 k0_t10
  let v309 : BitVec 32 := Scalar.muli c2_i32_154 arg17
  let c1_i32_276 : BitVec 32 := 1#32
  let v568 : BitVec 32 := Scalar.addi v309 c1_i32_276
  let c512_i32_277 : BitVec 32 := 512#32
  let v569 : BitVec 32 := Scalar.muli v568 c512_i32_277
  v569
@[reducible] def k0_t11_loop (i : grid0.Coords) : Scf.Loop 32 :=
  let c0_i32_147 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_141 : BitVec 32 := 0#32
  let v279 : BitVec 1 := Scalar.cmpi .sgt v236 c0_i32_141
  let v280 : BitVec 32 := Scalar.extui v279
  let c0_i32_142 : BitVec 32 := 0#32
  let v281 : BitVec 1 := Scalar.cmpi .slt v236 c0_i32_142
  let v282 : BitVec 32 := Scalar.extui v281
  let v283 : BitVec 32 := Scalar.subi v280 v282
  let c2_i32 : BitVec 32 := 2#32
  let c0_i32_143 : BitVec 32 := 0#32
  let v284 : BitVec 1 := Scalar.cmpi .sgt c2_i32 c0_i32_143
  let v285 : BitVec 32 := Scalar.extui v284
  let c0_i32_144 : BitVec 32 := 0#32
  let v286 : BitVec 1 := Scalar.cmpi .slt c2_i32 c0_i32_144
  let v287 : BitVec 32 := Scalar.extui v286
  let v288 : BitVec 32 := Scalar.subi v285 v287
  let v289 : BitVec 1 := Scalar.cmpi .ne v283 v288
  let v290 : BitVec 32 := Scalar.remsi v236 c2_i32
  let c0_i32_145 : BitVec 32 := 0#32
  let v291 : BitVec 1 := Scalar.cmpi .ne v290 c0_i32_145
  let v292 : BitVec 1 := Scalar.andi v289 v291
  let v278 : BitVec 32 := Scalar.divsi v236 c2_i32
  let c1_i32_146 : BitVec 32 := 1#32
  let v293 : BitVec 32 := Scalar.subi v278 c1_i32_146
  let v294 : BitVec 32 := Scalar.select v292 v293 v278
  let v295 : BitVec 32 := Scalar.subi v294 c0_i32_147
  let c1_i32_148 : BitVec 32 := 1#32
  let v297 : BitVec 32 := Scalar.divsi v295 c1_i32_148
  let v298 : BitVec 32 := Scalar.muli v297 c1_i32_148
  let v299 : BitVec 32 := Scalar.addi c0_i32_147 v298
  let v296 : BitVec 32 := Scalar.addi c0_i32_147 v295
  let c1_i32_150 : BitVec 32 := 1#32
  ⟨v299, v296, c1_i32_150⟩
def k0_mult10 (i : grid0.Coords) (k0_t11 : Fin (k0_t11_loop i).trips) : BitVec 32 :=
  let c2_i32_154 : BitVec 32 := 2#32
  let c0_i32_147 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_141 : BitVec 32 := 0#32
  let v279 : BitVec 1 := Scalar.cmpi .sgt v236 c0_i32_141
  let v280 : BitVec 32 := Scalar.extui v279
  let c0_i32_142 : BitVec 32 := 0#32
  let v281 : BitVec 1 := Scalar.cmpi .slt v236 c0_i32_142
  let v282 : BitVec 32 := Scalar.extui v281
  let v283 : BitVec 32 := Scalar.subi v280 v282
  let c2_i32 : BitVec 32 := 2#32
  let c0_i32_143 : BitVec 32 := 0#32
  let v284 : BitVec 1 := Scalar.cmpi .sgt c2_i32 c0_i32_143
  let v285 : BitVec 32 := Scalar.extui v284
  let c0_i32_144 : BitVec 32 := 0#32
  let v286 : BitVec 1 := Scalar.cmpi .slt c2_i32 c0_i32_144
  let v287 : BitVec 32 := Scalar.extui v286
  let v288 : BitVec 32 := Scalar.subi v285 v287
  let v289 : BitVec 1 := Scalar.cmpi .ne v283 v288
  let v290 : BitVec 32 := Scalar.remsi v236 c2_i32
  let c0_i32_145 : BitVec 32 := 0#32
  let v291 : BitVec 1 := Scalar.cmpi .ne v290 c0_i32_145
  let v292 : BitVec 1 := Scalar.andi v289 v291
  let v278 : BitVec 32 := Scalar.divsi v236 c2_i32
  let c1_i32_146 : BitVec 32 := 1#32
  let v293 : BitVec 32 := Scalar.subi v278 c1_i32_146
  let v294 : BitVec 32 := Scalar.select v292 v293 v278
  let v295 : BitVec 32 := Scalar.subi v294 c0_i32_147
  let c1_i32_148 : BitVec 32 := 1#32
  let v297 : BitVec 32 := Scalar.divsi v295 c1_i32_148
  let v298 : BitVec 32 := Scalar.muli v297 c1_i32_148
  let v299 : BitVec 32 := Scalar.addi c0_i32_147 v298
  let c1_i32_150 : BitVec 32 := 1#32
  let arg17 : BitVec 32 := Scf.iv v299 c1_i32_150 k0_t11
  let v309 : BitVec 32 := Scalar.muli c2_i32_154 arg17
  let c1_i32_155 : BitVec 32 := 1#32
  let v310 : BitVec 32 := Scalar.addi v309 c1_i32_155
  let c512_i32_156 : BitVec 32 := 512#32
  let v311 : BitVec 32 := Scalar.muli v310 c512_i32_156
  v311
def k0_off154 (i : grid0.Coords) (k0_t11 : Fin (k0_t11_loop i).trips) (c1_i32_155 : BitVec 32) : Fin 3 → Nat :=
  let c2_i32_154 : BitVec 32 := 2#32
  let c0_i32_147 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_141 : BitVec 32 := 0#32
  let v279 : BitVec 1 := Scalar.cmpi .sgt v236 c0_i32_141
  let v280 : BitVec 32 := Scalar.extui v279
  let c0_i32_142 : BitVec 32 := 0#32
  let v281 : BitVec 1 := Scalar.cmpi .slt v236 c0_i32_142
  let v282 : BitVec 32 := Scalar.extui v281
  let v283 : BitVec 32 := Scalar.subi v280 v282
  let c2_i32 : BitVec 32 := 2#32
  let c0_i32_143 : BitVec 32 := 0#32
  let v284 : BitVec 1 := Scalar.cmpi .sgt c2_i32 c0_i32_143
  let v285 : BitVec 32 := Scalar.extui v284
  let c0_i32_144 : BitVec 32 := 0#32
  let v286 : BitVec 1 := Scalar.cmpi .slt c2_i32 c0_i32_144
  let v287 : BitVec 32 := Scalar.extui v286
  let v288 : BitVec 32 := Scalar.subi v285 v287
  let v289 : BitVec 1 := Scalar.cmpi .ne v283 v288
  let v290 : BitVec 32 := Scalar.remsi v236 c2_i32
  let c0_i32_145 : BitVec 32 := 0#32
  let v291 : BitVec 1 := Scalar.cmpi .ne v290 c0_i32_145
  let v292 : BitVec 1 := Scalar.andi v289 v291
  let v278 : BitVec 32 := Scalar.divsi v236 c2_i32
  let c1_i32_146 : BitVec 32 := 1#32
  let v293 : BitVec 32 := Scalar.subi v278 c1_i32_146
  let v294 : BitVec 32 := Scalar.select v292 v293 v278
  let v295 : BitVec 32 := Scalar.subi v294 c0_i32_147
  let c1_i32_148 : BitVec 32 := 1#32
  let v297 : BitVec 32 := Scalar.divsi v295 c1_i32_148
  let v298 : BitVec 32 := Scalar.muli v297 c1_i32_148
  let v299 : BitVec 32 := Scalar.addi c0_i32_147 v298
  let c1_i32_150 : BitVec 32 := 1#32
  let arg17 : BitVec 32 := Scf.iv v299 c1_i32_150 k0_t11
  let v309 : BitVec 32 := Scalar.muli c2_i32_154 arg17
  let v310 : BitVec 32 := Scalar.addi v309 c1_i32_155
  let v313 : Index := Scalar.indexCast v310
  let c0_157 : Index := 0#32
  let c0_158 : Index := 0#32
  ![v313.toNat, 0, 0]
def k0_off155 (i : grid0.Coords) (k0_t11 : Fin (k0_t11_loop i).trips) (c1_i32_155 : BitVec 32) : Fin 3 → Nat :=
  let c0_169 : Index := 0#32
  let c2_i32_154 : BitVec 32 := 2#32
  let c0_i32_147 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_141 : BitVec 32 := 0#32
  let v279 : BitVec 1 := Scalar.cmpi .sgt v236 c0_i32_141
  let v280 : BitVec 32 := Scalar.extui v279
  let c0_i32_142 : BitVec 32 := 0#32
  let v281 : BitVec 1 := Scalar.cmpi .slt v236 c0_i32_142
  let v282 : BitVec 32 := Scalar.extui v281
  let v283 : BitVec 32 := Scalar.subi v280 v282
  let c2_i32 : BitVec 32 := 2#32
  let c0_i32_143 : BitVec 32 := 0#32
  let v284 : BitVec 1 := Scalar.cmpi .sgt c2_i32 c0_i32_143
  let v285 : BitVec 32 := Scalar.extui v284
  let c0_i32_144 : BitVec 32 := 0#32
  let v286 : BitVec 1 := Scalar.cmpi .slt c2_i32 c0_i32_144
  let v287 : BitVec 32 := Scalar.extui v286
  let v288 : BitVec 32 := Scalar.subi v285 v287
  let v289 : BitVec 1 := Scalar.cmpi .ne v283 v288
  let v290 : BitVec 32 := Scalar.remsi v236 c2_i32
  let c0_i32_145 : BitVec 32 := 0#32
  let v291 : BitVec 1 := Scalar.cmpi .ne v290 c0_i32_145
  let v292 : BitVec 1 := Scalar.andi v289 v291
  let v278 : BitVec 32 := Scalar.divsi v236 c2_i32
  let c1_i32_146 : BitVec 32 := 1#32
  let v293 : BitVec 32 := Scalar.subi v278 c1_i32_146
  let v294 : BitVec 32 := Scalar.select v292 v293 v278
  let v295 : BitVec 32 := Scalar.subi v294 c0_i32_147
  let c1_i32_148 : BitVec 32 := 1#32
  let v297 : BitVec 32 := Scalar.divsi v295 c1_i32_148
  let v298 : BitVec 32 := Scalar.muli v297 c1_i32_148
  let v299 : BitVec 32 := Scalar.addi c0_i32_147 v298
  let c1_i32_150 : BitVec 32 := 1#32
  let arg17 : BitVec 32 := Scf.iv v299 c1_i32_150 k0_t11
  let v309 : BitVec 32 := Scalar.muli c2_i32_154 arg17
  let v310 : BitVec 32 := Scalar.addi v309 c1_i32_155
  let c512_i32_156 : BitVec 32 := 512#32
  let v311 : BitVec 32 := Scalar.muli v310 c512_i32_156
  let v312 : BitVec 32 := v311
  let v345 : Index := Scalar.indexCast v312
  let c0_170 : Index := 0#32
  ![0, v345.toNat, 0]
def k0_mult11 (i : grid0.Coords) (k0_t11 : Fin (k0_t11_loop i).trips) : BitVec 32 :=
  let c2_i32_154 : BitVec 32 := 2#32
  let c0_i32_147 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_141 : BitVec 32 := 0#32
  let v279 : BitVec 1 := Scalar.cmpi .sgt v236 c0_i32_141
  let v280 : BitVec 32 := Scalar.extui v279
  let c0_i32_142 : BitVec 32 := 0#32
  let v281 : BitVec 1 := Scalar.cmpi .slt v236 c0_i32_142
  let v282 : BitVec 32 := Scalar.extui v281
  let v283 : BitVec 32 := Scalar.subi v280 v282
  let c2_i32 : BitVec 32 := 2#32
  let c0_i32_143 : BitVec 32 := 0#32
  let v284 : BitVec 1 := Scalar.cmpi .sgt c2_i32 c0_i32_143
  let v285 : BitVec 32 := Scalar.extui v284
  let c0_i32_144 : BitVec 32 := 0#32
  let v286 : BitVec 1 := Scalar.cmpi .slt c2_i32 c0_i32_144
  let v287 : BitVec 32 := Scalar.extui v286
  let v288 : BitVec 32 := Scalar.subi v285 v287
  let v289 : BitVec 1 := Scalar.cmpi .ne v283 v288
  let v290 : BitVec 32 := Scalar.remsi v236 c2_i32
  let c0_i32_145 : BitVec 32 := 0#32
  let v291 : BitVec 1 := Scalar.cmpi .ne v290 c0_i32_145
  let v292 : BitVec 1 := Scalar.andi v289 v291
  let v278 : BitVec 32 := Scalar.divsi v236 c2_i32
  let c1_i32_146 : BitVec 32 := 1#32
  let v293 : BitVec 32 := Scalar.subi v278 c1_i32_146
  let v294 : BitVec 32 := Scalar.select v292 v293 v278
  let v295 : BitVec 32 := Scalar.subi v294 c0_i32_147
  let c1_i32_148 : BitVec 32 := 1#32
  let v297 : BitVec 32 := Scalar.divsi v295 c1_i32_148
  let v298 : BitVec 32 := Scalar.muli v297 c1_i32_148
  let v299 : BitVec 32 := Scalar.addi c0_i32_147 v298
  let c1_i32_150 : BitVec 32 := 1#32
  let arg17 : BitVec 32 := Scf.iv v299 c1_i32_150 k0_t11
  let v309 : BitVec 32 := Scalar.muli c2_i32_154 arg17
  let c512_i32_174 : BitVec 32 := 512#32
  let v353 : BitVec 32 := Scalar.muli v309 c512_i32_174
  v353
def k0_off156 (i : grid0.Coords) (k0_t11 : Fin (k0_t11_loop i).trips) : Fin 3 → Nat :=
  let c0_175 : Index := 0#32
  let c2_i32_154 : BitVec 32 := 2#32
  let c0_i32_147 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_141 : BitVec 32 := 0#32
  let v279 : BitVec 1 := Scalar.cmpi .sgt v236 c0_i32_141
  let v280 : BitVec 32 := Scalar.extui v279
  let c0_i32_142 : BitVec 32 := 0#32
  let v281 : BitVec 1 := Scalar.cmpi .slt v236 c0_i32_142
  let v282 : BitVec 32 := Scalar.extui v281
  let v283 : BitVec 32 := Scalar.subi v280 v282
  let c2_i32 : BitVec 32 := 2#32
  let c0_i32_143 : BitVec 32 := 0#32
  let v284 : BitVec 1 := Scalar.cmpi .sgt c2_i32 c0_i32_143
  let v285 : BitVec 32 := Scalar.extui v284
  let c0_i32_144 : BitVec 32 := 0#32
  let v286 : BitVec 1 := Scalar.cmpi .slt c2_i32 c0_i32_144
  let v287 : BitVec 32 := Scalar.extui v286
  let v288 : BitVec 32 := Scalar.subi v285 v287
  let v289 : BitVec 1 := Scalar.cmpi .ne v283 v288
  let v290 : BitVec 32 := Scalar.remsi v236 c2_i32
  let c0_i32_145 : BitVec 32 := 0#32
  let v291 : BitVec 1 := Scalar.cmpi .ne v290 c0_i32_145
  let v292 : BitVec 1 := Scalar.andi v289 v291
  let v278 : BitVec 32 := Scalar.divsi v236 c2_i32
  let c1_i32_146 : BitVec 32 := 1#32
  let v293 : BitVec 32 := Scalar.subi v278 c1_i32_146
  let v294 : BitVec 32 := Scalar.select v292 v293 v278
  let v295 : BitVec 32 := Scalar.subi v294 c0_i32_147
  let c1_i32_148 : BitVec 32 := 1#32
  let v297 : BitVec 32 := Scalar.divsi v295 c1_i32_148
  let v298 : BitVec 32 := Scalar.muli v297 c1_i32_148
  let v299 : BitVec 32 := Scalar.addi c0_i32_147 v298
  let c1_i32_150 : BitVec 32 := 1#32
  let arg17 : BitVec 32 := Scf.iv v299 c1_i32_150 k0_t11
  let v309 : BitVec 32 := Scalar.muli c2_i32_154 arg17
  let c512_i32_174 : BitVec 32 := 512#32
  let v353 : BitVec 32 := Scalar.muli v309 c512_i32_174
  let v354 : BitVec 32 := v353
  let v355 : Index := Scalar.indexCast v354
  let c0_176 : Index := 0#32
  ![0, v355.toNat, 0]
def k0_mult12 (i : grid0.Coords) (k0_t11 : Fin (k0_t11_loop i).trips) : BitVec 32 :=
  let c2_i32_154 : BitVec 32 := 2#32
  let c0_i32_147 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_141 : BitVec 32 := 0#32
  let v279 : BitVec 1 := Scalar.cmpi .sgt v236 c0_i32_141
  let v280 : BitVec 32 := Scalar.extui v279
  let c0_i32_142 : BitVec 32 := 0#32
  let v281 : BitVec 1 := Scalar.cmpi .slt v236 c0_i32_142
  let v282 : BitVec 32 := Scalar.extui v281
  let v283 : BitVec 32 := Scalar.subi v280 v282
  let c2_i32 : BitVec 32 := 2#32
  let c0_i32_143 : BitVec 32 := 0#32
  let v284 : BitVec 1 := Scalar.cmpi .sgt c2_i32 c0_i32_143
  let v285 : BitVec 32 := Scalar.extui v284
  let c0_i32_144 : BitVec 32 := 0#32
  let v286 : BitVec 1 := Scalar.cmpi .slt c2_i32 c0_i32_144
  let v287 : BitVec 32 := Scalar.extui v286
  let v288 : BitVec 32 := Scalar.subi v285 v287
  let v289 : BitVec 1 := Scalar.cmpi .ne v283 v288
  let v290 : BitVec 32 := Scalar.remsi v236 c2_i32
  let c0_i32_145 : BitVec 32 := 0#32
  let v291 : BitVec 1 := Scalar.cmpi .ne v290 c0_i32_145
  let v292 : BitVec 1 := Scalar.andi v289 v291
  let v278 : BitVec 32 := Scalar.divsi v236 c2_i32
  let c1_i32_146 : BitVec 32 := 1#32
  let v293 : BitVec 32 := Scalar.subi v278 c1_i32_146
  let v294 : BitVec 32 := Scalar.select v292 v293 v278
  let v295 : BitVec 32 := Scalar.subi v294 c0_i32_147
  let c1_i32_148 : BitVec 32 := 1#32
  let v297 : BitVec 32 := Scalar.divsi v295 c1_i32_148
  let v298 : BitVec 32 := Scalar.muli v297 c1_i32_148
  let v299 : BitVec 32 := Scalar.addi c0_i32_147 v298
  let c1_i32_150 : BitVec 32 := 1#32
  let arg17 : BitVec 32 := Scf.iv v299 c1_i32_150 k0_t11
  let v309 : BitVec 32 := Scalar.muli c2_i32_154 arg17
  let c2_i32_257 : BitVec 32 := 2#32
  let v525 : BitVec 32 := Scalar.addi v309 c2_i32_257
  let c512_i32_258 : BitVec 32 := 512#32
  let v526 : BitVec 32 := Scalar.muli v525 c512_i32_258
  v526
def k0_mult13 (i : grid0.Coords) (k0_t11 : Fin (k0_t11_loop i).trips) : BitVec 32 :=
  let c2_i32_154 : BitVec 32 := 2#32
  let c0_i32_147 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_141 : BitVec 32 := 0#32
  let v279 : BitVec 1 := Scalar.cmpi .sgt v236 c0_i32_141
  let v280 : BitVec 32 := Scalar.extui v279
  let c0_i32_142 : BitVec 32 := 0#32
  let v281 : BitVec 1 := Scalar.cmpi .slt v236 c0_i32_142
  let v282 : BitVec 32 := Scalar.extui v281
  let v283 : BitVec 32 := Scalar.subi v280 v282
  let c2_i32 : BitVec 32 := 2#32
  let c0_i32_143 : BitVec 32 := 0#32
  let v284 : BitVec 1 := Scalar.cmpi .sgt c2_i32 c0_i32_143
  let v285 : BitVec 32 := Scalar.extui v284
  let c0_i32_144 : BitVec 32 := 0#32
  let v286 : BitVec 1 := Scalar.cmpi .slt c2_i32 c0_i32_144
  let v287 : BitVec 32 := Scalar.extui v286
  let v288 : BitVec 32 := Scalar.subi v285 v287
  let v289 : BitVec 1 := Scalar.cmpi .ne v283 v288
  let v290 : BitVec 32 := Scalar.remsi v236 c2_i32
  let c0_i32_145 : BitVec 32 := 0#32
  let v291 : BitVec 1 := Scalar.cmpi .ne v290 c0_i32_145
  let v292 : BitVec 1 := Scalar.andi v289 v291
  let v278 : BitVec 32 := Scalar.divsi v236 c2_i32
  let c1_i32_146 : BitVec 32 := 1#32
  let v293 : BitVec 32 := Scalar.subi v278 c1_i32_146
  let v294 : BitVec 32 := Scalar.select v292 v293 v278
  let v295 : BitVec 32 := Scalar.subi v294 c0_i32_147
  let c1_i32_148 : BitVec 32 := 1#32
  let v297 : BitVec 32 := Scalar.divsi v295 c1_i32_148
  let v298 : BitVec 32 := Scalar.muli v297 c1_i32_148
  let v299 : BitVec 32 := Scalar.addi c0_i32_147 v298
  let c1_i32_150 : BitVec 32 := 1#32
  let arg17 : BitVec 32 := Scf.iv v299 c1_i32_150 k0_t11
  let v309 : BitVec 32 := Scalar.muli c2_i32_154 arg17
  let c1_i32_276 : BitVec 32 := 1#32
  let v568 : BitVec 32 := Scalar.addi v309 c1_i32_276
  let c512_i32_277 : BitVec 32 := 512#32
  let v569 : BitVec 32 := Scalar.muli v568 c512_i32_277
  v569
def k0_cond2 (i : grid0.Coords) : BitVec 1 :=
  let c2_i32_151 : BitVec 32 := 2#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_141 : BitVec 32 := 0#32
  let v279 : BitVec 1 := Scalar.cmpi .sgt v236 c0_i32_141
  let v280 : BitVec 32 := Scalar.extui v279
  let c0_i32_142 : BitVec 32 := 0#32
  let v281 : BitVec 1 := Scalar.cmpi .slt v236 c0_i32_142
  let v282 : BitVec 32 := Scalar.extui v281
  let v283 : BitVec 32 := Scalar.subi v280 v282
  let c2_i32 : BitVec 32 := 2#32
  let c0_i32_143 : BitVec 32 := 0#32
  let v284 : BitVec 1 := Scalar.cmpi .sgt c2_i32 c0_i32_143
  let v285 : BitVec 32 := Scalar.extui v284
  let c0_i32_144 : BitVec 32 := 0#32
  let v286 : BitVec 1 := Scalar.cmpi .slt c2_i32 c0_i32_144
  let v287 : BitVec 32 := Scalar.extui v286
  let v288 : BitVec 32 := Scalar.subi v285 v287
  let v289 : BitVec 1 := Scalar.cmpi .ne v283 v288
  let v290 : BitVec 32 := Scalar.remsi v236 c2_i32
  let c0_i32_145 : BitVec 32 := 0#32
  let v291 : BitVec 1 := Scalar.cmpi .ne v290 c0_i32_145
  let v292 : BitVec 1 := Scalar.andi v289 v291
  let v278 : BitVec 32 := Scalar.divsi v236 c2_i32
  let c1_i32_146 : BitVec 32 := 1#32
  let v293 : BitVec 32 := Scalar.subi v278 c1_i32_146
  let v294 : BitVec 32 := Scalar.select v292 v293 v278
  let v302 : BitVec 32 := Scalar.muli c2_i32_151 v294
  let v303 : BitVec 1 := Scalar.cmpi .eq v302 v236
  let v304 : BitVec 32 := Scalar.extui v303
  let c0_i32_152 : BitVec 32 := 0#32
  let v305 : BitVec 1 := Scalar.cmpi .ne v304 c0_i32_152
  v305

def k0_mult14 (i : grid0.Coords) : BitVec 32 :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c512_i32_154 : BitVec 32 := 512#32
  let v309 : BitVec 32 := Scalar.muli v236 c512_i32_154
  v309
def k0_off157 (i : grid0.Coords) : Fin 3 → Nat :=
  let c0_155 : Index := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c512_i32_154 : BitVec 32 := 512#32
  let v309 : BitVec 32 := Scalar.muli v236 c512_i32_154
  let v310 : BitVec 32 := v309
  let v311 : Index := Scalar.indexCast v310
  let c0_156 : Index := 0#32
  ![0, v311.toNat, 0]
def k0_cond3 (i : grid0.Coords) : BitVec 1 :=
  let c2_i32_151 : BitVec 32 := 2#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_141 : BitVec 32 := 0#32
  let v279 : BitVec 1 := Scalar.cmpi .sgt v236 c0_i32_141
  let v280 : BitVec 32 := Scalar.extui v279
  let c0_i32_142 : BitVec 32 := 0#32
  let v281 : BitVec 1 := Scalar.cmpi .slt v236 c0_i32_142
  let v282 : BitVec 32 := Scalar.extui v281
  let v283 : BitVec 32 := Scalar.subi v280 v282
  let c2_i32 : BitVec 32 := 2#32
  let c0_i32_143 : BitVec 32 := 0#32
  let v284 : BitVec 1 := Scalar.cmpi .sgt c2_i32 c0_i32_143
  let v285 : BitVec 32 := Scalar.extui v284
  let c0_i32_144 : BitVec 32 := 0#32
  let v286 : BitVec 1 := Scalar.cmpi .slt c2_i32 c0_i32_144
  let v287 : BitVec 32 := Scalar.extui v286
  let v288 : BitVec 32 := Scalar.subi v285 v287
  let v289 : BitVec 1 := Scalar.cmpi .ne v283 v288
  let v290 : BitVec 32 := Scalar.remsi v236 c2_i32
  let c0_i32_145 : BitVec 32 := 0#32
  let v291 : BitVec 1 := Scalar.cmpi .ne v290 c0_i32_145
  let v292 : BitVec 1 := Scalar.andi v289 v291
  let v278 : BitVec 32 := Scalar.divsi v236 c2_i32
  let c1_i32_146 : BitVec 32 := 1#32
  let v293 : BitVec 32 := Scalar.subi v278 c1_i32_146
  let v294 : BitVec 32 := Scalar.select v292 v293 v278
  let v302 : BitVec 32 := Scalar.muli c2_i32_151 v294
  let v306 : BitVec 1 := Scalar.cmpi .slt v302 v236
  let v307 : BitVec 32 := Scalar.extui v306
  let c0_i32_153 : BitVec 32 := 0#32
  let v308 : BitVec 1 := Scalar.cmpi .ne v307 c0_i32_153
  v308

def k0_mult15 (i : grid0.Coords) : BitVec 32 :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c512_i32_154 : BitVec 32 := 512#32
  let v309 : BitVec 32 := Scalar.muli v236 c512_i32_154
  v309
def k0_off158 (i : grid0.Coords) : Fin 3 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let v311 : Index := Scalar.indexCast v236
  let c0_155 : Index := 0#32
  let c0_156 : Index := 0#32
  ![v311.toNat, 0, 0]
def k0_off159 (i : grid0.Coords) : Fin 3 → Nat :=
  let c0_165 : Index := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c512_i32_154 : BitVec 32 := 512#32
  let v309 : BitVec 32 := Scalar.muli v236 c512_i32_154
  let v310 : BitVec 32 := v309
  let v338 : Index := Scalar.indexCast v310
  let c0_166 : Index := 0#32
  ![0, v338.toNat, 0]
def k0_mult16 (i : grid0.Coords) : BitVec 32 :=
  let c2_i32_151 : BitVec 32 := 2#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_141 : BitVec 32 := 0#32
  let v279 : BitVec 1 := Scalar.cmpi .sgt v236 c0_i32_141
  let v280 : BitVec 32 := Scalar.extui v279
  let c0_i32_142 : BitVec 32 := 0#32
  let v281 : BitVec 1 := Scalar.cmpi .slt v236 c0_i32_142
  let v282 : BitVec 32 := Scalar.extui v281
  let v283 : BitVec 32 := Scalar.subi v280 v282
  let c2_i32 : BitVec 32 := 2#32
  let c0_i32_143 : BitVec 32 := 0#32
  let v284 : BitVec 1 := Scalar.cmpi .sgt c2_i32 c0_i32_143
  let v285 : BitVec 32 := Scalar.extui v284
  let c0_i32_144 : BitVec 32 := 0#32
  let v286 : BitVec 1 := Scalar.cmpi .slt c2_i32 c0_i32_144
  let v287 : BitVec 32 := Scalar.extui v286
  let v288 : BitVec 32 := Scalar.subi v285 v287
  let v289 : BitVec 1 := Scalar.cmpi .ne v283 v288
  let v290 : BitVec 32 := Scalar.remsi v236 c2_i32
  let c0_i32_145 : BitVec 32 := 0#32
  let v291 : BitVec 1 := Scalar.cmpi .ne v290 c0_i32_145
  let v292 : BitVec 1 := Scalar.andi v289 v291
  let v278 : BitVec 32 := Scalar.divsi v236 c2_i32
  let c1_i32_146 : BitVec 32 := 1#32
  let v293 : BitVec 32 := Scalar.subi v278 c1_i32_146
  let v294 : BitVec 32 := Scalar.select v292 v293 v278
  let v302 : BitVec 32 := Scalar.muli c2_i32_151 v294
  let c512_i32_170 : BitVec 32 := 512#32
  let v346 : BitVec 32 := Scalar.muli v302 c512_i32_170
  v346
def k0_off160 (i : grid0.Coords) : Fin 3 → Nat :=
  let c0_171 : Index := 0#32
  let c2_i32_151 : BitVec 32 := 2#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_141 : BitVec 32 := 0#32
  let v279 : BitVec 1 := Scalar.cmpi .sgt v236 c0_i32_141
  let v280 : BitVec 32 := Scalar.extui v279
  let c0_i32_142 : BitVec 32 := 0#32
  let v281 : BitVec 1 := Scalar.cmpi .slt v236 c0_i32_142
  let v282 : BitVec 32 := Scalar.extui v281
  let v283 : BitVec 32 := Scalar.subi v280 v282
  let c2_i32 : BitVec 32 := 2#32
  let c0_i32_143 : BitVec 32 := 0#32
  let v284 : BitVec 1 := Scalar.cmpi .sgt c2_i32 c0_i32_143
  let v285 : BitVec 32 := Scalar.extui v284
  let c0_i32_144 : BitVec 32 := 0#32
  let v286 : BitVec 1 := Scalar.cmpi .slt c2_i32 c0_i32_144
  let v287 : BitVec 32 := Scalar.extui v286
  let v288 : BitVec 32 := Scalar.subi v285 v287
  let v289 : BitVec 1 := Scalar.cmpi .ne v283 v288
  let v290 : BitVec 32 := Scalar.remsi v236 c2_i32
  let c0_i32_145 : BitVec 32 := 0#32
  let v291 : BitVec 1 := Scalar.cmpi .ne v290 c0_i32_145
  let v292 : BitVec 1 := Scalar.andi v289 v291
  let v278 : BitVec 32 := Scalar.divsi v236 c2_i32
  let c1_i32_146 : BitVec 32 := 1#32
  let v293 : BitVec 32 := Scalar.subi v278 c1_i32_146
  let v294 : BitVec 32 := Scalar.select v292 v293 v278
  let v302 : BitVec 32 := Scalar.muli c2_i32_151 v294
  let c512_i32_170 : BitVec 32 := 512#32
  let v346 : BitVec 32 := Scalar.muli v302 c512_i32_170
  let v347 : BitVec 32 := v346
  let v348 : Index := Scalar.indexCast v347
  let c0_172 : Index := 0#32
  ![0, v348.toNat, 0]
def k0_mult17 (i : grid0.Coords) : BitVec 32 :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c512_i32_253 : BitVec 32 := 512#32
  let v518 : BitVec 32 := Scalar.muli v236 c512_i32_253
  v518
def k0_mult18 : BitVec 32 :=
  let c0_i32_122 : BitVec 32 := 0#32
  c0_i32_122
@[reducible] def k0_t12_loop (i : grid0.Coords) : Scf.Loop 32 :=
  let c0_i32_140 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_134 : BitVec 32 := 0#32
  let v259 : BitVec 1 := Scalar.cmpi .sgt v236 c0_i32_134
  let v260 : BitVec 32 := Scalar.extui v259
  let c0_i32_135 : BitVec 32 := 0#32
  let v261 : BitVec 1 := Scalar.cmpi .slt v236 c0_i32_135
  let v262 : BitVec 32 := Scalar.extui v261
  let v263 : BitVec 32 := Scalar.subi v260 v262
  let c2_i32 : BitVec 32 := 2#32
  let c0_i32_136 : BitVec 32 := 0#32
  let v264 : BitVec 1 := Scalar.cmpi .sgt c2_i32 c0_i32_136
  let v265 : BitVec 32 := Scalar.extui v264
  let c0_i32_137 : BitVec 32 := 0#32
  let v266 : BitVec 1 := Scalar.cmpi .slt c2_i32 c0_i32_137
  let v267 : BitVec 32 := Scalar.extui v266
  let v268 : BitVec 32 := Scalar.subi v265 v267
  let v269 : BitVec 1 := Scalar.cmpi .ne v263 v268
  let v270 : BitVec 32 := Scalar.remsi v236 c2_i32
  let c0_i32_138 : BitVec 32 := 0#32
  let v271 : BitVec 1 := Scalar.cmpi .ne v270 c0_i32_138
  let v272 : BitVec 1 := Scalar.andi v269 v271
  let v258 : BitVec 32 := Scalar.divsi v236 c2_i32
  let c1_i32_139 : BitVec 32 := 1#32
  let v273 : BitVec 32 := Scalar.subi v258 c1_i32_139
  let v274 : BitVec 32 := Scalar.select v272 v273 v258
  let v275 : BitVec 32 := Scalar.subi v274 c0_i32_140
  let c1_i32_141 : BitVec 32 := 1#32
  let v277 : BitVec 32 := Scalar.divsi v275 c1_i32_141
  let v278 : BitVec 32 := Scalar.muli v277 c1_i32_141
  let v279 : BitVec 32 := Scalar.addi c0_i32_140 v278
  let c1_i32_142 : BitVec 32 := 1#32
  ⟨c0_i32_140, v279, c1_i32_142⟩
def k0_mult19 (i : grid0.Coords) (k0_t12 : Fin (k0_t12_loop i).trips) : BitVec 32 :=
  let c2_i32_147 : BitVec 32 := 2#32
  let c0_i32_140 : BitVec 32 := 0#32
  let c1_i32_142 : BitVec 32 := 1#32
  let arg17 : BitVec 32 := Scf.iv c0_i32_140 c1_i32_142 k0_t12
  let v287 : BitVec 32 := Scalar.muli c2_i32_147 arg17
  let c1_i32_148 : BitVec 32 := 1#32
  let v288 : BitVec 32 := Scalar.addi v287 c1_i32_148
  let c512_i32_149 : BitVec 32 := 512#32
  let v289 : BitVec 32 := Scalar.muli v288 c512_i32_149
  v289
def k0_off161 (i : grid0.Coords) (k0_t12 : Fin (k0_t12_loop i).trips) (c1_i32_148 : BitVec 32) : Fin 3 → Nat :=
  let c2_i32_147 : BitVec 32 := 2#32
  let c0_i32_140 : BitVec 32 := 0#32
  let c1_i32_142 : BitVec 32 := 1#32
  let arg17 : BitVec 32 := Scf.iv c0_i32_140 c1_i32_142 k0_t12
  let v287 : BitVec 32 := Scalar.muli c2_i32_147 arg17
  let v288 : BitVec 32 := Scalar.addi v287 c1_i32_148
  let v291 : Index := Scalar.indexCast v288
  let c0_150 : Index := 0#32
  let c0_151 : Index := 0#32
  ![v291.toNat, 0, 0]
def k0_off162 (i : grid0.Coords) (k0_t12 : Fin (k0_t12_loop i).trips) (c1_i32_148 : BitVec 32) : Fin 3 → Nat :=
  let c0_155 : Index := 0#32
  let c2_i32_147 : BitVec 32 := 2#32
  let c0_i32_140 : BitVec 32 := 0#32
  let c1_i32_142 : BitVec 32 := 1#32
  let arg17 : BitVec 32 := Scf.iv c0_i32_140 c1_i32_142 k0_t12
  let v287 : BitVec 32 := Scalar.muli c2_i32_147 arg17
  let v288 : BitVec 32 := Scalar.addi v287 c1_i32_148
  let c512_i32_149 : BitVec 32 := 512#32
  let v289 : BitVec 32 := Scalar.muli v288 c512_i32_149
  let v290 : BitVec 32 := v289
  let v303 : Index := Scalar.indexCast v290
  let c0_156 : Index := 0#32
  ![0, v303.toNat, 0]
def k0_mult20 (i : grid0.Coords) (k0_t12 : Fin (k0_t12_loop i).trips) : BitVec 32 :=
  let c2_i32_147 : BitVec 32 := 2#32
  let c0_i32_140 : BitVec 32 := 0#32
  let c1_i32_142 : BitVec 32 := 1#32
  let arg17 : BitVec 32 := Scf.iv c0_i32_140 c1_i32_142 k0_t12
  let v287 : BitVec 32 := Scalar.muli c2_i32_147 arg17
  let c512_i32_160 : BitVec 32 := 512#32
  let v311 : BitVec 32 := Scalar.muli v287 c512_i32_160
  v311
def k0_off163 (i : grid0.Coords) (k0_t12 : Fin (k0_t12_loop i).trips) : Fin 3 → Nat :=
  let c0_161 : Index := 0#32
  let c2_i32_147 : BitVec 32 := 2#32
  let c0_i32_140 : BitVec 32 := 0#32
  let c1_i32_142 : BitVec 32 := 1#32
  let arg17 : BitVec 32 := Scf.iv c0_i32_140 c1_i32_142 k0_t12
  let v287 : BitVec 32 := Scalar.muli c2_i32_147 arg17
  let c512_i32_160 : BitVec 32 := 512#32
  let v311 : BitVec 32 := Scalar.muli v287 c512_i32_160
  let v312 : BitVec 32 := v311
  let v313 : Index := Scalar.indexCast v312
  let c0_162 : Index := 0#32
  ![0, v313.toNat, 0]
def k0_mult21 (i : grid0.Coords) (k0_t12 : Fin (k0_t12_loop i).trips) : BitVec 32 :=
  let c2_i32_147 : BitVec 32 := 2#32
  let c0_i32_140 : BitVec 32 := 0#32
  let c1_i32_142 : BitVec 32 := 1#32
  let arg17 : BitVec 32 := Scf.iv c0_i32_140 c1_i32_142 k0_t12
  let v287 : BitVec 32 := Scalar.muli c2_i32_147 arg17
  let c2_i32_243 : BitVec 32 := 2#32
  let v483 : BitVec 32 := Scalar.addi v287 c2_i32_243
  let c512_i32_244 : BitVec 32 := 512#32
  let v484 : BitVec 32 := Scalar.muli v483 c512_i32_244
  v484
def k0_mult22 (i : grid0.Coords) (k0_t12 : Fin (k0_t12_loop i).trips) : BitVec 32 :=
  let c2_i32_147 : BitVec 32 := 2#32
  let c0_i32_140 : BitVec 32 := 0#32
  let c1_i32_142 : BitVec 32 := 1#32
  let arg17 : BitVec 32 := Scf.iv c0_i32_140 c1_i32_142 k0_t12
  let v287 : BitVec 32 := Scalar.muli c2_i32_147 arg17
  let c1_i32_255 : BitVec 32 := 1#32
  let v506 : BitVec 32 := Scalar.addi v287 c1_i32_255
  let c512_i32_256 : BitVec 32 := 512#32
  let v507 : BitVec 32 := Scalar.muli v506 c512_i32_256
  v507
@[reducible] def k0_t13_loop (i : grid0.Coords) : Scf.Loop 32 :=
  let c0_i32_140 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_134 : BitVec 32 := 0#32
  let v259 : BitVec 1 := Scalar.cmpi .sgt v236 c0_i32_134
  let v260 : BitVec 32 := Scalar.extui v259
  let c0_i32_135 : BitVec 32 := 0#32
  let v261 : BitVec 1 := Scalar.cmpi .slt v236 c0_i32_135
  let v262 : BitVec 32 := Scalar.extui v261
  let v263 : BitVec 32 := Scalar.subi v260 v262
  let c2_i32 : BitVec 32 := 2#32
  let c0_i32_136 : BitVec 32 := 0#32
  let v264 : BitVec 1 := Scalar.cmpi .sgt c2_i32 c0_i32_136
  let v265 : BitVec 32 := Scalar.extui v264
  let c0_i32_137 : BitVec 32 := 0#32
  let v266 : BitVec 1 := Scalar.cmpi .slt c2_i32 c0_i32_137
  let v267 : BitVec 32 := Scalar.extui v266
  let v268 : BitVec 32 := Scalar.subi v265 v267
  let v269 : BitVec 1 := Scalar.cmpi .ne v263 v268
  let v270 : BitVec 32 := Scalar.remsi v236 c2_i32
  let c0_i32_138 : BitVec 32 := 0#32
  let v271 : BitVec 1 := Scalar.cmpi .ne v270 c0_i32_138
  let v272 : BitVec 1 := Scalar.andi v269 v271
  let v258 : BitVec 32 := Scalar.divsi v236 c2_i32
  let c1_i32_139 : BitVec 32 := 1#32
  let v273 : BitVec 32 := Scalar.subi v258 c1_i32_139
  let v274 : BitVec 32 := Scalar.select v272 v273 v258
  let v275 : BitVec 32 := Scalar.subi v274 c0_i32_140
  let c1_i32_141 : BitVec 32 := 1#32
  let v277 : BitVec 32 := Scalar.divsi v275 c1_i32_141
  let v278 : BitVec 32 := Scalar.muli v277 c1_i32_141
  let v279 : BitVec 32 := Scalar.addi c0_i32_140 v278
  let v276 : BitVec 32 := Scalar.addi c0_i32_140 v275
  let c1_i32_143 : BitVec 32 := 1#32
  ⟨v279, v276, c1_i32_143⟩
def k0_mult23 (i : grid0.Coords) (k0_t13 : Fin (k0_t13_loop i).trips) : BitVec 32 :=
  let c2_i32_147 : BitVec 32 := 2#32
  let c0_i32_140 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_134 : BitVec 32 := 0#32
  let v259 : BitVec 1 := Scalar.cmpi .sgt v236 c0_i32_134
  let v260 : BitVec 32 := Scalar.extui v259
  let c0_i32_135 : BitVec 32 := 0#32
  let v261 : BitVec 1 := Scalar.cmpi .slt v236 c0_i32_135
  let v262 : BitVec 32 := Scalar.extui v261
  let v263 : BitVec 32 := Scalar.subi v260 v262
  let c2_i32 : BitVec 32 := 2#32
  let c0_i32_136 : BitVec 32 := 0#32
  let v264 : BitVec 1 := Scalar.cmpi .sgt c2_i32 c0_i32_136
  let v265 : BitVec 32 := Scalar.extui v264
  let c0_i32_137 : BitVec 32 := 0#32
  let v266 : BitVec 1 := Scalar.cmpi .slt c2_i32 c0_i32_137
  let v267 : BitVec 32 := Scalar.extui v266
  let v268 : BitVec 32 := Scalar.subi v265 v267
  let v269 : BitVec 1 := Scalar.cmpi .ne v263 v268
  let v270 : BitVec 32 := Scalar.remsi v236 c2_i32
  let c0_i32_138 : BitVec 32 := 0#32
  let v271 : BitVec 1 := Scalar.cmpi .ne v270 c0_i32_138
  let v272 : BitVec 1 := Scalar.andi v269 v271
  let v258 : BitVec 32 := Scalar.divsi v236 c2_i32
  let c1_i32_139 : BitVec 32 := 1#32
  let v273 : BitVec 32 := Scalar.subi v258 c1_i32_139
  let v274 : BitVec 32 := Scalar.select v272 v273 v258
  let v275 : BitVec 32 := Scalar.subi v274 c0_i32_140
  let c1_i32_141 : BitVec 32 := 1#32
  let v277 : BitVec 32 := Scalar.divsi v275 c1_i32_141
  let v278 : BitVec 32 := Scalar.muli v277 c1_i32_141
  let v279 : BitVec 32 := Scalar.addi c0_i32_140 v278
  let c1_i32_143 : BitVec 32 := 1#32
  let arg17 : BitVec 32 := Scf.iv v279 c1_i32_143 k0_t13
  let v287 : BitVec 32 := Scalar.muli c2_i32_147 arg17
  let c1_i32_148 : BitVec 32 := 1#32
  let v288 : BitVec 32 := Scalar.addi v287 c1_i32_148
  let c512_i32_149 : BitVec 32 := 512#32
  let v289 : BitVec 32 := Scalar.muli v288 c512_i32_149
  v289
def k0_off164 (i : grid0.Coords) (k0_t13 : Fin (k0_t13_loop i).trips) (c1_i32_148 : BitVec 32) : Fin 3 → Nat :=
  let c2_i32_147 : BitVec 32 := 2#32
  let c0_i32_140 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_134 : BitVec 32 := 0#32
  let v259 : BitVec 1 := Scalar.cmpi .sgt v236 c0_i32_134
  let v260 : BitVec 32 := Scalar.extui v259
  let c0_i32_135 : BitVec 32 := 0#32
  let v261 : BitVec 1 := Scalar.cmpi .slt v236 c0_i32_135
  let v262 : BitVec 32 := Scalar.extui v261
  let v263 : BitVec 32 := Scalar.subi v260 v262
  let c2_i32 : BitVec 32 := 2#32
  let c0_i32_136 : BitVec 32 := 0#32
  let v264 : BitVec 1 := Scalar.cmpi .sgt c2_i32 c0_i32_136
  let v265 : BitVec 32 := Scalar.extui v264
  let c0_i32_137 : BitVec 32 := 0#32
  let v266 : BitVec 1 := Scalar.cmpi .slt c2_i32 c0_i32_137
  let v267 : BitVec 32 := Scalar.extui v266
  let v268 : BitVec 32 := Scalar.subi v265 v267
  let v269 : BitVec 1 := Scalar.cmpi .ne v263 v268
  let v270 : BitVec 32 := Scalar.remsi v236 c2_i32
  let c0_i32_138 : BitVec 32 := 0#32
  let v271 : BitVec 1 := Scalar.cmpi .ne v270 c0_i32_138
  let v272 : BitVec 1 := Scalar.andi v269 v271
  let v258 : BitVec 32 := Scalar.divsi v236 c2_i32
  let c1_i32_139 : BitVec 32 := 1#32
  let v273 : BitVec 32 := Scalar.subi v258 c1_i32_139
  let v274 : BitVec 32 := Scalar.select v272 v273 v258
  let v275 : BitVec 32 := Scalar.subi v274 c0_i32_140
  let c1_i32_141 : BitVec 32 := 1#32
  let v277 : BitVec 32 := Scalar.divsi v275 c1_i32_141
  let v278 : BitVec 32 := Scalar.muli v277 c1_i32_141
  let v279 : BitVec 32 := Scalar.addi c0_i32_140 v278
  let c1_i32_143 : BitVec 32 := 1#32
  let arg17 : BitVec 32 := Scf.iv v279 c1_i32_143 k0_t13
  let v287 : BitVec 32 := Scalar.muli c2_i32_147 arg17
  let v288 : BitVec 32 := Scalar.addi v287 c1_i32_148
  let v291 : Index := Scalar.indexCast v288
  let c0_150 : Index := 0#32
  let c0_151 : Index := 0#32
  ![v291.toNat, 0, 0]
def k0_off165 (i : grid0.Coords) (k0_t13 : Fin (k0_t13_loop i).trips) (c1_i32_148 : BitVec 32) : Fin 3 → Nat :=
  let c0_155 : Index := 0#32
  let c2_i32_147 : BitVec 32 := 2#32
  let c0_i32_140 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_134 : BitVec 32 := 0#32
  let v259 : BitVec 1 := Scalar.cmpi .sgt v236 c0_i32_134
  let v260 : BitVec 32 := Scalar.extui v259
  let c0_i32_135 : BitVec 32 := 0#32
  let v261 : BitVec 1 := Scalar.cmpi .slt v236 c0_i32_135
  let v262 : BitVec 32 := Scalar.extui v261
  let v263 : BitVec 32 := Scalar.subi v260 v262
  let c2_i32 : BitVec 32 := 2#32
  let c0_i32_136 : BitVec 32 := 0#32
  let v264 : BitVec 1 := Scalar.cmpi .sgt c2_i32 c0_i32_136
  let v265 : BitVec 32 := Scalar.extui v264
  let c0_i32_137 : BitVec 32 := 0#32
  let v266 : BitVec 1 := Scalar.cmpi .slt c2_i32 c0_i32_137
  let v267 : BitVec 32 := Scalar.extui v266
  let v268 : BitVec 32 := Scalar.subi v265 v267
  let v269 : BitVec 1 := Scalar.cmpi .ne v263 v268
  let v270 : BitVec 32 := Scalar.remsi v236 c2_i32
  let c0_i32_138 : BitVec 32 := 0#32
  let v271 : BitVec 1 := Scalar.cmpi .ne v270 c0_i32_138
  let v272 : BitVec 1 := Scalar.andi v269 v271
  let v258 : BitVec 32 := Scalar.divsi v236 c2_i32
  let c1_i32_139 : BitVec 32 := 1#32
  let v273 : BitVec 32 := Scalar.subi v258 c1_i32_139
  let v274 : BitVec 32 := Scalar.select v272 v273 v258
  let v275 : BitVec 32 := Scalar.subi v274 c0_i32_140
  let c1_i32_141 : BitVec 32 := 1#32
  let v277 : BitVec 32 := Scalar.divsi v275 c1_i32_141
  let v278 : BitVec 32 := Scalar.muli v277 c1_i32_141
  let v279 : BitVec 32 := Scalar.addi c0_i32_140 v278
  let c1_i32_143 : BitVec 32 := 1#32
  let arg17 : BitVec 32 := Scf.iv v279 c1_i32_143 k0_t13
  let v287 : BitVec 32 := Scalar.muli c2_i32_147 arg17
  let v288 : BitVec 32 := Scalar.addi v287 c1_i32_148
  let c512_i32_149 : BitVec 32 := 512#32
  let v289 : BitVec 32 := Scalar.muli v288 c512_i32_149
  let v290 : BitVec 32 := v289
  let v303 : Index := Scalar.indexCast v290
  let c0_156 : Index := 0#32
  ![0, v303.toNat, 0]
def k0_mult24 (i : grid0.Coords) (k0_t13 : Fin (k0_t13_loop i).trips) : BitVec 32 :=
  let c2_i32_147 : BitVec 32 := 2#32
  let c0_i32_140 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_134 : BitVec 32 := 0#32
  let v259 : BitVec 1 := Scalar.cmpi .sgt v236 c0_i32_134
  let v260 : BitVec 32 := Scalar.extui v259
  let c0_i32_135 : BitVec 32 := 0#32
  let v261 : BitVec 1 := Scalar.cmpi .slt v236 c0_i32_135
  let v262 : BitVec 32 := Scalar.extui v261
  let v263 : BitVec 32 := Scalar.subi v260 v262
  let c2_i32 : BitVec 32 := 2#32
  let c0_i32_136 : BitVec 32 := 0#32
  let v264 : BitVec 1 := Scalar.cmpi .sgt c2_i32 c0_i32_136
  let v265 : BitVec 32 := Scalar.extui v264
  let c0_i32_137 : BitVec 32 := 0#32
  let v266 : BitVec 1 := Scalar.cmpi .slt c2_i32 c0_i32_137
  let v267 : BitVec 32 := Scalar.extui v266
  let v268 : BitVec 32 := Scalar.subi v265 v267
  let v269 : BitVec 1 := Scalar.cmpi .ne v263 v268
  let v270 : BitVec 32 := Scalar.remsi v236 c2_i32
  let c0_i32_138 : BitVec 32 := 0#32
  let v271 : BitVec 1 := Scalar.cmpi .ne v270 c0_i32_138
  let v272 : BitVec 1 := Scalar.andi v269 v271
  let v258 : BitVec 32 := Scalar.divsi v236 c2_i32
  let c1_i32_139 : BitVec 32 := 1#32
  let v273 : BitVec 32 := Scalar.subi v258 c1_i32_139
  let v274 : BitVec 32 := Scalar.select v272 v273 v258
  let v275 : BitVec 32 := Scalar.subi v274 c0_i32_140
  let c1_i32_141 : BitVec 32 := 1#32
  let v277 : BitVec 32 := Scalar.divsi v275 c1_i32_141
  let v278 : BitVec 32 := Scalar.muli v277 c1_i32_141
  let v279 : BitVec 32 := Scalar.addi c0_i32_140 v278
  let c1_i32_143 : BitVec 32 := 1#32
  let arg17 : BitVec 32 := Scf.iv v279 c1_i32_143 k0_t13
  let v287 : BitVec 32 := Scalar.muli c2_i32_147 arg17
  let c512_i32_160 : BitVec 32 := 512#32
  let v311 : BitVec 32 := Scalar.muli v287 c512_i32_160
  v311
def k0_off166 (i : grid0.Coords) (k0_t13 : Fin (k0_t13_loop i).trips) : Fin 3 → Nat :=
  let c0_161 : Index := 0#32
  let c2_i32_147 : BitVec 32 := 2#32
  let c0_i32_140 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_134 : BitVec 32 := 0#32
  let v259 : BitVec 1 := Scalar.cmpi .sgt v236 c0_i32_134
  let v260 : BitVec 32 := Scalar.extui v259
  let c0_i32_135 : BitVec 32 := 0#32
  let v261 : BitVec 1 := Scalar.cmpi .slt v236 c0_i32_135
  let v262 : BitVec 32 := Scalar.extui v261
  let v263 : BitVec 32 := Scalar.subi v260 v262
  let c2_i32 : BitVec 32 := 2#32
  let c0_i32_136 : BitVec 32 := 0#32
  let v264 : BitVec 1 := Scalar.cmpi .sgt c2_i32 c0_i32_136
  let v265 : BitVec 32 := Scalar.extui v264
  let c0_i32_137 : BitVec 32 := 0#32
  let v266 : BitVec 1 := Scalar.cmpi .slt c2_i32 c0_i32_137
  let v267 : BitVec 32 := Scalar.extui v266
  let v268 : BitVec 32 := Scalar.subi v265 v267
  let v269 : BitVec 1 := Scalar.cmpi .ne v263 v268
  let v270 : BitVec 32 := Scalar.remsi v236 c2_i32
  let c0_i32_138 : BitVec 32 := 0#32
  let v271 : BitVec 1 := Scalar.cmpi .ne v270 c0_i32_138
  let v272 : BitVec 1 := Scalar.andi v269 v271
  let v258 : BitVec 32 := Scalar.divsi v236 c2_i32
  let c1_i32_139 : BitVec 32 := 1#32
  let v273 : BitVec 32 := Scalar.subi v258 c1_i32_139
  let v274 : BitVec 32 := Scalar.select v272 v273 v258
  let v275 : BitVec 32 := Scalar.subi v274 c0_i32_140
  let c1_i32_141 : BitVec 32 := 1#32
  let v277 : BitVec 32 := Scalar.divsi v275 c1_i32_141
  let v278 : BitVec 32 := Scalar.muli v277 c1_i32_141
  let v279 : BitVec 32 := Scalar.addi c0_i32_140 v278
  let c1_i32_143 : BitVec 32 := 1#32
  let arg17 : BitVec 32 := Scf.iv v279 c1_i32_143 k0_t13
  let v287 : BitVec 32 := Scalar.muli c2_i32_147 arg17
  let c512_i32_160 : BitVec 32 := 512#32
  let v311 : BitVec 32 := Scalar.muli v287 c512_i32_160
  let v312 : BitVec 32 := v311
  let v313 : Index := Scalar.indexCast v312
  let c0_162 : Index := 0#32
  ![0, v313.toNat, 0]
def k0_mult25 (i : grid0.Coords) (k0_t13 : Fin (k0_t13_loop i).trips) : BitVec 32 :=
  let c2_i32_147 : BitVec 32 := 2#32
  let c0_i32_140 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_134 : BitVec 32 := 0#32
  let v259 : BitVec 1 := Scalar.cmpi .sgt v236 c0_i32_134
  let v260 : BitVec 32 := Scalar.extui v259
  let c0_i32_135 : BitVec 32 := 0#32
  let v261 : BitVec 1 := Scalar.cmpi .slt v236 c0_i32_135
  let v262 : BitVec 32 := Scalar.extui v261
  let v263 : BitVec 32 := Scalar.subi v260 v262
  let c2_i32 : BitVec 32 := 2#32
  let c0_i32_136 : BitVec 32 := 0#32
  let v264 : BitVec 1 := Scalar.cmpi .sgt c2_i32 c0_i32_136
  let v265 : BitVec 32 := Scalar.extui v264
  let c0_i32_137 : BitVec 32 := 0#32
  let v266 : BitVec 1 := Scalar.cmpi .slt c2_i32 c0_i32_137
  let v267 : BitVec 32 := Scalar.extui v266
  let v268 : BitVec 32 := Scalar.subi v265 v267
  let v269 : BitVec 1 := Scalar.cmpi .ne v263 v268
  let v270 : BitVec 32 := Scalar.remsi v236 c2_i32
  let c0_i32_138 : BitVec 32 := 0#32
  let v271 : BitVec 1 := Scalar.cmpi .ne v270 c0_i32_138
  let v272 : BitVec 1 := Scalar.andi v269 v271
  let v258 : BitVec 32 := Scalar.divsi v236 c2_i32
  let c1_i32_139 : BitVec 32 := 1#32
  let v273 : BitVec 32 := Scalar.subi v258 c1_i32_139
  let v274 : BitVec 32 := Scalar.select v272 v273 v258
  let v275 : BitVec 32 := Scalar.subi v274 c0_i32_140
  let c1_i32_141 : BitVec 32 := 1#32
  let v277 : BitVec 32 := Scalar.divsi v275 c1_i32_141
  let v278 : BitVec 32 := Scalar.muli v277 c1_i32_141
  let v279 : BitVec 32 := Scalar.addi c0_i32_140 v278
  let c1_i32_143 : BitVec 32 := 1#32
  let arg17 : BitVec 32 := Scf.iv v279 c1_i32_143 k0_t13
  let v287 : BitVec 32 := Scalar.muli c2_i32_147 arg17
  let c2_i32_243 : BitVec 32 := 2#32
  let v483 : BitVec 32 := Scalar.addi v287 c2_i32_243
  let c512_i32_244 : BitVec 32 := 512#32
  let v484 : BitVec 32 := Scalar.muli v483 c512_i32_244
  v484
def k0_mult26 (i : grid0.Coords) (k0_t13 : Fin (k0_t13_loop i).trips) : BitVec 32 :=
  let c2_i32_147 : BitVec 32 := 2#32
  let c0_i32_140 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_134 : BitVec 32 := 0#32
  let v259 : BitVec 1 := Scalar.cmpi .sgt v236 c0_i32_134
  let v260 : BitVec 32 := Scalar.extui v259
  let c0_i32_135 : BitVec 32 := 0#32
  let v261 : BitVec 1 := Scalar.cmpi .slt v236 c0_i32_135
  let v262 : BitVec 32 := Scalar.extui v261
  let v263 : BitVec 32 := Scalar.subi v260 v262
  let c2_i32 : BitVec 32 := 2#32
  let c0_i32_136 : BitVec 32 := 0#32
  let v264 : BitVec 1 := Scalar.cmpi .sgt c2_i32 c0_i32_136
  let v265 : BitVec 32 := Scalar.extui v264
  let c0_i32_137 : BitVec 32 := 0#32
  let v266 : BitVec 1 := Scalar.cmpi .slt c2_i32 c0_i32_137
  let v267 : BitVec 32 := Scalar.extui v266
  let v268 : BitVec 32 := Scalar.subi v265 v267
  let v269 : BitVec 1 := Scalar.cmpi .ne v263 v268
  let v270 : BitVec 32 := Scalar.remsi v236 c2_i32
  let c0_i32_138 : BitVec 32 := 0#32
  let v271 : BitVec 1 := Scalar.cmpi .ne v270 c0_i32_138
  let v272 : BitVec 1 := Scalar.andi v269 v271
  let v258 : BitVec 32 := Scalar.divsi v236 c2_i32
  let c1_i32_139 : BitVec 32 := 1#32
  let v273 : BitVec 32 := Scalar.subi v258 c1_i32_139
  let v274 : BitVec 32 := Scalar.select v272 v273 v258
  let v275 : BitVec 32 := Scalar.subi v274 c0_i32_140
  let c1_i32_141 : BitVec 32 := 1#32
  let v277 : BitVec 32 := Scalar.divsi v275 c1_i32_141
  let v278 : BitVec 32 := Scalar.muli v277 c1_i32_141
  let v279 : BitVec 32 := Scalar.addi c0_i32_140 v278
  let c1_i32_143 : BitVec 32 := 1#32
  let arg17 : BitVec 32 := Scf.iv v279 c1_i32_143 k0_t13
  let v287 : BitVec 32 := Scalar.muli c2_i32_147 arg17
  let c1_i32_255 : BitVec 32 := 1#32
  let v506 : BitVec 32 := Scalar.addi v287 c1_i32_255
  let c512_i32_256 : BitVec 32 := 512#32
  let v507 : BitVec 32 := Scalar.muli v506 c512_i32_256
  v507
def k0_cond5 (i : grid0.Coords) : BitVec 1 :=
  let c2_i32_144 : BitVec 32 := 2#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_134 : BitVec 32 := 0#32
  let v259 : BitVec 1 := Scalar.cmpi .sgt v236 c0_i32_134
  let v260 : BitVec 32 := Scalar.extui v259
  let c0_i32_135 : BitVec 32 := 0#32
  let v261 : BitVec 1 := Scalar.cmpi .slt v236 c0_i32_135
  let v262 : BitVec 32 := Scalar.extui v261
  let v263 : BitVec 32 := Scalar.subi v260 v262
  let c2_i32 : BitVec 32 := 2#32
  let c0_i32_136 : BitVec 32 := 0#32
  let v264 : BitVec 1 := Scalar.cmpi .sgt c2_i32 c0_i32_136
  let v265 : BitVec 32 := Scalar.extui v264
  let c0_i32_137 : BitVec 32 := 0#32
  let v266 : BitVec 1 := Scalar.cmpi .slt c2_i32 c0_i32_137
  let v267 : BitVec 32 := Scalar.extui v266
  let v268 : BitVec 32 := Scalar.subi v265 v267
  let v269 : BitVec 1 := Scalar.cmpi .ne v263 v268
  let v270 : BitVec 32 := Scalar.remsi v236 c2_i32
  let c0_i32_138 : BitVec 32 := 0#32
  let v271 : BitVec 1 := Scalar.cmpi .ne v270 c0_i32_138
  let v272 : BitVec 1 := Scalar.andi v269 v271
  let v258 : BitVec 32 := Scalar.divsi v236 c2_i32
  let c1_i32_139 : BitVec 32 := 1#32
  let v273 : BitVec 32 := Scalar.subi v258 c1_i32_139
  let v274 : BitVec 32 := Scalar.select v272 v273 v258
  let v280 : BitVec 32 := Scalar.muli c2_i32_144 v274
  let v281 : BitVec 1 := Scalar.cmpi .eq v280 v236
  let v282 : BitVec 32 := Scalar.extui v281
  let c0_i32_145 : BitVec 32 := 0#32
  let v283 : BitVec 1 := Scalar.cmpi .ne v282 c0_i32_145
  v283

def k0_mult27 (i : grid0.Coords) : BitVec 32 :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c512_i32_147 : BitVec 32 := 512#32
  let v287 : BitVec 32 := Scalar.muli v236 c512_i32_147
  v287
def k0_off167 (i : grid0.Coords) : Fin 3 → Nat :=
  let c0_148 : Index := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c512_i32_147 : BitVec 32 := 512#32
  let v287 : BitVec 32 := Scalar.muli v236 c512_i32_147
  let v288 : BitVec 32 := v287
  let v289 : Index := Scalar.indexCast v288
  let c0_149 : Index := 0#32
  ![0, v289.toNat, 0]
def k0_cond6 (i : grid0.Coords) : BitVec 1 :=
  let c2_i32_144 : BitVec 32 := 2#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_134 : BitVec 32 := 0#32
  let v259 : BitVec 1 := Scalar.cmpi .sgt v236 c0_i32_134
  let v260 : BitVec 32 := Scalar.extui v259
  let c0_i32_135 : BitVec 32 := 0#32
  let v261 : BitVec 1 := Scalar.cmpi .slt v236 c0_i32_135
  let v262 : BitVec 32 := Scalar.extui v261
  let v263 : BitVec 32 := Scalar.subi v260 v262
  let c2_i32 : BitVec 32 := 2#32
  let c0_i32_136 : BitVec 32 := 0#32
  let v264 : BitVec 1 := Scalar.cmpi .sgt c2_i32 c0_i32_136
  let v265 : BitVec 32 := Scalar.extui v264
  let c0_i32_137 : BitVec 32 := 0#32
  let v266 : BitVec 1 := Scalar.cmpi .slt c2_i32 c0_i32_137
  let v267 : BitVec 32 := Scalar.extui v266
  let v268 : BitVec 32 := Scalar.subi v265 v267
  let v269 : BitVec 1 := Scalar.cmpi .ne v263 v268
  let v270 : BitVec 32 := Scalar.remsi v236 c2_i32
  let c0_i32_138 : BitVec 32 := 0#32
  let v271 : BitVec 1 := Scalar.cmpi .ne v270 c0_i32_138
  let v272 : BitVec 1 := Scalar.andi v269 v271
  let v258 : BitVec 32 := Scalar.divsi v236 c2_i32
  let c1_i32_139 : BitVec 32 := 1#32
  let v273 : BitVec 32 := Scalar.subi v258 c1_i32_139
  let v274 : BitVec 32 := Scalar.select v272 v273 v258
  let v280 : BitVec 32 := Scalar.muli c2_i32_144 v274
  let v284 : BitVec 1 := Scalar.cmpi .slt v280 v236
  let v285 : BitVec 32 := Scalar.extui v284
  let c0_i32_146 : BitVec 32 := 0#32
  let v286 : BitVec 1 := Scalar.cmpi .ne v285 c0_i32_146
  v286

def k0_mult28 (i : grid0.Coords) : BitVec 32 :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c512_i32_147 : BitVec 32 := 512#32
  let v287 : BitVec 32 := Scalar.muli v236 c512_i32_147
  v287
def k0_off168 (i : grid0.Coords) : Fin 3 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let v289 : Index := Scalar.indexCast v236
  let c0_148 : Index := 0#32
  let c0_149 : Index := 0#32
  ![v289.toNat, 0, 0]
def k0_off169 (i : grid0.Coords) : Fin 3 → Nat :=
  let c0_153 : Index := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c512_i32_147 : BitVec 32 := 512#32
  let v287 : BitVec 32 := Scalar.muli v236 c512_i32_147
  let v288 : BitVec 32 := v287
  let v301 : Index := Scalar.indexCast v288
  let c0_154 : Index := 0#32
  ![0, v301.toNat, 0]
def k0_mult29 (i : grid0.Coords) : BitVec 32 :=
  let c2_i32_144 : BitVec 32 := 2#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_134 : BitVec 32 := 0#32
  let v259 : BitVec 1 := Scalar.cmpi .sgt v236 c0_i32_134
  let v260 : BitVec 32 := Scalar.extui v259
  let c0_i32_135 : BitVec 32 := 0#32
  let v261 : BitVec 1 := Scalar.cmpi .slt v236 c0_i32_135
  let v262 : BitVec 32 := Scalar.extui v261
  let v263 : BitVec 32 := Scalar.subi v260 v262
  let c2_i32 : BitVec 32 := 2#32
  let c0_i32_136 : BitVec 32 := 0#32
  let v264 : BitVec 1 := Scalar.cmpi .sgt c2_i32 c0_i32_136
  let v265 : BitVec 32 := Scalar.extui v264
  let c0_i32_137 : BitVec 32 := 0#32
  let v266 : BitVec 1 := Scalar.cmpi .slt c2_i32 c0_i32_137
  let v267 : BitVec 32 := Scalar.extui v266
  let v268 : BitVec 32 := Scalar.subi v265 v267
  let v269 : BitVec 1 := Scalar.cmpi .ne v263 v268
  let v270 : BitVec 32 := Scalar.remsi v236 c2_i32
  let c0_i32_138 : BitVec 32 := 0#32
  let v271 : BitVec 1 := Scalar.cmpi .ne v270 c0_i32_138
  let v272 : BitVec 1 := Scalar.andi v269 v271
  let v258 : BitVec 32 := Scalar.divsi v236 c2_i32
  let c1_i32_139 : BitVec 32 := 1#32
  let v273 : BitVec 32 := Scalar.subi v258 c1_i32_139
  let v274 : BitVec 32 := Scalar.select v272 v273 v258
  let v280 : BitVec 32 := Scalar.muli c2_i32_144 v274
  let c512_i32_158 : BitVec 32 := 512#32
  let v309 : BitVec 32 := Scalar.muli v280 c512_i32_158
  v309
def k0_off170 (i : grid0.Coords) : Fin 3 → Nat :=
  let c0_159 : Index := 0#32
  let c2_i32_144 : BitVec 32 := 2#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c0_i32_134 : BitVec 32 := 0#32
  let v259 : BitVec 1 := Scalar.cmpi .sgt v236 c0_i32_134
  let v260 : BitVec 32 := Scalar.extui v259
  let c0_i32_135 : BitVec 32 := 0#32
  let v261 : BitVec 1 := Scalar.cmpi .slt v236 c0_i32_135
  let v262 : BitVec 32 := Scalar.extui v261
  let v263 : BitVec 32 := Scalar.subi v260 v262
  let c2_i32 : BitVec 32 := 2#32
  let c0_i32_136 : BitVec 32 := 0#32
  let v264 : BitVec 1 := Scalar.cmpi .sgt c2_i32 c0_i32_136
  let v265 : BitVec 32 := Scalar.extui v264
  let c0_i32_137 : BitVec 32 := 0#32
  let v266 : BitVec 1 := Scalar.cmpi .slt c2_i32 c0_i32_137
  let v267 : BitVec 32 := Scalar.extui v266
  let v268 : BitVec 32 := Scalar.subi v265 v267
  let v269 : BitVec 1 := Scalar.cmpi .ne v263 v268
  let v270 : BitVec 32 := Scalar.remsi v236 c2_i32
  let c0_i32_138 : BitVec 32 := 0#32
  let v271 : BitVec 1 := Scalar.cmpi .ne v270 c0_i32_138
  let v272 : BitVec 1 := Scalar.andi v269 v271
  let v258 : BitVec 32 := Scalar.divsi v236 c2_i32
  let c1_i32_139 : BitVec 32 := 1#32
  let v273 : BitVec 32 := Scalar.subi v258 c1_i32_139
  let v274 : BitVec 32 := Scalar.select v272 v273 v258
  let v280 : BitVec 32 := Scalar.muli c2_i32_144 v274
  let c512_i32_158 : BitVec 32 := 512#32
  let v309 : BitVec 32 := Scalar.muli v280 c512_i32_158
  let v310 : BitVec 32 := v309
  let v311 : Index := Scalar.indexCast v310
  let c0_160 : Index := 0#32
  ![0, v311.toNat, 0]
def k0_mult30 (i : grid0.Coords) : BitVec 32 :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_120 : BitVec 32 := 1#32
  let v236 : BitVec 32 := Scalar.subi v18 c1_i32_120
  let c512_i32_241 : BitVec 32 := 512#32
  let v481 : BitVec 32 := Scalar.muli v236 c512_i32_241
  v481
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2.lean ====
abbrev S16x4096x1024 : Shape := ⟨3, ![16, 4096, 1024]⟩
abbrev S2x16x4096x256 : Shape := ⟨4, ![2, 16, 4096, 256]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S256x1024 : Shape := ⟨2, ![256, 1024]⟩
abbrev S65536x1024 : Shape := ⟨2, ![65536, 1024]⟩
abbrev S2x65536x256 : Shape := ⟨3, ![2, 65536, 256]⟩
abbrev S1x1024 : Shape := ⟨2, ![1, 1024]⟩
abbrev S1x1024x256 : Shape := ⟨3, ![1, 1024, 256]⟩
abbrev S1024x1 : Shape := ⟨2, ![1024, 1]⟩
abbrev S1024x256 : Shape := ⟨2, ![1024, 256]⟩

abbrev nBuf : Space → Nat
  | .hbm => 19
  | .vmem => 13
  | .smem => 0
  | _ => 0

abbrev bufTy : (tb : Table) → Fin (tcTables nBuf tb) → BufTy
  | .hbm, ⟨0, _⟩ => ⟨S16x4096x1024, .f32⟩
  | .hbm, ⟨1, _⟩ => ⟨S2x16x4096x256, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S1024, .f32⟩
  | .hbm, ⟨9, _⟩ => ⟨S65536x1024, .f32⟩
  | .hbm, ⟨10, _⟩ => ⟨S1024x5632, .bf16⟩
  | .hbm, ⟨11, _⟩ => ⟨S2816x1024, .bf16⟩
  | .hbm, ⟨12, _⟩ => ⟨S2x65536x256, .f32⟩
  | .hbm, ⟨13, _⟩ => ⟨S1024x1024, .bf16⟩
  | .hbm, ⟨14, _⟩ => ⟨S256x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024x256, .f32⟩
  | .local _ .vmem, ⟨6, _⟩ => ⟨S1x1024x256, .f32⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16x4096x1024 : Shape := ⟨3, ![16, 4096, 1024]⟩
abbrev S2x16x4096x256 : Shape := ⟨4, ![2, 16, 4096, 256]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S256x1024 : Shape := ⟨2, ![256, 1024]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩
abbrev S2x65536x256 : Shape := ⟨3, ![2, 65536, 256]⟩
abbrev S1x65536x256 : Shape := ⟨3, ![1, 65536, 256]⟩
abbrev S65536x256 : Shape := ⟨2, ![65536, 256]⟩

abbrev nBuf : Space → Nat
  | .hbm => 91
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S2x16x4096x256, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S1024, .f32⟩
  | .hbm, ⟨9, _⟩ => ⟨S65536x1024, .f32⟩
  | .hbm, ⟨10, _⟩ => ⟨S65536x1024, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x1, .f32⟩
  | .hbm, ⟨21, _⟩ => ⟨S65536x1024, .f32⟩
  | .hbm, ⟨22, _⟩ => ⟨S65536x1024, .f32⟩
  | .hbm, ⟨23, _⟩ => ⟨S1x1024, .f32⟩
  | .hbm, ⟨24, _⟩ => ⟨S65536x1024, .f32⟩
  | .hbm, ⟨25, _⟩ => ⟨S65536x1024, .f32⟩
  | .hbm, ⟨26, _⟩ => ⟨S65536x5632, .f32⟩
  | .hbm, ⟨27, _⟩ => ⟨S65536x2816, .f32⟩
  | .hbm, ⟨28, _⟩ => ⟨S65536x2816, .f32⟩
  | .hbm, ⟨29, _⟩ => ⟨S65536x2816, .f32⟩
  | .hbm, ⟨30, _⟩ => ⟨S65536x2816, .f32⟩
  | .hbm, ⟨31, _⟩ => ⟨S_, .f32⟩
  | .hbm, ⟨32, _⟩ => ⟨S65536x2816, .f32⟩
  | .hbm, ⟨33, _⟩ => ⟨S65536x2816, .f32⟩
  | .hbm, ⟨34, _⟩ => ⟨S_, .f32⟩
  | .hbm, ⟨35, _⟩ => ⟨S65536x2816, .f32⟩
  | .hbm, ⟨36, _⟩ => ⟨S65536x2816, .f32⟩
  | .hbm, ⟨37, _⟩ => ⟨S65536x2816, .f32⟩
  | .hbm, ⟨38, _⟩ => ⟨S65536x2816, .f32⟩
  | .hbm, ⟨39, _⟩ => ⟨S65536x1024, .f32⟩
  | .hbm, ⟨40, _⟩ => ⟨S_, .f32⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S65536x1024, .f32⟩
  | .hbm, ⟨45, _⟩ => ⟨S_, .f32⟩
  | .hbm, ⟨46, _⟩ => ⟨S65536, .f32⟩
  | .hbm, ⟨47, _⟩ => ⟨S65536x1, .f32⟩
  | .hbm, ⟨48, _⟩ => ⟨S_, .f32⟩
  | .hbm, ⟨49, _⟩ => ⟨S65536x1, .f32⟩
  | .hbm, ⟨50, _⟩ => ⟨S65536x1, .f32⟩
  | .hbm, ⟨51, _⟩ => ⟨S_, .f32⟩
  | .hbm, ⟨52, _⟩ => ⟨S65536x1, .f32⟩
  | .hbm, ⟨53, _⟩ => ⟨S65536x1, .f32⟩
  | .hbm, ⟨54, _⟩ => ⟨S65536x1, .f32⟩
  | .hbm, ⟨55, _⟩ => ⟨S65536x1024, .f32⟩
  | .hbm, ⟨56, _⟩ => ⟨S65536x1024, .f32⟩
  | .hbm, ⟨57, _⟩ => ⟨S1x1024, .f32⟩
  | .hbm, ⟨58, _⟩ => ⟨S65536x1024, .f32⟩
  | .hbm, ⟨59, _⟩ => ⟨S65536x1024, .f32⟩
  | .hbm, ⟨60, _⟩ => ⟨S65536x1024, .f32⟩
  | .hbm, ⟨61, _⟩ => ⟨S65536x1024, .f32⟩
  | .hbm, ⟨62, _⟩ => ⟨S65536x1024, .f32⟩
  | .hbm, ⟨63, _⟩ => ⟨S_, .f32⟩
  | .hbm, ⟨64, _⟩ => ⟨S65536x1024, .f32⟩
  | .hbm, ⟨65, _⟩ => ⟨S65536x1024, .f32⟩
  | .hbm, ⟨66, _⟩ => ⟨S_, .f32⟩
  | .hbm, ⟨67, _⟩ => ⟨S65536x1024, .f32⟩
  | .hbm, ⟨68, _⟩ => ⟨S65536x1024, .f32⟩
  | .hbm, ⟨69, _⟩ => ⟨S2x65536x256, .f32⟩
  | .hbm, ⟨70, _⟩ => ⟨S1x65536x256, .f32⟩
  | .hbm, ⟨71, _⟩ => ⟨S65536x256, .f32⟩
  | .hbm, ⟨72, _⟩ => ⟨S65536x1024, .f32⟩
  | .hbm, ⟨73, _⟩ => ⟨S65536x1024, .f32⟩
  | .hbm, ⟨74, _⟩ => ⟨S65536x1024, .f32⟩
  | .hbm, ⟨75, _⟩ => ⟨S65536x1024, .f32⟩
  | .hbm, ⟨76, _⟩ => ⟨S_, .f32⟩
  | .hbm, ⟨77, _⟩ => ⟨S65536, .f32⟩
  | .hbm, ⟨78, _⟩ => ⟨S65536x1, .f32⟩
  | .hbm, ⟨79, _⟩ => ⟨S_, .f32⟩
  | .hbm, ⟨80, _⟩ => ⟨S65536x1, .f32⟩
  | .hbm, ⟨81, _⟩ => ⟨S65536x1, .f32⟩
  | .hbm, ⟨82, _⟩ => ⟨S_, .f32⟩
  | .hbm, ⟨83, _⟩ => ⟨S65536x1, .f32⟩
  | .hbm, ⟨84, _⟩ => ⟨S65536x1, .f32⟩
  | .hbm, ⟨85, _⟩ => ⟨S65536x1, .f32⟩
  | .hbm, ⟨86, _⟩ => ⟨S65536x1024, .f32⟩
  | .hbm, ⟨87, _⟩ => ⟨S65536x1024, .f32⟩
  | .hbm, ⟨88, _⟩ => ⟨S1x1024, .f32⟩
  | .hbm, ⟨89, _⟩ => ⟨S65536x1024, .f32⟩
  | .hbm, ⟨90, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]
-- ==== Kernel3.lean ====
abbrev S16x4096x1024 : Shape := ⟨3, ![16, 4096, 1024]⟩
abbrev S1024 : Shape := ⟨1, ![1024]⟩
abbrev S1024x5632 : Shape := ⟨2, ![1024, 5632]⟩
abbrev S2816x1024 : Shape := ⟨2, ![2816, 1024]⟩
abbrev S65536x1024 : Shape := ⟨2, ![65536, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 9
  | .vmem => 7
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S65536x1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1024x1024, .f32⟩
  | .local _ .vmem, ⟨6, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16x4096x1024 : Shape := ⟨3, ![16, 4096, 1024]⟩
abbrev S1024 : Shape := ⟨1, ![1024]⟩
abbrev S1024x5632 : Shape := ⟨2, ![1024, 5632]⟩
abbrev S2816x1024 : Shape := ⟨2, ![2816, 1024]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 39
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S65536x1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x5632, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S65536x2816, .f32⟩
  | .hbm, ⟨26, _⟩ => ⟨S_, .f32⟩
  | .hbm, ⟨27, _⟩ => ⟨S65536x2816, .f32⟩
  | .hbm, ⟨28, _⟩ => ⟨S65536x2816, .f32⟩
  | .hbm, ⟨29, _⟩ => ⟨S_, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S_, .f32⟩
  | .hbm, ⟨36, _⟩ => ⟨S65536x1024, .f32⟩
  | .hbm, ⟨37, _⟩ => ⟨S65536x1024, .f32⟩
  | .hbm, ⟨38, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel4.lean ====
abbrev S16x4096x1024 : Shape := ⟨3, ![16, 4096, 1024]⟩
abbrev S65536x1024 : Shape := ⟨2, ![65536, 1024]⟩
abbrev S65536x512 : Shape := ⟨2, ![65536, 512]⟩
abbrev S65536x2048 : Shape := ⟨2, ![65536, 2048]⟩
abbrev S1024x1024 : Shape := ⟨2, ![1024, 1024]⟩
abbrev S512x1024 : Shape := ⟨2, ![512, 1024]⟩
abbrev S1024x512 : Shape := ⟨2, ![1024, 512]⟩
abbrev S1024x2048 : Shape := ⟨2, ![1024, 2048]⟩

abbrev nBuf : Space → Nat
  | .hbm => 13
  | .vmem => 15
  | .smem => 0
  | _ => 0

abbrev bufTy : (tb : Table) → Fin (tcTables nBuf tb) → BufTy
  | .hbm, ⟨0, _⟩ => ⟨S16x4096x1024, .f32⟩
  | .hbm, ⟨1, _⟩ => ⟨S65536x1024, .bf16⟩
  | .hbm, ⟨2, _⟩ => ⟨S65536x1024, .bf16⟩
  | .hbm, ⟨3, _⟩ => ⟨S65536x512, .bf16⟩
  | .hbm, ⟨4, _⟩ => ⟨S65536x2048, .bf16⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S65536x1024, .f32⟩
  | .hbm, ⟨9, _⟩ => ⟨S1024x1024, .bf16⟩
  | .hbm, ⟨10, _⟩ => ⟨S512x1024, .bf16⟩
  | .hbm, ⟨11, _⟩ => ⟨S1024x1024, .bf16⟩
  | .hbm, ⟨12, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x2048, .bf16⟩
  | .local _ .vmem, ⟨9, _⟩ => ⟨S1024x2048, .bf16⟩
  | .local _ .vmem, ⟨10, _⟩ => ⟨S1024x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16x4096x1024 : Shape := ⟨3, ![16, 4096, 1024]⟩
abbrev S65536x1024 : Shape := ⟨2, ![65536, 1024]⟩
abbrev S65536x512 : Shape := ⟨2, ![65536, 512]⟩
abbrev S65536x2048 : Shape := ⟨2, ![65536, 2048]⟩
abbrev S1024x1024 : Shape := ⟨2, ![1024, 1024]⟩
abbrev S512x1024 : Shape := ⟨2, ![512, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S65536x1024, .bf16⟩
  | .hbm, ⟨2, _⟩ => ⟨S65536x1024, .bf16⟩
  | .hbm, ⟨3, _⟩ => ⟨S65536x512, .bf16⟩
  | .hbm, ⟨4, _⟩ => ⟨S65536x2048, .bf16⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S65536x2048, .f32⟩
  | .hbm, ⟨9, _⟩ => ⟨S65536x1024, .f32⟩
  | .hbm, ⟨10, _⟩ => ⟨S65536x1024, .f32⟩
  | .hbm, ⟨11, _⟩ => ⟨S65536x512, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel5.lean ====
abbrev S16x4096x1024 : Shape := ⟨3, ![16, 4096, 1024]⟩
abbrev S1024 : Shape := ⟨1, ![1024]⟩
abbrev S1024x8652 : Shape := ⟨2, ![1024, 8652]⟩
abbrev S3x512 : Shape := ⟨2, ![3, 512]⟩
abbrev S512x1024 : Shape := ⟨2, ![512, 1024]⟩
abbrev S65536x1024 : Shape := ⟨2, ![65536, 1024]⟩
abbrev S1024x1536 : Shape := ⟨2, ![1024, 1536]⟩
abbrev S1024x1024 : Shape := ⟨2, ![1024, 1024]⟩
abbrev S1024x8 : Shape := ⟨2, ![1024, 8]⟩
abbrev S1024x4 : Shape := ⟨2, ![1024, 4]⟩
abbrev S_ : Shape := ⟨0, ![]⟩
abbrev S1024x116 : Shape := ⟨2, ![1024, 116]⟩
abbrev S1024x128 : Shape := ⟨2, ![1024, 128]⟩
abbrev S1024x512 : Shape := ⟨2, ![1024, 512]⟩
abbrev S1024x64 : Shape := ⟨2, ![1024, 64]⟩
abbrev S1024x256 : Shape := ⟨2, ![1024, 256]⟩
abbrev S1024x3072 : Shape := ⟨2, ![1024, 3072]⟩
abbrev S1x1024 : Shape := ⟨2, ![1, 1024]⟩
abbrev S65536x128 : Shape := ⟨2, ![65536, 128]⟩
abbrev S65536x512 : Shape := ⟨2, ![65536, 512]⟩
abbrev S65536x256 : Shape := ⟨2, ![65536, 256]⟩
abbrev S65536x2048 : Shape := ⟨2, ![65536, 2048]⟩
abbrev S512x128 : Shape := ⟨2, ![512, 128]⟩
abbrev S512x512 : Shape := ⟨2, ![512, 512]⟩
abbrev S512x256 : Shape := ⟨2, ![512, 256]⟩
abbrev S512x2048 : Shape := ⟨2, ![512, 2048]⟩
abbrev S520x512 : Shape := ⟨2, ![520, 512]⟩
abbrev S512 : Shape := ⟨1, ![512]⟩
abbrev S512x1 : Shape := ⟨2, ![512, 1]⟩
abbrev S1024x2048 : Shape := ⟨2, ![1024, 2048]⟩
abbrev S8x512 : Shape := ⟨2, ![8, 512]⟩
abbrev S512x1536 : Shape := ⟨2, ![512, 1536]⟩
abbrev S1x512 : Shape := ⟨2, ![1, 512]⟩

abbrev nBuf : Space → Nat
  | .hbm => 39
  | .vmem => 33
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x8652, .f32⟩
  | .hbm, ⟨3, _⟩ => ⟨S3x512, .f32⟩
  | .hbm, ⟨4, _⟩ => ⟨S512x1024, .f32⟩
  | .hbm, ⟨5, _⟩ => ⟨S65536x1024, .f32⟩
  | .hbm, ⟨6, _⟩ => ⟨S1024x8652, .bf16⟩
  | .hbm, ⟨7, _⟩ => ⟨S1024x1536, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x8, .bf16⟩
  | .hbm, ⟨12, _⟩ => ⟨S1024x4, .bf16⟩
  | .hbm, ⟨13, _⟩ => ⟨S_, .bf16⟩
  | .hbm, ⟨14, _⟩ => ⟨S1024x116, .bf16⟩
  | .hbm, ⟨15, _⟩ => ⟨S1024x128, .bf16⟩
  | .hbm, ⟨16, _⟩ => ⟨S1024x512, .bf16⟩
  | .hbm, ⟨17, _⟩ => ⟨S_, .bf16⟩
  | .hbm, ⟨18, _⟩ => ⟨S1024x512, .bf16⟩
  | .hbm, ⟨19, _⟩ => ⟨S1024x512, .bf16⟩
  | .hbm, ⟨20, _⟩ => ⟨S1024x64, .bf16⟩
  | .hbm, ⟨21, _⟩ => ⟨S1024x64, .bf16⟩
  | .hbm, ⟨22, _⟩ => ⟨S1024x64, .bf16⟩
  | .hbm, ⟨23, _⟩ => ⟨S_, .bf16⟩
  | .hbm, ⟨24, _⟩ => ⟨S1024x64, .bf16⟩
  | .hbm, ⟨25, _⟩ => ⟨S1024x256, .bf16⟩
  | .hbm, ⟨26, _⟩ => ⟨S1024x256, .bf16⟩
  | .hbm, ⟨27, _⟩ => ⟨S1024x3072, .bf16⟩
  | .hbm, ⟨28, _⟩ => ⟨S512x1024, .bf16⟩
  | .hbm, ⟨29, _⟩ => ⟨S1x1024, .f32⟩
  | .hbm, ⟨30, _⟩ => ⟨S65536x1024, .bf16⟩
  | .hbm, ⟨31, _⟩ => ⟨S65536x1024, .bf16⟩
  | .hbm, ⟨32, _⟩ => ⟨S65536x1024, .bf16⟩
  | .hbm, ⟨33, _⟩ => ⟨S65536x1024, .bf16⟩
  | .hbm, ⟨34, _⟩ => ⟨S65536x128, .f32⟩
  | .hbm, ⟨35, _⟩ => ⟨S65536x512, .bf16⟩
  | .hbm, ⟨36, _⟩ => ⟨S65536x256, .bf16⟩
  | .hbm, ⟨37, _⟩ => ⟨S65536x256, .bf16⟩
  | .hbm, ⟨38, _⟩ => ⟨S65536x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x128, .bf16⟩
  | .local _ .vmem, ⟨8, _⟩ => ⟨S1024x512, .bf16⟩
  | .local _ .vmem, ⟨9, _⟩ => ⟨S1024x256, .bf16⟩
  | .local _ .vmem, ⟨10, _⟩ => ⟨S1024x256, .bf16⟩
  | .local _ .vmem, ⟨11, _⟩ => ⟨S1024x3072, .bf16⟩
  | .local _ .vmem, ⟨12, _⟩ => ⟨S3x512, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x128, .f32⟩
  | .local _ .vmem, ⟨23, _⟩ => ⟨S512x128, .f32⟩
  | .local _ .vmem, ⟨24, _⟩ => ⟨S512x512, .bf16⟩
  | .local _ .vmem, ⟨25, _⟩ => ⟨S512x512, .bf16⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S512x2048, .bf16⟩
  | .local _ .vmem, ⟨31, _⟩ => ⟨S512x2048, .bf16⟩
  | .local _ .vmem, ⟨32, _⟩ => ⟨S520x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev main_v22_3 : Ref sig .tc := ⟨.hbm, 33, rfl⟩
abbrev main_v22_4 : Ref sig .tc := ⟨.hbm, 34, rfl⟩
abbrev main_v22_5 : Ref sig .tc := ⟨.hbm, 35, rfl⟩
abbrev main_v22_6 : Ref sig .tc := ⟨.hbm, 36, rfl⟩
abbrev main_v22_7 : Ref sig .tc := ⟨.hbm, 37, rfl⟩
abbrev main_v22_8 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference5Ideal.lean ====
abbrev S16x4096x1024 : Shape := ⟨3, ![16, 4096, 1024]⟩
abbrev S1024 : Shape := ⟨1, ![1024]⟩
abbrev S1024x8652 : Shape := ⟨2, ![1024, 8652]⟩
abbrev S3x512 : Shape := ⟨2, ![3, 512]⟩
abbrev S512x1024 : Shape := ⟨2, ![512, 1024]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x8652 : Shape := ⟨2, ![65536, 8652]⟩
abbrev S65536x512 : Shape := ⟨2, ![65536, 512]⟩
abbrev S65536x8 : Shape := ⟨2, ![65536, 8]⟩
abbrev S65536x128 : Shape := ⟨2, ![65536, 128]⟩
abbrev S65536x256 : Shape := ⟨2, ![65536, 256]⟩
abbrev S65536x64 : Shape := ⟨2, ![65536, 64]⟩
abbrev S65536x4 : Shape := ⟨2, ![65536, 4]⟩
abbrev S65536x3072 : Shape := ⟨2, ![65536, 3072]⟩
abbrev S16x4096x512 : Shape := ⟨3, ![16, 4096, 512]⟩
abbrev S16x4098x512 : Shape := ⟨3, ![16, 4098, 512]⟩
abbrev S1x512 : Shape := ⟨2, ![1, 512]⟩
abbrev S512 : Shape := ⟨1, ![512]⟩
abbrev S1x1x512 : Shape := ⟨3, ![1, 1, 512]⟩
abbrev S65536x116 : Shape := ⟨2, ![65536, 116]⟩
abbrev S65536x2048 : Shape := ⟨2, ![65536, 2048]⟩

abbrev nBuf : Space → Nat
  | .hbm => 103
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x8652, .f32⟩
  | .hbm, ⟨3, _⟩ => ⟨S3x512, .f32⟩
  | .hbm, ⟨4, _⟩ => ⟨S512x1024, .f32⟩
  | .hbm, ⟨5, _⟩ => ⟨S65536x1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S65536x8652, .f32⟩
  | .hbm, ⟨23, _⟩ => ⟨S65536x512, .f32⟩
  | .hbm, ⟨24, _⟩ => ⟨S65536x512, .f32⟩
  | .hbm, ⟨25, _⟩ => ⟨S65536x512, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S65536x8, .f32⟩
  | .hbm, ⟨30, _⟩ => ⟨S65536x512, .f32⟩
  | .hbm, ⟨31, _⟩ => ⟨S65536x128, .f32⟩
  | .hbm, ⟨32, _⟩ => ⟨S65536x256, .f32⟩
  | .hbm, ⟨33, _⟩ => ⟨S65536x64, .f32⟩
  | .hbm, ⟨34, _⟩ => ⟨S65536x4, .f32⟩
  | .hbm, ⟨35, _⟩ => ⟨S65536x3072, .f32⟩
  | .hbm, ⟨36, _⟩ => ⟨S65536x3072, .f32⟩
  | .hbm, ⟨37, _⟩ => ⟨S65536x3072, .f32⟩
  | .hbm, ⟨38, _⟩ => ⟨S_, .f32⟩
  | .hbm, ⟨39, _⟩ => ⟨S65536x3072, .f32⟩
  | .hbm, ⟨40, _⟩ => ⟨S65536x3072, .f32⟩
  | .hbm, ⟨41, _⟩ => ⟨S_, .f32⟩
  | .hbm, ⟨42, _⟩ => ⟨S65536x3072, .f32⟩
  | .hbm, ⟨43, _⟩ => ⟨S65536x3072, .f32⟩
  | .hbm, ⟨44, _⟩ => ⟨S65536x1024, .f32⟩
  | .hbm, ⟨45, _⟩ => ⟨S65536x512, .f32⟩
  | .hbm, ⟨46, _⟩ => ⟨S16x4096x512, .f32⟩
  | .hbm, ⟨47, _⟩ => ⟨S_, .i32⟩
  | .hbm, ⟨48, _⟩ => ⟨S_, .f32⟩
  | .hbm, ⟨49, _⟩ => ⟨S16x4098x512, .f32⟩
  | .hbm, ⟨50, _⟩ => ⟨S16x4096x512, .f32⟩
  | .hbm, ⟨51, _⟩ => ⟨S1x512, .f32⟩
  | .hbm, ⟨52, _⟩ => ⟨S512, .f32⟩
  | .hbm, ⟨53, _⟩ => ⟨S1x1x512, .f32⟩
  | .hbm, ⟨54, _⟩ => ⟨S16x4096x512, .f32⟩
  | .hbm, ⟨55, _⟩ => ⟨S16x4096x512, .f32⟩
  | .hbm, ⟨56, _⟩ => ⟨S16x4096x512, .f32⟩
  | .hbm, ⟨57, _⟩ => ⟨S1x512, .f32⟩
  | .hbm, ⟨58, _⟩ => ⟨S512, .f32⟩
  | .hbm, ⟨59, _⟩ => ⟨S1x1x512, .f32⟩
  | .hbm, ⟨60, _⟩ => ⟨S16x4096x512, .f32⟩
  | .hbm, ⟨61, _⟩ => ⟨S16x4096x512, .f32⟩
  | .hbm, ⟨62, _⟩ => ⟨S16x4096x512, .f32⟩
  | .hbm, ⟨63, _⟩ => ⟨S16x4096x512, .f32⟩
  | .hbm, ⟨64, _⟩ => ⟨S1x512, .f32⟩
  | .hbm, ⟨65, _⟩ => ⟨S512, .f32⟩
  | .hbm, ⟨66, _⟩ => ⟨S1x1x512, .f32⟩
  | .hbm, ⟨67, _⟩ => ⟨S16x4096x512, .f32⟩
  | .hbm, ⟨68, _⟩ => ⟨S16x4096x512, .f32⟩
  | .hbm, ⟨69, _⟩ => ⟨S16x4096x512, .f32⟩
  | .hbm, ⟨70, _⟩ => ⟨S65536x512, .f32⟩
  | .hbm, ⟨71, _⟩ => ⟨S65536x512, .f32⟩
  | .hbm, ⟨72, _⟩ => ⟨S65536x1024, .f32⟩
  | .hbm, ⟨73, _⟩ => ⟨S65536x1024, .f32⟩
  | .hbm, ⟨74, _⟩ => ⟨S_, .f32⟩
  | .hbm, ⟨75, _⟩ => ⟨S65536x116, .f32⟩
  | .hbm, ⟨76, _⟩ => ⟨S65536x128, .f32⟩
  | .hbm, ⟨77, _⟩ => ⟨S_, .f32⟩
  | .hbm, ⟨78, _⟩ => ⟨S65536x512, .f32⟩
  | .hbm, ⟨79, _⟩ => ⟨S65536x512, .f32⟩
  | .hbm, ⟨80, _⟩ => ⟨S_, .f32⟩
  | .hbm, ⟨81, _⟩ => ⟨S65536x512, .f32⟩
  | .hbm, ⟨82, _⟩ => ⟨S65536x512, .f32⟩
  | .hbm, ⟨83, _⟩ => ⟨S_, .f32⟩
  | .hbm, ⟨84, _⟩ => ⟨S65536x64, .f32⟩
  | .hbm, ⟨85, _⟩ => ⟨S65536x256, .f32⟩
  | .hbm, ⟨86, _⟩ => ⟨S65536x1024, .bf16⟩
  | .hbm, ⟨87, _⟩ => ⟨S65536x1024, .bf16⟩
  | .hbm, ⟨88, _⟩ => ⟨S65536x1024, .bf16⟩
  | .hbm, ⟨89, _⟩ => ⟨S65536x1024, .f32⟩
  | .hbm, ⟨90, _⟩ => ⟨S65536x1024, .f32⟩
  | .hbm, ⟨91, _⟩ => ⟨S_, .f32⟩
  | .hbm, ⟨92, _⟩ => ⟨S65536x1024, .f32⟩
  | .hbm, ⟨93, _⟩ => ⟨S65536x1024, .f32⟩
  | .hbm, ⟨94, _⟩ => ⟨S_, .f32⟩
  | .hbm, ⟨95, _⟩ => ⟨S65536x1024, .f32⟩
  | .hbm, ⟨96, _⟩ => ⟨S65536x1024, .f32⟩
  | .hbm, ⟨97, _⟩ => ⟨S65536x1024, .bf16⟩
  | .hbm, ⟨98, _⟩ => ⟨S65536x512, .bf16⟩
  | .hbm, ⟨99, _⟩ => ⟨S65536x256, .bf16⟩
  | .hbm, ⟨100, _⟩ => ⟨S65536x256, .bf16⟩
  | .hbm, ⟨101, _⟩ => ⟨S65536x2048, .f32⟩
  | .hbm, ⟨102, _⟩ => ⟨S65536x2048, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c : Ref sig .tc := ⟨.hbm, 47, rfl⟩
abbrev main_call0_v0 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_4 : Ref sig .tc := ⟨.hbm, 74, rfl⟩
abbrev main_v62 : Ref sig .tc := ⟨.hbm, 75, rfl⟩
abbrev main_v63 : Ref sig .tc := ⟨.hbm, 76, rfl⟩
abbrev main_cst_5 : Ref sig .tc := ⟨.hbm, 77, rfl⟩
abbrev main_v64 : Ref sig .tc := ⟨.hbm, 78, rfl⟩
abbrev main_v65 : Ref sig .tc := ⟨.hbm, 79, rfl⟩
abbrev main_cst_6 : Ref sig .tc := ⟨.hbm, 80, rfl⟩
abbrev main_v66 : Ref sig .tc := ⟨.hbm, 81, rfl⟩
abbrev main_v67 : Ref sig .tc := ⟨.hbm, 82, rfl⟩
abbrev main_cst_7 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_8 : Ref sig .tc := ⟨.hbm, 91, rfl⟩
abbrev main_v75 : Ref sig .tc := ⟨.hbm, 92, rfl⟩
abbrev main_v76 : Ref sig .tc := ⟨.hbm, 93, rfl⟩
abbrev main_cst_9 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩

abbrev nD : Nat := 1
abbrev τ : Topo := Topo.v7x

variable {F : FTy → Type} [FloatOps F]
-- ==== Kernel6.lean ====
abbrev S16x4096x1024 : Shape := ⟨3, ![16, 4096, 1024]⟩
abbrev S2x16x4096x256 : Shape := ⟨4, ![2, 16, 4096, 256]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S256x1024 : Shape := ⟨2, ![256, 1024]⟩
abbrev S65536x1024 : Shape := ⟨2, ![65536, 1024]⟩
abbrev S2x65536x256 : Shape := ⟨3, ![2, 65536, 256]⟩
abbrev S1x1024 : Shape := ⟨2, ![1, 1024]⟩
abbrev S1x1024x256 : Shape := ⟨3, ![1, 1024, 256]⟩
abbrev S1024x1 : Shape := ⟨2, ![1024, 1]⟩
abbrev S1024x256 : Shape := ⟨2, ![1024, 256]⟩

abbrev nBuf : Space → Nat
  | .hbm => 17
  | .vmem => 12
  | .smem => 0
  | _ => 0

abbrev bufTy : (tb : Table) → Fin (tcTables nBuf tb) → BufTy
  | .hbm, ⟨0, _⟩ => ⟨S16x4096x1024, .f32⟩
  | .hbm, ⟨1, _⟩ => ⟨S2x16x4096x256, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S65536x1024, .f32⟩
  | .hbm, ⟨9, _⟩ => ⟨S1024x5632, .bf16⟩
  | .hbm, ⟨10, _⟩ => ⟨S2816x1024, .bf16⟩
  | .hbm, ⟨11, _⟩ => ⟨S2x65536x256, .f32⟩
  | .hbm, ⟨12, _⟩ => ⟨S1024x1024, .bf16⟩
  | .hbm, ⟨13, _⟩ => ⟨S256x1024, .bf16⟩
  | .hbm, ⟨14, _⟩ => ⟨S1x1024, .f32⟩
  | .hbm, ⟨15, _⟩ => ⟨S1x1024, .f32⟩
  | .hbm, ⟨16, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024x256, .f32⟩
  | .local _ .vmem, ⟨6, _⟩ => ⟨S1x1024x256, .f32⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S1024x1024, .f32⟩
  | .local _ .vmem, ⟨11, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S16x4096x1024 : Shape := ⟨3, ![16, 4096, 1024]⟩
abbrev S2x16x4096x256 : Shape := ⟨4, ![2, 16, 4096, 256]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S256x1024 : Shape := ⟨2, ![256, 1024]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩
abbrev S2x65536x256 : Shape := ⟨3, ![2, 65536, 256]⟩
abbrev S1x65536x256 : Shape := ⟨3, ![1, 65536, 256]⟩
abbrev S65536x256 : Shape := ⟨2, ![65536, 256]⟩

abbrev nBuf : Space → Nat
  | .hbm => 74
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S2x16x4096x256, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S65536x1024, .f32⟩
  | .hbm, ⟨9, _⟩ => ⟨S65536x1024, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S1x1024, .f32⟩
  | .hbm, ⟨23, _⟩ => ⟨S65536x1024, .f32⟩
  | .hbm, ⟨24, _⟩ => ⟨S65536x1024, .f32⟩
  | .hbm, ⟨25, _⟩ => ⟨S65536x5632, .f32⟩
  | .hbm, ⟨26, _⟩ => ⟨S65536x2816, .f32⟩
  | .hbm, ⟨27, _⟩ => ⟨S65536x2816, .f32⟩
  | .hbm, ⟨28, _⟩ => ⟨S65536x2816, .f32⟩
  | .hbm, ⟨29, _⟩ => ⟨S65536x2816, .f32⟩
  | .hbm, ⟨30, _⟩ => ⟨S_, .f32⟩
  | .hbm, ⟨31, _⟩ => ⟨S65536x2816, .f32⟩
  | .hbm, ⟨32, _⟩ => ⟨S65536x2816, .f32⟩
  | .hbm, ⟨33, _⟩ => ⟨S_, .f32⟩
  | .hbm, ⟨34, _⟩ => ⟨S65536x2816, .f32⟩
  | .hbm, ⟨35, _⟩ => ⟨S65536x2816, .f32⟩
  | .hbm, ⟨36, _⟩ => ⟨S65536x2816, .f32⟩
  | .hbm, ⟨37, _⟩ => ⟨S65536x2816, .f32⟩
  | .hbm, ⟨38, _⟩ => ⟨S65536x1024, .f32⟩
  | .hbm, ⟨39, _⟩ => ⟨S_, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S_, .f32⟩
  | .hbm, ⟨45, _⟩ => ⟨S65536, .f32⟩
  | .hbm, ⟨46, _⟩ => ⟨S65536x1, .f32⟩
  | .hbm, ⟨47, _⟩ => ⟨S_, .f32⟩
  | .hbm, ⟨48, _⟩ => ⟨S65536x1, .f32⟩
  | .hbm, ⟨49, _⟩ => ⟨S65536x1, .f32⟩
  | .hbm, ⟨50, _⟩ => ⟨S_, .f32⟩
  | .hbm, ⟨51, _⟩ => ⟨S65536x1, .f32⟩
  | .hbm, ⟨52, _⟩ => ⟨S65536x1, .f32⟩
  | .hbm, ⟨53, _⟩ => ⟨S65536x1, .f32⟩
  | .hbm, ⟨54, _⟩ => ⟨S65536x1024, .f32⟩
  | .hbm, ⟨55, _⟩ => ⟨S65536x1024, .f32⟩
  | .hbm, ⟨56, _⟩ => ⟨S1x1024, .f32⟩
  | .hbm, ⟨57, _⟩ => ⟨S65536x1024, .f32⟩
  | .hbm, ⟨58, _⟩ => ⟨S65536x1024, .f32⟩
  | .hbm, ⟨59, _⟩ => ⟨S65536x1024, .f32⟩
  | .hbm, ⟨60, _⟩ => ⟨S65536x1024, .f32⟩
  | .hbm, ⟨61, _⟩ => ⟨S65536x1024, .f32⟩
  | .hbm, ⟨62, _⟩ => ⟨S_, .f32⟩
  | .hbm, ⟨63, _⟩ => ⟨S65536x1024, .f32⟩
  | .hbm, ⟨64, _⟩ => ⟨S65536x1024, .f32⟩
  | .hbm, ⟨65, _⟩ => ⟨S_, .f32⟩
  | .hbm, ⟨66, _⟩ => ⟨S65536x1024, .f32⟩
  | .hbm, ⟨67, _⟩ => ⟨S65536x1024, .f32⟩
  | .hbm, ⟨68, _⟩ => ⟨S2x65536x256, .f32⟩
  | .hbm, ⟨69, _⟩ => ⟨S1x65536x256, .f32⟩
  | .hbm, ⟨70, _⟩ => ⟨S65536x256, .f32⟩
  | .hbm, ⟨71, _⟩ => ⟨S65536x1024, .f32⟩
  | .hbm, ⟨72, _⟩ => ⟨S65536x1024, .f32⟩
  | .hbm, ⟨73, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Kernel7.lean ====
abbrev S65536x1024 : Shape := ⟨2, ![65536, 1024]⟩
abbrev S65536x128 : Shape := ⟨2, ![65536, 128]⟩
abbrev S4 : Shape := ⟨1, ![4]⟩
abbrev S1024 : Shape := ⟨1, ![1024]⟩
abbrev S_ : Shape := ⟨0, ![]⟩
abbrev S120 : Shape := ⟨1, ![120]⟩
abbrev S128 : Shape := ⟨1, ![128]⟩
abbrev S1x128 : Shape := ⟨2, ![1, 128]⟩
abbrev S256x256 : Shape := ⟨2, ![256, 256]⟩
abbrev S16x4096x1024 : Shape := ⟨3, ![16, 4096, 1024]⟩
abbrev S16x4096x128 : Shape := ⟨3, ![16, 4096, 128]⟩
abbrev S1024x1 : Shape := ⟨2, ![1024, 1]⟩
abbrev S1024x256 : Shape := ⟨2, ![1024, 256]⟩
abbrev S1x256x1024 : Shape := ⟨3, ![1, 256, 1024]⟩
abbrev S1x256x128 : Shape := ⟨3, ![1, 256, 128]⟩
abbrev S4x256x128 : Shape := ⟨3, ![4, 256, 128]⟩
abbrev S8x128 : Shape := ⟨2, ![8, 128]⟩
abbrev S256x128 : Shape := ⟨2, ![256, 128]⟩
abbrev S256x384 : Shape := ⟨2, ![256, 384]⟩
abbrev S128x256 : Shape := ⟨2, ![128, 256]⟩
abbrev S1x256 : Shape := ⟨2, ![1, 256]⟩
abbrev S256x1 : Shape := ⟨2, ![256, 1]⟩
abbrev S1x1 : Shape := ⟨2, ![1, 1]⟩
abbrev S4x64x256 : Shape := ⟨3, ![4, 64, 256]⟩
abbrev S64x256 : Shape := ⟨2, ![64, 256]⟩
abbrev S256 : Shape := ⟨1, ![256]⟩
abbrev S1x256x256 : Shape := ⟨3, ![1, 256, 256]⟩
abbrev S16x128 : Shape := ⟨2, ![16, 128]⟩
abbrev S272x128 : Shape := ⟨2, ![272, 128]⟩
abbrev S272x256 : Shape := ⟨2, ![272, 256]⟩
abbrev S1 : Shape := ⟨1, ![1]⟩
abbrev S16x256 : Shape := ⟨2, ![16, 256]⟩

abbrev nBuf : Space → Nat
  | .hbm => 29
  | .vmem => 16
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x1024, .bf16⟩
  | .hbm, ⟨3, _⟩ => ⟨S65536x128, .f32⟩
  | .hbm, ⟨4, _⟩ => ⟨S4, .f32⟩
  | .hbm, ⟨5, _⟩ => ⟨S4, .f32⟩
  | .hbm, ⟨6, _⟩ => ⟨S1024, .f32⟩
  | .hbm, ⟨7, _⟩ => ⟨S_, .f32⟩
  | .hbm, ⟨8, _⟩ => ⟨S120, .f32⟩
  | .hbm, ⟨9, _⟩ => ⟨S128, .f32⟩
  | .hbm, ⟨10, _⟩ => ⟨S1x128, .f32⟩
  | .hbm, ⟨11, _⟩ => ⟨S_, .bf16⟩
  | .hbm, ⟨12, _⟩ => ⟨S256x256, .bf16⟩
  | .hbm, ⟨13, _⟩ => ⟨S256x256, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S_, .bf16⟩
  | .hbm, ⟨20, _⟩ => ⟨S256x256, .bf16⟩
  | .hbm, ⟨21, _⟩ => ⟨S256x256, .bf16⟩
  | .hbm, ⟨22, _⟩ => ⟨S16x4096x1024, .bf16⟩
  | .hbm, ⟨23, _⟩ => ⟨S16x4096x1024, .bf16⟩
  | .hbm, ⟨24, _⟩ => ⟨S16x4096x1024, .bf16⟩
  | .hbm, ⟨25, _⟩ => ⟨S16x4096x128, .f32⟩
  | .hbm, ⟨26, _⟩ => ⟨S1024x1, .f32⟩
  | .hbm, ⟨27, _⟩ => ⟨S1024x256, .f32⟩
  | .hbm, ⟨28, _⟩ => ⟨S16x4096x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x128, .f32⟩
  | .local _ .vmem, ⟨7, _⟩ => ⟨S1x256x128, .f32⟩
  | .local _ .vmem, ⟨8, _⟩ => ⟨S1x128, .f32⟩
  | .local _ .vmem, ⟨9, _⟩ => ⟨S1024x256, .f32⟩
  | .local _ .vmem, ⟨10, _⟩ => ⟨S256x256, .bf16⟩
  | .local _ .vmem, ⟨11, _⟩ => ⟨S1x256x1024, .bf16⟩
  | .local _ .vmem, ⟨12, _⟩ => ⟨S1x256x1024, .bf16⟩
  | .local _ .vmem, ⟨13, _⟩ => ⟨S4x256x128, .f32⟩
  | .local _ .vmem, ⟨14, _⟩ => ⟨S8x128, .f32⟩
  | .local _ .vmem, ⟨15, _⟩ => ⟨S8x128, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_cst : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S65536x1024 : Shape := ⟨2, ![65536, 1024]⟩
abbrev S65536x128 : Shape := ⟨2, ![65536, 128]⟩
abbrev S4 : Shape := ⟨1, ![4]⟩
abbrev S1024 : Shape := ⟨1, ![1024]⟩
abbrev S65536x512 : Shape := ⟨2, ![65536, 512]⟩
abbrev S16x4096x4x128 : Shape := ⟨4, ![16, 4096, 4, 128]⟩
abbrev S_ : Shape := ⟨0, ![]⟩
abbrev S16x4096x4x256 : Shape := ⟨4, ![16, 4096, 4, 256]⟩
abbrev S65536x4 : Shape := ⟨2, ![65536, 4]⟩
abbrev S1x4 : Shape := ⟨2, ![1, 4]⟩
abbrev S16x4096x4 : Shape := ⟨3, ![16, 4096, 4]⟩
abbrev S16x4x4096 : Shape := ⟨3, ![16, 4, 4096]⟩
abbrev S4096x4096 : Shape := ⟨2, ![4096, 4096]⟩
abbrev S16x4x1x4096 : Shape := ⟨4, ![16, 4, 1, 4096]⟩
abbrev S16x4x4096x4096 : Shape := ⟨4, ![16, 4, 4096, 4096]⟩
abbrev S16x4x4096x1 : Shape := ⟨4, ![16, 4, 4096, 1]⟩
abbrev S16x4x4096x256 : Shape := ⟨4, ![16, 4, 4096, 256]⟩
abbrev S16x4096x1024 : Shape := ⟨3, ![16, 4096, 1024]⟩
abbrev S1x1x1024 : Shape := ⟨3, ![1, 1, 1024]⟩

abbrev nBuf : Space → Nat
  | .hbm => 105
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x1024, .bf16⟩
  | .hbm, ⟨3, _⟩ => ⟨S65536x128, .f32⟩
  | .hbm, ⟨4, _⟩ => ⟨S4, .f32⟩
  | .hbm, ⟨5, _⟩ => ⟨S4, .f32⟩
  | .hbm, ⟨6, _⟩ => ⟨S1024, .f32⟩
  | .hbm, ⟨7, _⟩ => ⟨S65536x512, .bf16⟩
  | .hbm, ⟨8, _⟩ => ⟨S65536x512, .f32⟩
  | .hbm, ⟨9, _⟩ => ⟨S16x4096x4x128, .f32⟩
  | .hbm, ⟨10, _⟩ => ⟨S65536x512, .bf16⟩
  | .hbm, ⟨11, _⟩ => ⟨S65536x512, .f32⟩
  | .hbm, ⟨12, _⟩ => ⟨S16x4096x4x128, .f32⟩
  | .hbm, ⟨13, _⟩ => ⟨S_, .f32⟩
  | .hbm, ⟨14, _⟩ => ⟨S16x4096x4x128, .f32⟩
  | .hbm, ⟨15, _⟩ => ⟨S16x4096x4x128, .f32⟩
  | .hbm, ⟨16, _⟩ => ⟨S65536x1024, .f32⟩
  | .hbm, ⟨17, _⟩ => ⟨S16x4096x4x256, .f32⟩
  | .hbm, ⟨18, _⟩ => ⟨S65536x4, .f32⟩
  | .hbm, ⟨19, _⟩ => ⟨S1x4, .f32⟩
  | .hbm, ⟨20, _⟩ => ⟨S65536x4, .f32⟩
  | .hbm, ⟨21, _⟩ => ⟨S65536x4, .f32⟩
  | .hbm, ⟨22, _⟩ => ⟨S16x4096x4, .f32⟩
  | .hbm, ⟨23, _⟩ => ⟨S16x4x4096, .f32⟩
  | .hbm, ⟨24, _⟩ => ⟨S65536x4, .f32⟩
  | .hbm, ⟨25, _⟩ => ⟨S1x4, .f32⟩
  | .hbm, ⟨26, _⟩ => ⟨S65536x4, .f32⟩
  | .hbm, ⟨27, _⟩ => ⟨S65536x4, .f32⟩
  | .hbm, ⟨28, _⟩ => ⟨S65536x4, .f32⟩
  | .hbm, ⟨29, _⟩ => ⟨S65536x4, .f32⟩
  | .hbm, ⟨30, _⟩ => ⟨S_, .f32⟩
  | .hbm, ⟨31, _⟩ => ⟨S65536x4, .f32⟩
  | .hbm, ⟨32, _⟩ => ⟨S65536x4, .f32⟩
  | .hbm, ⟨33, _⟩ => ⟨S65536x4, .f32⟩
  | .hbm, ⟨34, _⟩ => ⟨S16x4096x4, .f32⟩
  | .hbm, ⟨35, _⟩ => ⟨S16x4x4096, .f32⟩
  | .hbm, ⟨36, _⟩ => ⟨S16x4x4096, .f32⟩
  | .hbm, ⟨37, _⟩ => ⟨S_, .i1⟩
  | .hbm, ⟨38, _⟩ => ⟨S4096x4096, .i1⟩
  | .hbm, ⟨39, _⟩ => ⟨S4096x4096, .i32⟩
  | .hbm, ⟨40, _⟩ => ⟨S_, .i32⟩
  | .hbm, ⟨41, _⟩ => ⟨S4096x4096, .i32⟩
  | .hbm, ⟨42, _⟩ => ⟨S4096x4096, .i32⟩
  | .hbm, ⟨43, _⟩ => ⟨S4096x4096, .i32⟩
  | .hbm, ⟨44, _⟩ => ⟨S4096x4096, .i1⟩
  | .hbm, ⟨45, _⟩ => ⟨S_, .i1⟩
  | .hbm, ⟨46, _⟩ => ⟨S4096x4096, .i1⟩
  | .hbm, ⟨47, _⟩ => ⟨S4096x4096, .i1⟩
  | .hbm, ⟨48, _⟩ => ⟨S16x4x1x4096, .f32⟩
  | .hbm, ⟨49, _⟩ => ⟨S_, .f32⟩
  | .hbm, ⟨50, _⟩ => ⟨S_, .f32⟩
  | .hbm, ⟨51, _⟩ => ⟨S16x4x4096x4096, .i1⟩
  | .hbm, ⟨52, _⟩ => ⟨S16x4x4096x4096, .f32⟩
  | .hbm, ⟨53, _⟩ => ⟨S16x4x4096x4096, .f32⟩
  | .hbm, ⟨54, _⟩ => ⟨S16x4x4096x4096, .f32⟩
  | .hbm, ⟨55, _⟩ => ⟨S_, .f32⟩
  | .hbm, ⟨56, _⟩ => ⟨S16x4x4096, .f32⟩
  | .hbm, ⟨57, _⟩ => ⟨S16x4x4096x1, .f32⟩
  | .hbm, ⟨58, _⟩ => ⟨S16x4x1x4096, .f32⟩
  | .hbm, ⟨59, _⟩ => ⟨S16x4x4096x4096, .f32⟩
  | .hbm, ⟨60, _⟩ => ⟨S16x4x4096x4096, .f32⟩
  | .hbm, ⟨61, _⟩ => ⟨S16x4x4096x4096, .f32⟩
  | .hbm, ⟨62, _⟩ => ⟨S16x4x1x4096, .f32⟩
  | .hbm, ⟨63, _⟩ => ⟨S16x4x4096x4096, .f32⟩
  | .hbm, ⟨64, _⟩ => ⟨S16x4x4096x4096, .f32⟩
  | .hbm, ⟨65, _⟩ => ⟨S16x4x4096x4096, .f32⟩
  | .hbm, ⟨66, _⟩ => ⟨S_, .f32⟩
  | .hbm, ⟨67, _⟩ => ⟨S_, .f32⟩
  | .hbm, ⟨68, _⟩ => ⟨S16x4x4096x4096, .i1⟩
  | .hbm, ⟨69, _⟩ => ⟨S16x4x4096x4096, .f32⟩
  | .hbm, ⟨70, _⟩ => ⟨S16x4x4096x4096, .f32⟩
  | .hbm, ⟨71, _⟩ => ⟨S16x4x4096x4096, .f32⟩
  | .hbm, ⟨72, _⟩ => ⟨S16x4x4096x4096, .f32⟩
  | .hbm, ⟨73, _⟩ => ⟨S16x4x4096x256, .f32⟩
  | .hbm, ⟨74, _⟩ => ⟨S_, .f32⟩
  | .hbm, ⟨75, _⟩ => ⟨S16x4x4096, .f32⟩
  | .hbm, ⟨76, _⟩ => ⟨S16x4x4096x1, .f32⟩
  | .hbm, ⟨77, _⟩ => ⟨S16x4x4096x1, .f32⟩
  | .hbm, ⟨78, _⟩ => ⟨S_, .f32⟩
  | .hbm, ⟨79, _⟩ => ⟨S16x4x4096x1, .f32⟩
  | .hbm, ⟨80, _⟩ => ⟨S16x4x4096x1, .f32⟩
  | .hbm, ⟨81, _⟩ => ⟨S16x4x4096x256, .f32⟩
  | .hbm, ⟨82, _⟩ => ⟨S16x4x4096x256, .f32⟩
  | .hbm, ⟨83, _⟩ => ⟨S16x4x4096x256, .f32⟩
  | .hbm, ⟨84, _⟩ => ⟨S_, .f32⟩
  | .hbm, ⟨85, _⟩ => ⟨S16x4x4096, .f32⟩
  | .hbm, ⟨86, _⟩ => ⟨S16x4x4096x1, .f32⟩
  | .hbm, ⟨87, _⟩ => ⟨S_, .f32⟩
  | .hbm, ⟨88, _⟩ => ⟨S16x4x4096x1, .f32⟩
  | .hbm, ⟨89, _⟩ => ⟨S16x4x4096x1, .f32⟩
  | .hbm, ⟨90, _⟩ => ⟨S_, .f32⟩
  | .hbm, ⟨91, _⟩ => ⟨S16x4x4096x1, .f32⟩
  | .hbm, ⟨92, _⟩ => ⟨S16x4x4096x1, .f32⟩
  | .hbm, ⟨93, _⟩ => ⟨S16x4x4096x1, .f32⟩
  | .hbm, ⟨94, _⟩ => ⟨S16x4x4096x256, .f32⟩
  | .hbm, ⟨95, _⟩ => ⟨S16x4x4096x256, .f32⟩
  | .hbm, ⟨96, _⟩ => ⟨S16x4096x4x256, .f32⟩
  | .hbm, ⟨97, _⟩ => ⟨S16x4096x1024, .f32⟩
  | .hbm, ⟨98, _⟩ => ⟨S1x1x1024, .f32⟩
  | .hbm, ⟨99, _⟩ => ⟨S16x4096x1024, .f32⟩
  | .hbm, ⟨100, _⟩ => ⟨S16x4096x1024, .f32⟩
  | .hbm, ⟨101, _⟩ => ⟨S65536x1024, .f32⟩
  | .hbm, ⟨102, _⟩ => ⟨S16x4096x1024, .f32⟩
  | .hbm, ⟨103, _⟩ => ⟨S16x4096x1024, .f32⟩
  | .hbm, ⟨104, _⟩ => ⟨S16x4096x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_v28 : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_c_0 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_cst_1 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_v31 : Ref sig .tc := ⟨.hbm, 54, rfl⟩
abbrev main_cst_2 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_3 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_4 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_5 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_6 : Ref sig .tc := ⟨.hbm, 84, rfl⟩
abbrev main_v54 : Ref sig .tc := ⟨.hbm, 85, rfl⟩
abbrev main_v55 : Ref sig .tc := ⟨.hbm, 86, rfl⟩
abbrev main_cst_7 : Ref sig .tc := ⟨.hbm, 87, rfl⟩
abbrev main_v56 : Ref sig .tc := ⟨.hbm, 88, rfl⟩
abbrev main_v57 : Ref sig .tc := ⟨.hbm, 89, rfl⟩
abbrev main_cst_8 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩

abbrev nD : Nat := 1
abbrev τ : Topo := Topo.v7x

variable {F : FTy → Type} [FloatOps F]
-- ==== Proof.Safe.lean ====
/- Running a body that only loads and stores, holding its buffers at unknown contents.

   `Held R M`: from the resource `R` the whole memref `M` can be taken, at some contents, and given back at any.
   `Safe R p`: run from `R`, the program `p` ends with `R` in hand again, whatever it computed. Loads, stores, loops and
   branches keep it, so the walk over a body needs no offset, no stored value and no loop-carried value. -/
module

public import proofs.«01_k».proof.Kernel
public import Idealize.ShloMosaic.Lib.Pipeline.Kit
public import Idealize.ShloMosaic.Lib.Ring
public import Idealize.ShloMosaic.Lib.Tactic

@[expose] public section

noncomputable section

namespace Cert.Proof.Safe

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F] [hf : Facts]

local notation "𝕄" => MT nD τ sig Unit (Elt F) ℕ (UR sig nD τ) ℕ

/-- From `R` the memref `M` can be taken at some contents and given back at any. -/
def Held (c : Dev nD) (R : sProp 𝕄) {sp : Space} {s : Shape} {e : EltTy} (M : Memref sig .tc sp s e) : Prop :=
  R ⊢ iprop((∃ f : Buf (Elt F) (M.view.loc (c : Thread nD τ)), M.view.loc (c : Thread nD τ) ↦[M.view.set]{fullShare} f)
    ∗ ((∃ f : Buf (Elt F) (M.view.loc (c : Thread nD τ)), M.view.loc (c : Thread nD τ) ↦[M.view.set]{fullShare} f) -∗ R))

/-- Run from `R`, the program ends holding `R`. -/
def Safe (c : Dev nD) (R : sProp 𝕄) {α : Type} (p : Prog (TpuEff nD τ sig (Elt F) Λ₀ .tc) α) : Prop :=
  R ⊢ wp frame (wpE (defs₀ (F := F)) Variants.none (c : Thread nD τ) none) Set.univ p (fun _ => R)

theorem Safe.pure {c : Dev nD} {R : sProp 𝕄} {α : Type} (a : α) : Safe c R (pure a : Prog (TpuEff nD τ sig (Elt F) Λ₀ .tc) α) :=
  le_wp_ret _ _ _ a (fun _ => R)

theorem Safe.bind {c : Dev nD} {R : sProp 𝕄} {α β : Type} {p : Prog (TpuEff nD τ sig (Elt F) Λ₀ .tc) α} {k : α → Prog (TpuEff nD τ sig (Elt F) Λ₀ .tc) β}
    (hp : Safe c R p) (hk : ∀ a, Safe c R (k a)) : Safe c R (p >>= k) := by
  unfold Safe
  rw [wp_bind]
  exact hp.trans (wp_mono _ _ _ hk)

theorem Safe.load {c : Dev nD} {R : sProp 𝕄} {sp : CoreSpace} {s : Shape} {e : EltTy} {M : Memref sig .tc sp s e} {r : LoadRect s} {hl : M.view.LoadsAt r}
    (hM : Held c R M) : Safe c R (Prog.lift (.load M r hl)) := by
  unfold Safe
  unfold Held at hM
  iintro HR
  ihave HR' := hM $$ HR
  icases HR' with ⟨⟨%f, Hf⟩, Hclose⟩
  iapply (wp_load Variants.none (c : Thread nD τ) none Set.univ (Γ := _) (M.view.setOn_subset_set r.set)) $$ Hf
  iintro Hf
  iapply (le_wp_ret _ _ _ _ (fun _ => R))
  iapply Hclose
  iexists f
  iexact Hf

theorem Safe.store {c : Dev nD} {R : sProp 𝕄} {sp : CoreSpace} {s : Shape} {e : EltTy} {M : Memref sig .tc sp s e} {r : Rect s} {w : r.shape.Idx → Elt F e}
    {Mk : Finset r.shape.Idx} {hx : (M.access r).Stores Mk} {hm : Mk = Finset.univ ∨ ∀ a, r.stride a = 1}
    (hM : Held c R M) : Safe c R (Prog.lift (.store M r w Mk hx hm)) := by
  unfold Safe
  unfold Held at hM
  iintro HR
  ihave HR' := hM $$ HR
  icases HR' with ⟨⟨%f, Hf⟩, Hclose⟩
  iapply (wp_store Variants.none (c : Thread nD τ) none Set.univ (Γ := _)
    ((Memref.setOn_access_subset_setOn M r Mk).trans (M.view.setOn_subset_set _))) $$ Hf
  iintro Hf
  iapply (le_wp_ret _ _ _ _ (fun _ => R))
  iapply Hclose
  iexists _
  iexact Hf

theorem Safe.for {c : Dev nD} {R : sProp 𝕄} {σ : Type} {w : ℕ} {lb ub st : BitVec w} {hok : Scf.OK lb ub st} {init : σ}
    {body : Fin (Scf.trips lb ub st) → σ → Prog (TpuEff nD τ sig (Elt F) Λ₀ .tc) σ}
    (hb : ∀ k acc, Safe c R (body k acc)) : Safe c R (Scf.for lb ub st hok init body) := by
  unfold Safe
  iintro HR
  iapply (Scf.wp_for _ _ _ lb ub st hok init body (fun _ _ => R) (fun k acc => hb k acc))
  isplitl [HR]
  · iexact HR
  · iintro %acc HR
    iexact HR

theorem Safe.dite {c : Dev nD} {R : sProp 𝕄} {α : Type} {q : Prop} [Decidable q] {a : q → Prog (TpuEff nD τ sig (Elt F) Λ₀ .tc) α}
    {b : ¬ q → Prog (TpuEff nD τ sig (Elt F) Λ₀ .tc) α} (ha : ∀ h, Safe c R (a h)) (hb : ∀ h, Safe c R (b h)) :
    Safe c R (dite q a b) := by
  by_cases h : q
  · rw [dif_pos h]; exact ha h
  · rw [dif_neg h]; exact hb h

theorem Safe.ite {c : Dev nD} {R : sProp 𝕄} {α : Type} {q : Prop} [Decidable q] {a b : Prog (TpuEff nD τ sig (Elt F) Λ₀ .tc) α}
    (ha : Safe c R a) (hb : Safe c R b) : Safe c R (ite q a b) := by
  by_cases h : q
  · rw [if_pos h]; exact ha
  · rw [if_neg h]; exact hb

end Cert.Proof.Safe

end
-- ==== Proof.DsaWalk.lean ====
/- The sparse attention kernel's whole body, walked once: from any resource that holds its fifteen buffers it ends with that
   resource again. -/
module
public import proofs.«01_k».proof.Proof.Safe
@[expose] public section
set_option maxHeartbeats 0
set_option maxRecDepth 16384
noncomputable section
namespace Cert.Proof.Safe
open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F] [hf : Facts]

local notation "𝕄" => MT nD τ sig Unit (Elt F) ℕ (UR sig nD τ) ℕ

/-- The body keeps whatever holds its windows' buffers and its scratch. -/
theorem dsa_safe {c : Dev nD} {R : sProp 𝕄} (i : grid0.Coords) (arg2 : Memref sig .tc .vmem S1x128x512 .bf16) (harg2 : arg2.IsWhole) (arg3 : Memref sig .tc .vmem S1x128x256 .bf16) (harg3 : arg3.IsWhole) (arg4 : Memref sig .tc .vmem S1x128x128 .f32) (harg4 : arg4.IsWhole) (arg5 : Memref sig .tc .vmem S1x4096x256 .bf16) (harg5 : arg5.IsWhole) (arg6 : Memref sig .tc .vmem S512x512 .bf16) (harg6 : arg6.IsWhole) (arg7 : Memref sig .tc .vmem S1024x128 .bf16) (harg7 : arg7.IsWhole) (arg8 : Memref sig .tc .vmem S1x128x512 .bf16) (harg8 : arg8.IsWhole) (arg9 : Memref sig .tc .vmem S8x512x128 .i32) (harg9 : arg9.IsWhole) (arg10 : Memref sig .tc .vmem S8x32x16x128 .i32) (harg10 : arg10.IsWhole) (arg11 : Memref sig .tc .vmem S8x16x128 .i32) (harg11 : arg11.IsWhole) (arg12 : Memref sig .tc .vmem S512x1152 .f32) (harg12 : arg12.IsWhole) (arg13 : Memref sig .tc .vmem S512x1152 .f32) (harg13 : arg13.IsWhole) (arg14 : Memref sig .tc .vmem S512x1152 .bf16) (harg14 : arg14.IsWhole) (arg15 : Memref sig .tc .vmem S128x1152 .f32) (harg15 : arg15.IsWhole) (arg16 : Memref sig .tc .vmem S8x128 .f32) (harg16 : arg16.IsWhole) (h2 : Held c R arg2) (h3 : Held c R arg3) (h4 : Held c R arg4) (h5 : Held c R arg5) (h6 : Held c R arg6) (h7 : Held c R arg7) (h8 : Held c R arg8) (h9 : Held c R arg9) (h10 : Held c R arg10) (h11 : Held c R arg11) (h12 : Held c R arg12) (h13 : Held c R arg13) (h14 : Held c R arg14) (h15 : Held c R arg15) (h16 : Held c R arg16) : Safe c R (cc0_dsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) := by
  unfold cc0_dsa
  repeat' first
    | with_reducible exact Safe.pure _
    | (with_reducible refine Safe.load ?_; assumption)
    | (with_reducible refine Safe.store ?_; assumption)
    | (with_reducible refine Safe.for fun _ _ => ?_)
    | (with_reducible refine Safe.dite (fun _ => ?_) (fun _ => ?_))
    | (with_reducible refine Safe.ite ?_ ?_)
    | (with_reducible refine Safe.bind ?_ fun _ => ?_)
    | refine Safe.bind ?_ fun _ => ?_
    | exact Safe.pure _
end Cert.Proof.Safe
end
-- ==== Proof.Dsa.lean ====
/- The sparse attention kernel: its arguments end as they began and every semaphore counter ends at zero.

   Nothing is said of the windows' contents (each is forgotten), so the body's obligation is `dsa_safe`: at every grid
   point the body, handed its windows' buffers and its scratch at any contents, hands them back at some. -/
module

public import proofs.«01_k».proof.Proof.DsaWalk
public import proofs.«01_k».proof.Proof.Gen.Kernel
public import proofs.«01_k».proof.Proof.Gen.Kernel.Launch
public import proofs.«01_k».proof.Proof.Gen.Kernel.Points
public import proofs.«01_k».proof.Proof.Gen.Kernel.Frame

@[expose] public section

noncomputable section

namespace Cert.Proof.Dsa

open Cert.Kernel Cert.Proof.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- Every window is forgotten. -/
abbrev fgt : Fin cfg0.W → Bool := fun _ => true

/-- The region's data: the arrays as the region finds them; nothing is claimed of what the body leaves. -/
def dats (_ : Fin 1) (c : Dev nD) : Dat τ (Elt F) Unit ℕ (UR sig nD τ) ℕ cfg0 c where
  A w := Gen.V m c (Pipeline.arrRef spec0 w)
  after w _ := fun _ => Classical.choice inferInstance
  Φ _ := Pipeline.ΦA spec0 c
  q _ := fullShare
  owed _ := 0

/-- A family of resources with one of them apart. -/
theorem apart {ι : Type} [DecidableEq ι] {s : Finset ι} {Φ : ι → sProp 𝕄} {i : ι} (h : i ∈ s) :
    bigSep s Φ = iprop(Φ i ∗ bigSep (s.erase i) Φ) := BI.bigSep_erase h

/-- One window's buffer out of all the windows' buffers. -/
theorem held_win (c : Dev nD) (t : Fin cfg0.N) (A B : sProp 𝕄) (w : Fin cfg0.W) :
    Held c (iprop(A ∗ B ∗ bigSep Finset.univ fun w : Fin cfg0.W =>
      iprop(∃ X, owns (c : Thread nD τ) ((cfg0.win w).stage (cfg0.slots t w)) fullShare X)) : sProp 𝕄)
      ((cfg0.win w).stage (cfg0.slots t w)) := by
  unfold Held
  rw [apart (Finset.mem_univ w)]
  unfold owns
  iintro ⟨HA, HB, ⟨%X, %f, -, Hf⟩, HR⟩
  isplitl [Hf]
  · iexists f; iexact Hf
  · iintro ⟨%g, Hg⟩
    isplitl [HA]; iexact HA
    isplitl [HB]; iexact HB
    isplitl [Hg]
    · iexists _, g
      isplitr
      · ipureintro; rfl
      · iexact Hg
    · iexact HR

/-- One scratch buffer out of the region's scratch. -/
theorem held_scr (c : Dev nD) (B C : sProp 𝕄) (b : Ref sig .tc)
    (hb : b ∈ (Finset.univ.filter fun b : Ref sig .tc => b.isScoped) \ Finset.univ.image (Pipeline.stageRef spec0)) :
    Held c (iprop(Pipeline.ΦA (Val := Elt F) (U := UR sig nD τ) spec0 c ∗ B ∗ C) : sProp 𝕄) (Memref.whole b) := by
  unfold Held Pipeline.ΦA Pipeline.scopedRest
  rw [apart hb]
  iintro ⟨⟨⟨⟨%f, Hf⟩, HR⟩, Hp⟩, HB, HC⟩
  isplitl [Hf]
  · iexists f; simp only [Memref.view_whole, View.set_whole]; iexact Hf
  · iintro ⟨%g, Hg⟩
    isplitl [Hg HR Hp]
    · isplitr [Hp]
      · isplitl [Hg]
        · iexists g; simp only [Memref.view_whole, View.set_whole]; iexact Hg
        · iexact HR
      · iexact Hp
    isplitl [HB]; iexact HB
    iexact HC

theorem hbody (c : Dev nD) : BodyObligationLoose (dats m 0 c) (defs₀ (F := F)) Variants.none () Set.univ fgt := by
  intro t
  have h := dsa_safe (F := F) (c := c) (R := iprop(Pipeline.ΦA (Val := Elt F) (U := UR sig nD τ) spec0 c ∗ (dats m 0 c).owesAt () t.castSucc
    ∗ bigSep Finset.univ fun w : Fin cfg0.W => iprop(∃ X, owns (c : Thread nD τ) ((cfg0.win w).stage (cfg0.slots t w)) fullShare X)))
    (grid0.coords t) _ (Gen.hstage0_0 ((cfg0.slots t 0).cast Gen.nbuf0_0)) _ (Gen.hstage0_1 ((cfg0.slots t 1).cast Gen.nbuf0_1))
    _ (Gen.hstage0_2 ((cfg0.slots t 2).cast Gen.nbuf0_2)) _ (Gen.hstage0_3 ((cfg0.slots t 3).cast Gen.nbuf0_3))
    _ (Gen.hstage0_4 ((cfg0.slots t 4).cast Gen.nbuf0_4)) _ (Gen.hstage0_5 ((cfg0.slots t 5).cast Gen.nbuf0_5)) _ (Gen.hstage0_6 ((cfg0.slots t 6).cast Gen.nbuf0_6))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (held_win c t _ _ 0) (held_win c t _ _ 1) (held_win c t _ _ 2) (held_win c t _ _ 3) (held_win c t _ _ 4) (held_win c t _ _ 5)
    (held_win c t _ _ 6)
    (held_scr c _ _ cc0_scratch0 (by decide)) (held_scr c _ _ cc0_scratch1 (by decide)) (held_scr c _ _ cc0_scratch2 (by decide))
    (held_scr c _ _ cc0_scratch3 (by decide)) (held_scr c _ _ cc0_scratch4 (by decide)) (held_scr c _ _ cc0_scratch5 (by decide))
    (held_scr c _ _ cc0_scratch6 (by decide)) (held_scr c _ _ cc0_scratch7 (by decide))
  exact h

/-- An argument's buffer is one the region passes by and no later host line writes. -/
theorem rest_of (b : Ref sig .tc) (hb : b ∈ Pipeline.restRefs sig spec0) (h : b ≠ main_v16) :
    b ∈ Pipeline.restRefs sig spec0 \ {main_v16} :=
  Finset.mem_sdiff.mpr ⟨hb, by simpa using h⟩

theorem quiescent : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine Pipeline.θ_run_frame_around_T_forget cfgs (dats m) 0 Gen.launch0 defs₀ Variants.none fgt {main_v16} m ρ main
    (hbody m) (fun c => (dats m 0 c).share_full fun _ => rfl) (fun _ _ => rfl) (Gen.V0 m) [Gen.hostOps1] Gen.sfx_sub Gen.sfx_fresh
    Gen.sfx_keeps ?_ (Gen.hmain m Variants.none) (fun _ _ => rfl) (fun _ _ => rfl) _ ?_
  · intro ops hops op hop b hb
    simp only [List.mem_cons, List.mem_nil_iff, or_false] at hops
    subst hops
    simp only [Gen.hostOps1, List.mem_cons, List.mem_nil_iff, or_false] at hop
    subst hop
    simp only [StableHlo.reshape_writes, Finset.mem_singleton] at hb ⊢
    by_contra hne
    exact absurd hb (StableHlo.devRef_ne_of_ne hne)
  · rintro r ⟨h, hs⟩
    refine ⟨fun c => ⟨?_, ?_, ?_, ?_⟩, hs⟩
    · exact ((h c).2 main_arg0 (rest_of _ (Pipeline.mem_restRefs_of main_arg0 (by decide) (by decide)) (by decide))).trans (Gen.V_main_arg0 m c)
    · exact ((h c).2 main_arg1 (rest_of _ (Pipeline.mem_restRefs_of main_arg1 (by decide) (by decide)) (by decide))).trans (Gen.V_main_arg1 m c)
    · exact ((h c).2 main_arg2 (rest_of _ (Pipeline.mem_restRefs_of main_arg2 (by decide) (by decide)) (by decide))).trans (Gen.V_main_arg2 m c)
    · exact ((h c).2 main_arg3 (rest_of _ (Pipeline.mem_restRefs_of main_arg3 (by decide) (by decide)) (by decide))).trans (Gen.V_main_arg3 m c)

end Cert.Proof.Dsa

end
-- ==== Proof.FfnMath.lean ====
/-
  One row of the feed-forward block as arithmetic of extended reals: the root-mean-square norm, the gated product, the
  projection back, and the hidden axis of 2816 taken in eleven chunks of 256.
-/
module

public import Idealize.ShloMosaic.Lib.Pipeline.ValueKit

@[expose] public section

noncomputable section

namespace Cert.Proof.Ffn

open Idealize.ShloMosaic

/-- A row over its root mean square (with the small constant under the root), times the gains. -/
def rms (x g : Fin 1024 → EReal) (k : Fin 1024) : EReal :=
  x k * Ideal.rsqrt (Ideal.div (∑ j, x j * x j) (Ideal.ofBits .f32 1149239296#32) + Ideal.ofBits .f32 897988541#32) * g k

/-- The hidden unit `n` of a normalised row: its gate through `g ↦ g · logistic g`, times its linear part. -/
def glu (h : Fin 1024 → EReal) (w : Fin 1024 → Fin 5632 → EReal) (n : Fin 2816) : EReal :=
  (∑ k, h k * w k ⟨n.val, by omega⟩) * Ideal.logistic (∑ k, h k * w k ⟨n.val, by omega⟩)
    * ∑ k, h k * w k ⟨2816 + n.val, by omega⟩

/-- The row plus half of the feed-forward block's output. -/
def ffn (x g : Fin 1024 → EReal) (w : Fin 1024 → Fin 5632 → EReal) (d : Fin 2816 → Fin 1024 → EReal) (j : Fin 1024) :
    EReal :=
  x j + Ideal.ofBits .f32 1056964608#32 * ∑ n, glu (rms x g) w n * d n j

/-- The row plus the per-layer embedding's projection, gated by the logistic of the normalised row's projection. -/
def ple (y g : Fin 1024 → EReal) (w : Fin 1024 → Fin 1024 → EReal) (p : Fin 256 → EReal)
    (v : Fin 256 → Fin 1024 → EReal) (j : Fin 1024) : EReal :=
  y j + Ideal.logistic (∑ k, rms y g k * w k j) * ∑ k, p k * v k j

/-- One more chunk of 256 summands. -/
theorem chunk (F : Fin 2816 → EReal) (a : ℕ) (ha : a + 256 ≤ 2816) :
    ∑ n : Fin (a + 256), F ⟨n.val, by omega⟩
      = (∑ n : Fin a, F ⟨n.val, by omega⟩) + ∑ k : Fin 256, F ⟨a + k.val, by omega⟩ := by
  rw [Fin.sum_univ_add]
  rfl

/-- The sum over the hidden axis, chunk after chunk. -/
theorem chunks (F : Fin 2816 → EReal) : ∑ n, F n =
    (∑ k : Fin 256, F ⟨k.val, by omega⟩) + (∑ k : Fin 256, F ⟨256 + k.val, by omega⟩)
      + (∑ k : Fin 256, F ⟨512 + k.val, by omega⟩) + (∑ k : Fin 256, F ⟨768 + k.val, by omega⟩)
      + (∑ k : Fin 256, F ⟨1024 + k.val, by omega⟩) + (∑ k : Fin 256, F ⟨1280 + k.val, by omega⟩)
      + (∑ k : Fin 256, F ⟨1536 + k.val, by omega⟩) + (∑ k : Fin 256, F ⟨1792 + k.val, by omega⟩)
      + (∑ k : Fin 256, F ⟨2048 + k.val, by omega⟩) + (∑ k : Fin 256, F ⟨2304 + k.val, by omega⟩)
      + (∑ k : Fin 256, F ⟨2560 + k.val, by omega⟩) := by
  rw [← chunk F 256 (by omega), ← chunk F 512 (by omega), ← chunk F 768 (by omega), ← chunk F 1024 (by omega),
    ← chunk F 1280 (by omega), ← chunk F 1536 (by omega), ← chunk F 1792 (by omega), ← chunk F 2048 (by omega),
    ← chunk F 2304 (by omega), ← chunk F 2560 (by omega)]

/-- The output of one column in chunks, each hidden unit written out. -/
theorem ffn_chunks (x g : Fin 1024 → EReal) (w : Fin 1024 → Fin 5632 → EReal) (d : Fin 2816 → Fin 1024 → EReal)
    (j : Fin 1024) : ffn x g w d j = x j + Ideal.ofBits .f32 1056964608#32 *
      (0 + (∑ k : Fin 256, glu (rms x g) w ⟨k.val, by omega⟩ * d ⟨k.val, by omega⟩ j)
        + (∑ k : Fin 256, glu (rms x g) w ⟨256 + k.val, by omega⟩ * d ⟨256 + k.val, by omega⟩ j)
        + (∑ k : Fin 256, glu (rms x g) w ⟨512 + k.val, by omega⟩ * d ⟨512 + k.val, by omega⟩ j)
        + (∑ k : Fin 256, glu (rms x g) w ⟨768 + k.val, by omega⟩ * d ⟨768 + k.val, by omega⟩ j)
        + (∑ k : Fin 256, glu (rms x g) w ⟨1024 + k.val, by omega⟩ * d ⟨1024 + k.val, by omega⟩ j)
        + (∑ k : Fin 256, glu (rms x g) w ⟨1280 + k.val, by omega⟩ * d ⟨1280 + k.val, by omega⟩ j)
        + (∑ k : Fin 256, glu (rms x g) w ⟨1536 + k.val, by omega⟩ * d ⟨1536 + k.val, by omega⟩ j)
        + (∑ k : Fin 256, glu (rms x g) w ⟨1792 + k.val, by omega⟩ * d ⟨1792 + k.val, by omega⟩ j)
        + (∑ k : Fin 256, glu (rms x g) w ⟨2048 + k.val, by omega⟩ * d ⟨2048 + k.val, by omega⟩ j)
        + (∑ k : Fin 256, glu (rms x g) w ⟨2304 + k.val, by omega⟩ * d ⟨2304 + k.val, by omega⟩ j)
        + (∑ k : Fin 256, glu (rms x g) w ⟨2560 + k.val, by omega⟩ * d ⟨2560 + k.val, by omega⟩ j)) := by
  unfold ffn
  rw [chunks, zero_add]

end Cert.Proof.Ffn

end

end
-- ==== Proof.FfnRef.lean ====
/-
  The reference's feed-forward block (its norm, its gated product and the projection back, as arrays) read row by row as
  the arithmetic of `FfnMath`.
-/
module

public import proofs.«01_k».proof.Proof.Gen.Reference2Ideal.Run
public import proofs.«01_k».proof.Proof.FfnMath

@[expose] public section

set_option maxRecDepth 16384

noncomputable section

namespace Cert.Proof.Ffn

open Cert.Reference2Ideal Cert.Reference2Ideal.Gen Idealize.ShloMosaic

/-- The root-mean-square norm of every row. -/
def normed (x : FVec Ideal S65536x1024 .f32) (g : FVec Ideal S1024 .f32) : FVec Ideal S65536x1024 .f32 :=
  mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))

/-- The hidden units of every row. -/
def gated (h : FVec Ideal S65536x1024 .f32) (w : FVec Ideal S1024x5632 .f32) : FVec Ideal S65536x2816 .f32 :=
  mulf (mulf (extractStridedSlice S65536x2816 ![0, 0] (Host.dotGeneral dot_S65536x1024_S1024x5632_S65536x5632_1_0_0_1_n_n none h w) slices_S65536x5632_S65536x2816_0_0) (Host.divf (broadcastInDim S65536x2816 ![] bcast_S_S65536x2816 (constant S_ .f32 0x3F800000#32)) (addf (broadcastInDim S65536x2816 ![] bcast_S_S65536x2816 (constant S_ .f32 0x3F800000#32)) (Host.exp (Host.negf (extractStridedSlice S65536x2816 ![0, 0] (Host.dotGeneral dot_S65536x1024_S1024x5632_S65536x5632_1_0_0_1_n_n none h w) slices_S65536x5632_S65536x2816_0_0)))))) (extractStridedSlice S65536x2816 ![0, 2816] (Host.dotGeneral dot_S65536x1024_S1024x5632_S65536x5632_1_0_0_1_n_n none h w) slices_S65536x5632_S65536x2816_0_2816)

/-- The rows plus half of the block's output. -/
def added (x : FVec Ideal S65536x1024 .f32) (g : FVec Ideal S1024 .f32) (w : FVec Ideal S1024x5632 .f32)
    (d : FVec Ideal S2816x1024 .f32) : FVec Ideal S65536x1024 .f32 :=
  addf x (mulf (broadcastInDim S65536x1024 ![] bcast_S_S65536x1024 (constant S_ .f32 0x3F000000#32)) (Host.dotGeneral dot_S65536x2816_S2816x1024_S65536x1024_1_0_0_1_n_n none (gated (normed x g) w) d))

/-- The rows plus the gated projection of a layer's embeddings. -/
def embed (y : FVec Ideal S65536x1024 .f32) (q : FVec Ideal S65536x256 .f32) (g : FVec Ideal S1024 .f32)
    (w : FVec Ideal S1024x1024 .f32) (v : FVec Ideal S256x1024 .f32) : FVec Ideal S65536x1024 .f32 :=
  addf y (mulf (Host.divf (broadcastInDim S65536x1024 ![] bcast_S_S65536x1024 (constant S_ .f32 0x3F800000#32)) (addf (broadcastInDim S65536x1024 ![] bcast_S_S65536x1024 (constant S_ .f32 0x3F800000#32)) (Host.exp (Host.negf (Host.dotGeneral dot_S65536x1024_S1024x1024_S65536x1024_1_0_0_1_n_n none (normed y g) w))))) (Host.dotGeneral dot_S65536x256_S256x1024_S65536x1024_1_0_0_1_n_n none q v))

/-- Layer 1's embeddings. -/
def layer1 (p : FVec Ideal S2x16x4096x256 .f32) : FVec Ideal S65536x256 .f32 :=
  shapeCast _ (extractStridedSlice S1x65536x256 ![1, 0, 0] (shapeCast _ p shapeCasts_S2x16x4096x256_S2x65536x256) slices_S2x65536x256_S1x65536x256_1_0_0) shapeCasts_S1x65536x256_S65536x256

theorem normed_row (x : FVec Ideal S65536x1024 .f32) (g : FVec Ideal S1024 .f32) (r : Fin 65536) (k : Fin 1024) :
    normed x g (ix2 r k) = rms (fun j => x (ix2 r j)) (fun j => g (ix1 j)) k := by
  pointwise [normed]
  rfl

theorem gated_row (h : FVec Ideal S65536x1024 .f32) (w : FVec Ideal S1024x5632 .f32) (r : Fin 65536) (n : Fin 2816) :
    gated h w (ix2 r n) = glu (fun k => h (ix2 r k)) (fun k n => w (ix2 k n)) n := by
  pointwise [gated]
  rfl

theorem added_row (x : FVec Ideal S65536x1024 .f32) (g : FVec Ideal S1024 .f32) (w : FVec Ideal S1024x5632 .f32)
    (d : FVec Ideal S2816x1024 .f32) (r : Fin 65536) (j : Fin 1024) :
    added x g w d (ix2 r j)
      = ffn (fun j => x (ix2 r j)) (fun j => g (ix1 j)) (fun k n => w (ix2 k n)) (fun n j => d (ix2 n j)) j := by
  pointwise [added]
  simp only [gated_row, normed_row]
  rfl

theorem embed_row (y : FVec Ideal S65536x1024 .f32) (q : FVec Ideal S65536x256 .f32) (g : FVec Ideal S1024 .f32)
    (w : FVec Ideal S1024x1024 .f32) (v : FVec Ideal S256x1024 .f32) (r : Fin 65536) (j : Fin 1024) :
    embed y q g w v (ix2 r j)
      = ple (fun j => y (ix2 r j)) (fun j => g (ix1 j)) (fun k j => w (ix2 k j)) (fun k => q (ix2 r k))
          (fun k j => v (ix2 k j)) j := by
  pointwise [embed]
  simp only [normed_row]
  rfl

theorem layer1_row (p : FVec Ideal S2x16x4096x256 .f32) (r : Fin 65536) (k : Fin 256) :
    layer1 p (ix2 r k) = (shapeCast S2x65536x256 p shapeCasts_S2x16x4096x256_S2x65536x256 :
      FVec Ideal S2x65536x256 .f32) (ix3 1 r k) := by
  pointwise [layer1]

end Cert.Proof.Ffn

end

end
-- ==== Proof.Ffn1.lean ====
/-
  The first feed-forward block (`Kernel3Ideal`): its sixty-four row blocks fill the array that the reference
  (`Reference3Ideal`) computes.
-/
module

public import proofs.«01_k».proof.Proof.Gen.Kernel3Ideal.Value
public import proofs.«01_k».proof.Proof.FfnRef

@[expose] public section

set_option maxRecDepth 16384

noncomputable section

namespace Cert.Proof.Ffn1

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies: the row blocks at the grid point, the weights at the origin. -/
theorem idx : ∀ t : Fin cfg0.N,
    win0_0.index t = ![t.val, 0] ∧ win0_1.index t = ![0, 0] ∧ win0_2.index t = ![0, 0]
    ∧ win0_3.index t = ![0, 0] ∧ win0_4.index t = ![t.val, 0] := by
  decide +kernel

/-- Row `i` of block `t`. -/
def row (t : Fin cfg0.N) (i : Fin 1024) : Fin 65536 :=
  ⟨t.val * 1024 + i.val, by have h : t.val < 64 := t.isLt; omega⟩

theorem emb4 (t : Fin cfg0.N) (i k : Fin 1024) :
    (((cfg0.win 4).blk t).view.emb (ix2 i k) : S65536x1024.Idx) = ix2 (row t i) k := by
  have i0 := idx t
  unfold row
  blk_ext [i0]

theorem emb0 (t : Fin cfg0.N) (i k : Fin 1024) :
    (((cfg0.win 0).blk t).view.emb (ix2 i k) : S65536x1024.Idx) = ix2 (row t i) k := by
  have i0 := idx t
  unfold row
  blk_ext [i0]

theorem emb1 (t : Fin cfg0.N) (i : Fin 1) (k : Fin 1024) :
    (((cfg0.win 1).blk t).view.emb (ix2 i k) : S1x1024.Idx) = ix2 i k := by
  have i0 := idx t
  blk_ext [i0]

theorem emb2 (t : Fin cfg0.N) (i : Fin 1024) (k : Fin 5632) :
    (((cfg0.win 2).blk t).view.emb (ix2 i k) : S1024x5632.Idx) = ix2 i k := by
  have i0 := idx t
  blk_ext [i0]

theorem emb3 (t : Fin cfg0.N) (i : Fin 2816) (k : Fin 1024) :
    (((cfg0.win 3).blk t).view.emb (ix2 i k) : S2816x1024.Idx) = ix2 i k := by
  have i0 := idx t
  blk_ext [i0]

/-- A row of the activations, from the batch laid out flat. -/
theorem blk0 (c : Dev nD) (t : Fin cfg0.N) (i k : Fin 1024) :
    iblk m c 0 t (ix2 i k) = (shapeCast S65536x1024 (m ((c.tc : Thread nD τ).loc main_arg0))
      shapeCasts_S16x4096x1024_S65536x1024 : Vec Ideal S65536x1024 .f32) (ix2 (row t i) k) := by
  have e : V m c main_v0 = shapeCast S65536x1024 (m ((c.tc : Thread nD τ).loc main_arg0))
      shapeCasts_S16x4096x1024_S65536x1024 := by
    entry_read
    rfl
  rw [← e, ← emb0]
  rfl

/-- The gains, as one row. -/
theorem blk1 (c : Dev nD) (t : Fin cfg0.N) (k : Fin 1024) :
    iblk m c 1 t (ix2 0 k) = m ((c.tc : Thread nD τ).loc main_arg1) (ix1 k) := by
  have e : V m c main_v3 = shapeCast S1x1024 (m ((c.tc : Thread nD τ).loc main_arg1)) shapeCasts_S1024_S1x1024 := by
    entry_read
    rfl
  have r : (shapeCast S1x1024 (m ((c.tc : Thread nD τ).loc main_arg1)) shapeCasts_S1024_S1x1024 :
      Vec Ideal S1x1024 .f32) (ix2 0 k) = m ((c.tc : Thread nD τ).loc main_arg1) (ix1 k) := by
    pointwise
  refine Eq.trans ?_ r
  rw [← e]
  exact congrArg (V m c main_v3) (emb1 t 0 k)

theorem blk2 (c : Dev nD) (t : Fin cfg0.N) (i : Fin 1024) (k : Fin 5632) :
    iblk m c 2 t (ix2 i k) = m ((c.tc : Thread nD τ).loc main_arg2) (ix2 i k) := by
  have e : V m c main_v1 = (truncf (F := Ideal) (φ := .f32) .bf16 (m ((c.tc : Thread nD τ).loc main_arg2))
      bitsLt_bf16_f32 : FVec Ideal S1024x5632 .bf16) := by
    entry_read
    rfl
  show V m c main_v1 _ = _
  rw [e]
  exact congrArg (m ((c.tc : Thread nD τ).loc main_arg2)) (emb2 t i k)

theorem blk3 (c : Dev nD) (t : Fin cfg0.N) (i : Fin 2816) (k : Fin 1024) :
    iblk m c 3 t (ix2 i k) = m ((c.tc : Thread nD τ).loc main_arg3) (ix2 i k) := by
  have e : V m c main_v2 = (truncf (F := Ideal) (φ := .f32) .bf16 (m ((c.tc : Thread nD τ).loc main_arg3))
      bitsLt_bf16_f32 : FVec Ideal S2816x1024 .bf16) := by
    entry_read
    rfl
  show V m c main_v2 _ = _
  rw [e]
  exact congrArg (m ((c.tc : Thread nD τ).loc main_arg3)) (emb3 t i k)

/-- The normalised rows of a block. -/
theorem normed_row (x0 : Vec Ideal S1024x1024 .f32) (x1 : Vec Ideal S1x1024 .f32) (i k : Fin 1024) :
    k0_pay3 x0 x1 (ix2 i k) = Ffn.rms (fun j => x0 (ix2 i j)) (fun j => x1 (ix2 0 j)) k := by
  pointwise [k0_pay3, k0_pay2]
  rfl

/-- The normalised rows, as every chunk reads them. -/
theorem pay12_eq (x0 : Vec Ideal S1024x1024 .f32) (x1 : Vec Ideal S1x1024 .f32) (x2 : Vec Ideal S1024x5632 .bf16)
    (x3 : Vec Ideal S2816x1024 .bf16) : k0_pay12 x0 x1 x2 x3 = k0_pay3 x0 x1 := by
  have hz : (![0, 0] : Fin 2 → ℕ) = fun _ => 0 := by decide
  unfold k0_pay12
  rw [View.ld_unit_zero hz, View.ld_unit_zero hz]

/-- What the body leaves in its output block, in terms of the blocks it reads. -/
def left (x0 : Vec Ideal S1024x1024 .f32) (x1 : Vec Ideal S1x1024 .f32) (x2 : Vec Ideal S1024x5632 .bf16)
    (x3 : Vec Ideal S2816x1024 .bf16) : FVec Ideal S1024x1024 .f32 :=
  k0_pay1 (k0_pay2 x0) (k0_pay3 x0 x1) (k0_pay10 (k0_pay3 x0 x1) (k0_pay8 (k0_pay3 x0 x1) (k0_pay7 (k0_pay3 x0 x1) (k0_pay4 x0 x1 (View.ld x2 r0_2) (View.ld x2 r0_3) (View.ld x3 r0_4)) (k0_pay5 x0 x1 (View.ld x2 r0_5)) (k0_pay6 (View.ld x2 r0_6)) (View.ld x3 r0_7) (View.ld x2 r0_8) (View.ld x2 r0_9) (View.ld x3 r0_10) (View.ld x2 r0_11) (View.ld x2 r0_12) (View.ld x3 r0_13)) (View.ld x2 r0_14) (View.ld x2 r0_15) (View.ld x3 r0_16) (View.ld x2 r0_17) (View.ld x2 r0_18) (View.ld x3 r0_19)) (k0_pay9 (k0_pay3 x0 x1) (View.ld x2 r0_20) (View.ld x2 r0_21)) (View.ld x3 r0_22) (View.ld x2 r0_23) (View.ld x2 r0_24) (View.ld x3 r0_25) (View.ld x2 r0_26) (View.ld x2 r0_27) (View.ld x3 r0_28)) (k0_pay11 (k0_pay3 x0 x1) (View.ld x2 r0_29)) (View.ld x2 r0_30) (View.ld x3 r0_31) (View.ld x2 r0_32) (View.ld x2 r0_33) (View.ld x3 r0_34)

set_option maxHeartbeats 2000000 in
theorem left_row (x0 : Vec Ideal S1024x1024 .f32) (x1 : Vec Ideal S1x1024 .f32) (x2 : Vec Ideal S1024x5632 .bf16)
    (x3 : Vec Ideal S2816x1024 .bf16) (i j : Fin 1024) :
    left x0 x1 x2 x3 (ix2 i j)
      = Ffn.ffn (fun j => x0 (ix2 i j)) (fun j => x1 (ix2 0 j)) (fun k n => x2 (ix2 k n)) (fun n j => x3 (ix2 n j)) j := by
  rw [Ffn.ffn_chunks]
  pointwise [left, k0_pay1, k0_pay2, k0_pay4, k0_pay5, k0_pay6, k0_pay7, k0_pay8, k0_pay9, k0_pay10, k0_pay11]
  simp only [normed_row, Ffn.glu, ← Nat.add_assoc, Nat.reduceAdd]

/-- The array after the run. -/
theorem value (c : Dev nD) : (Gen.dats m 0 c).arrAt 4 (cfgs 0).N
    = Ffn.added (shapeCast _ (m ((c.tc : Thread nD τ).loc main_arg0)) shapeCasts_S16x4096x1024_S65536x1024)
        (m ((c.tc : Thread nD τ).loc main_arg1)) (m ((c.tc : Thread nD τ).loc main_arg2))
        (m ((c.tc : Thread nD τ).loc main_arg3)) := by
  refine (Gen.dats m 0 c).arrAt_eq_of_covers 4 _ (by decide +kernel) fun t hf y => ?_
  blk_simp
  rw [after0_4]
  frame_out
  obtain ⟨i, k, rfl⟩ : ∃ i k : Fin 1024, y = ix2 i k := ⟨y 0, y 1, by funext a; fin_cases a <;> rfl⟩
  simp only [pay12_eq]
  refine (left_row (iblk m c 0 t) (iblk m c 1 t) (iblk m c 2 t) (iblk m c 3 t) i k).trans ?_
  simp only [blk0, blk1, blk2, blk3]
  refine Eq.trans ?_ (congrArg (Ffn.added _ _ _ _) (emb4 t i k)).symm
  rw [Ffn.added_row]

end Cert.Proof.Ffn1

end

end
-- ==== Proof.Ffn2.lean ====
/-
  The second feed-forward block with the per-layer embedding and the final norm (`Kernel2Ideal`), whose result is the
  stack's output: its sixty-four row blocks fill the array that the reference (`Reference2Ideal`) computes.
-/
module

public import proofs.«01_k».proof.Proof.Gen.Kernel2Ideal.Value
public import proofs.«01_k».proof.Proof.Ffn1

@[expose] public section

set_option maxRecDepth 16384

noncomputable section

namespace Cert.Proof.Ffn2

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies: the row blocks at the grid point, the weights at the origin. -/
theorem idx : ∀ t : Fin cfg0.N,
    win0_0.index t = ![t.val, 0] ∧ win0_1.index t = ![0, 0] ∧ win0_2.index t = ![0, 0]
    ∧ win0_3.index t = ![0, 0] ∧ win0_4.index t = ![1, t.val, 0] ∧ win0_5.index t = ![0, 0]
    ∧ win0_6.index t = ![0, 0] ∧ win0_7.index t = ![0, 0] ∧ win0_8.index t = ![0, 0]
    ∧ win0_9.index t = ![t.val, 0] := by
  decide +kernel

/-- Row `i` of block `t`. -/
def row (t : Fin cfg0.N) (i : Fin 1024) : Fin 65536 :=
  ⟨t.val * 1024 + i.val, by have h : t.val < 64 := t.isLt; omega⟩

theorem emb9 (t : Fin cfg0.N) (i k : Fin 1024) :
    (((cfg0.win 9).blk t).view.emb (ix2 i k) : S65536x1024.Idx) = ix2 (row t i) k := by
  have i0 := idx t
  unfold row
  blk_ext [i0]

theorem emb0 (t : Fin cfg0.N) (i k : Fin 1024) :
    (((cfg0.win 0).blk t).view.emb (ix2 i k) : S65536x1024.Idx) = ix2 (row t i) k := by
  have i0 := idx t
  unfold row
  blk_ext [i0]

theorem emb4 (t : Fin cfg0.N) (i : Fin 1024) (k : Fin 256) :
    (((cfg0.win 4).blk t).view.emb (ix3 0 i k) : S2x65536x256.Idx) = ix3 1 (row t i) k := by
  have i0 := idx t
  unfold row
  blk_ext [i0]

theorem emb1 (t : Fin cfg0.N) (i : Fin 1) (k : Fin 1024) :
    (((cfg0.win 1).blk t).view.emb (ix2 i k) : S1x1024.Idx) = ix2 i k := by
  have i0 := idx t
  blk_ext [i0]

theorem emb2 (t : Fin cfg0.N) (i : Fin 1024) (k : Fin 5632) :
    (((cfg0.win 2).blk t).view.emb (ix2 i k) : S1024x5632.Idx) = ix2 i k := by
  have i0 := idx t
  blk_ext [i0]

theorem emb3 (t : Fin cfg0.N) (i : Fin 2816) (k : Fin 1024) :
    (((cfg0.win 3).blk t).view.emb (ix2 i k) : S2816x1024.Idx) = ix2 i k := by
  have i0 := idx t
  blk_ext [i0]

theorem emb5 (t : Fin cfg0.N) (i : Fin 1) (k : Fin 1024) :
    (((cfg0.win 5).blk t).view.emb (ix2 i k) : S1x1024.Idx) = ix2 i k := by
  have i0 := idx t
  blk_ext [i0]

theorem emb6 (t : Fin cfg0.N) (i : Fin 1024) (k : Fin 1024) :
    (((cfg0.win 6).blk t).view.emb (ix2 i k) : S1024x1024.Idx) = ix2 i k := by
  have i0 := idx t
  blk_ext [i0]

theorem emb7 (t : Fin cfg0.N) (i : Fin 256) (k : Fin 1024) :
    (((cfg0.win 7).blk t).view.emb (ix2 i k) : S256x1024.Idx) = ix2 i k := by
  have i0 := idx t
  blk_ext [i0]

theorem emb8 (t : Fin cfg0.N) (i : Fin 1) (k : Fin 1024) :
    (((cfg0.win 8).blk t).view.emb (ix2 i k) : S1x1024.Idx) = ix2 i k := by
  have i0 := idx t
  blk_ext [i0]

/-- A row of the activations, from the batch laid out flat. -/
theorem blk0 (c : Dev nD) (t : Fin cfg0.N) (i k : Fin 1024) :
    iblk m c 0 t (ix2 i k) = (shapeCast S65536x1024 (m ((c.tc : Thread nD τ).loc main_arg0))
      shapeCasts_S16x4096x1024_S65536x1024 : Vec Ideal S65536x1024 .f32) (ix2 (row t i) k) := by
  have e : V m c main_v0 = shapeCast S65536x1024 (m ((c.tc : Thread nD τ).loc main_arg0))
      shapeCasts_S16x4096x1024_S65536x1024 := by
    entry_read
    rfl
  rw [← e, ← emb0]
  rfl

/-- A row of layer 1's embeddings, from the batch laid out flat. -/
theorem blk4 (c : Dev nD) (t : Fin cfg0.N) (i : Fin 1024) (k : Fin 256) :
    iblk m c 4 t (ix3 0 i k) = (shapeCast S2x65536x256 (m ((c.tc : Thread nD τ).loc main_arg1))
      shapeCasts_S2x16x4096x256_S2x65536x256 : Vec Ideal S2x65536x256 .f32) (ix3 1 (row t i) k) := by
  have e : V m c main_v3 = shapeCast S2x65536x256 (m ((c.tc : Thread nD τ).loc main_arg1))
      shapeCasts_S2x16x4096x256_S2x65536x256 := by
    entry_read
    rfl
  rw [← e, ← emb4]
  rfl

/-- A row of gains, laid out as one row. -/
theorem gains (g : Vec Ideal S1024 .f32) (k : Fin 1024) :
    (shapeCast S1x1024 g shapeCasts_S1024_S1x1024 : Vec Ideal S1x1024 .f32) (ix2 0 k) = g (ix1 k) := by
  pointwise

theorem blk1 (c : Dev nD) (t : Fin cfg0.N) (k : Fin 1024) :
    iblk m c 1 t (ix2 0 k) = m ((c.tc : Thread nD τ).loc main_arg2) (ix1 k) := by
  have e : V m c main_v6 = shapeCast S1x1024 (m ((c.tc : Thread nD τ).loc main_arg2)) shapeCasts_S1024_S1x1024 := by
    entry_read
    rfl
  refine Eq.trans ?_ (gains (m ((c.tc : Thread nD τ).loc main_arg2)) k)
  rw [← e]
  exact congrArg (V m c main_v6) (emb1 t 0 k)

theorem blk5 (c : Dev nD) (t : Fin cfg0.N) (k : Fin 1024) :
    iblk m c 5 t (ix2 0 k) = m ((c.tc : Thread nD τ).loc main_arg5) (ix1 k) := by
  have e : V m c main_v7 = shapeCast S1x1024 (m ((c.tc : Thread nD τ).loc main_arg5)) shapeCasts_S1024_S1x1024 := by
    entry_read
    rfl
  refine Eq.trans ?_ (gains (m ((c.tc : Thread nD τ).loc main_arg5)) k)
  rw [← e]
  exact congrArg (V m c main_v7) (emb5 t 0 k)

theorem blk8 (c : Dev nD) (t : Fin cfg0.N) (k : Fin 1024) :
    iblk m c 8 t (ix2 0 k) = m ((c.tc : Thread nD τ).loc main_arg8) (ix1 k) := by
  have e : V m c main_v8 = shapeCast S1x1024 (m ((c.tc : Thread nD τ).loc main_arg8)) shapeCasts_S1024_S1x1024 := by
    entry_read
    rfl
  refine Eq.trans ?_ (gains (m ((c.tc : Thread nD τ).loc main_arg8)) k)
  rw [← e]
  exact congrArg (V m c main_v8) (emb8 t 0 k)

theorem blk2 (c : Dev nD) (t : Fin cfg0.N) (i : Fin 1024) (k : Fin 5632) :
    iblk m c 2 t (ix2 i k) = m ((c.tc : Thread nD τ).loc main_arg3) (ix2 i k) := by
  have e : V m c main_v1 = (truncf (F := Ideal) (φ := .f32) .bf16 (m ((c.tc : Thread nD τ).loc main_arg3))
      bitsLt_bf16_f32 : FVec Ideal S1024x5632 .bf16) := by
    entry_read
    rfl
  show V m c main_v1 _ = _
  rw [e]
  exact congrArg (m ((c.tc : Thread nD τ).loc main_arg3)) (emb2 t i k)

theorem blk3 (c : Dev nD) (t : Fin cfg0.N) (i : Fin 2816) (k : Fin 1024) :
    iblk m c 3 t (ix2 i k) = m ((c.tc : Thread nD τ).loc main_arg4) (ix2 i k) := by
  have e : V m c main_v2 = (truncf (F := Ideal) (φ := .f32) .bf16 (m ((c.tc : Thread nD τ).loc main_arg4))
      bitsLt_bf16_f32 : FVec Ideal S2816x1024 .bf16) := by
    entry_read
    rfl
  show V m c main_v2 _ = _
  rw [e]
  exact congrArg (m ((c.tc : Thread nD τ).loc main_arg4)) (emb3 t i k)

theorem blk6 (c : Dev nD) (t : Fin cfg0.N) (i : Fin 1024) (k : Fin 1024) :
    iblk m c 6 t (ix2 i k) = m ((c.tc : Thread nD τ).loc main_arg6) (ix2 i k) := by
  have e : V m c main_v4 = (truncf (F := Ideal) (φ := .f32) .bf16 (m ((c.tc : Thread nD τ).loc main_arg6))
      bitsLt_bf16_f32 : FVec Ideal S1024x1024 .bf16) := by
    entry_read
    rfl
  show V m c main_v4 _ = _
  rw [e]
  exact congrArg (m ((c.tc : Thread nD τ).loc main_arg6)) (emb6 t i k)

theorem blk7 (c : Dev nD) (t : Fin cfg0.N) (i : Fin 256) (k : Fin 1024) :
    iblk m c 7 t (ix2 i k) = m ((c.tc : Thread nD τ).loc main_arg7) (ix2 i k) := by
  have e : V m c main_v5 = (truncf (F := Ideal) (φ := .f32) .bf16 (m ((c.tc : Thread nD τ).loc main_arg7))
      bitsLt_bf16_f32 : FVec Ideal S256x1024 .bf16) := by
    entry_read
    rfl
  show V m c main_v5 _ = _
  rw [e]
  exact congrArg (m ((c.tc : Thread nD τ).loc main_arg7)) (emb7 t i k)

/-- After the feed-forward block: the gated embedding and the final norm of every row of a block. -/
theorem last_row (v1 : FVec Ideal S1024x1024 .f32) (v16 : FVec Ideal S1024x1024 .bf16)
    (v143 : FVec Ideal S1024x1024 .f32) (v146 : FVec Ideal S1024x256 .f32) (v147 : Vec Ideal S1024x256 .bf16)
    (v154 : Vec Ideal S256x1024 .bf16) (v158 v161 : Vec Ideal S1024x256 .bf16) (v168 : Vec Ideal S256x1024 .bf16)
    (x4 : Vec Ideal S1x1024x256 .f32) (x5 : Vec Ideal S1x1024 .f32) (x6 : Vec Ideal S1024x1024 .bf16)
    (x7 : Vec Ideal S256x1024 .bf16) (x8 : Vec Ideal S1x1024 .f32) (i j : Fin 1024) :
    k0_pay1 (k0_pay12 v1 v16 v143 v146 v147 v154 v158 v161 v168) (k0_pay13 x5)
        (k0_pay14 v1 v16 v143 v146 v147 v154 v158 v161 v168) x6 x4 x7 x8 (ix2 i j)
      = Ffn.rms (Ffn.ple (fun j => k0_pay12 v1 v16 v143 v146 v147 v154 v158 v161 v168 (ix2 i j))
          (fun j => x5 (ix2 0 j)) (fun k j => x6 (ix2 k j)) (fun k => x4 (ix3 0 i k)) (fun k j => x7 (ix2 k j)))
          (fun j => x8 (ix2 0 j)) j := by
  pointwise [k0_pay1, k0_pay13, k0_pay14]
  rfl

/-- The rows after the feed-forward block are those of the first block's text. -/
theorem left_eq (x0 : Vec Ideal S1024x1024 .f32) (x1 : Vec Ideal S1x1024 .f32) (x2 : Vec Ideal S1024x5632 .bf16)
    (x3 : Vec Ideal S2816x1024 .bf16) (x4 : Vec Ideal S1x1024x256 .f32) (x5 : Vec Ideal S1x1024 .f32)
    (x6 : Vec Ideal S1024x1024 .bf16) (x7 : Vec Ideal S256x1024 .bf16) (x8 : Vec Ideal S1x1024 .f32) :
    k0_pay12 (k0_pay15 x0 x1 x2 x3 x4 x5 x6 x7 x8) (k0_pay16 x0 x1 x2 x3 x4 x5 x6 x7 x8)
      (k0_pay17 x0 x1 x2 x3 x4 x5 x6 x7 x8) (k0_pay18 x0 x1 x2 x3 x4 x5 x6 x7 x8) (View.ld x2 r0_30) (View.ld x3 r0_31)
      (View.ld x2 r0_32) (View.ld x2 r0_33) (View.ld x3 r0_34) = Ffn1.left x0 x1 x2 x3 := by
  have hz : (![0, 0] : Fin 2 → ℕ) = fun _ => 0 := by decide
  unfold k0_pay15 k0_pay18 k0_pay17 k0_pay16
  rw [View.ld_unit_zero hz, View.ld_unit_zero hz]
  rfl

/-- The array after the run. -/
theorem value (c : Dev nD) : (Gen.dats m 0 c).arrAt 9 (cfgs 0).N
    = Ffn.normed (Ffn.embed (Ffn.added (shapeCast _ (m ((c.tc : Thread nD τ).loc main_arg0))
            shapeCasts_S16x4096x1024_S65536x1024)
          (m ((c.tc : Thread nD τ).loc main_arg2)) (m ((c.tc : Thread nD τ).loc main_arg3))
          (m ((c.tc : Thread nD τ).loc main_arg4)))
        (Ffn.layer1 (m ((c.tc : Thread nD τ).loc main_arg1))) (m ((c.tc : Thread nD τ).loc main_arg5))
        (m ((c.tc : Thread nD τ).loc main_arg6)) (m ((c.tc : Thread nD τ).loc main_arg7)))
      (m ((c.tc : Thread nD τ).loc main_arg8)) := by
  refine (Gen.dats m 0 c).arrAt_eq_of_covers 9 _ (by decide +kernel) fun t hf y => ?_
  blk_simp
  rw [after0_9]
  frame_out
  obtain ⟨i, k, rfl⟩ : ∃ i k : Fin 1024, y = ix2 i k := ⟨y 0, y 1, by funext a; fin_cases a <;> rfl⟩
  refine (last_row _ _ _ _ _ _ _ _ _ _ _ _ _ _ i k).trans ?_
  rw [left_eq]
  simp only [Ffn1.left_row, blk0, blk1, blk2, blk3, blk4, blk5, blk6, blk7, blk8]
  refine Eq.trans ?_ (congrArg (Ffn.normed _ _) (emb9 t i k)).symm
  rw [Ffn.normed_row]
  simp only [Ffn.embed_row, Ffn.added_row, Ffn.layer1_row]

end Cert.Proof.Ffn2

end

end
-- ==== Proof.Ffn3.lean ====
/-
  The second feed-forward block of the first layer, with the per-layer embedding and no final norm (`Kernel6Ideal`): its
  sixty-four row blocks fill the array that the reference (`Reference6Ideal`) computes.
-/
module

public import proofs.«01_k».proof.Proof.Gen.Kernel6Ideal.Value
public import proofs.«01_k».proof.Proof.Ffn1
public import proofs.«01_k».proof.Proof.Gen.Reference6Ideal.Run

@[expose] public section

set_option maxRecDepth 16384

noncomputable section

namespace Cert.Proof.Ffn3

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies: the row blocks at the grid point, the weights at the origin. -/
theorem idx : ∀ t : Fin cfg0.N,
    win0_0.index t = ![t.val, 0] ∧ win0_1.index t = ![0, 0] ∧ win0_2.index t = ![0, 0]
    ∧ win0_3.index t = ![0, 0] ∧ win0_4.index t = ![0, t.val, 0] ∧ win0_5.index t = ![0, 0]
    ∧ win0_6.index t = ![0, 0] ∧ win0_7.index t = ![0, 0] ∧ win0_8.index t = ![t.val, 0] := by
  decide +kernel

/-- Row `i` of block `t`. -/
def row (t : Fin cfg0.N) (i : Fin 1024) : Fin 65536 :=
  ⟨t.val * 1024 + i.val, by have h : t.val < 64 := t.isLt; omega⟩

theorem emb8 (t : Fin cfg0.N) (i k : Fin 1024) :
    (((cfg0.win 8).blk t).view.emb (ix2 i k) : S65536x1024.Idx) = ix2 (row t i) k := by
  have i0 := idx t
  unfold row
  blk_ext [i0]

theorem emb0 (t : Fin cfg0.N) (i k : Fin 1024) :
    (((cfg0.win 0).blk t).view.emb (ix2 i k) : S65536x1024.Idx) = ix2 (row t i) k := by
  have i0 := idx t
  unfold row
  blk_ext [i0]

theorem emb4 (t : Fin cfg0.N) (i : Fin 1024) (k : Fin 256) :
    (((cfg0.win 4).blk t).view.emb (ix3 0 i k) : S2x65536x256.Idx) = ix3 0 (row t i) k := by
  have i0 := idx t
  unfold row
  blk_ext [i0]

theorem emb1 (t : Fin cfg0.N) (i : Fin 1) (k : Fin 1024) :
    (((cfg0.win 1).blk t).view.emb (ix2 i k) : S1x1024.Idx) = ix2 i k := by
  have i0 := idx t
  blk_ext [i0]

theorem emb2 (t : Fin cfg0.N) (i : Fin 1024) (k : Fin 5632) :
    (((cfg0.win 2).blk t).view.emb (ix2 i k) : S1024x5632.Idx) = ix2 i k := by
  have i0 := idx t
  blk_ext [i0]

theorem emb3 (t : Fin cfg0.N) (i : Fin 2816) (k : Fin 1024) :
    (((cfg0.win 3).blk t).view.emb (ix2 i k) : S2816x1024.Idx) = ix2 i k := by
  have i0 := idx t
  blk_ext [i0]

theorem emb5 (t : Fin cfg0.N) (i : Fin 1) (k : Fin 1024) :
    (((cfg0.win 5).blk t).view.emb (ix2 i k) : S1x1024.Idx) = ix2 i k := by
  have i0 := idx t
  blk_ext [i0]

theorem emb6 (t : Fin cfg0.N) (i : Fin 1024) (k : Fin 1024) :
    (((cfg0.win 6).blk t).view.emb (ix2 i k) : S1024x1024.Idx) = ix2 i k := by
  have i0 := idx t
  blk_ext [i0]

theorem emb7 (t : Fin cfg0.N) (i : Fin 256) (k : Fin 1024) :
    (((cfg0.win 7).blk t).view.emb (ix2 i k) : S256x1024.Idx) = ix2 i k := by
  have i0 := idx t
  blk_ext [i0]

/-- A row of the activations, from the batch laid out flat. -/
theorem blk0 (c : Dev nD) (t : Fin cfg0.N) (i k : Fin 1024) :
    iblk m c 0 t (ix2 i k) = (shapeCast S65536x1024 (m ((c.tc : Thread nD τ).loc main_arg0))
      shapeCasts_S16x4096x1024_S65536x1024 : Vec Ideal S65536x1024 .f32) (ix2 (row t i) k) := by
  have e : V m c main_v0 = shapeCast S65536x1024 (m ((c.tc : Thread nD τ).loc main_arg0))
      shapeCasts_S16x4096x1024_S65536x1024 := by
    entry_read
    rfl
  rw [← e, ← emb0]
  rfl

/-- A row of layer 0's embeddings, from the batch laid out flat. -/
theorem blk4 (c : Dev nD) (t : Fin cfg0.N) (i : Fin 1024) (k : Fin 256) :
    iblk m c 4 t (ix3 0 i k) = (shapeCast S2x65536x256 (m ((c.tc : Thread nD τ).loc main_arg1))
      shapeCasts_S2x16x4096x256_S2x65536x256 : Vec Ideal S2x65536x256 .f32) (ix3 0 (row t i) k) := by
  have e : V m c main_v3 = shapeCast S2x65536x256 (m ((c.tc : Thread nD τ).loc main_arg1))
      shapeCasts_S2x16x4096x256_S2x65536x256 := by
    entry_read
    rfl
  rw [← e, ← emb4]
  rfl

/-- A row of gains, laid out as one row. -/
theorem gains (g : Vec Ideal S1024 .f32) (k : Fin 1024) :
    (shapeCast S1x1024 g shapeCasts_S1024_S1x1024 : Vec Ideal S1x1024 .f32) (ix2 0 k) = g (ix1 k) := by
  pointwise

theorem blk1 (c : Dev nD) (t : Fin cfg0.N) (k : Fin 1024) :
    iblk m c 1 t (ix2 0 k) = m ((c.tc : Thread nD τ).loc main_arg2) (ix1 k) := by
  have e : V m c main_v6 = shapeCast S1x1024 (m ((c.tc : Thread nD τ).loc main_arg2)) shapeCasts_S1024_S1x1024 := by
    entry_read
    rfl
  refine Eq.trans ?_ (gains (m ((c.tc : Thread nD τ).loc main_arg2)) k)
  rw [← e]
  exact congrArg (V m c main_v6) (emb1 t 0 k)

theorem blk5 (c : Dev nD) (t : Fin cfg0.N) (k : Fin 1024) :
    iblk m c 5 t (ix2 0 k) = m ((c.tc : Thread nD τ).loc main_arg5) (ix1 k) := by
  have e : V m c main_v7 = shapeCast S1x1024 (m ((c.tc : Thread nD τ).loc main_arg5)) shapeCasts_S1024_S1x1024 := by
    entry_read
    rfl
  refine Eq.trans ?_ (gains (m ((c.tc : Thread nD τ).loc main_arg5)) k)
  rw [← e]
  exact congrArg (V m c main_v7) (emb5 t 0 k)

theorem blk2 (c : Dev nD) (t : Fin cfg0.N) (i : Fin 1024) (k : Fin 5632) :
    iblk m c 2 t (ix2 i k) = m ((c.tc : Thread nD τ).loc main_arg3) (ix2 i k) := by
  have e : V m c main_v1 = (truncf (F := Ideal) (φ := .f32) .bf16 (m ((c.tc : Thread nD τ).loc main_arg3))
      bitsLt_bf16_f32 : FVec Ideal S1024x5632 .bf16) := by
    entry_read
    rfl
  show V m c main_v1 _ = _
  rw [e]
  exact congrArg (m ((c.tc : Thread nD τ).loc main_arg3)) (emb2 t i k)

theorem blk3 (c : Dev nD) (t : Fin cfg0.N) (i : Fin 2816) (k : Fin 1024) :
    iblk m c 3 t (ix2 i k) = m ((c.tc : Thread nD τ).loc main_arg4) (ix2 i k) := by
  have e : V m c main_v2 = (truncf (F := Ideal) (φ := .f32) .bf16 (m ((c.tc : Thread nD τ).loc main_arg4))
      bitsLt_bf16_f32 : FVec Ideal S2816x1024 .bf16) := by
    entry_read
    rfl
  show V m c main_v2 _ = _
  rw [e]
  exact congrArg (m ((c.tc : Thread nD τ).loc main_arg4)) (emb3 t i k)

theorem blk6 (c : Dev nD) (t : Fin cfg0.N) (i : Fin 1024) (k : Fin 1024) :
    iblk m c 6 t (ix2 i k) = m ((c.tc : Thread nD τ).loc main_arg6) (ix2 i k) := by
  have e : V m c main_v4 = (truncf (F := Ideal) (φ := .f32) .bf16 (m ((c.tc : Thread nD τ).loc main_arg6))
      bitsLt_bf16_f32 : FVec Ideal S1024x1024 .bf16) := by
    entry_read
    rfl
  show V m c main_v4 _ = _
  rw [e]
  exact congrArg (m ((c.tc : Thread nD τ).loc main_arg6)) (emb6 t i k)

theorem blk7 (c : Dev nD) (t : Fin cfg0.N) (i : Fin 256) (k : Fin 1024) :
    iblk m c 7 t (ix2 i k) = m ((c.tc : Thread nD τ).loc main_arg7) (ix2 i k) := by
  have e : V m c main_v5 = (truncf (F := Ideal) (φ := .f32) .bf16 (m ((c.tc : Thread nD τ).loc main_arg7))
      bitsLt_bf16_f32 : FVec Ideal S256x1024 .bf16) := by
    entry_read
    rfl
  show V m c main_v5 _ = _
  rw [e]
  exact congrArg (m ((c.tc : Thread nD τ).loc main_arg7)) (emb7 t i k)

/-- After the feed-forward block: the gated embedding of every row of a block. -/
theorem last_row (v1 : FVec Ideal S1024x1024 .f32) (v16 : FVec Ideal S1024x1024 .bf16)
    (v143 : FVec Ideal S1024x1024 .f32) (v146 : FVec Ideal S1024x256 .f32) (v147 : Vec Ideal S1024x256 .bf16)
    (v154 : Vec Ideal S256x1024 .bf16) (v158 v161 : Vec Ideal S1024x256 .bf16) (v168 : Vec Ideal S256x1024 .bf16)
    (x4 : Vec Ideal S1x1024x256 .f32) (x5 : Vec Ideal S1x1024 .f32) (x6 : Vec Ideal S1024x1024 .bf16)
    (x7 : Vec Ideal S256x1024 .bf16) (i j : Fin 1024) :
    k0_pay1 (k0_pay12 v1 v16 v143 v146 v147 v154 v158 v161 v168) (k0_pay13 x5)
        (k0_pay14 v1 v16 v143 v146 v147 v154 v158 v161 v168) x6 x4 x7 (ix2 i j)
      = Ffn.ple (fun j => k0_pay12 v1 v16 v143 v146 v147 v154 v158 v161 v168 (ix2 i j))
          (fun j => x5 (ix2 0 j)) (fun k j => x6 (ix2 k j)) (fun k => x4 (ix3 0 i k)) (fun k j => x7 (ix2 k j)) j := by
  pointwise [k0_pay1, k0_pay13, k0_pay14]
  rfl

/-- The rows after the feed-forward block are those of the first block's text. -/
theorem left_eq (x0 : Vec Ideal S1024x1024 .f32) (x1 : Vec Ideal S1x1024 .f32) (x2 : Vec Ideal S1024x5632 .bf16)
    (x3 : Vec Ideal S2816x1024 .bf16) (x4 : Vec Ideal S1x1024x256 .f32) (x5 : Vec Ideal S1x1024 .f32)
    (x6 : Vec Ideal S1024x1024 .bf16) (x7 : Vec Ideal S256x1024 .bf16) :
    k0_pay12 (k0_pay15 x0 x1 x2 x3 x4 x5 x6 x7) (k0_pay16 x0 x1 x2 x3 x4 x5 x6 x7)
      (k0_pay17 x0 x1 x2 x3 x4 x5 x6 x7) (k0_pay18 x0 x1 x2 x3 x4 x5 x6 x7) (View.ld x2 r0_30) (View.ld x3 r0_31)
      (View.ld x2 r0_32) (View.ld x2 r0_33) (View.ld x3 r0_34) = Ffn1.left x0 x1 x2 x3 := by
  have hz : (![0, 0] : Fin 2 → ℕ) = fun _ => 0 := by decide
  unfold k0_pay15 k0_pay18 k0_pay17 k0_pay16
  rw [View.ld_unit_zero hz, View.ld_unit_zero hz]
  rfl

/-- Layer 0's embeddings. -/
def layer0 (p : FVec Ideal S2x16x4096x256 .f32) : FVec Ideal Cert.Reference6Ideal.S65536x256 .f32 :=
  shapeCast _ (extractStridedSlice Cert.Reference6Ideal.S1x65536x256 ![0, 0, 0] (shapeCast _ p shapeCasts_S2x16x4096x256_S2x65536x256) Cert.Reference6Ideal.Gen.slices_S2x65536x256_S1x65536x256_0_0_0) Cert.Reference6Ideal.Gen.shapeCasts_S1x65536x256_S65536x256

theorem layer0_row (p : FVec Ideal S2x16x4096x256 .f32) (r : Fin 65536) (k : Fin 256) :
    layer0 p (ix2 r k) = (shapeCast S2x65536x256 p shapeCasts_S2x16x4096x256_S2x65536x256 :
      FVec Ideal S2x65536x256 .f32) (ix3 0 r k) := by
  pointwise [layer0]

/-- The array after the run. -/
theorem value (c : Dev nD) : (Gen.dats m 0 c).arrAt 8 (cfgs 0).N
    = Ffn.embed (Ffn.added (shapeCast _ (m ((c.tc : Thread nD τ).loc main_arg0))
            shapeCasts_S16x4096x1024_S65536x1024)
          (m ((c.tc : Thread nD τ).loc main_arg2)) (m ((c.tc : Thread nD τ).loc main_arg3))
          (m ((c.tc : Thread nD τ).loc main_arg4)))
        (layer0 (m ((c.tc : Thread nD τ).loc main_arg1))) (m ((c.tc : Thread nD τ).loc main_arg5))
        (m ((c.tc : Thread nD τ).loc main_arg6)) (m ((c.tc : Thread nD τ).loc main_arg7)) := by
  refine (Gen.dats m 0 c).arrAt_eq_of_covers 8 _ (by decide +kernel) fun t hf y => ?_
  blk_simp
  rw [after0_8]
  frame_out
  obtain ⟨i, k, rfl⟩ : ∃ i k : Fin 1024, y = ix2 i k := ⟨y 0, y 1, by funext a; fin_cases a <;> rfl⟩
  refine (last_row _ _ _ _ _ _ _ _ _ _ _ _ _ i k).trans ?_
  rw [left_eq]
  simp only [Ffn1.left_row, blk0, blk1, blk2, blk3, blk4, blk5, blk6, blk7]
  refine Eq.trans ?_ (congrArg (Ffn.embed _ _ _ _ _) (emb8 t i k)).symm
  rw [Ffn.embed_row]
  simp only [Ffn.added_row, layer0_row]

end Cert.Proof.Ffn3

end

end
-- ==== Proof.MixOut.lean ====
/-
  The mixer's output projection (`Kernel4Ideal`): the array that its sixty-four row blocks fill is the reference's
  (`Reference4Ideal`) function of the arguments.
-/
module

public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

namespace Cert.Proof.MixOut

section

open Cert.Reference4Ideal Cert.Reference4Ideal.Gen Idealize.ShloMosaic

/-- The reference's result as a function of its arguments. -/
def mixed (a0 : FVec Ideal S16x4096x1024 .f32) (a1 a2 : FVec Ideal S65536x1024 .bf16) (a3 : FVec Ideal S65536x512 .bf16)
    (a4 : FVec Ideal S65536x2048 .bf16) (a5 : FVec Ideal S1024x1024 .f32) (a6 : FVec Ideal S512x1024 .f32)
    (a7 : FVec Ideal S1024x1024 .f32) : FVec Ideal S65536x1024 .f32 :=
  addf (shapeCast _ a0 shapeCasts_S16x4096x1024_S65536x1024) (Host.dotGeneral dot_S65536x1024_S1024x1024_S65536x1024_1_0_0_1_n_n none (addf (addf (extf .f32 a1 bitsLt_bf16_f32) (mulf (extractStridedSlice S65536x1024 ![0, 0] (extf .f32 a4 bitsLt_bf16_f32) slices_S65536x2048_S65536x1024_0_0) (Host.dotGeneral dot_S65536x1024_S1024x1024_S65536x1024_1_0_0_1_n_n none (extf .f32 a2 bitsLt_bf16_f32) a5))) (mulf (extractStridedSlice S65536x1024 ![0, 1024] (extf .f32 a4 bitsLt_bf16_f32) slices_S65536x2048_S65536x1024_0_1024) (Host.dotGeneral dot_S65536x512_S512x1024_S65536x1024_1_0_0_1_n_n none (extf .f32 a3 bitsLt_bf16_f32) a6))) a7)

end

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies: the row blocks at the grid point, the weights at the origin. -/
theorem idx : ∀ t : Fin cfg0.N,
    win0_0.index t = ![t.val, 0] ∧ win0_1.index t = ![t.val, 0] ∧ win0_2.index t = ![t.val, 0]
    ∧ win0_3.index t = ![t.val, 0] ∧ win0_4.index t = ![t.val, 0] ∧ win0_5.index t = ![0, 0]
    ∧ win0_6.index t = ![0, 0] ∧ win0_7.index t = ![0, 0] ∧ win0_8.index t = ![t.val, 0] := by
  decide +kernel

/-- Row `i` of block `t`. -/
def row (t : Fin cfg0.N) (i : Fin 1024) : Fin 65536 :=
  ⟨t.val * 1024 + i.val, by have h : t.val < 64 := t.isLt; omega⟩

theorem emb8 (t : Fin cfg0.N) (i k : Fin 1024) :
    (((cfg0.win 8).blk t).view.emb (ix2 i k) : S65536x1024.Idx) = ix2 (row t i) k := by
  have i0 := idx t
  unfold row
  blk_ext [i0]

theorem emb0 (t : Fin cfg0.N) (i : Fin 1024) (k : Fin 1024) :
    (((cfg0.win 0).blk t).view.emb (ix2 i k) : S65536x1024.Idx) = ix2 (row t i) k := by
  have i0 := idx t
  unfold row
  blk_ext [i0]

theorem emb1 (t : Fin cfg0.N) (i : Fin 1024) (k : Fin 1024) :
    (((cfg0.win 1).blk t).view.emb (ix2 i k) : S65536x1024.Idx) = ix2 (row t i) k := by
  have i0 := idx t
  unfold row
  blk_ext [i0]

theorem emb2 (t : Fin cfg0.N) (i : Fin 1024) (k : Fin 1024) :
    (((cfg0.win 2).blk t).view.emb (ix2 i k) : S65536x1024.Idx) = ix2 (row t i) k := by
  have i0 := idx t
  unfold row
  blk_ext [i0]

theorem emb3 (t : Fin cfg0.N) (i : Fin 1024) (k : Fin 512) :
    (((cfg0.win 3).blk t).view.emb (ix2 i k) : S65536x512.Idx) = ix2 (row t i) k := by
  have i0 := idx t
  unfold row
  blk_ext [i0]

theorem emb4 (t : Fin cfg0.N) (i : Fin 1024) (k : Fin 2048) :
    (((cfg0.win 4).blk t).view.emb (ix2 i k) : S65536x2048.Idx) = ix2 (row t i) k := by
  have i0 := idx t
  unfold row
  blk_ext [i0]

theorem emb5 (t : Fin cfg0.N) (i : Fin 1024) (k : Fin 1024) :
    (((cfg0.win 5).blk t).view.emb (ix2 i k) : S1024x1024.Idx) = ix2 i k := by
  have i0 := idx t
  blk_ext [i0]

theorem emb6 (t : Fin cfg0.N) (i : Fin 512) (k : Fin 1024) :
    (((cfg0.win 6).blk t).view.emb (ix2 i k) : S512x1024.Idx) = ix2 i k := by
  have i0 := idx t
  blk_ext [i0]

theorem emb7 (t : Fin cfg0.N) (i : Fin 1024) (k : Fin 1024) :
    (((cfg0.win 7).blk t).view.emb (ix2 i k) : S1024x1024.Idx) = ix2 i k := by
  have i0 := idx t
  blk_ext [i0]

theorem blk1 (c : Dev nD) (t : Fin cfg0.N) (i : Fin 1024) (k : Fin 1024) :
    iblk m c 1 t (ix2 i k) = m ((c.tc : Thread nD τ).loc main_arg1) (ix2 (row t i) k) := by
  show V m c main_arg1 _ = _
  rw [V_main_arg1]
  exact congrArg (m ((c.tc : Thread nD τ).loc main_arg1)) (emb1 t i k)

theorem blk2 (c : Dev nD) (t : Fin cfg0.N) (i : Fin 1024) (k : Fin 1024) :
    iblk m c 2 t (ix2 i k) = m ((c.tc : Thread nD τ).loc main_arg2) (ix2 (row t i) k) := by
  show V m c main_arg2 _ = _
  rw [V_main_arg2]
  exact congrArg (m ((c.tc : Thread nD τ).loc main_arg2)) (emb2 t i k)

theorem blk3 (c : Dev nD) (t : Fin cfg0.N) (i : Fin 1024) (k : Fin 512) :
    iblk m c 3 t (ix2 i k) = m ((c.tc : Thread nD τ).loc main_arg3) (ix2 (row t i) k) := by
  show V m c main_arg3 _ = _
  rw [V_main_arg3]
  exact congrArg (m ((c.tc : Thread nD τ).loc main_arg3)) (emb3 t i k)

theorem blk4 (c : Dev nD) (t : Fin cfg0.N) (i : Fin 1024) (k : Fin 2048) :
    iblk m c 4 t (ix2 i k) = m ((c.tc : Thread nD τ).loc main_arg4) (ix2 (row t i) k) := by
  show V m c main_arg4 _ = _
  rw [V_main_arg4]
  exact congrArg (m ((c.tc : Thread nD τ).loc main_arg4)) (emb4 t i k)

theorem blk5 (c : Dev nD) (t : Fin cfg0.N) (i : Fin 1024) (k : Fin 1024) :
    iblk m c 5 t (ix2 i k) = m ((c.tc : Thread nD τ).loc main_arg5) (ix2 i k) := by
  have e : V m c main_v1 = (truncf (F := Ideal) (φ := .f32) .bf16 (m ((c.tc : Thread nD τ).loc main_arg5)) bitsLt_bf16_f32 : FVec Ideal S1024x1024 .bf16) := by
    entry_read
    rfl
  show V m c main_v1 _ = _
  rw [e]
  exact congrArg (m ((c.tc : Thread nD τ).loc main_arg5)) (emb5 t i k)

theorem blk6 (c : Dev nD) (t : Fin cfg0.N) (i : Fin 512) (k : Fin 1024) :
    iblk m c 6 t (ix2 i k) = m ((c.tc : Thread nD τ).loc main_arg6) (ix2 i k) := by
  have e : V m c main_v2 = (truncf (F := Ideal) (φ := .f32) .bf16 (m ((c.tc : Thread nD τ).loc main_arg6)) bitsLt_bf16_f32 : FVec Ideal S512x1024 .bf16) := by
    entry_read
    rfl
  show V m c main_v2 _ = _
  rw [e]
  exact congrArg (m ((c.tc : Thread nD τ).loc main_arg6)) (emb6 t i k)

theorem blk7 (c : Dev nD) (t : Fin cfg0.N) (i : Fin 1024) (k : Fin 1024) :
    iblk m c 7 t (ix2 i k) = m ((c.tc : Thread nD τ).loc main_arg7) (ix2 i k) := by
  have e : V m c main_v3 = (truncf (F := Ideal) (φ := .f32) .bf16 (m ((c.tc : Thread nD τ).loc main_arg7)) bitsLt_bf16_f32 : FVec Ideal S1024x1024 .bf16) := by
    entry_read
    rfl
  show V m c main_v3 _ = _
  rw [e]
  exact congrArg (m ((c.tc : Thread nD τ).loc main_arg7)) (emb7 t i k)

/-- A row of the activations, from the batch laid out flat. -/
theorem blk0 (c : Dev nD) (t : Fin cfg0.N) (i k : Fin 1024) :
    iblk m c 0 t (ix2 i k) = (shapeCast S65536x1024 (m ((c.tc : Thread nD τ).loc main_arg0)) shapeCasts_S16x4096x1024_S65536x1024 : Vec Ideal S65536x1024 .f32)
      (ix2 (row t i) k) := by
  have e : V m c main_v0 = shapeCast S65536x1024 (m ((c.tc : Thread nD τ).loc main_arg0)) shapeCasts_S16x4096x1024_S65536x1024 := by
    entry_read
    rfl
  rw [← e, ← emb0]
  rfl

/-- One entry of what the body computes from its blocks is the reference's entry at the block's place. -/
theorem point (a0 : FVec Ideal S16x4096x1024 .f32) (a1 a2 : FVec Ideal S65536x1024 .bf16)
    (a3 : FVec Ideal S65536x512 .bf16) (a4 : FVec Ideal S65536x2048 .bf16) (a5 : FVec Ideal S1024x1024 .f32)
    (a6 : FVec Ideal S512x1024 .f32) (a7 : FVec Ideal S1024x1024 .f32)
    (x0 : FVec Ideal S1024x1024 .f32) (x1 x2 : FVec Ideal S1024x1024 .bf16) (x3 : FVec Ideal S1024x512 .bf16)
    (x4 : FVec Ideal S1024x2048 .bf16) (x5 : FVec Ideal S1024x1024 .bf16) (x6 : FVec Ideal S512x1024 .bf16)
    (x7 : FVec Ideal S1024x1024 .bf16) (r : Fin 1024 → Fin 65536)
    (h0 : ∀ i k, x0 (ix2 i k) = (shapeCast S65536x1024 a0 shapeCasts_S16x4096x1024_S65536x1024 :
      FVec Ideal S65536x1024 .f32) (ix2 (r i) k))
    (h1 : ∀ i k, x1 (ix2 i k) = a1 (ix2 (r i) k)) (h2 : ∀ i k, x2 (ix2 i k) = a2 (ix2 (r i) k))
    (h3 : ∀ i k, x3 (ix2 i k) = a3 (ix2 (r i) k)) (h4 : ∀ i k, x4 (ix2 i k) = a4 (ix2 (r i) k))
    (h5 : ∀ i k, x5 (ix2 i k) = a5 (ix2 i k)) (h6 : ∀ i k, x6 (ix2 i k) = a6 (ix2 i k))
    (h7 : ∀ i k, x7 (ix2 i k) = a7 (ix2 i k)) (i k : Fin 1024) :
    k0_pay1 x2 x5 x3 x6 x1 (View.ld x4 r0_3) (View.ld x4 r0_4) x0 x7 (ix2 i k)
      = mixed a0 a1 a2 a3 a4 a5 a6 a7 (ix2 (r i) k) := by
  pointwise [k0_pay1, mixed] at h0 ⊢
  simp only [h0, h1, h2, h3, h4, h5, h6, h7]

/-- The array after the run. -/
theorem value (c : Dev nD) : (Gen.dats m 0 c).arrAt 8 (cfgs 0).N
    = mixed (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) := by
  refine (Gen.dats m 0 c).arrAt_eq_of_covers 8 _ (by decide +kernel) fun t hf y => ?_
  blk_simp
  rw [after0_8]
  frame_out
  obtain ⟨i, k, rfl⟩ : ∃ i k : Fin 1024, y = ix2 i k := ⟨y 0, y 1, by funext a; fin_cases a <;> rfl⟩
  refine (point _ _ _ _ _ _ _ _ _ _ _ _ _ _ _ _ (row t) (blk0 m c t) (blk1 m c t) (blk2 m c t) (blk3 m c t)
    (blk4 m c t) (blk5 m c t) (blk6 m c t) (blk7 m c t) i k).trans ?_
  exact congrArg _ (emb8 t i k).symm

end Cert.Proof.MixOut

end

end
-- ==== Proof.MixInRef.lean ====
/-
  The results of the layer's input projections, as the reference (`Reference5Ideal`) computes them. Everything the call
  gives is read off one array, the normed rows times the wide weight matrix: each result is a function of that array.
-/
module

public import proofs.«01_k».proof.Proof.FfnMath
public import proofs.«01_k».proof.Proof.FfnRef
public import proofs.«01_k».proof.Proof.Gen.Reference5Ideal.Run
public import Idealize.ShloMosaic.Lib.Pipeline.ValueKit

@[expose] public section

set_option maxRecDepth 16384

noncomputable section

namespace Cert.Proof.MixIn

open Cert.Reference5Ideal Cert.Reference5Ideal.Gen Idealize.ShloMosaic

/-- The array all results are read off. -/
def proj (x : FVec Ideal S65536x1024 .f32) (g : FVec Ideal S1024 .f32)
    (w : FVec Ideal S1024x8652 .f32) : FVec Ideal S65536x8652 .f32 :=
  Host.dotGeneral dot_S65536x1024_S1024x8652_S65536x8652_1_0_0_1_n_n none (Ffn.normed x g) w

/-- What the short convolution runs over. -/
def conved (q : FVec Ideal S65536x8652 .f32) : FVec Ideal S65536x512 .f32 :=
  mulf (extractStridedSlice S65536x512 ![0, 512] q slices_S65536x8652_S65536x512_0_512)
    (extractStridedSlice S65536x512 ![0, 1024] q slices_S65536x8652_S65536x512_0_1024)

/-- The same with two rows of zeros before each sequence. -/
def padded (u : FVec Ideal S65536x512 .f32) : FVec Ideal S16x4098x512 .f32 :=
  pad S16x4098x512 ![0, 2, 0] ![0, 0, 0] ![0, 0, 0]
    (shapeCast _ u shapeCasts_S65536x512_S16x4096x512)
    (sitofp .f32 (constantI S_ 32 0#32)) pads_S16x4096x512_S16x4098x512_000_200_000 h_S_

/-- One row of convolution weights, repeated. -/
def tap0 (a : FVec Ideal S3x512 .f32) : FVec Ideal S16x4096x512 .f32 :=
  broadcastInDim S16x4096x512 ![0, 1, 2] bcast_S1x1x512_S16x4096x512_0_1_2
    (broadcastInDim S1x1x512 ![2] bcast_S512_S1x1x512_2
      (shapeCast _ (extractStridedSlice S1x512 ![0, 0] a slices_S3x512_S1x512_0_0) shapeCasts_S1x512_S512))

/-- The second row. -/
def tap1 (a : FVec Ideal S3x512 .f32) : FVec Ideal S16x4096x512 .f32 :=
  broadcastInDim S16x4096x512 ![0, 1, 2] bcast_S1x1x512_S16x4096x512_0_1_2
    (broadcastInDim S1x1x512 ![2] bcast_S512_S1x1x512_2
      (shapeCast _ (extractStridedSlice S1x512 ![1, 0] a slices_S3x512_S1x512_1_0) shapeCasts_S1x512_S512))

/-- The third row. -/
def tap2 (a : FVec Ideal S3x512 .f32) : FVec Ideal S16x4096x512 .f32 :=
  broadcastInDim S16x4096x512 ![0, 1, 2] bcast_S1x1x512_S16x4096x512_0_1_2
    (broadcastInDim S1x1x512 ![2] bcast_S512_S1x1x512_2
      (shapeCast _ (extractStridedSlice S1x512 ![2, 0] a slices_S3x512_S1x512_2_0) shapeCasts_S1x512_S512))

/-- The convolution, sequence by sequence. -/
def convSeq (p : FVec Ideal S16x4098x512 .f32) (a : FVec Ideal S3x512 .f32) :
    FVec Ideal S16x4096x512 .f32 :=
  addf (addf
    (mulf (extractStridedSlice S16x4096x512 ![0, 0, 0] p slices_S16x4098x512_S16x4096x512_0_0_0) (tap0 a))
    (mulf (extractStridedSlice S16x4096x512 ![0, 1, 0] p slices_S16x4098x512_S16x4096x512_0_1_0) (tap1 a)))
    (mulf (extractStridedSlice S16x4096x512 ![0, 2, 0] p slices_S16x4098x512_S16x4096x512_0_2_0) (tap2 a))

/-- The logistic function of the gate columns. -/
def gates (q : FVec Ideal S65536x8652 .f32) : FVec Ideal S65536x3072 .f32 :=
  Host.divf (broadcastInDim S65536x3072 ![] bcast_S_S65536x3072 (constant S_ .f32 0x3F800000#32))
    (addf (broadcastInDim S65536x3072 ![] bcast_S_S65536x3072 (constant S_ .f32 0x3F800000#32))
      (Host.exp (Host.negf
        (extractStridedSlice S65536x3072 ![0, 5580] q slices_S65536x8652_S65536x3072_0_5580))))

/-- The convolution over all rows. -/
def conv (q : FVec Ideal S65536x8652 .f32) (a : FVec Ideal S3x512 .f32) :
    FVec Ideal S65536x512 .f32 :=
  shapeCast _ (convSeq (padded (conved q)) a) shapeCasts_S16x4096x512_S65536x512

/-- The gated short convolution. -/
def resConv (q : FVec Ideal S65536x8652 .f32) (a : FVec Ideal S3x512 .f32)
    (o : FVec Ideal S512x1024 .f32) : FVec Ideal S65536x1024 .bf16 :=
  truncf .bf16 (mulf
    (extractStridedSlice S65536x1024 ![0, 0] (gates q) slices_S65536x3072_S65536x1024_0_0)
    (Host.dotGeneral dot_S65536x512_S512x1024_S65536x1024_1_0_0_1_n_n none
      (mulf (extractStridedSlice S65536x512 ![0, 0] q slices_S65536x8652_S65536x512_0_0) (conv q a)) o))
    bitsLt_bf16_f32

/-- Queries and keys of the memory cells. -/
def resQk (q : FVec Ideal S65536x8652 .f32) : FVec Ideal S65536x1024 .bf16 :=
  truncf .bf16 (extractStridedSlice S65536x1024 ![0, 1536] q slices_S65536x8652_S65536x1024_0_1536)
    bitsLt_bf16_f32

/-- Values of the memory cells. -/
def resV (q : FVec Ideal S65536x8652 .f32) : FVec Ideal S65536x1024 .bf16 :=
  truncf .bf16 (extractStridedSlice S65536x1024 ![0, 2560] q slices_S65536x8652_S65536x1024_0_2560)
    bitsLt_bf16_f32

/-- Output gates of the memory cells. -/
def resO (q : FVec Ideal S65536x8652 .f32) : FVec Ideal S65536x1024 .bf16 :=
  truncf .bf16 (Host.divf
    (broadcastInDim S65536x1024 ![] bcast_S_S65536x1024 (constant S_ .f32 0x3F800000#32))
    (addf (broadcastInDim S65536x1024 ![] bcast_S_S65536x1024 (constant S_ .f32 0x3F800000#32))
      (Host.exp (Host.negf
        (extractStridedSlice S65536x1024 ![0, 3584] q slices_S65536x8652_S65536x1024_0_3584)))))
    bitsLt_bf16_f32

/-- The small columns: gates of the memory cells, weights of the indexer, zeros. -/
def resSmall (q : FVec Ideal S65536x8652 .f32) : FVec Ideal S65536x128 .f32 :=
  concatenate S65536x128 1
    [⟨S65536x8, extractStridedSlice S65536x8 ![0, 4608] q slices_S65536x8652_S65536x8_0_4608⟩,
     ⟨S65536x4, extractStridedSlice S65536x4 ![0, 5576] q slices_S65536x8652_S65536x4_0_5576⟩,
     ⟨S65536x116, broadcastInDim S65536x116 ![] bcast_S_S65536x116 (constant S_ .f32 0x00000000#32)⟩]
    concatenates_S65536x8_S65536x4_S65536x116_S65536x128_d1

/-- Queries of the attention, in the units of its exponentials. -/
def resAq (q : FVec Ideal S65536x8652 .f32) : FVec Ideal S65536x512 .bf16 :=
  truncf .bf16 (mulf (mulf
    (extractStridedSlice S65536x512 ![0, 4616] q slices_S65536x8652_S65536x512_0_4616)
    (broadcastInDim S65536x512 ![] bcast_S_S65536x512 (constant S_ .f32 0x3E000000#32)))
    (broadcastInDim S65536x512 ![] bcast_S_S65536x512 (constant S_ .f32 0x3FB8AA3B#32)))
    bitsLt_bf16_f32

/-- Keys and values of the attention, keys of the indexer, zeros. -/
def resKvi (q : FVec Ideal S65536x8652 .f32) : FVec Ideal S65536x256 .bf16 :=
  truncf .bf16 (concatenate S65536x256 1
    [⟨S65536x128, extractStridedSlice S65536x128 ![0, 5128] q slices_S65536x8652_S65536x128_0_5128⟩,
     ⟨S65536x64, extractStridedSlice S65536x64 ![0, 5512] q slices_S65536x8652_S65536x64_0_5512⟩,
     ⟨S65536x64, broadcastInDim S65536x64 ![] bcast_S_S65536x64 (constant S_ .f32 0x00000000#32)⟩]
    concatenates_S65536x128_S65536x64_S65536x64_S65536x256_d1) bitsLt_bf16_f32

/-- Queries of the indexer. -/
def resIq (q : FVec Ideal S65536x8652 .f32) : FVec Ideal S65536x256 .bf16 :=
  truncf .bf16 (extractStridedSlice S65536x256 ![0, 5256] q slices_S65536x8652_S65536x256_0_5256)
    bitsLt_bf16_f32

/-- The gates of the other two branches. -/
def resGates (q : FVec Ideal S65536x8652 .f32) : FVec Ideal S65536x2048 .bf16 :=
  truncf .bf16
    (extractStridedSlice S65536x2048 ![0, 1024] (gates q) slices_S65536x3072_S65536x2048_0_1024)
    bitsLt_bf16_f32

/-- Row `r` of `u`, `d` rows earlier in its sequence of 4096 rows; zero before the sequence. -/
def back (u : FVec Ideal S65536x512 .f32) (d : ℕ) (r : Fin 65536) (k : Fin 512) : EReal :=
  if d ≤ r.val % 4096 then u (ix2 ⟨r.val - d, by omega⟩ k) else 0

section rows

variable (q : FVec Ideal S65536x8652 .f32)

theorem proj_row (x : FVec Ideal S65536x1024 .f32) (g : FVec Ideal S1024 .f32)
    (w : FVec Ideal S1024x8652 .f32) (r : Fin 65536) (n : Fin 8652) :
    proj x g w (ix2 r n) = ∑ j, Ffn.normed x g (ix2 r j) * w (ix2 j n) := by
  pointwise [proj]

theorem conved_row (r : Fin 65536) (k : Fin 512) :
    conved q (ix2 r k) = q (ix2 r ⟨512 + k.val, by omega⟩) * q (ix2 r ⟨1024 + k.val, by omega⟩) := by
  pointwise [conved]

theorem padded_row (u : FVec Ideal S65536x512 .f32) (b : Fin 16) (s : Fin 4098) (k : Fin 512) :
    padded u (ix3 b s k)
      = if h : 2 ≤ s.val then u (ix2 ⟨b.val * 4096 + (s.val - 2), by omega⟩ k) else 0 := by
  have e : padded u (ix3 b s k) = if h : 2 ≤ s.val ∧ s.val - 2 < 4096 then
      u (ix2 ⟨b.val * 4096 + (s.val - 2), by omega⟩ k)
      else FloatOps.sitofp (F := Ideal) FTy.f32 (0#32) := by
    pointwise [padded]
  rw [e]
  by_cases h : 2 ≤ s.val
  · rw [dif_pos ⟨h, by omega⟩, dif_pos h]
  · rw [dif_neg (fun g => h g.1), dif_neg h]
    show (((0 : ℤ) : ℝ) : EReal) = 0
    simp

/-- An entry of the padded rows is a row `d` rows back. -/
theorem padded_back (u : FVec Ideal S65536x512 .f32) (d : ℕ) (r : Fin 65536) (s : Fin 4098) (k : Fin 512)
    (h : s.val + d = r.val % 4096 + 2) :
    padded u (ix3 ⟨r.val / 4096, by omega⟩ s k) = back u d r k := by
  rw [padded_row]
  unfold back
  by_cases g : 2 ≤ s.val
  · rw [dif_pos g, if_pos (by omega)]
    refine congrArg (fun n : Fin 65536 => u (ix2 n k)) (Fin.ext ?_)
    show r.val / 4096 * 4096 + (s.val - 2) = r.val - d
    omega
  · rw [dif_neg g, if_neg (by omega)]

theorem conv_rows (p : FVec Ideal S16x4098x512 .f32) (a : FVec Ideal S3x512 .f32) (r : Fin 65536) (k : Fin 512) :
    shapeCast S65536x512 (convSeq p a) shapeCasts_S16x4096x512_S65536x512 (ix2 r k)
      = p (ix3 ⟨r.val / 4096, by omega⟩ ⟨r.val % 4096, by omega⟩ k) * a (ix2 0 k)
        + p (ix3 ⟨r.val / 4096, by omega⟩ ⟨1 + r.val % 4096, by omega⟩ k) * a (ix2 1 k)
        + p (ix3 ⟨r.val / 4096, by omega⟩ ⟨2 + r.val % 4096, by omega⟩ k) * a (ix2 2 k) := by
  pointwise [convSeq, tap0, tap1, tap2]

theorem conv_row (a : FVec Ideal S3x512 .f32) (r : Fin 65536) (k : Fin 512) :
    conv q a (ix2 r k) = back (conved q) 2 r k * a (ix2 0 k) + back (conved q) 1 r k * a (ix2 1 k)
      + conved q (ix2 r k) * a (ix2 2 k) := by
  rw [show conv q a (ix2 r k) = _ from conv_rows (padded (conved q)) a r k,
    padded_back _ 2 r _ k (by show r.val % 4096 + 2 = _; rfl),
    padded_back _ 1 r _ k (by show 1 + r.val % 4096 + 1 = _; omega),
    padded_back _ 0 r _ k (by show 2 + r.val % 4096 + 0 = _; omega)]
  rfl

theorem resConv_row (a : FVec Ideal S3x512 .f32) (o : FVec Ideal S512x1024 .f32)
    (r : Fin 65536) (k : Fin 1024) :
    resConv q a o (ix2 r k) = Ideal.logistic (q (ix2 r ⟨5580 + k.val, by omega⟩))
      * ∑ j : Fin 512, q (ix2 r ⟨j.val, by omega⟩) * conv q a (ix2 r j) * o (ix2 j k) := by
  pointwise [resConv, gates]
  rfl

theorem resQk_row (r : Fin 65536) (k : Fin 1024) :
    resQk q (ix2 r k) = q (ix2 r ⟨1536 + k.val, by omega⟩) := by
  pointwise [resQk]

theorem resV_row (r : Fin 65536) (k : Fin 1024) :
    resV q (ix2 r k) = q (ix2 r ⟨2560 + k.val, by omega⟩) := by
  pointwise [resV]

theorem resO_row (r : Fin 65536) (k : Fin 1024) :
    resO q (ix2 r k) = Ideal.logistic (q (ix2 r ⟨3584 + k.val, by omega⟩)) := by
  pointwise [resO]
  rfl

theorem resSmall_row (r : Fin 65536) (k : Fin 128) :
    resSmall q (ix2 r k) = if h : k.val < 8 then q (ix2 r ⟨4608 + k.val, by omega⟩)
      else if h : k.val - 8 < 4 then q (ix2 r ⟨5576 + (k.val - 8), by omega⟩) else 0 := by
  pointwise [resSmall]

theorem resAq_row (r : Fin 65536) (k : Fin 512) :
    resAq q (ix2 r k) = q (ix2 r ⟨4616 + k.val, by omega⟩) * Ideal.ofBits FTy.f32 1040187392#32
      * Ideal.ofBits FTy.f32 1069066811#32 := by
  pointwise [resAq]

theorem resKvi_row (r : Fin 65536) (k : Fin 256) :
    resKvi q (ix2 r k) = if h : k.val < 128 then q (ix2 r ⟨5128 + k.val, by omega⟩)
      else if h : k.val - 128 < 64 then q (ix2 r ⟨5512 + (k.val - 128), by omega⟩) else 0 := by
  pointwise [resKvi]

theorem resIq_row (r : Fin 65536) (k : Fin 256) :
    resIq q (ix2 r k) = q (ix2 r ⟨5256 + k.val, by omega⟩) := by
  pointwise [resIq]

theorem resGates_row (r : Fin 65536) (k : Fin 2048) :
    resGates q (ix2 r k) = Ideal.logistic (q (ix2 r ⟨5580 + (1024 + k.val), by omega⟩)) := by
  pointwise [resGates, gates]
  rfl

end rows

end Cert.Proof.MixIn
-- ==== Proof.MixInBlk.lean ====
/-
  The mixer's input projections (`Kernel5Ideal`): the arrays that its hundred and twenty-eight row blocks fill are the
  reference's (`Reference5Ideal`) functions of the arguments. This file reads the blocks and the products of one point;
  `MixIn` puts the arrays together.
-/
module

public import proofs.«01_k».proof.Proof.Gen.Kernel5Ideal.Value
public import proofs.«01_k».proof.Proof.MixInRef
public import Idealize.ShloMosaic.Lib.Pipeline.ValueKit
public import Idealize.ShloMosaic.Lib.StableHlo.RunRead

@[expose] public section

set_option maxRecDepth 16384

noncomputable section

namespace Cert.Proof.MixIn

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies: the row blocks at the grid point, the weights at the origin. -/
theorem idx : ∀ t : Fin cfg0.N,
    win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![t.val, 0]
    ∧ win0_14.index t = ![t.val, 0]
    ∧ win0_15.index t = ![t.val, 0]
    ∧ win0_16.index t = ![t.val, 0]
    ∧ win0_17.index t = ![t.val, 0]
    ∧ win0_18.index t = ![t.val, 0]
    ∧ win0_19.index t = ![t.val, 0]
    ∧ win0_20.index t = ![t.val, 0]
    ∧ win0_21.index t = ![t.val, 0] := by
  decide +kernel

/-- Row `i` of block `t`. -/
def row (t : Fin cfg0.N) (i : Fin 512) : Fin 65536 :=
  ⟨t.val * 512 + i.val, by have h : t.val < 128 := t.isLt; omega⟩

/-- The weights' columns of every block. -/
abbrev A (c : Dev nD) : FVec Ideal S1024x8652 .f32 := m ((c.tc : Thread nD τ).loc main_arg2)

/-- The array the results are read off, at the arguments. -/
abbrev Q (c : Dev nD) : FVec Ideal Cert.Reference5Ideal.S65536x8652 .f32 :=
  proj (shapeCast _ (m ((c.tc : Thread nD τ).loc main_arg0)) shapeCasts_S16x4096x1024_S65536x1024)
    (m ((c.tc : Thread nD τ).loc main_arg1)) (A m c)

theorem emb0 (t : Fin cfg0.N) (i : Fin 512) (k : Fin 1024) :
    (((cfg0.win 0).blk t).view.emb (ix2 i k) : S65536x1024.Idx) = ix2 (row t i) k := by
  have i0 := idx t
  unfold row
  blk_ext [i0]

theorem emb1 (t : Fin cfg0.N) (i : Fin 1) (k : Fin 1024) :
    (((cfg0.win 1).blk t).view.emb (ix2 i k) : S1x1024.Idx) = ix2 i k := by
  have i0 := idx t
  blk_ext [i0]

theorem emb2 (t : Fin cfg0.N) (i : Fin 1024) (k : Fin 1536) :
    (((cfg0.win 2).blk t).view.emb (ix2 i k) : S1024x1536.Idx) = ix2 i k := by
  have i0 := idx t
  blk_ext [i0]

theorem emb3 (t : Fin cfg0.N) (i : Fin 1024) (k : Fin 1024) :
    (((cfg0.win 3).blk t).view.emb (ix2 i k) : S1024x1024.Idx) = ix2 i k := by
  have i0 := idx t
  blk_ext [i0]

theorem emb4 (t : Fin cfg0.N) (i : Fin 1024) (k : Fin 1024) :
    (((cfg0.win 4).blk t).view.emb (ix2 i k) : S1024x1024.Idx) = ix2 i k := by
  have i0 := idx t
  blk_ext [i0]

theorem emb5 (t : Fin cfg0.N) (i : Fin 1024) (k : Fin 1024) :
    (((cfg0.win 5).blk t).view.emb (ix2 i k) : S1024x1024.Idx) = ix2 i k := by
  have i0 := idx t
  blk_ext [i0]

theorem emb6 (t : Fin cfg0.N) (i : Fin 1024) (k : Fin 128) :
    (((cfg0.win 6).blk t).view.emb (ix2 i k) : S1024x128.Idx) = ix2 i k := by
  have i0 := idx t
  blk_ext [i0]

theorem emb7 (t : Fin cfg0.N) (i : Fin 1024) (k : Fin 512) :
    (((cfg0.win 7).blk t).view.emb (ix2 i k) : S1024x512.Idx) = ix2 i k := by
  have i0 := idx t
  blk_ext [i0]

theorem emb8 (t : Fin cfg0.N) (i : Fin 1024) (k : Fin 256) :
    (((cfg0.win 8).blk t).view.emb (ix2 i k) : S1024x256.Idx) = ix2 i k := by
  have i0 := idx t
  blk_ext [i0]

theorem emb9 (t : Fin cfg0.N) (i : Fin 1024) (k : Fin 256) :
    (((cfg0.win 9).blk t).view.emb (ix2 i k) : S1024x256.Idx) = ix2 i k := by
  have i0 := idx t
  blk_ext [i0]

theorem emb10 (t : Fin cfg0.N) (i : Fin 1024) (k : Fin 3072) :
    (((cfg0.win 10).blk t).view.emb (ix2 i k) : S1024x3072.Idx) = ix2 i k := by
  have i0 := idx t
  blk_ext [i0]

theorem emb11 (t : Fin cfg0.N) (i : Fin 3) (k : Fin 512) :
    (((cfg0.win 11).blk t).view.emb (ix2 i k) : S3x512.Idx) = ix2 i k := by
  have i0 := idx t
  blk_ext [i0]

theorem emb12 (t : Fin cfg0.N) (i : Fin 512) (k : Fin 1024) :
    (((cfg0.win 12).blk t).view.emb (ix2 i k) : S512x1024.Idx) = ix2 i k := by
  have i0 := idx t
  blk_ext [i0]

theorem emb13 (t : Fin cfg0.N) (i : Fin 512) (k : Fin 1024) :
    (((cfg0.win 13).blk t).view.emb (ix2 i k) : S65536x1024.Idx) = ix2 (row t i) k := by
  have i0 := idx t
  unfold row
  blk_ext [i0]

theorem emb14 (t : Fin cfg0.N) (i : Fin 512) (k : Fin 1024) :
    (((cfg0.win 14).blk t).view.emb (ix2 i k) : S65536x1024.Idx) = ix2 (row t i) k := by
  have i0 := idx t
  unfold row
  blk_ext [i0]

theorem emb15 (t : Fin cfg0.N) (i : Fin 512) (k : Fin 1024) :
    (((cfg0.win 15).blk t).view.emb (ix2 i k) : S65536x1024.Idx) = ix2 (row t i) k := by
  have i0 := idx t
  unfold row
  blk_ext [i0]

theorem emb16 (t : Fin cfg0.N) (i : Fin 512) (k : Fin 1024) :
    (((cfg0.win 16).blk t).view.emb (ix2 i k) : S65536x1024.Idx) = ix2 (row t i) k := by
  have i0 := idx t
  unfold row
  blk_ext [i0]

theorem emb17 (t : Fin cfg0.N) (i : Fin 512) (k : Fin 128) :
    (((cfg0.win 17).blk t).view.emb (ix2 i k) : S65536x128.Idx) = ix2 (row t i) k := by
  have i0 := idx t
  unfold row
  blk_ext [i0]

theorem emb18 (t : Fin cfg0.N) (i : Fin 512) (k : Fin 512) :
    (((cfg0.win 18).blk t).view.emb (ix2 i k) : S65536x512.Idx) = ix2 (row t i) k := by
  have i0 := idx t
  unfold row
  blk_ext [i0]

theorem emb19 (t : Fin cfg0.N) (i : Fin 512) (k : Fin 256) :
    (((cfg0.win 19).blk t).view.emb (ix2 i k) : S65536x256.Idx) = ix2 (row t i) k := by
  have i0 := idx t
  unfold row
  blk_ext [i0]

theorem emb20 (t : Fin cfg0.N) (i : Fin 512) (k : Fin 256) :
    (((cfg0.win 20).blk t).view.emb (ix2 i k) : S65536x256.Idx) = ix2 (row t i) k := by
  have i0 := idx t
  unfold row
  blk_ext [i0]

theorem emb21 (t : Fin cfg0.N) (i : Fin 512) (k : Fin 2048) :
    (((cfg0.win 21).blk t).view.emb (ix2 i k) : S65536x2048.Idx) = ix2 (row t i) k := by
  have i0 := idx t
  unfold row
  blk_ext [i0]

theorem blk0 (c : Dev nD) (t : Fin cfg0.N) (i : Fin 512) (k : Fin 1024) :
    iblk m c 0 t (ix2 i k) = (shapeCast S65536x1024 (m ((c.tc : Thread nD τ).loc main_arg0))
      shapeCasts_S16x4096x1024_S65536x1024 : Vec Ideal S65536x1024 .f32) (ix2 (row t i) k) := by
  have e : V m c main_v0 = shapeCast S65536x1024 (m ((c.tc : Thread nD τ).loc main_arg0))
      shapeCasts_S16x4096x1024_S65536x1024 := by
    entry_read
    rfl
  rw [← e, ← emb0]
  rfl

/-- The gains, as one row. -/
theorem blk1 (c : Dev nD) (t : Fin cfg0.N) (k : Fin 1024) :
    iblk m c 1 t (ix2 0 k) = m ((c.tc : Thread nD τ).loc main_arg1) (ix1 k) := by
  have e : V m c main_v21 = shapeCast S1x1024 (m ((c.tc : Thread nD τ).loc main_arg1)) shapeCasts_S1024_S1x1024 := by
    entry_read
    rfl
  have r : (shapeCast S1x1024 (m ((c.tc : Thread nD τ).loc main_arg1)) shapeCasts_S1024_S1x1024 :
      Vec Ideal S1x1024 .f32) (ix2 0 k) = m ((c.tc : Thread nD τ).loc main_arg1) (ix1 k) := by
    pointwise
  refine Eq.trans ?_ r
  rw [← e]
  exact congrArg (V m c main_v21) (emb1 t 0 k)

/-- The weights in half precision: over the extended reals, the weights. -/
abbrev A' (c : Dev nD) : FVec Ideal S1024x8652 .bf16 :=
  truncf (F := Ideal) (φ := .f32) .bf16 (m ((c.tc : Thread nD τ).loc main_arg2)) bitsLt_bf16_f32

theorem blk2 (c : Dev nD) (t : Fin cfg0.N) (j : Fin 1024) (k : Fin 1536) :
    iblk m c 2 t (ix2 j k) = A m c (ix2 j ⟨k.val, by omega⟩) := by
  have e : V m c main_v2 = (extractStridedSlice S1024x1536 ![0, 0] (A' m c) slices_S1024x8652_S1024x1536_0_0 : FVec Ideal S1024x1536 .bf16) := by
    entry_read
    rfl
  have r : (extractStridedSlice S1024x1536 ![0, 0] (A' m c) slices_S1024x8652_S1024x1536_0_0 : FVec Ideal S1024x1536 .bf16) (ix2 j k) = A m c (ix2 j ⟨k.val, by omega⟩) := by
    pointwise
  refine Eq.trans ?_ r
  rw [← e]
  exact congrArg (V m c main_v2) (emb2 t j k)

theorem blk3 (c : Dev nD) (t : Fin cfg0.N) (j : Fin 1024) (k : Fin 1024) :
    iblk m c 3 t (ix2 j k) = A m c (ix2 j ⟨1536 + k.val, by omega⟩) := by
  have e : V m c main_v3 = (extractStridedSlice S1024x1024 ![0, 1536] (A' m c) slices_S1024x8652_S1024x1024_0_1536 : FVec Ideal S1024x1024 .bf16) := by
    entry_read
    rfl
  have r : (extractStridedSlice S1024x1024 ![0, 1536] (A' m c) slices_S1024x8652_S1024x1024_0_1536 : FVec Ideal S1024x1024 .bf16) (ix2 j k) = A m c (ix2 j ⟨1536 + k.val, by omega⟩) := by
    pointwise
  refine Eq.trans ?_ r
  rw [← e]
  exact congrArg (V m c main_v3) (emb3 t j k)

theorem blk4 (c : Dev nD) (t : Fin cfg0.N) (j : Fin 1024) (k : Fin 1024) :
    iblk m c 4 t (ix2 j k) = A m c (ix2 j ⟨2560 + k.val, by omega⟩) := by
  have e : V m c main_v4 = (extractStridedSlice S1024x1024 ![0, 2560] (A' m c) slices_S1024x8652_S1024x1024_0_2560 : FVec Ideal S1024x1024 .bf16) := by
    entry_read
    rfl
  have r : (extractStridedSlice S1024x1024 ![0, 2560] (A' m c) slices_S1024x8652_S1024x1024_0_2560 : FVec Ideal S1024x1024 .bf16) (ix2 j k) = A m c (ix2 j ⟨2560 + k.val, by omega⟩) := by
    pointwise
  refine Eq.trans ?_ r
  rw [← e]
  exact congrArg (V m c main_v4) (emb4 t j k)

theorem blk5 (c : Dev nD) (t : Fin cfg0.N) (j : Fin 1024) (k : Fin 1024) :
    iblk m c 5 t (ix2 j k) = A m c (ix2 j ⟨3584 + k.val, by omega⟩) := by
  have e : V m c main_v5 = (extractStridedSlice S1024x1024 ![0, 3584] (A' m c) slices_S1024x8652_S1024x1024_0_3584 : FVec Ideal S1024x1024 .bf16) := by
    entry_read
    rfl
  have r : (extractStridedSlice S1024x1024 ![0, 3584] (A' m c) slices_S1024x8652_S1024x1024_0_3584 : FVec Ideal S1024x1024 .bf16) (ix2 j k) = A m c (ix2 j ⟨3584 + k.val, by omega⟩) := by
    pointwise
  refine Eq.trans ?_ r
  rw [← e]
  exact congrArg (V m c main_v5) (emb5 t j k)

theorem blk9 (c : Dev nD) (t : Fin cfg0.N) (j : Fin 1024) (k : Fin 256) :
    iblk m c 9 t (ix2 j k) = A m c (ix2 j ⟨5256 + k.val, by omega⟩) := by
  have e : V m c main_v18 = (extractStridedSlice S1024x256 ![0, 5256] (A' m c) slices_S1024x8652_S1024x256_0_5256 : FVec Ideal S1024x256 .bf16) := by
    entry_read
    rfl
  have r : (extractStridedSlice S1024x256 ![0, 5256] (A' m c) slices_S1024x8652_S1024x256_0_5256 : FVec Ideal S1024x256 .bf16) (ix2 j k) = A m c (ix2 j ⟨5256 + k.val, by omega⟩) := by
    pointwise
  refine Eq.trans ?_ r
  rw [← e]
  exact congrArg (V m c main_v18) (emb9 t j k)

theorem blk10 (c : Dev nD) (t : Fin cfg0.N) (j : Fin 1024) (k : Fin 3072) :
    iblk m c 10 t (ix2 j k) = A m c (ix2 j ⟨5580 + k.val, by omega⟩) := by
  have e : V m c main_v19 = (extractStridedSlice S1024x3072 ![0, 5580] (A' m c) slices_S1024x8652_S1024x3072_0_5580 : FVec Ideal S1024x3072 .bf16) := by
    entry_read
    rfl
  have r : (extractStridedSlice S1024x3072 ![0, 5580] (A' m c) slices_S1024x8652_S1024x3072_0_5580 : FVec Ideal S1024x3072 .bf16) (ix2 j k) = A m c (ix2 j ⟨5580 + k.val, by omega⟩) := by
    pointwise
  refine Eq.trans ?_ r
  rw [← e]
  exact congrArg (V m c main_v19) (emb10 t j k)

/-- Pieces side by side. -/
def smallOf (x0 : FVec Ideal S1024x8 .bf16) (x1 : FVec Ideal S1024x4 .bf16) (x2 : FVec Ideal S1024x116 .bf16) :
    FVec Ideal S1024x128 .bf16 :=
  concatenate S1024x128 1 [⟨S1024x8, x0⟩, ⟨S1024x4, x1⟩, ⟨S1024x116, x2⟩]
    concatenates_S1024x8_S1024x4_S1024x116_S1024x128_d1

/-- Those columns of the weights, as the call is given them. -/
def small (a : FVec Ideal S1024x8652 .bf16) : FVec Ideal S1024x128 .bf16 :=
  smallOf (extractStridedSlice S1024x8 ![0, 4608] a slices_S1024x8652_S1024x8_0_4608)
    (extractStridedSlice S1024x4 ![0, 5576] a slices_S1024x8652_S1024x4_0_5576)
    (broadcastInDim S1024x116 ![] bcast_S_S1024x116 (constant (F := Ideal) S_ .bf16 0x0000#16))

theorem small_entry (c : Dev nD) : V m c main_v9 = small (A' m c) := by
  have e0 : (StableHlo.upto hostOps0 (fun b => m (c, b)) 10 (Proc.devRef .tc main_v6) : FVec Ideal S1024x8 .bf16)
      = extractStridedSlice S1024x8 ![0, 4608] (A' m c) slices_S1024x8652_S1024x8_0_4608 := by
    simp only [StableHlo.upto, List.take]
    after_reads_simp
  have e1 : (StableHlo.upto hostOps0 (fun b => m (c, b)) 10 (Proc.devRef .tc main_v7) : FVec Ideal S1024x4 .bf16)
      = extractStridedSlice S1024x4 ![0, 5576] (A' m c) slices_S1024x8652_S1024x4_0_5576 := by
    simp only [StableHlo.upto, List.take]
    after_reads_simp
  have e2 : (StableHlo.upto hostOps0 (fun b => m (c, b)) 10 (Proc.devRef .tc main_v8) : FVec Ideal S1024x116 .bf16)
      = broadcastInDim S1024x116 ![] bcast_S_S1024x116 (constant (F := Ideal) S_ .bf16 0x0000#16) := by
    simp only [StableHlo.upto, List.take]
    after_reads_simp
  show StableHlo.after hostOps0 (fun b => m (c, b)) _ = _
  after_reads_simp
  show smallOf (StableHlo.upto hostOps0 (fun b => m (c, b)) 10 (Proc.devRef .tc main_v6))
    (StableHlo.upto hostOps0 (fun b => m (c, b)) 10 (Proc.devRef .tc main_v7))
    (StableHlo.upto hostOps0 (fun b => m (c, b)) 10 (Proc.devRef .tc main_v8)) = _
  rw [e0, e1, e2]
  rfl

theorem small_row (a : FVec Ideal S1024x8652 .bf16) (j : Fin 1024) (k : Fin 128) :
    small a (ix2 j k) = if h : k.val < 8 then a (ix2 j ⟨4608 + k.val, by omega⟩)
      else if h : k.val - 8 < 4 then a (ix2 j ⟨5576 + (k.val - 8), by omega⟩) else 0 := by
  pointwise [small, smallOf]

theorem blk6 (c : Dev nD) (t : Fin cfg0.N) (j : Fin 1024) (k : Fin 128) :
    iblk m c 6 t (ix2 j k) = if h : k.val < 8 then A m c (ix2 j ⟨4608 + k.val, by omega⟩)
      else if h : k.val - 8 < 4 then A m c (ix2 j ⟨5576 + (k.val - 8), by omega⟩) else 0 := by
  have e : V m c main_v9 = small (A' m c) := small_entry m c
  refine Eq.trans ?_ (small_row (A' m c) j k)
  rw [← e]
  exact congrArg (V m c main_v9) (emb6 t j k)

/-- Pieces side by side. -/
def kviOf (x0 : FVec Ideal S1024x64 .bf16) (x1 : FVec Ideal S1024x64 .bf16) (x2 : FVec Ideal S1024x64 .bf16) (x3 : FVec Ideal S1024x64 .bf16) :
    FVec Ideal S1024x256 .bf16 :=
  concatenate S1024x256 1 [⟨S1024x64, x0⟩, ⟨S1024x64, x1⟩, ⟨S1024x64, x2⟩, ⟨S1024x64, x3⟩]
    concatenates_S1024x64_S1024x64_S1024x64_S1024x64_S1024x256_d1

/-- Those columns of the weights, as the call is given them. -/
def kvi (a : FVec Ideal S1024x8652 .bf16) : FVec Ideal S1024x256 .bf16 :=
  kviOf (extractStridedSlice S1024x64 ![0, 5128] a slices_S1024x8652_S1024x64_0_5128)
    (extractStridedSlice S1024x64 ![0, 5192] a slices_S1024x8652_S1024x64_0_5192)
    (extractStridedSlice S1024x64 ![0, 5512] a slices_S1024x8652_S1024x64_0_5512)
    (broadcastInDim S1024x64 ![] bcast_S_S1024x64 (constant (F := Ideal) S_ .bf16 0x0000#16))

theorem kvi_entry (c : Dev nD) : V m c main_v17 = kvi (A' m c) := by
  have e0 : (StableHlo.upto hostOps0 (fun b => m (c, b)) 20 (Proc.devRef .tc main_v13) : FVec Ideal S1024x64 .bf16)
      = extractStridedSlice S1024x64 ![0, 5128] (A' m c) slices_S1024x8652_S1024x64_0_5128 := by
    simp only [StableHlo.upto, List.take]
    after_reads_simp
  have e1 : (StableHlo.upto hostOps0 (fun b => m (c, b)) 20 (Proc.devRef .tc main_v14) : FVec Ideal S1024x64 .bf16)
      = extractStridedSlice S1024x64 ![0, 5192] (A' m c) slices_S1024x8652_S1024x64_0_5192 := by
    simp only [StableHlo.upto, List.take]
    after_reads_simp
  have e2 : (StableHlo.upto hostOps0 (fun b => m (c, b)) 20 (Proc.devRef .tc main_v15) : FVec Ideal S1024x64 .bf16)
      = extractStridedSlice S1024x64 ![0, 5512] (A' m c) slices_S1024x8652_S1024x64_0_5512 := by
    simp only [StableHlo.upto, List.take]
    after_reads_simp
  have e3 : (StableHlo.upto hostOps0 (fun b => m (c, b)) 20 (Proc.devRef .tc main_v16) : FVec Ideal S1024x64 .bf16)
      = broadcastInDim S1024x64 ![] bcast_S_S1024x64 (constant (F := Ideal) S_ .bf16 0x0000#16) := by
    simp only [StableHlo.upto, List.take]
    after_reads_simp
  show StableHlo.after hostOps0 (fun b => m (c, b)) _ = _
  after_reads_simp
  show kviOf (StableHlo.upto hostOps0 (fun b => m (c, b)) 20 (Proc.devRef .tc main_v13))
    (StableHlo.upto hostOps0 (fun b => m (c, b)) 20 (Proc.devRef .tc main_v14))
    (StableHlo.upto hostOps0 (fun b => m (c, b)) 20 (Proc.devRef .tc main_v15))
    (StableHlo.upto hostOps0 (fun b => m (c, b)) 20 (Proc.devRef .tc main_v16)) = _
  rw [e0, e1, e2, e3]
  rfl

theorem kvi_row (a : FVec Ideal S1024x8652 .bf16) (j : Fin 1024) (k : Fin 256) :
    kvi a (ix2 j k) = if h : k.val < 64 then a (ix2 j ⟨5128 + k.val, by omega⟩)
      else if h : k.val - 64 < 64 then a (ix2 j ⟨5192 + (k.val - 64), by omega⟩)
      else if h : k.val - 64 - 64 < 64 then a (ix2 j ⟨5512 + (k.val - 64 - 64), by omega⟩) else 0 := by
  pointwise [kvi, kviOf]

theorem blk8 (c : Dev nD) (t : Fin cfg0.N) (j : Fin 1024) (k : Fin 256) :
    iblk m c 8 t (ix2 j k) = if h : k.val < 64 then A m c (ix2 j ⟨5128 + k.val, by omega⟩)
      else if h : k.val - 64 < 64 then A m c (ix2 j ⟨5192 + (k.val - 64), by omega⟩)
      else if h : k.val - 64 - 64 < 64 then A m c (ix2 j ⟨5512 + (k.val - 64 - 64), by omega⟩) else 0 := by
  have e : V m c main_v17 = kvi (A' m c) := kvi_entry m c
  refine Eq.trans ?_ (kvi_row (A' m c) j k)
  rw [← e]
  exact congrArg (V m c main_v17) (emb8 t j k)

theorem blk7 (c : Dev nD) (t : Fin cfg0.N) (j : Fin 1024) (k : Fin 512) :
    iblk m c 7 t (ix2 j k) = A m c (ix2 j ⟨4616 + k.val, by omega⟩) * Ideal.ofBits FTy.bf16 0x3E00#16 := by
  have e : V m c main_v12 = (mulf (extractStridedSlice S1024x512 ![0, 4616] (A' m c) slices_S1024x8652_S1024x512_0_4616) (broadcastInDim S1024x512 ![] bcast_S_S1024x512 (constant (F := Ideal) S_ .bf16 0x3E00#16)) : FVec Ideal S1024x512 .bf16) := by
    entry_read
    rfl
  have r : (mulf (extractStridedSlice S1024x512 ![0, 4616] (A' m c) slices_S1024x8652_S1024x512_0_4616) (broadcastInDim S1024x512 ![] bcast_S_S1024x512 (constant (F := Ideal) S_ .bf16 0x3E00#16)) : FVec Ideal S1024x512 .bf16) (ix2 j k) = A m c (ix2 j ⟨4616 + k.val, by omega⟩) * Ideal.ofBits FTy.bf16 0x3E00#16 := by
    pointwise
  refine Eq.trans ?_ r
  rw [← e]
  exact congrArg (V m c main_v12) (emb7 t j k)

theorem blk11 (c : Dev nD) (t : Fin cfg0.N) (i : Fin 3) (k : Fin 512) :
    iblk m c 11 t (ix2 i k) = m ((c.tc : Thread nD τ).loc main_arg3) (ix2 i k) := by
  show V m c main_arg3 _ = _
  rw [V_main_arg3]
  exact congrArg (m ((c.tc : Thread nD τ).loc main_arg3)) (emb11 t i k)

theorem blk12 (c : Dev nD) (t : Fin cfg0.N) (i : Fin 512) (k : Fin 1024) :
    iblk m c 12 t (ix2 i k) = m ((c.tc : Thread nD τ).loc main_arg4) (ix2 i k) := by
  have e : V m c main_v20 = (truncf (F := Ideal) (φ := .f32) .bf16 (m ((c.tc : Thread nD τ).loc main_arg4))
      bitsLt_bf16_f32 : FVec Ideal S512x1024 .bf16) := by
    entry_read
    rfl
  show V m c main_v20 _ = _
  rw [e]
  exact congrArg (m ((c.tc : Thread nD τ).loc main_arg4)) (emb12 t i k)

theorem pay3_row (x0 : Vec Ideal S512x1024 .f32) (x1 : Vec Ideal S1x1024 .f32) (i : Fin 512) (k : Fin 1024) :
    k0_pay3 x0 x1 (ix2 i k) = Ffn.rms (fun j => x0 (ix2 i j)) (fun j => x1 (ix2 0 j)) k := by
  pointwise [k0_pay3]
  rfl

/-- The normed rows of a point. -/
abbrev normedBlk (c : Dev nD) (t : Fin cfg0.N) : FVec Ideal S512x1024 .bf16 := k0_pay3 (iblk m c 0 t) (iblk m c 1 t)

/-- The normed rows times one column of the weights. -/
theorem cols (c : Dev nD) (t : Fin cfg0.N) (i : Fin 512) (k : Fin 8652) :
    ∑ j, normedBlk m c t (ix2 i j) * A m c (ix2 j k) = Q m c (ix2 (row t i) k) := by
  refine Eq.trans ?_ (proj_row _ _ _ _ _).symm
  refine Finset.sum_congr rfl fun j _ => ?_
  rw [Ffn.normed_row, show normedBlk m c t (ix2 i j) = _ from pay3_row _ _ i j]
  simp only [blk0, blk1]

theorem pay4_row (x0 : Vec Ideal S512x1024 .f32) (x1 : Vec Ideal S1x1024 .f32) (w : Vec Ideal S1024x1024 .bf16)
    (i : Fin 512) (k : Fin 1024) :
    k0_pay4 x0 x1 w (ix2 i k) = ∑ j, k0_pay3 x0 x1 (ix2 i j) * w (ix2 j k) := by
  pointwise [k0_pay4]

theorem pay5_row (x0 : Vec Ideal S512x1024 .f32) (x1 : Vec Ideal S1x1024 .f32) (w : Vec Ideal S1024x1024 .bf16)
    (i : Fin 512) (k : Fin 1024) :
    k0_pay5 x0 x1 w (ix2 i k) = ∑ j, k0_pay3 x0 x1 (ix2 i j) * w (ix2 j k) := by
  pointwise [k0_pay5]

theorem pay6_row (x0 : Vec Ideal S512x1024 .f32) (x1 : Vec Ideal S1x1024 .f32) (w : Vec Ideal S1024x1024 .bf16)
    (i : Fin 512) (k : Fin 1024) :
    k0_pay6 x0 x1 w (ix2 i k) = Ideal.logistic (∑ j, k0_pay3 x0 x1 (ix2 i j) * w (ix2 j k)) := by
  pointwise [k0_pay6]

theorem pay7_row (h : FVec Ideal S512x1024 .bf16) (w : Vec Ideal S1024x128 .bf16) (i : Fin 512) (k : Fin 128) :
    k0_pay7 h w (ix2 i k) = ∑ j, h (ix2 i j) * w (ix2 j k) := by
  pointwise [k0_pay7]

theorem pay9_row (h : FVec Ideal S512x1024 .bf16) (w : Vec Ideal S1024x256 .bf16) (i : Fin 512) (k : Fin 256) :
    k0_pay9 h w (ix2 i k) = ∑ j, h (ix2 i j) * w (ix2 j k) := by
  pointwise [k0_pay9]

theorem pay10_row (h : FVec Ideal S512x1024 .bf16) (w : Vec Ideal S1024x256 .bf16) (i : Fin 512) (k : Fin 256) :
    k0_pay10 h w (ix2 i k) = ∑ j, h (ix2 i j) * w (ix2 j k) := by
  pointwise [k0_pay10]

theorem pay13_row (h : FVec Ideal S512x1024 .bf16) (w : Vec Ideal S1024x1536 .bf16) (i : Fin 512) (k : Fin 1536) :
    k0_pay13 h w (ix2 i k) = ∑ j, h (ix2 i j) * w (ix2 j k) := by
  pointwise [k0_pay13]

theorem pay8_row (h : FVec Ideal S512x1024 .bf16) (w : Vec Ideal S1024x512 .bf16) (i : Fin 512) (k : Fin 512) :
    k0_pay8 h w (ix2 i k) = (∑ j, h (ix2 i j) * w (ix2 j k)) * Ideal.ofBits FTy.f32 0x3FB8AA3B#32 := by
  pointwise [k0_pay8]

theorem pay11_row (h : FVec Ideal S512x1024 .bf16) (w : Vec Ideal S1024x2048 .bf16) (i : Fin 512) (k : Fin 2048) :
    k0_pay11 h w (ix2 i k) = Ideal.logistic (∑ j, h (ix2 i j) * w (ix2 j k)) := by
  pointwise [k0_pay11]

theorem pay16_row (h : FVec Ideal S512x1024 .bf16) (w : Vec Ideal S1024x1536 .bf16) (i : Fin 512) (k : Fin 512) :
    k0_pay16 h w (ix2 i k) = k0_pay13 h w (ix2 i ⟨512 + k.val, by omega⟩) * k0_pay13 h w (ix2 i ⟨1024 + k.val, by omega⟩) := by
  pointwise [k0_pay16, k0_pay15]

theorem pay14_row (h : FVec Ideal S512x1024 .bf16) (w : Vec Ideal S1024x1536 .bf16) (i : Fin 512) (k : Fin 512) :
    k0_pay14 h w (ix2 i k) = k0_pay13 h w (ix2 i ⟨k.val, by omega⟩) := by
  pointwise [k0_pay14]

theorem pay17_row (h : FVec Ideal S512x1024 .bf16) (w : Vec Ideal S1024x1536 .bf16) (b2 b1 : Vec Ideal S512x512 .f32)
    (a0 a1 a2 : Vec Ideal S1x512 .f32) (i : Fin 512) (k : Fin 512) :
    k0_pay17 h w b2 a0 b1 a1 a2 (ix2 i k) = b2 (ix2 i k) * a0 (ix2 0 k) + b1 (ix2 i k) * a1 (ix2 0 k)
      + k0_pay16 h w (ix2 i k) * a2 (ix2 0 k) := by
  pointwise [k0_pay17, k0_pay16]

theorem pay2_row (h : FVec Ideal S512x1024 .bf16) (b y : FVec Ideal S512x512 .f32) (o : Vec Ideal S512x1024 .bf16)
    (g : Vec Ideal S1024x1024 .bf16) (i : Fin 512) (k : Fin 1024) :
    k0_pay2 h b y o g (ix2 i k) = Ideal.logistic (∑ j, h (ix2 i j) * g (ix2 j k))
      * ∑ j, b (ix2 i j) * y (ix2 i j) * o (ix2 j k) := by
  pointwise [k0_pay2]

end Cert.Proof.MixIn

end

end
-- ==== Proof.MixInOut.lean ====
/-
  The mixer's input projections (`Kernel5Ideal`): what one grid point leaves in each result's block and in the scratch
  that carries the last rows of a block to the next one.
-/
module

public import proofs.«01_k».proof.Proof.MixInBlk
public import Idealize.ShloMosaic.Lib.Pipeline.ReadBack
public import Idealize.ShloMosaic.Lib.WritesUnit

@[expose] public section

set_option maxRecDepth 16384

noncomputable section

namespace Cert.Proof.MixIn

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

theorem out14 (c : Dev nD) (t : Fin cfg0.N) :
    (outsAt0 m c t.val t.isLt).2.1 = k0_pay4 (iblk m c 0 t) (iblk m c 1 t) (iblk m c 3 t) := by
  by_cases h : t.val % 8 = 0
  · rw [outsAt0_A m c t h]
    frame_out
  · rw [outsAt0_B m c t h]
    frame_out

theorem out15 (c : Dev nD) (t : Fin cfg0.N) :
    (outsAt0 m c t.val t.isLt).2.2.1 = k0_pay5 (iblk m c 0 t) (iblk m c 1 t) (iblk m c 4 t) := by
  by_cases h : t.val % 8 = 0
  · rw [outsAt0_A m c t h]
    frame_out
  · rw [outsAt0_B m c t h]
    frame_out

theorem out16 (c : Dev nD) (t : Fin cfg0.N) :
    (outsAt0 m c t.val t.isLt).2.2.2.1 = k0_pay6 (iblk m c 0 t) (iblk m c 1 t) (iblk m c 5 t) := by
  by_cases h : t.val % 8 = 0
  · rw [outsAt0_A m c t h]
    frame_out
  · rw [outsAt0_B m c t h]
    frame_out

theorem out17 (c : Dev nD) (t : Fin cfg0.N) :
    (outsAt0 m c t.val t.isLt).2.2.2.2.1 = k0_pay7 (normedBlk m c t) (iblk m c 6 t) := by
  by_cases h : t.val % 8 = 0
  · rw [outsAt0_A m c t h]
    frame_out
  · rw [outsAt0_B m c t h]
    frame_out

theorem out18 (c : Dev nD) (t : Fin cfg0.N) :
    (outsAt0 m c t.val t.isLt).2.2.2.2.2.1 = k0_pay8 (normedBlk m c t) (iblk m c 7 t) := by
  by_cases h : t.val % 8 = 0
  · rw [outsAt0_A m c t h]
    frame_out
  · rw [outsAt0_B m c t h]
    frame_out

theorem out19 (c : Dev nD) (t : Fin cfg0.N) :
    (outsAt0 m c t.val t.isLt).2.2.2.2.2.2.1 = k0_pay9 (normedBlk m c t) (iblk m c 8 t) := by
  by_cases h : t.val % 8 = 0
  · rw [outsAt0_A m c t h]
    frame_out
  · rw [outsAt0_B m c t h]
    frame_out

theorem out20 (c : Dev nD) (t : Fin cfg0.N) :
    (outsAt0 m c t.val t.isLt).2.2.2.2.2.2.2.1 = k0_pay10 (normedBlk m c t) (iblk m c 9 t) := by
  by_cases h : t.val % 8 = 0
  · rw [outsAt0_A m c t h]
    frame_out
  · rw [outsAt0_B m c t h]
    frame_out

theorem out21 (c : Dev nD) (t : Fin cfg0.N) :
    (outsAt0 m c t.val t.isLt).2.2.2.2.2.2.2.2.1 = k0_pay11 (k0_pay3 (iblk m c 0 t) (iblk m c 1 t))
      (View.ld (iblk m c 10 t) (Rect.unit ![0, 1024] ![1024, 2048] inb_S1024x3072_S1024x2048_0_1024)) := by
  by_cases h : t.val % 8 = 0
  · rw [outsAt0_A m c t h]
    frame_out
    rfl
  · rw [outsAt0_B m c t h]
    frame_out
    rfl

/-- What the convolution runs over, in block `t`. -/
abbrev ublk (c : Dev nD) (t : Fin cfg0.N) : FVec Ideal S512x512 .f32 := k0_pay16 (normedBlk m c t) (iblk m c 2 t)

theorem ublk_row (c : Dev nD) (t : Fin cfg0.N) (i k : Fin 512) :
    ublk m c t (ix2 i k) = conved (Q m c) (ix2 (row t i) k) := by
  refine (pay16_row _ _ i k).trans (Eq.trans ?_ (conved_row _ _ _).symm)
  rw [pay13_row, pay13_row, ← cols m c t i ⟨512 + k.val, by omega⟩, ← cols m c t i ⟨1024 + k.val, by omega⟩]
  simp only [blk2]

section canon

variable {e : EltTy} {Val : EltTy → Type} [∀ e, Nonempty (Val e)]

/-- An index inside the last piece written reads that piece. -/
theorem canon_in {off size : Fin 2 → ℕ} (inb : ∀ a : Fin 2, off a + size a ≤ S520x512.size a)
    (w : (Rect.unit (s := S520x512) off size inb).shape.Idx → Val e) (L : List (View.Piece Val S520x512 e))
    (y : S520x512.Idx) (x : (Rect.unit (s := S520x512) off size inb).shape.Idx)
    (h0 : (y (0 : Fin 2)).val = off 0 + (x (0 : Fin 2)).val) (h1 : (y (1 : Fin 2)).val = off 1 + (x (1 : Fin 2)).val) :
    View.canon ((⟨Rect.unit (s := S520x512) off size inb, w⟩ : View.Piece Val S520x512 e) :: L) y = w x := by
  have hy : (Rect.unit (s := S520x512) off size inb).emb x = y := by
    funext a
    refine Fin.ext ?_
    revert a
    refine Fin.forall_fin_two.mpr ⟨?_, ?_⟩
    · show off 0 + 1 * (x (0 : Fin 2)).val = (y (0 : Fin 2)).val
      rw [h0, one_mul]
    · show off 1 + 1 * (x (1 : Fin 2)).val = (y (1 : Fin 2)).val
      rw [h1, one_mul]
  rw [← hy]
  exact View.canon_cons_emb _ _ _ _

/-- A row before the last piece written reads the earlier pieces. -/
theorem canon_out {off size : Fin 2 → ℕ} (inb : ∀ a : Fin 2, off a + size a ≤ S520x512.size a)
    (w : (Rect.unit (s := S520x512) off size inb).shape.Idx → Val e) (L : List (View.Piece Val S520x512 e))
    (y : S520x512.Idx) (ha : (y (0 : Fin 2)).val < off 0) :
    View.canon ((⟨Rect.unit (s := S520x512) off size inb, w⟩ : View.Piece Val S520x512 e) :: L) y
      = View.canon L y := by
  refine View.canon_cons_of_not_mem _ _ fun hm => ?_
  obtain ⟨x, hx⟩ := (Rect.unit (s := S520x512) off size inb).exists_idx_of_mem hm
  have h1 : off 0 + 1 * (x (0 : Fin 2)).val = (y (0 : Fin 2)).val :=
    congrArg (fun z : S520x512.Idx => (z (0 : Fin 2)).val) hx
  omega

end canon

theorem pay1_row (x : Vec Ideal S8x512 .f32) (i : Fin 8) (k : Fin 512) : k0_pay1 x (ix2 i k) = x (ix2 i k) := by
  pointwise [k0_pay1]

theorem pay12_row (i : Fin 8) (k : Fin 512) : k0_pay12 (F := Ideal) (ix2 i k) = 0 := by
  pointwise [k0_pay12]

/-- The last eight rows of the block, read back from the scratch. -/
theorem tail_read (u : FVec Ideal S512x512 .f32) (L : List (View.Piece (Elt Ideal) S520x512 .f32)) (r : Fin 8)
    (k : Fin 512) :
    k0_pay1 ((View.whole cc0_scratch0).readCov
      (⟨Rect.unit ![8, 0] ![512, 512] inb_S520x512_S512x512_8_0, u⟩ :: L)
      (Rect.unit ![512, 0] ![8, 512] inb_S520x512_S8x512_512_0).toLoadRect) (ix2 r k)
      = u (ix2 ⟨504 + r.val, by omega⟩ k) := by
  rw [pay1_row, View.readCov_eq_canon']
  refine canon_in _ _ _ _ (ix2 (⟨504 + r.val, by omega⟩ : Fin 512) k) ?_ ?_
  · show 512 + 1 * r.val = 8 + (504 + r.val)
    omega
  · show 0 + 1 * k.val = 0 + k.val
    omega

/-- The scratch's rows before the block, after a point: the last eight rows of that point's block. -/
theorem scratch_tail (c : Dev nD) (t : Fin cfg0.N) (r : Fin 520) (hr : r.val < 8) (k : Fin 512) :
    (outsAt0 m c t.val t.isLt).2.2.2.2.2.2.2.2.2 (ix2 r k) = ublk m c t (ix2 ⟨504 + r.val, by omega⟩ k) := by
  by_cases h : t.val % 8 = 0
  · rw [outsAt0_A m c t h]
    frame_out
    refine (canon_in _ _ _ _ (ix2 (⟨r.val, hr⟩ : Fin 8) k) ?_ ?_).trans ?_
    · exact (Nat.zero_add _).symm
    · exact (Nat.zero_add _).symm
    exact tail_read _ _ ⟨r.val, hr⟩ k
  · rw [outsAt0_B m c t h]
    frame_out
    refine (canon_in _ _ _ _ (ix2 (⟨r.val, hr⟩ : Fin 8) k) ?_ ?_).trans ?_
    · exact (Nat.zero_add _).symm
    · exact (Nat.zero_add _).symm
    exact tail_read _ _ ⟨r.val, hr⟩ k

/-- At the first block of a sequence: `d` rows back within the block, zero before it. -/
theorem tap_first (u : FVec Ideal S512x512 .f32) (o d : ℕ) (hd : o + d = 8)
    (inb : ∀ a : Fin 2, (![o, 0] : Fin 2 → ℕ) a + (![512, 512] : Fin 2 → ℕ) a ≤ S520x512.size a) (i k : Fin 512) :
    (View.whole cc0_scratch0).readCov (Val := Elt Ideal)
      [⟨Rect.unit ![8, 0] ![512, 512] inb_S520x512_S512x512_8_0, u⟩,
        ⟨Rect.unit ![0, 0] ![8, 512] inb_S520x512_S8x512_0_0, k0_pay12 (F := Ideal)⟩]
      (Rect.unit (s := S520x512) ![o, 0] ![512, 512] inb).toLoadRect (ix2 i k)
      = if d ≤ i.val then u (ix2 ⟨i.val - d, by omega⟩ k) else 0 := by
  rw [View.readCov_eq_canon']
  by_cases h : d ≤ i.val
  · rw [if_pos h]
    refine canon_in _ _ _ _ (ix2 (⟨i.val - d, by omega⟩ : Fin 512) k) ?_ ?_
    · show o + 1 * i.val = 8 + (i.val - d)
      omega
    · show 0 + 1 * k.val = 0 + k.val
      omega
  · rw [if_neg h]
    refine (canon_out _ _ _ _ ?_).trans ?_
    · show o + 1 * i.val < 8
      omega
    refine (canon_in _ _ _ _ (ix2 (⟨o + i.val, by omega⟩ : Fin 8) k) ?_ ?_).trans (pay12_row _ _)
    · show o + 1 * i.val = 0 + (o + i.val)
      omega
    · show 0 + 1 * k.val = 0 + k.val
      omega

/-- At a later block: `d` rows back within the block, the carried rows before it. -/
theorem tap_later (u : FVec Ideal S512x512 .f32) (f : (View.whole cc0_scratch0).ty.Contents (Elt Ideal)) (o d : ℕ)
    (hd : o + d = 8)
    (inb : ∀ a : Fin 2, (![o, 0] : Fin 2 → ℕ) a + (![512, 512] : Fin 2 → ℕ) a ≤ S520x512.size a) (i k : Fin 512) :
    View.ld (View.read (Elt Ideal) (View.whole cc0_scratch0) ((View.whole cc0_scratch0).writes (Elt Ideal) f
      [⟨Rect.unit ![8, 0] ![512, 512] inb_S520x512_S512x512_8_0, u⟩]))
      (Rect.unit (s := S520x512) ![o, 0] ![512, 512] inb) (ix2 i k)
      = if d ≤ i.val then u (ix2 ⟨i.val - d, by omega⟩ k)
        else View.read (Elt Ideal) (View.whole cc0_scratch0) f (ix2 ⟨o + i.val, by omega⟩ k) := by
  have hy : (Rect.unit (s := S520x512) ![o, 0] ![512, 512] inb).emb (ix2 i k)
      = (ix2 (⟨o + i.val, by omega⟩ : Fin 520) k : S520x512.Idx) := by
    funext a
    refine Fin.ext ?_
    revert a
    refine Fin.forall_fin_two.mpr ⟨?_, ?_⟩
    · show o + 1 * i.val = o + i.val
      omega
    · show 0 + 1 * k.val = k.val
      omega
  refine (congrArg (View.read (Elt Ideal) (View.whole cc0_scratch0) ((View.whole cc0_scratch0).writes (Elt Ideal) f
      [⟨Rect.unit ![8, 0] ![512, 512] inb_S520x512_S512x512_8_0, u⟩])) hy).trans ?_
  by_cases h : d ≤ i.val
  · rw [if_pos h]
    refine View.read_writes_cons_rows_of_mem (o := 8) _ _ _ _ _ _ (ix2 (⟨i.val - d, by omega⟩ : Fin 512) k) rfl ?_ rfl
    show o + i.val = 8 + (i.val - d)
    omega
  · rw [if_neg h]
    refine View.read_writes_cons_rows_of_not_mem (o := 8) (W := 512) _ _ _ _ _ _ rfl rfl (Or.inl ?_)
    show o + i.val < 8
    omega

/-- Rows of the first block of a sequence, `d` rows back. -/
theorem back_first (c : Dev nD) (t : Fin cfg0.N) (h : t.val % 8 = 0) (d : ℕ) (i k : Fin 512) :
    (if d ≤ i.val then ublk m c t (ix2 ⟨i.val - d, by omega⟩ k) else 0) = back (conved (Q m c)) d (row t i) k := by
  have e : (row t i).val = t.val * 512 + i.val := rfl
  unfold back
  by_cases g : d ≤ i.val
  · rw [if_pos g, if_pos (by omega)]
    refine (ublk_row m c t _ k).trans ?_
    refine congrArg (fun n : Fin 65536 => conved (Q m c) (ix2 n k)) (Fin.ext ?_)
    show t.val * 512 + (i.val - d) = (row t i).val - d
    omega
  · rw [if_neg g, if_neg (by omega)]

/-- Rows of a later block, `d` rows back. -/
theorem back_later (c : Dev nD) (t s : Fin cfg0.N) (hs : s.val + 1 = t.val) (h : ¬ t.val % 8 = 0) (o d : ℕ)
    (hd : o + d = 8) (i k : Fin 512) :
    (if d ≤ i.val then ublk m c t (ix2 ⟨i.val - d, by omega⟩ k)
      else (outsAt0 m c s.val s.isLt).2.2.2.2.2.2.2.2.2 (ix2 ⟨o + i.val, by omega⟩ k))
      = back (conved (Q m c)) d (row t i) k := by
  have e : (row t i).val = t.val * 512 + i.val := rfl
  have hi := i.isLt
  have hd' : d ≤ (row t i).val % 4096 := by omega
  unfold back
  rw [if_pos hd']
  by_cases g : d ≤ i.val
  · rw [if_pos g]
    refine (ublk_row m c t _ k).trans ?_
    refine congrArg (fun n : Fin 65536 => conved (Q m c) (ix2 n k)) (Fin.ext ?_)
    show t.val * 512 + (i.val - d) = (row t i).val - d
    omega
  · rw [if_neg g]
    refine (scratch_tail m c s ⟨o + i.val, by omega⟩ (by show o + i.val < 8; omega) k).trans ((ublk_row m c s _ k).trans ?_)
    refine congrArg (fun n : Fin 65536 => conved (Q m c) (ix2 n k)) (Fin.ext ?_)
    show s.val * 512 + (504 + (o + i.val)) = (row t i).val - d
    omega

/-- The block of the convolution branch, the two rows before each row being those of the sequence. -/
theorem out13 (c : Dev nD) (t : Fin cfg0.N) : ∃ b2 b1 : FVec Ideal S512x512 .f32,
    (∀ i k, b2 (ix2 i k) = back (conved (Q m c)) 2 (row t i) k)
    ∧ (∀ i k, b1 (ix2 i k) = back (conved (Q m c)) 1 (row t i) k)
    ∧ (outsAt0 m c t.val t.isLt).1 = k0_pay2 (normedBlk m c t) (k0_pay14 (normedBlk m c t) (iblk m c 2 t))
      (k0_pay17 (normedBlk m c t) (iblk m c 2 t)
        b2 (View.ld (iblk m c 11 t) (Rect.unit ![0, 0] ![1, 512] inb_S3x512_S1x512_0_0))
        b1 (View.ld (iblk m c 11 t) (Rect.unit ![1, 0] ![1, 512] inb_S3x512_S1x512_1_0))
        (View.ld (iblk m c 11 t) (Rect.unit ![2, 0] ![1, 512] inb_S3x512_S1x512_2_0)))
      (iblk m c 12 t) (View.ld (iblk m c 10 t) (Rect.unit ![0, 0] ![1024, 1024] inb_S1024x3072_S1024x1024_0_0)) := by
  by_cases h : t.val % 8 = 0
  · apply Exists.intro
    apply Exists.intro
    refine ⟨fun i k => ?_, fun i k => ?_, ?_⟩
    rotate_left 2
    · rw [outsAt0_A m c t h]
      frame_out
      rfl
    · exact (tap_first (ublk m c t) 6 2 rfl _ i k).trans (back_first m c t h 2 i k)
    · exact (tap_first (ublk m c t) 7 1 rfl _ i k).trans (back_first m c t h 1 i k)
  · have ht := t.isLt
    apply Exists.intro
    apply Exists.intro
    refine ⟨fun i k => ?_, fun i k => ?_, ?_⟩
    rotate_left 2
    · rw [outsAt0_B m c t h]
      frame_out
      rfl
    · refine (tap_later (ublk m c t) _ 6 2 rfl _ i k).trans ?_
      rw [read_unread_whole]
      exact back_later m c t ⟨t.val - 1, by omega⟩ (by show t.val - 1 + 1 = t.val; omega) h 6 2 rfl i k
    · refine (tap_later (ublk m c t) _ 7 1 rfl _ i k).trans ?_
      rw [read_unread_whole]
      exact back_later m c t ⟨t.val - 1, by omega⟩ (by show t.val - 1 + 1 = t.val; omega) h 7 1 rfl i k

end Cert.Proof.MixIn

end

end
-- ==== Proof.MixIn.lean ====
/-
  The mixer's input projections (`Kernel5Ideal`): each of the nine arrays that the row blocks fill is the reference's
  (`Reference5Ideal`) function of the arguments.
-/
module

public import proofs.«01_k».proof.Proof.MixInOut

@[expose] public section

set_option maxRecDepth 16384

noncomputable section

namespace Cert.Proof.MixIn

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- One eighth, in half precision. -/
theorem eighth_bf16 : Ideal.ofBits FTy.bf16 0x3E00#16 = (((1 : ℝ) / 8 : ℝ) : EReal) := by
  simp [Ideal.ofBits, Ideal.ieee, -EReal.coe_mul]; norm_num

/-- One eighth, in single precision. -/
theorem eighth_f32 : Ideal.ofBits FTy.f32 0x3E000000#32 = (((1 : ℝ) / 8 : ℝ) : EReal) := by
  simp [Ideal.ofBits, Ideal.ieee, -EReal.coe_mul]; norm_num

/-- A nonnegative real factor of every summand. -/
theorem sum_scaled {ι : Type} (s : Finset ι) (f g : ι → EReal) (x : ℝ) (hx : 0 ≤ x) :
    ∑ j ∈ s, f j * (g j * (x : EReal)) = (∑ j ∈ s, f j * g j) * (x : EReal) := by
  classical
  induction s using Finset.induction_on with
  | empty => simp
  | insert a s ha ih =>
    rw [Finset.sum_insert ha, Finset.sum_insert ha, ih,
      EReal.right_distrib_of_nonneg_of_ne_top (EReal.coe_nonneg.mpr hx) (EReal.coe_ne_top x), mul_assoc]

/-- The first gate columns of the weights. -/
theorem gate0 (c : Dev nD) (t : Fin cfg0.N) (j k : Fin 1024) :
    View.ld (iblk m c 10 t) (Rect.unit ![0, 0] ![1024, 1024] inb_S1024x3072_S1024x1024_0_0) (ix2 j k)
      = A m c (ix2 j ⟨5580 + k.val, by omega⟩) := by
  have e : (Rect.unit (s := S1024x3072) ![0, 0] ![1024, 1024] inb_S1024x3072_S1024x1024_0_0).emb (ix2 j k)
      = (ix2 j (⟨k.val, by omega⟩ : Fin 3072) : S1024x3072.Idx) := by
    funext a
    refine Fin.ext ?_
    revert a
    refine Fin.forall_fin_two.mpr ⟨?_, ?_⟩
    · show 0 + 1 * j.val = j.val
      omega
    · show 0 + 1 * k.val = k.val
      omega
  exact (congrArg (iblk m c 10 t) e).trans (blk10 m c t j _)

/-- The other gate columns. -/
theorem gate1 (c : Dev nD) (t : Fin cfg0.N) (j : Fin 1024) (k : Fin 2048) :
    View.ld (iblk m c 10 t) (Rect.unit ![0, 1024] ![1024, 2048] inb_S1024x3072_S1024x2048_0_1024) (ix2 j k)
      = A m c (ix2 j ⟨5580 + (1024 + k.val), by omega⟩) := by
  have e : (Rect.unit (s := S1024x3072) ![0, 1024] ![1024, 2048] inb_S1024x3072_S1024x2048_0_1024).emb (ix2 j k)
      = (ix2 j (⟨1024 + k.val, by omega⟩ : Fin 3072) : S1024x3072.Idx) := by
    funext a
    refine Fin.ext ?_
    revert a
    refine Fin.forall_fin_two.mpr ⟨?_, ?_⟩
    · show 0 + 1 * j.val = j.val
      omega
    · show 1024 + 1 * k.val = 1024 + k.val
      omega
  exact (congrArg (iblk m c 10 t) e).trans (blk10 m c t j _)

/-- One row of the convolution's weights. -/
theorem wrow (c : Dev nD) (t : Fin cfg0.N) (o : ℕ) (ho : o < 3)
    (inb : ∀ a : Fin 2, (![o, 0] : Fin 2 → ℕ) a + (![1, 512] : Fin 2 → ℕ) a ≤ S3x512.size a) (k : Fin 512) :
    View.ld (iblk m c 11 t) (Rect.unit (s := S3x512) ![o, 0] ![1, 512] inb) (ix2 (0 : Fin 1) k)
      = m ((c.tc : Thread nD τ).loc main_arg3) (ix2 (⟨o, ho⟩ : Fin 3) k) := by
  have e : (Rect.unit (s := S3x512) ![o, 0] ![1, 512] inb).emb (ix2 (0 : Fin 1) k)
      = (ix2 (⟨o, ho⟩ : Fin 3) k : S3x512.Idx) := by
    funext a
    refine Fin.ext ?_
    revert a
    refine Fin.forall_fin_two.mpr ⟨?_, ?_⟩
    · show o + 1 * 0 = o
      omega
    · show 0 + 1 * k.val = k.val
      omega
  exact (congrArg (iblk m c 11 t) e).trans (blk11 m c t _ _)

theorem value14 (c : Dev nD) : (Gen.dats m 0 c).arrAt 14 (cfgs 0).N = resQk (Q m c) := by
  refine (Gen.dats m 0 c).arrAt_eq_of_covers 14 _ (by decide +kernel) fun t hf y => ?_
  blk_simp
  rw [after0_14]
  obtain ⟨i, k, rfl⟩ : ∃ (i : Fin 512) (k : Fin 1024), y = ix2 i k :=
    ⟨y 0, y 1, by funext a; fin_cases a <;> rfl⟩
  refine Eq.trans ?_ (congrArg (resQk (Q m c)) (emb14 t i k)).symm
  refine Eq.trans ?_ (resQk_row _ _ _).symm
  rw [out14]
  refine (pay4_row _ _ _ i k).trans (Eq.trans ?_ (cols m c t i _))
  exact Finset.sum_congr rfl fun j _ => congrArg _ (blk3 m c t j k)

theorem value15 (c : Dev nD) : (Gen.dats m 0 c).arrAt 15 (cfgs 0).N = resV (Q m c) := by
  refine (Gen.dats m 0 c).arrAt_eq_of_covers 15 _ (by decide +kernel) fun t hf y => ?_
  blk_simp
  rw [after0_15]
  obtain ⟨i, k, rfl⟩ : ∃ (i : Fin 512) (k : Fin 1024), y = ix2 i k :=
    ⟨y 0, y 1, by funext a; fin_cases a <;> rfl⟩
  refine Eq.trans ?_ (congrArg (resV (Q m c)) (emb15 t i k)).symm
  refine Eq.trans ?_ (resV_row _ _ _).symm
  rw [out15]
  refine (pay5_row _ _ _ i k).trans (Eq.trans ?_ (cols m c t i _))
  exact Finset.sum_congr rfl fun j _ => congrArg _ (blk4 m c t j k)

theorem value16 (c : Dev nD) : (Gen.dats m 0 c).arrAt 16 (cfgs 0).N = resO (Q m c) := by
  refine (Gen.dats m 0 c).arrAt_eq_of_covers 16 _ (by decide +kernel) fun t hf y => ?_
  blk_simp
  rw [after0_16]
  obtain ⟨i, k, rfl⟩ : ∃ (i : Fin 512) (k : Fin 1024), y = ix2 i k :=
    ⟨y 0, y 1, by funext a; fin_cases a <;> rfl⟩
  refine Eq.trans ?_ (congrArg (resO (Q m c)) (emb16 t i k)).symm
  refine Eq.trans ?_ (resO_row _ _ _).symm
  rw [out16]
  refine (pay6_row _ _ _ i k).trans (congrArg Ideal.logistic (Eq.trans ?_ (cols m c t i _)))
  exact Finset.sum_congr rfl fun j _ => congrArg _ (blk5 m c t j k)

theorem value20 (c : Dev nD) : (Gen.dats m 0 c).arrAt 20 (cfgs 0).N = resIq (Q m c) := by
  refine (Gen.dats m 0 c).arrAt_eq_of_covers 20 _ (by decide +kernel) fun t hf y => ?_
  blk_simp
  rw [after0_20]
  obtain ⟨i, k, rfl⟩ : ∃ (i : Fin 512) (k : Fin 256), y = ix2 i k :=
    ⟨y 0, y 1, by funext a; fin_cases a <;> rfl⟩
  refine Eq.trans ?_ (congrArg (resIq (Q m c)) (emb20 t i k)).symm
  refine Eq.trans ?_ (resIq_row _ _ _).symm
  rw [out20]
  refine (pay10_row _ _ i k).trans (Eq.trans ?_ (cols m c t i _))
  exact Finset.sum_congr rfl fun j _ => congrArg _ (blk9 m c t j k)

theorem value21 (c : Dev nD) : (Gen.dats m 0 c).arrAt 21 (cfgs 0).N = resGates (Q m c) := by
  refine (Gen.dats m 0 c).arrAt_eq_of_covers 21 _ (by decide +kernel) fun t hf y => ?_
  blk_simp
  rw [after0_21]
  obtain ⟨i, k, rfl⟩ : ∃ (i : Fin 512) (k : Fin 2048), y = ix2 i k :=
    ⟨y 0, y 1, by funext a; fin_cases a <;> rfl⟩
  refine Eq.trans ?_ (congrArg (resGates (Q m c)) (emb21 t i k)).symm
  refine Eq.trans ?_ (resGates_row _ _ _).symm
  rw [out21]
  refine (pay11_row _ _ i k).trans (congrArg Ideal.logistic (Eq.trans ?_ (cols m c t i _)))
  exact Finset.sum_congr rfl fun j _ => congrArg _ (gate1 m c t j k)

/-- Columns of zeros. -/
theorem zero_cols (h : Fin 1024 → EReal) (w : Fin 1024 → EReal) (e : ∀ j, w j = 0) : ∑ j, h j * w j = 0 := by
  simp only [e, mul_zero, Finset.sum_const_zero]

theorem value17 (c : Dev nD) : (Gen.dats m 0 c).arrAt 17 (cfgs 0).N = resSmall (Q m c) := by
  refine (Gen.dats m 0 c).arrAt_eq_of_covers 17 _ (by decide +kernel) fun t hf y => ?_
  blk_simp
  rw [after0_17]
  obtain ⟨i, k, rfl⟩ : ∃ (i : Fin 512) (k : Fin 128), y = ix2 i k :=
    ⟨y 0, y 1, by funext a; fin_cases a <;> rfl⟩
  refine Eq.trans ?_ (congrArg (resSmall (Q m c)) (emb17 t i k)).symm
  refine Eq.trans ?_ (resSmall_row _ _ _).symm
  rw [out17]
  refine (pay7_row _ _ i k).trans ?_
  by_cases h : k.val < 8
  · rw [dif_pos h]
    refine Eq.trans ?_ (cols m c t i _)
    exact Finset.sum_congr rfl fun j _ => congrArg _ ((blk6 m c t j k).trans (dif_pos h))
  · rw [dif_neg h]
    by_cases g : k.val - 8 < 4
    · rw [dif_pos g]
      refine Eq.trans ?_ (cols m c t i _)
      exact Finset.sum_congr rfl fun j _ => congrArg _ ((blk6 m c t j k).trans ((dif_neg h).trans (dif_pos g)))
    · rw [dif_neg g]
      exact zero_cols _ _ fun j => (blk6 m c t j k).trans ((dif_neg h).trans (dif_neg g))

theorem value18 (c : Dev nD) : (Gen.dats m 0 c).arrAt 18 (cfgs 0).N = resAq (Q m c) := by
  refine (Gen.dats m 0 c).arrAt_eq_of_covers 18 _ (by decide +kernel) fun t hf y => ?_
  blk_simp
  rw [after0_18]
  obtain ⟨i, k, rfl⟩ : ∃ (i : Fin 512) (k : Fin 512), y = ix2 i k :=
    ⟨y 0, y 1, by funext a; fin_cases a <;> rfl⟩
  refine Eq.trans ?_ (congrArg (resAq (Q m c)) (emb18 t i k)).symm
  refine Eq.trans ?_ (resAq_row _ _ _).symm
  rw [out18]
  refine (pay8_row _ _ i k).trans (congrArg (· * Ideal.ofBits FTy.f32 0x3FB8AA3B#32) ?_)
  rw [eighth_f32]
  refine Eq.trans ?_ (congrArg (· * (((1 : ℝ) / 8 : ℝ) : EReal)) (cols m c t i _))
  refine Eq.trans ?_ (sum_scaled _ _ _ _ (by norm_num))
  refine Finset.sum_congr rfl fun j _ => congrArg _ ?_
  rw [← eighth_bf16]
  exact blk7 m c t j k

theorem value19 (c : Dev nD) : (Gen.dats m 0 c).arrAt 19 (cfgs 0).N = resKvi (Q m c) := by
  refine (Gen.dats m 0 c).arrAt_eq_of_covers 19 _ (by decide +kernel) fun t hf y => ?_
  blk_simp
  rw [after0_19]
  obtain ⟨i, k, rfl⟩ : ∃ (i : Fin 512) (k : Fin 256), y = ix2 i k :=
    ⟨y 0, y 1, by funext a; fin_cases a <;> rfl⟩
  refine Eq.trans ?_ (congrArg (resKvi (Q m c)) (emb19 t i k)).symm
  refine Eq.trans ?_ (resKvi_row _ _ _).symm
  rw [out19]
  refine (pay9_row _ _ i k).trans ?_
  by_cases h : k.val < 64
  · rw [dif_pos (by omega)]
    refine Eq.trans ?_ (cols m c t i _)
    exact Finset.sum_congr rfl fun j _ => congrArg _ ((blk8 m c t j k).trans (dif_pos h))
  · by_cases g : k.val - 64 < 64
    · rw [dif_pos (by omega)]
      refine Eq.trans ?_ (cols m c t i _)
      refine Finset.sum_congr rfl fun j _ => congrArg _ ((blk8 m c t j k).trans ((dif_neg h).trans ((dif_pos g).trans ?_)))
      refine congrArg (fun n : Fin 8652 => A m c (ix2 j n)) (Fin.ext ?_)
      show 5192 + (k.val - 64) = 5128 + k.val
      omega
    · rw [dif_neg (by omega)]
      by_cases f : k.val - 64 - 64 < 64
      · rw [dif_pos (by omega)]
        refine Eq.trans ?_ (cols m c t i _)
        refine Finset.sum_congr rfl fun j _ => congrArg _
          ((blk8 m c t j k).trans ((dif_neg h).trans ((dif_neg g).trans ((dif_pos f).trans ?_))))
        refine congrArg (fun n : Fin 8652 => A m c (ix2 j n)) (Fin.ext ?_)
        show 5512 + (k.val - 64 - 64) = 5512 + (k.val - 128)
        omega
      · rw [dif_neg (by omega)]
        exact zero_cols _ _ fun j =>
          (blk8 m c t j k).trans ((dif_neg h).trans ((dif_neg g).trans (dif_neg f)))

theorem value13 (c : Dev nD) : (Gen.dats m 0 c).arrAt 13 (cfgs 0).N = resConv (Q m c) (m ((c.tc : Thread nD τ).loc main_arg3))
    (m ((c.tc : Thread nD τ).loc main_arg4)) := by
  refine (Gen.dats m 0 c).arrAt_eq_of_covers 13 _ (by decide +kernel) fun t hf y => ?_
  blk_simp
  rw [after0_13]
  obtain ⟨i, k, rfl⟩ : ∃ (i : Fin 512) (k : Fin 1024), y = ix2 i k :=
    ⟨y 0, y 1, by funext a; fin_cases a <;> rfl⟩
  refine Eq.trans ?_ (congrArg (resConv (Q m c) (m ((c.tc : Thread nD τ).loc main_arg3))
    (m ((c.tc : Thread nD τ).loc main_arg4))) (emb13 t i k)).symm
  refine Eq.trans ?_ (resConv_row _ _ _ _ _).symm
  obtain ⟨b2, b1, h2, h1, e⟩ := out13 m c t
  rw [e]
  refine (pay2_row _ _ _ _ _ i k).trans (congrArg₂ (· * ·) (congrArg Ideal.logistic ?_) ?_)
  · refine Eq.trans ?_ (cols m c t i _)
    exact Finset.sum_congr rfl fun j _ => congrArg _ (gate0 m c t j k)
  · refine Finset.sum_congr rfl fun j _ => congrArg₂ (· * ·) (congrArg₂ (· * ·) ?_ ?_) (blk12 m c t j k)
    · refine (pay14_row _ _ i j).trans ((pay13_row _ _ i _).trans (Eq.trans ?_ (cols m c t i _)))
      exact Finset.sum_congr rfl fun n _ => congrArg _ (blk2 m c t n _)
    · refine (pay17_row _ _ _ _ _ _ _ i j).trans (Eq.trans ?_ (conv_row _ _ _ _).symm)
      rw [h2, h1]
      refine congrArg₂ (· + ·) (congrArg₂ (· + ·) (congrArg _ ?_) (congrArg _ ?_)) (congrArg₂ (· * ·) ?_ ?_)
      · exact wrow m c t 0 (by omega) _ j
      · exact wrow m c t 1 (by omega) _ j
      · exact ublk_row m c t i j
      · exact wrow m c t 2 (by omega) _ j

end Cert.Proof.MixIn

end

end
-- ==== Proof.MixInEq.lean ====
/-
  The reference of the mixer's input projections (`Reference5Ideal`) leaves the functions of `MixInRef` of its arguments.
-/
module

public import proofs.«01_k».proof.Proof.MixInRef

@[expose] public section

set_option maxRecDepth 16384

noncomputable section

namespace Cert.Proof.MixIn

open Cert.Reference5Ideal Cert.Reference5Ideal.Gen Idealize.ShloMosaic Idealize.ShloMosaic.TcCoe Idealize.SL.Sem

variable (m : (ℓ : Loc nD τ sig) → Buf (Elt Ideal) ℓ)

/-- The array the results are read off, at the reference's arguments. -/
abbrev projAt (c : Dev nD) : FVec Ideal S65536x8652 .f32 :=
  proj (shapeCast _ (m ((c.tc : Thread nD τ).loc main_arg0)) shapeCasts_S16x4096x1024_S65536x1024)
    (m ((c.tc : Thread nD τ).loc main_arg1)) (m ((c.tc : Thread nD τ).loc main_arg2))

theorem refConv (c : Dev nD) : Value.res_main_v70 m c
    = resConv (projAt m c) (m ((c.tc : Thread nD τ).loc main_arg3)) (m ((c.tc : Thread nD τ).loc main_arg4)) := by
  unfold Value.res_main_v70 resConv conv convSeq tap0 tap1 tap2 padded conved gates projAt proj Ffn.normed
  rfl

/-- The nine results of the reference. -/
theorem ref_run (g : Dev nD → PrngReg) :
    θ_run defs (onTc (τ := τ) (main (F := Ideal))) ⟨m, fun _ => 0, g⟩ fun r => ∀ c : Dev nD,
      r.2.mem ((c.tc : Thread nD τ).loc main_v70)
        = resConv (projAt m c) (m ((c.tc : Thread nD τ).loc main_arg3)) (m ((c.tc : Thread nD τ).loc main_arg4))
      ∧ r.2.mem ((c.tc : Thread nD τ).loc main_v71) = resQk (projAt m c)
      ∧ r.2.mem ((c.tc : Thread nD τ).loc main_v72) = resV (projAt m c)
      ∧ r.2.mem ((c.tc : Thread nD τ).loc main_v79) = resO (projAt m c)
      ∧ r.2.mem ((c.tc : Thread nD τ).loc main_v63) = resSmall (projAt m c)
      ∧ r.2.mem ((c.tc : Thread nD τ).loc main_v80) = resAq (projAt m c)
      ∧ r.2.mem ((c.tc : Thread nD τ).loc main_v81) = resKvi (projAt m c)
      ∧ r.2.mem ((c.tc : Thread nD τ).loc main_v82) = resIq (projAt m c)
      ∧ r.2.mem ((c.tc : Thread nD τ).loc main_v84) = resGates (projAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine θ_run_mono (Value.run m g) fun r h c => ?_
  obtain ⟨h0, h1, h2, h3, h4, h5, h6, h7, h8, hk⟩ := h c
  refine ⟨h0.trans (refConv m c), h1.trans ?_, h2.trans ?_, h3.trans ?_, h4.trans ?_, h5.trans ?_, h6.trans ?_,
    h7.trans ?_, h8.trans ?_, hk⟩
  all_goals clear h0 h1 h2 h3 h4 h5 h6 h7 h8 hk
  · unfold resQk projAt proj Ffn.normed
    rfl
  · unfold resV projAt proj Ffn.normed
    rfl
  · unfold resO projAt proj Ffn.normed
    rfl
  · unfold resSmall projAt proj Ffn.normed
    rfl
  · unfold resAq projAt proj Ffn.normed
    rfl
  · unfold resKvi projAt proj Ffn.normed
    rfl
  · unfold resIq projAt proj Ffn.normed
    rfl
  · unfold resGates gates projAt proj Ffn.normed
    rfl

end Cert.Proof.MixIn

end

end
-- ==== Proof.MlstmMath.lean ====
/-
  One head of the mLSTM memory over the reals: with weights that are exponentials of sums of gates, a target's result does
  not depend on the number that the weights' logarithms are kept below.
-/
module

public import Idealize.ShloMosaic.Lib.Pipeline.ValueKit

@[expose] public section

noncomputable section

namespace Cert.Proof.Mlstm

open Idealize.ShloMosaic

/-- One row of a target's sum: the carried row `x` with the query, then the sources up to the target, `u` their values. -/
def hN (b i : Fin 256 → ℝ) (q k : Fin 256 → Fin 128 → ℝ) (κ : ℝ) (x : Fin 128 → ℝ) (u : Fin 256 → ℝ) (t : Fin 256) : ℝ :=
  Real.exp (b t) * (∑ d, x d * q t d)
    + ∑ s, (if s ≤ t then Real.exp (b t - b s + i s) else 0) * ((∑ d, k s d * q t d) * κ) * u s

/-- One row of the state after the chunk. -/
def hX (b i : Fin 256 → ℝ) (k : Fin 256 → Fin 128 → ℝ) (κ : ℝ) (x : Fin 128 → ℝ) (u : Fin 256 → ℝ) (d : Fin 128) : ℝ :=
  Real.exp (b 255) * x d + ∑ s, Real.exp (b 255 - b s + i s) * κ * u s * k s d

/-- A target's result from its two sums. -/
def hV (n d : ℝ) : ℝ := n / max |d| 1

theorem coe_sum {ι : Type} (s : Finset ι) (f : ι → ℝ) : ((∑ x ∈ s, f x : ℝ) : EReal) = ∑ x ∈ s, (f x : EReal) := by
  classical
  induction s using Finset.induction_on with
  | empty => rfl
  | insert a s h ih => rw [Finset.sum_insert h, Finset.sum_insert h, EReal.coe_add, ih]

theorem coe_max (x y : ℝ) : ((max x y : ℝ) : EReal) = max (x : EReal) (y : EReal) :=
  EReal.coe_strictMono.monotone.map_max

theorem real_max (x : ℝ) (y : EReal) (h : y < ⊤) : ∃ r : ℝ, max (x : EReal) y = r := by
  refine ⟨(max (x : EReal) y).toReal, (EReal.coe_toReal ?_ ?_).symm⟩
  · exact (max_lt (EReal.coe_lt_top x) h).ne
  · exact (lt_of_lt_of_le (EReal.bot_lt_coe x) (le_max_left _ _)).ne'

/-- The two sums kept below `e ^ μ` give the same quotient. -/
theorem quot (n d μ : ℝ) : n * Real.exp (-μ) * (1 / max |d * Real.exp (-μ)| (Real.exp (-μ))) = hV n d := by
  have e := Real.exp_pos (-μ)
  have h : max |d * Real.exp (-μ)| (Real.exp (-μ)) = max |d| 1 * Real.exp (-μ) := by
    rw [abs_mul, abs_of_pos e, max_mul_of_nonneg _ _ e.le, one_mul]
  have p : 0 < max |d| 1 := lt_max_of_lt_right one_pos
  rw [h, hV]
  field_simp

/-- One row of a target's sum, as it is kept. -/
theorem hN_kept (b i : Fin 256 → ℝ) (q k : Fin 256 → Fin 128 → ℝ) (κ M μ : ℝ) (x : Fin 128 → ℝ) (u : Fin 256 → ℝ) (t : Fin 256) :
    Real.exp (b t + M - μ) * (∑ d, x d * Real.exp (-M) * q t d)
      + ∑ s, u s * ((∑ d, k s d * q t d) * κ * (if s ≤ t then Real.exp (i s - b s + b t - μ) else 0))
      = hN b i q k κ x u t * Real.exp (-μ) := by
  unfold hN
  rw [add_mul, Finset.sum_mul, Finset.mul_sum, Finset.mul_sum, Finset.sum_mul]
  congr 1
  · refine Finset.sum_congr rfl fun d _ => ?_
    rw [show b t + M - μ = b t + M + -μ by ring, Real.exp_add, Real.exp_add, Real.exp_neg M]
    have := (Real.exp_pos M).ne'
    field_simp
  · refine Finset.sum_congr rfl fun s _ => ?_
    split
    · rw [show i s - b s + b t - μ = b t - b s + i s + -μ by ring, Real.exp_add _ (-μ)]
      ring
    · ring

/-- One row of the state after the chunk, as it is kept. -/
theorem hX_kept (b i : Fin 256 → ℝ) (k : Fin 256 → Fin 128 → ℝ) (κ M μ : ℝ) (x : Fin 128 → ℝ) (u : Fin 256 → ℝ) (d : Fin 128) :
    Real.exp (b 255 + M - μ) * (x d * Real.exp (-M))
      + ∑ s, u s * (Real.exp (b 255 - b s + i s - μ) * κ) * k s d = hX b i k κ x u d * Real.exp (-μ) := by
  unfold hX
  rw [add_mul, Finset.sum_mul]
  congr 1
  · rw [show b 255 + M - μ = b 255 + M + -μ by ring, Real.exp_add, Real.exp_add, Real.exp_neg M]
    have := (Real.exp_pos M).ne'
    field_simp
  · refine Finset.sum_congr rfl fun s _ => ?_
    rw [show b 255 - b s + i s - μ = b 255 - b s + i s + -μ by ring, Real.exp_add _ (-μ)]
    ring

/-- Sixty-four sums of four. -/
theorem sum_rows {A : Type} [AddCommMonoid A] (f : Fin 256 → A) :
    ∑ x : Fin 64, ∑ y : Fin 4, f ⟨y.val * 64 + x.val, by omega⟩ = ∑ j, f j := by
  rw [Finset.sum_comm, ← Fintype.sum_prod_type' (f := fun (y : Fin 4) (x : Fin 64) => f ⟨y.val * 64 + x.val, by omega⟩)]
  refine Fintype.sum_equiv (finProdFinEquiv (m := 4) (n := 64)) _ _ fun p => congrArg f (Fin.ext ?_)
  show p.1.val * 64 + p.2.val = p.2.val + 64 * p.1.val
  omega

/-- The scale of the keys. -/
def kap : ℝ := (Ideal.ofBits .f32 1035273459#32).toReal

theorem kap_eq : Ideal.ofBits .f32 1035273459#32 = (kap : EReal) := by
  refine (EReal.coe_toReal ?_ ?_).symm <;> simp [Ideal.ofBits, Ideal.ieee, -EReal.coe_mul]

theorem neg_inf : Ideal.ofBits .f32 4286578688#32 = ⊥ := by
  simp [Ideal.ofBits, Ideal.ieee]

/-- The logistic function's logarithm, both ways it is written. -/
theorem logsig (x : ℝ) : min x 0 - Real.log (1 + Real.exp (0 - max x (-x))) = -Real.log (1 + Real.exp (-x)) := by
  rcases le_total 0 x with h | h
  · rw [min_eq_right h, max_eq_left (by linarith)]
    simp
  · rw [min_eq_left h, max_eq_right (by linarith)]
    have e : 1 + Real.exp (-x) = Real.exp (-x) * (1 + Real.exp (0 - -x)) := by
      rw [mul_add, ← Real.exp_add]
      simp [add_comm]
    rw [e, Real.log_mul (Real.exp_pos _).ne' (by positivity), Real.log_exp]
    ring

/-- The sum of the first numbers. -/
def cumR (lf : ℕ → ℝ) (t : ℕ) : ℝ := ∑ u ∈ Finset.range t, lf u

/-- One row of a target's sum over its sequence. -/
def sN (lf ig : ℕ → ℝ) (q k : ℕ → Fin 128 → ℝ) (κ : ℝ) (u : ℕ → ℝ) (t : ℕ) : ℝ :=
  ∑ s ∈ Finset.range (t + 1), Real.exp (cumR lf (t + 1) - cumR lf (s + 1) + ig s) * ((∑ d, k s d * q t d) * κ) * u s

/-- One row of the state after `t` steps. -/
def sX (lf ig : ℕ → ℝ) (k : ℕ → Fin 128 → ℝ) (κ : ℝ) (u : ℕ → ℝ) (t : ℕ) (d : Fin 128) : ℝ :=
  ∑ s ∈ Finset.range t, Real.exp (cumR lf t - cumR lf (s + 1) + ig s) * κ * u s * k s d

/-- A sum over the numbers up to `r`. -/
theorem sum_upto {N : ℕ} (g : ℕ → ℝ) (r : ℕ) (h : r < N) :
    ∑ s : Fin N, (if s.val ≤ r then g s.val else 0) = ∑ s ∈ Finset.range (r + 1), g s := by
  rw [Fin.sum_univ_eq_sum_range (fun s => if s ≤ r then g s else 0) N, ← Finset.sum_filter]
  congr 1
  ext x
  simp only [Finset.mem_filter, Finset.mem_range]
  omega

/-- A chunk's target reads the state before the chunk and the chunk's sources: all sources up to it. -/
theorem hN_chunk (lf ig : ℕ → ℝ) (q k : ℕ → Fin 128 → ℝ) (κ : ℝ) (u : ℕ → ℝ) (T : ℕ) (r : Fin 256) :
    hN (fun r => cumR lf (T + r.val + 1) - cumR lf T) (fun r => ig (T + r.val)) (fun r => q (T + r.val))
      (fun r => k (T + r.val)) κ (sX lf ig k κ u T) (fun r => u (T + r.val)) r = sN lf ig q k κ u (T + r.val) := by
  unfold hN sN sX
  rw [show T + r.val + 1 = T + (r.val + 1) by ring, Finset.sum_range_add]
  congr 1
  · rw [Finset.mul_sum, Finset.sum_congr rfl fun d _ => by rw [Finset.sum_mul, Finset.mul_sum], Finset.sum_comm]
    refine Finset.sum_congr rfl fun s _ => ?_
    rw [Finset.sum_mul, Finset.mul_sum, Finset.sum_mul]
    refine Finset.sum_congr rfl fun d _ => ?_
    rw [show cumR lf (T + (r.val + 1)) - cumR lf (s + 1) + ig s
      = (cumR lf (T + (r.val + 1)) - cumR lf T) + (cumR lf T - cumR lf (s + 1) + ig s) by ring,
      Real.exp_add (cumR lf (T + (r.val + 1)) - cumR lf T)]
    ring_nf
  · rw [← sum_upto (N := 256) (fun x => Real.exp (cumR lf (T + (r.val + 1)) - cumR lf (T + x + 1) + ig (T + x))
      * ((∑ d, k (T + x) d * q (T + r.val) d) * κ) * u (T + x)) r.val r.isLt]
    refine Finset.sum_congr rfl fun s _ => ?_
    by_cases h : s ≤ r
    · rw [if_pos h, if_pos (Fin.le_def.mp h), show ∀ a b c d : ℝ, a - c - (b - c) + d = a - b + d by intros; ring]
      rfl
    · rw [if_neg h, if_neg (fun g => h (Fin.le_def.mpr g)), zero_mul, zero_mul]

/-- The state after a chunk. -/
theorem hX_chunk (lf ig : ℕ → ℝ) (k : ℕ → Fin 128 → ℝ) (κ : ℝ) (u : ℕ → ℝ) (T : ℕ) (d : Fin 128) :
    hX (fun r => cumR lf (T + r.val + 1) - cumR lf T) (fun r => ig (T + r.val))
      (fun r => k (T + r.val)) κ (sX lf ig k κ u T) (fun r => u (T + r.val)) d = sX lf ig k κ u (T + 256) d := by
  unfold hX sX
  rw [Finset.sum_range_add]
  congr 1
  · rw [Finset.mul_sum]
    refine Finset.sum_congr rfl fun s _ => ?_
    rw [show cumR lf (T + 256) - cumR lf (s + 1) + ig s
      = (cumR lf (T + 256) - cumR lf T) + (cumR lf T - cumR lf (s + 1) + ig s) by ring,
      Real.exp_add (cumR lf (T + 256) - cumR lf T)]
    show Real.exp (cumR lf (T + 256) - cumR lf T) * _ = _
    ring
  · rw [← Fin.sum_univ_eq_sum_range (fun x => Real.exp (cumR lf (T + 256) - cumR lf (T + x + 1) + ig (T + x)) * κ * u (T + x) * k (T + x) d) 256]
    refine Finset.sum_congr rfl fun s _ => ?_
    show Real.exp (cumR lf (T + 256) - cumR lf T - (cumR lf (T + s.val + 1) - cumR lf T) + ig (T + s.val)) * _ * _ * _ = _
    rw [show ∀ a b c d : ℝ, a - c - (b - c) + d = a - b + d by intros; ring]

end Cert.Proof.Mlstm

end

end
-- ==== Proof.MlstmGen.lean ====
/-
  One head of the mLSTM call (`Kernel7Ideal`) as operations of its arrays, the same for the four heads.
-/
module

public import proofs.«01_k».proof.Proof.Gen.Kernel7Ideal.Value
public import proofs.«01_k».proof.Proof.MlstmMath
public import Idealize.ShloMosaic.Lib.Pipeline.ReadBack
public import Idealize.ShloMosaic.Lib.Pipeline.ValueKit
public import Idealize.ShloMosaic.Lib.WritesUnit

@[expose] public section

set_option maxRecDepth 16384

noncomputable section

namespace Cert.Proof.Mlstm

open Cert.Kernel7Ideal Cert.Kernel7Ideal.Gen Idealize.ShloMosaic Idealize.ShloMosaic.TcCoe Idealize.SL.Sem

/-- The logarithms of the weights of one chunk's sources (rows) at its targets (columns). -/
def gDl (a : FVec Ideal S256x1 .f32) (b : FVec Ideal S1x256 .f32) : FVec Ideal S256x256 .f32 :=
  select k0_pay10 (addf (broadcastTo S256x256 a broadcasts_S256x1_S256x256) (broadcastTo S256x256 b broadcasts_S1x256_S256x256))
    (broadcast S256x256 (Scalar.ofBits .f32 0xFF800000#32 : Ideal .f32))

/-- The logarithm of the carried state's weight at each target. -/
def gInter (b : FVec Ideal S1x256 .f32) (m : FVec Ideal S1x1 .f32) : FVec Ideal S1x256 .f32 :=
  addf b (broadcastTo S1x256 m broadcasts_S1x1_S1x256)

/-- The greatest of a target's logarithms. -/
def gM (a : FVec Ideal S256x1 .f32) (b : FVec Ideal S1x256 .f32) (m : FVec Ideal S1x1 .f32) : FVec Ideal S1x256 .f32 :=
  maximumf (gInter b m) (shapeCast S1x256 (multiReduction .maximumf [0] S256 (multiReduction .maximumf [0] S64x256
    (shapeCast S4x64x256 (gDl a b) shapeCasts_S256x256_S4x64x256) 0xFF800000#32 reduces_S4x64x256_S64x256 (.inl rfl) rfl)
    0xFF800000#32 reduces_S64x256_S256 (.inl rfl) rfl) shapeCasts_S256_S1x256)

/-- The weighted products of keys and queries. -/
def gSc (a : FVec Ideal S256x1 .f32) (b : FVec Ideal S1x256 .f32) (mt : FVec Ideal S1x256 .f32)
    (q k : FVec Ideal S1x256x128 .bf16) : FVec Ideal S256x256 .f32 :=
  mulf (mulf (matmul dot_S256x128_S256x128_S256x256_1_1_0_0_n_n none (k0_pay17 k) (k0_pay16 q)
    (constant S256x256 .f32 0x00000000#32)) (broadcast S256x256 (Scalar.ofBits .f32 0x3DB504F3#32 : Ideal .f32)))
    (exp (subf (gDl a b) (broadcastTo S256x256 mt broadcasts_S1x256_S256x256)))

/-- The result of one head. -/
def gOut (a : FVec Ideal S256x1 .f32) (b : FVec Ideal S1x256 .f32) (m : FVec Ideal S1x1 .f32)
    (q k : FVec Ideal S1x256x128 .bf16) (v : FVec Ideal S1x256x256 .bf16) (C : FVec Ideal S1x256x128 .f32)
    (n : FVec Ideal S1x128 .f32) (w : FVec Ideal S256x256 .f32) (o : FVec Ideal S1x256x256 .bf16) :
    FVec Ideal S1x256x256 .bf16 :=
  k0_pay23 (k0_pay22 (gM a b m) (k0_pay16 q) (k0_pay18 v) (gSc a b (gM a b m) q k) (exp (subf (gInter b m) (gM a b m))) C n w) o

/-- The logarithms of the chunk's weights at its end. -/
def gG (l : FVec Ideal S1x1 .f32) (i b : FVec Ideal S1x256 .f32) : FVec Ideal S1x256 .f32 :=
  addf (subf (broadcastTo S1x256 l broadcasts_S1x1_S1x256) b) i

/-- The greatest logarithm at the chunk's end. -/
def gMn (l : FVec Ideal S1x1 .f32) (i b : FVec Ideal S1x256 .f32) (m : FVec Ideal S1x1 .f32) : FVec Ideal S1x1 .f32 :=
  maximumf (addf l m) (shapeCast S1x1 (multiReduction .maximumf [1] S1 (gG l i b) 0xFF800000#32 reduces_S1x256_S1 (.inl rfl) rfl) shapeCasts_S1_S1x1)

/-- How much of the carried state is kept. -/
def gDec (l : FVec Ideal S1x1 .f32) (m mn : FVec Ideal S1x1 .f32) : FVec Ideal S1x1 .f32 := exp (subf (addf l m) mn)

/-- The weights of the chunk's sources in the state after it. -/
def gWk (l : FVec Ideal S1x1 .f32) (i b : FVec Ideal S1x256 .f32) (mn : FVec Ideal S1x1 .f32) : FVec Ideal S1x256 .f32 :=
  mulf (exp (subf (gG l i b) (broadcastTo S1x256 mn broadcasts_S1x1_S1x256)))
    (broadcast S1x256 (Scalar.ofBits .f32 0x3DB504F3#32 : Ideal .f32))

/-- What the chunk adds to the state, the sum of the keys below it. -/
def gUpd (wk : FVec Ideal S1x256 .f32) (k : FVec Ideal S1x256x128 .bf16) (v : FVec Ideal S1x256x256 .bf16) : FVec Ideal S272x128 .f32 :=
  matmul dot_S272x256_S256x128_S272x128_1_0_0_1_n_n none (truncf .bf16 (concatenate S272x256 0
    [⟨S256x256, mulf (k0_pay18 v) (broadcastTo S256x256 wk broadcasts_S1x256_S256x256)⟩,
     ⟨S16x256, broadcastTo S16x256 (shapeCast S1x256 wk shapeCasts_S1x256_S1x256) broadcasts_S1x256_S16x256⟩]
    concatenates_S256x256_S16x256_S272x256_d0) bitsLt_bf16_f32) (k0_pay17 k) (constant S272x128 .f32 0x00000000#32)

/-- The state after the chunk. -/
def gC (d : FVec Ideal S1x1 .f32) (u : FVec Ideal S272x128 .f32) (C : FVec Ideal S1x256x128 .f32) : FVec Ideal S1x256x128 .f32 :=
  shapeCast S1x256x128 (addf (mulf (broadcastTo S256x128 d broadcasts_S1x1_S256x128) (k0_pay21 C))
    (extractStridedSlice S256x128 ![0, 0] u slices_S272x128_o0_0_S256x128)) shapeCasts_S256x128_S1x256x128

/-- The sum of keys after the chunk. -/
def gN (d : FVec Ideal S1x1 .f32) (u : FVec Ideal S272x128 .f32) (n : FVec Ideal S1x128 .f32) : FVec Ideal S1x128 .f32 :=
  shapeCast S1x128 (addf (mulf (broadcastTo S1x128 d broadcasts_S1x1_S1x128) n)
    (extractStridedSlice S1x128 ![256, 0] u slices_S272x128_o256_0_S1x128)) shapeCasts_S1x128_S1x128

/-- The weighted mean of the values at each target, before the norm. -/
def gHv (m : FVec Ideal S1x256 .f32) (q : FVec Ideal S256x128 .bf16) (v s : FVec Ideal S256x256 .f32)
    (w : FVec Ideal S1x256 .f32) (C : FVec Ideal S1x256x128 .f32) (n : FVec Ideal S1x128 .f32) : FVec Ideal S256x256 .f32 :=
  have u : FVec Ideal S272x256 .f32 := matmul dot_S272x128_S256x128_S272x256_1_1_0_0_n_n none
    (truncf .bf16 (concatenate S272x128 0 [⟨S256x128, k0_pay21 C⟩, ⟨S16x128, broadcastTo S16x128 (shapeCast S1x128 n shapeCasts_S1x128_S1x128) broadcasts_S1x128_S16x128⟩]
      concatenates_S256x128_S16x128_S272x128_d0) bitsLt_bf16_f32) q (constant S272x256 .f32 0x00000000#32)
  divf (addf (mulf (broadcastTo S256x256 w broadcasts_S1x256_S256x256) (extractStridedSlice S256x256 ![0, 0] u slices_S272x256_o0_0_S256x256))
      (matmul dot_S256x256_S256x256_S256x256_1_0_0_1_n_n none (truncf .bf16 v bitsLt_bf16_f32) (truncf .bf16 s bitsLt_bf16_f32) (constant S256x256 .f32 0x00000000#32)))
    (broadcastTo S256x256 (maximumf (absf (addf (mulf w (extractStridedSlice S1x256 ![256, 0] u slices_S272x256_o256_0_S1x256))
      (shapeCast S1x256 (multiReduction .add [0] S256 (multiReduction .add [0] S64x256 (shapeCast S4x64x256 s shapeCasts_S256x256_S4x64x256)
        0x00000000#32 reduces_S4x64x256_S64x256 (.inl rfl) rfl) 0x00000000#32 reduces_S64x256_S256 (.inl rfl) rfl) shapeCasts_S256_S1x256)))
      (exp (subf (broadcast S1x256 (Scalar.ofBits .f32 0x00000000#32 : Ideal .f32)) m))) broadcasts_S1x256_S256x256)

/-- The norm, times its weights. -/
def gNm (x nw : FVec Ideal S256x256 .f32) : FVec Ideal S256x256 .f32 :=
  mulf (mulf x (broadcastTo S256x256 (rsqrt (addf (mulf (shapeCast S1x256 (multiReduction .add [0] S256 (multiReduction .add [0] S64x256
    (shapeCast S4x64x256 (mulf x x) shapeCasts_S256x256_S4x64x256) 0x00000000#32 reduces_S4x64x256_S64x256 (.inl rfl) rfl)
    0x00000000#32 reduces_S64x256_S256 (.inl rfl) rfl) shapeCasts_S256_S1x256) (broadcast S1x256 (Scalar.ofBits .f32 0x3B800000#32 : Ideal .f32)))
    (broadcast S1x256 (Scalar.ofBits .f32 0x358637BD#32 : Ideal .f32)))) broadcasts_S1x256_S256x256)) (shapeCast S256x256 nw shapeCasts_S256x256_S256x256)

theorem pay22_eq (m q v s w C n nw) : k0_pay22 (F := Ideal) m q v s w C n nw = gNm (gHv m q v s w C n) nw := rfl

theorem gDl_at (a : FVec Ideal S256x1 .f32) (b : FVec Ideal S1x256 .f32) (s t : Fin 256) :
    gDl a b (ix2 s t) = Scalar.select (IntOp.cmpi .sle (BitVec.ofNat 32 s.val) (BitVec.ofNat 32 t.val))
      (a (ix2 s 0) + b (ix2 0 t)) (Ideal.ofBits .f32 4286578688#32) := by
  pointwise [gDl, k0_pay10]

theorem gM_at (a : FVec Ideal S256x1 .f32) (b : FVec Ideal S1x256 .f32) (m : FVec Ideal S1x1 .f32) (t : Fin 256) :
    gM a b m (ix2 0 t) = max (b (ix2 0 t) + m (ix2 0 0)) (Finset.fold max (Ideal.ofBits .f32 4286578688#32)
      (fun x : Fin 64 => Finset.fold max (Ideal.ofBits .f32 4286578688#32)
        (fun y : Fin 4 => gDl a b (ix2 ⟨y.val * 64 + x.val, by omega⟩ t)) Finset.univ) Finset.univ) := by
  pointwise [gM, gInter]

theorem gSc_at (a : FVec Ideal S256x1 .f32) (b mt : FVec Ideal S1x256 .f32) (q k : FVec Ideal S1x256x128 .bf16) (s t : Fin 256) :
    gSc a b mt q k (ix2 s t) = (∑ x, k (ix3 0 s x) * q (ix3 0 t x)) * Ideal.ofBits .f32 1035273459#32
      * Ideal.exp (gDl a b (ix2 s t) - mt (ix2 0 t)) := by
  pointwise [gSc, k0_pay17, k0_pay16]

theorem gIn_at (b : FVec Ideal S1x256 .f32) (m : FVec Ideal S1x1 .f32) (mt : FVec Ideal S1x256 .f32) (t : Fin 256) :
    exp (subf (gInter b m) mt) (ix2 0 t) = Ideal.exp (b (ix2 0 t) + m (ix2 0 0) - mt (ix2 0 t)) := by
  pointwise [gInter]

theorem gHv_at (m : FVec Ideal S1x256 .f32) (q : FVec Ideal S256x128 .bf16) (v s : FVec Ideal S256x256 .f32)
    (w : FVec Ideal S1x256 .f32) (C : FVec Ideal S1x256x128 .f32) (n : FVec Ideal S1x128 .f32) (j t : Fin 256) :
    gHv m q v s w C n (ix2 j t)
      = Ideal.div (w (ix2 0 t) * ∑ x, C (ix3 0 j x) * q (ix2 t x) + ∑ x, v (ix2 j x) * s (ix2 x t))
        (max (FloatOps.absf (F := Ideal) (φ := .f32) (w (ix2 0 t) * ∑ x, n (ix2 0 x) * q (ix2 t x)
          + ∑ x : Fin 64, ∑ y : Fin 4, s (ix2 ⟨y.val * 64 + x.val, by omega⟩ t))) (Ideal.exp (0 - m (ix2 0 t)))) := by
  pointwise [gHv, k0_pay21]

theorem gNm_at (x nw : FVec Ideal S256x256 .f32) (j t : Fin 256) : gNm x nw (ix2 j t)
    = x (ix2 j t) * Ideal.rsqrt ((∑ a : Fin 64, ∑ y : Fin 4, x (ix2 ⟨y.val * 64 + a.val, by omega⟩ t)
        * x (ix2 ⟨y.val * 64 + a.val, by omega⟩ t)) * Ideal.ofBits .f32 998244352#32 + Ideal.ofBits .f32 897988541#32)
      * nw (ix2 j t) := by
  pointwise [gNm]

theorem pay16_at (q : FVec Ideal S1x256x128 .bf16) (t : Fin 256) (d : Fin 128) : k0_pay16 q (ix2 t d) = q (ix3 0 t d) := by
  pointwise [k0_pay16]

theorem pay18_at (v : FVec Ideal S1x256x256 .bf16) (j t : Fin 256) : k0_pay18 (F := Ideal) v (ix2 j t) = (v (ix3 0 t j) : EReal) := by
  pointwise [k0_pay18]

theorem pay23_at (x : FVec Ideal S256x256 .f32) (o : FVec Ideal S1x256x256 .bf16) (j t : Fin 256) :
    k0_pay23 x o (ix3 0 t j) = o (ix3 0 t j) * x (ix2 j t) := by
  pointwise [k0_pay23]

theorem gMn_at (l : FVec Ideal S1x1 .f32) (i b : FVec Ideal S1x256 .f32) (m : FVec Ideal S1x1 .f32) :
    gMn l i b m (ix2 0 0) = max (l (ix2 0 0) + m (ix2 0 0)) (Finset.fold max (Ideal.ofBits .f32 4286578688#32)
      (fun x => l (ix2 0 0) - b (ix2 0 x) + i (ix2 0 x)) Finset.univ) := by
  pointwise [gMn, gG]

theorem gDec_at (l m mn : FVec Ideal S1x1 .f32) :
    gDec l m mn (ix2 0 0) = Ideal.exp (l (ix2 0 0) + m (ix2 0 0) - mn (ix2 0 0)) := by
  pointwise [gDec]

theorem gWk_at (l : FVec Ideal S1x1 .f32) (i b : FVec Ideal S1x256 .f32) (mn : FVec Ideal S1x1 .f32) (s : Fin 256) :
    gWk l i b mn (ix2 0 s) = Ideal.exp (l (ix2 0 0) - b (ix2 0 s) + i (ix2 0 s) - mn (ix2 0 0)) * Ideal.ofBits .f32 1035273459#32 := by
  pointwise [gWk, gG]

theorem gC_at (d : FVec Ideal S1x1 .f32) (u : FVec Ideal S272x128 .f32) (C : FVec Ideal S1x256x128 .f32) (v : Fin 256) (e : Fin 128) :
    gC d u C (ix3 0 v e) = d (ix2 0 0) * C (ix3 0 v e) + u (ix2 ⟨v.val, by omega⟩ e) := by
  pointwise [gC, k0_pay21]

theorem gN_at (d : FVec Ideal S1x1 .f32) (u : FVec Ideal S272x128 .f32) (n : FVec Ideal S1x128 .f32) (e : Fin 128) :
    gN d u n (ix2 0 e) = d (ix2 0 0) * n (ix2 0 e) + u (ix2 256 e) := by
  pointwise [gN]

theorem gUpd_at (wk : FVec Ideal S1x256 .f32) (k : FVec Ideal S1x256x128 .bf16) (v : FVec Ideal S1x256x256 .bf16) (r : Fin 256) (e : Fin 128) :
    gUpd wk k v (ix2 (⟨r.val, by omega⟩ : Fin 272) e) = ∑ x, v (ix3 0 x r) * wk (ix2 0 x) * k (ix3 0 x e) := by
  pointwise [gUpd, k0_pay18, k0_pay17]

theorem gUpd_last (wk : FVec Ideal S1x256 .f32) (k : FVec Ideal S1x256x128 .bf16) (v : FVec Ideal S1x256x256 .bf16) (e : Fin 128) :
    gUpd wk k v (ix2 (256 : Fin 272) e) = ∑ x, wk (ix2 0 x) * k (ix3 0 x e) := by
  pointwise [gUpd, k0_pay18, k0_pay17]

end Cert.Proof.Mlstm

end

end
-- ==== Proof.MlstmBlk.lean ====
/-
  What one grid point of the mLSTM call leaves for each head: its part of the result and its part of the carried state.
-/
module

public import proofs.«01_k».proof.Proof.MlstmGen

@[expose] public section

set_option maxRecDepth 16384

noncomputable section

namespace Cert.Proof.Mlstm

open Cert.Kernel7Ideal Cert.Kernel7Ideal.Gen Idealize.ShloMosaic Idealize.ShloMosaic.TcCoe Idealize.SL.Sem

section canon

variable {s : Shape} {e : EltTy} {Val : EltTy → Type} [∀ e, Nonempty (Val e)] {off size : Fin s.rank → ℕ}

/-- An index inside the last piece written reads that piece. -/
theorem canon_hit (inb : ∀ a, off a + size a ≤ s.size a) (w : (Rect.unit (s := s) off size inb).shape.Idx → Val e)
    (L : List (View.Piece Val s e)) (y : s.Idx) (x : (Rect.unit (s := s) off size inb).shape.Idx)
    (h : ∀ a, (y a).val = off a + (x a).val) :
    View.canon ((⟨Rect.unit (s := s) off size inb, w⟩ : View.Piece Val s e) :: L) y = w x := by
  have hy : (Rect.unit (s := s) off size inb).emb x = y := funext fun a => Fin.ext (by
    show off a + 1 * (x a).val = (y a).val
    rw [h a, one_mul])
  rw [← hy]
  exact View.canon_cons_emb _ _ _ _

/-- An index outside it reads the earlier pieces. -/
theorem canon_skip (inb : ∀ a, off a + size a ≤ s.size a) (w : (Rect.unit (s := s) off size inb).shape.Idx → Val e)
    (L : List (View.Piece Val s e)) (y : s.Idx) (a : Fin s.rank) (h : (y a).val < off a ∨ off a + size a ≤ (y a).val) :
    View.canon ((⟨Rect.unit (s := s) off size inb, w⟩ : View.Piece Val s e) :: L) y = View.canon L y := by
  refine View.canon_cons_of_not_mem _ _ fun hm => ?_
  obtain ⟨x, hx⟩ := (Rect.unit (s := s) off size inb).exists_idx_of_mem hm
  have h1 : off a + 1 * (x a).val = (y a).val := congrArg (fun z : s.Idx => (z a).val) hx
  have h2 : (x a).val < size a := (x a).isLt
  omega

end canon

variable (m : (ℓ : Loc nD τ sig) → Buf (Elt Ideal) ℓ)

/-- One head's step: over some arrays with the entries carried for it, its part of the result and of the new state. -/
def Step (h : Fin 4) (a : FVec Ideal S256x1 .f32) (b i : FVec Ideal S1x256 .f32) (l : FVec Ideal S1x1 .f32)
    (q k : FVec Ideal S1x256x128 .bf16) (v o : FVec Ideal S1x256x256 .bf16) (w : FVec Ideal S256x256 .f32)
    (p : Vec Ideal S1x256x1024 .bf16 × Vec Ideal S4x256x128 .f32 × Vec Ideal S8x128 .f32 × Vec Ideal S8x128 .f32)
    (r : Vec Ideal S1x256x1024 .bf16 × Vec Ideal S4x256x128 .f32 × Vec Ideal S8x128 .f32 × Vec Ideal S8x128 .f32) : Prop :=
  ∃ (m1 : FVec Ideal S1x1 .f32) (C1 : FVec Ideal S1x256x128 .f32) (n1 : FVec Ideal S1x128 .f32),
    (∀ s j : Fin 256, r.1 (ix3 0 s ⟨256 * h.val + j.val, by omega⟩) = gOut a b m1 q k v C1 n1 w o (ix3 0 s j))
    ∧ (∀ (j : Fin 256) (d : Fin 128), r.2.1 (ix3 h j d)
        = gC (gDec l m1 (gMn l i b m1)) (gUpd (gWk l i b (gMn l i b m1)) k v) C1 (ix3 0 j d))
    ∧ (∀ d : Fin 128, r.2.2.1 (ix2 ⟨h.val, by omega⟩ d)
        = gN (gDec l m1 (gMn l i b m1)) (gUpd (gWk l i b (gMn l i b m1)) k v) n1 (ix2 0 d))
    ∧ r.2.2.2 (ix2 ⟨h.val, by omega⟩ 0) = gMn l i b m1 (ix2 0 0)
    ∧ m1 (ix2 0 0) = p.2.2.2 (ix2 ⟨h.val, by omega⟩ 0)
    ∧ (∀ (j : Fin 256) (d : Fin 128), C1 (ix3 0 j d) = p.2.1 (ix3 h j d))
    ∧ (∀ d : Fin 128, n1 (ix2 0 d) = p.2.2.1 (ix2 ⟨h.val, by omega⟩ d))

theorem m_32 (x : FVec Ideal S1x1 .f32) : k0_pay32 x (ix2 0 0) = x (ix2 0 0) := by
  pointwise [k0_pay32]
theorem m_53 (x : FVec Ideal S1x1 .f32) : k0_pay53 x (ix2 0 0) = x (ix2 0 0) := by
  pointwise [k0_pay53]
theorem m_75 (x : FVec Ideal S1x1 .f32) : k0_pay75 x (ix2 0 0) = x (ix2 0 0) := by
  pointwise [k0_pay75]
theorem m_2 (x : FVec Ideal S1x1 .f32) : k0_pay2 x (ix2 0 0) = x (ix2 0 0) := by
  pointwise [k0_pay2]
theorem m_31 (a : FVec Ideal S128x256 .f32) (b c : FVec Ideal S1x256 .f32) (d : FVec Ideal S1x1 .f32) :
    k0_pay31 a b c d (ix2 0 0) = k0_pay26 a b c d (ix2 0 0) := by
  pointwise [k0_pay31]

/-- The gates of a block. -/
abbrev gat (c : Dev nD) (t : Fin cfg0.N) : FVec Ideal S256x128 .f32 := k0_pay6 (iblk m c 3 t) (iblk m c 4 t)
/-- The sums of a block's forget gates' logarithms. -/
abbrev cms (c : Dev nD) (t : Fin cfg0.N) : FVec Ideal S256x128 .f32 := k0_pay7 (iblk m c 3 t) (iblk m c 4 t) (iblk m c 6 t)

theorem stepB_0 (c : Dev nD) (t : Fin cfg0.N) (h : ¬ t.val % 16 = 0) : Step 0
      (subf (extractStridedSlice S256x1 ![0, 0] (gat m c t) slices_S256x128_o0_0_S256x1) (extractStridedSlice S256x1 ![0, 4] (cms m c t) slices_S256x128_o0_4_S256x1))
      (k0_pay12 (cms m c t)) (k0_pay11 (gat m c t)) (k0_pay24 (k0_pay9 (cms m c t)))
      (View.ld (iblk m c 0 t) (Rect.unit ![0, 0, 0] ![1, 256, 128] inb_S1x256x1024_S1x256x128_0_0_0))
      (View.ld (iblk m c 0 t) (Rect.unit ![0, 0, 512] ![1, 256, 128] inb_S1x256x1024_S1x256x128_0_0_512))
      (View.ld (iblk m c 1 t) (Rect.unit ![0, 0, 0] ![1, 256, 256] inb_S1x256x1024_S1x256x256_0_0_0))
      (View.ld (iblk m c 2 t) (Rect.unit ![0, 0, 0] ![1, 256, 256] inb_S1x256x1024_S1x256x256_0_0_0))
      (View.ld (iblk m c 5 t) (Rect.unit ![0, 0] ![256, 256] inb_S1024x256_S256x256_0_0))
      (outsAt0 m c (t.val - 1) (Nat.lt_of_le_of_lt (Nat.sub_le _ _) t.isLt))
      (outsAt0 m c t.val t.isLt) := by
  rw [outsAt0_B m c t h]
  apply Exists.intro
  apply Exists.intro
  apply Exists.intro
  refine ⟨?_, ?_, ?_, ?_, ?_, ?_, ?_⟩
  · intro s j
    frame_out
    refine (canon_skip _ _ _ _ (2 : Fin 3) (Or.inl ?_)).trans ?_
    · show 256 * 0 + j.val < 768
      omega
    refine (canon_skip _ _ _ _ (2 : Fin 3) (Or.inl ?_)).trans ?_
    · show 256 * 0 + j.val < 512
      omega
    refine (canon_skip _ _ _ _ (2 : Fin 3) (Or.inl ?_)).trans ?_
    · show 256 * 0 + j.val < 256
      omega
    refine (canon_hit _ _ _ _ (ix3 0 s j) ?_).trans ?_
    · exact Fin.forall_fin_succ.mpr ⟨rfl, Fin.forall_fin_two.mpr ⟨(Nat.zero_add _).symm, rfl⟩⟩
    rfl
  · intro j d
    frame_out
    refine (canon_skip _ _ _ _ (0 : Fin 3) (Or.inl ?_)).trans ?_
    · show 0 < 3
      omega
    refine (canon_skip _ _ _ _ (0 : Fin 3) (Or.inl ?_)).trans ?_
    · show 0 < 2
      omega
    refine (canon_skip _ _ _ _ (0 : Fin 3) (Or.inl ?_)).trans ?_
    · show 0 < 1
      omega
    refine (canon_hit _ _ _ _ (ix3 0 j d) ?_).trans ?_
    · exact Fin.forall_fin_succ.mpr ⟨rfl, Fin.forall_fin_two.mpr ⟨(Nat.zero_add _).symm, (Nat.zero_add _).symm⟩⟩
    rfl
  · intro d
    frame_out
    refine (View.read_writes_cons_unit_of_not_mem _ _ _ _ _ _ rfl 0 (Or.inl ?_)).trans ?_
    · show 0 < 3
      omega
    refine (View.read_writes_cons_unit_of_not_mem _ _ _ _ _ _ rfl 0 (Or.inl ?_)).trans ?_
    · show 0 < 2
      omega
    refine (View.read_writes_cons_unit_of_not_mem _ _ _ _ _ _ rfl 0 (Or.inl ?_)).trans ?_
    · show 0 < 1
      omega
    refine (View.read_writes_cons_unit_of_mem _ _ _ _ _ _ (ix2 0 d) rfl ?_).trans ?_
    · exact Fin.forall_fin_two.mpr ⟨rfl, (Nat.zero_add _).symm⟩
    rfl
  · frame_out
    refine (View.read_writes_cons_unit_of_not_mem _ _ _ _ _ _ rfl 0 (Or.inl ?_)).trans ?_
    · show 0 < 3
      omega
    refine (View.read_writes_cons_unit_of_not_mem _ _ _ _ _ _ rfl 0 (Or.inl ?_)).trans ?_
    · show 0 < 2
      omega
    refine (View.read_writes_cons_unit_of_not_mem _ _ _ _ _ _ rfl 0 (Or.inl ?_)).trans ?_
    · show 0 < 1
      omega
    refine (View.read_writes_cons_unit_of_mem _ _ _ _ _ _ (ix2 0 0) rfl ?_).trans ?_
    · exact Fin.forall_fin_two.mpr ⟨rfl, (Nat.zero_add _).symm⟩
    exact (m_32 _).trans (m_31 _ _ _ _)
  · rw [read_unread_whole]
    refine View.ld_unit_apply_of _ _ _ _ _ _ ?_
    exact Fin.forall_fin_two.mpr ⟨rfl, rfl⟩
  · intro j d
    rw [read_unread_whole]
    refine View.ld_unit_apply_of _ _ _ _ _ _ ?_
    exact Fin.forall_fin_succ.mpr ⟨rfl, Fin.forall_fin_two.mpr ⟨(Nat.zero_add _).symm, (Nat.zero_add _).symm⟩⟩
  · intro d
    rw [read_unread_whole]
    refine View.ld_unit_apply_of _ _ _ _ _ _ ?_
    exact Fin.forall_fin_two.mpr ⟨rfl, (Nat.zero_add _).symm⟩

theorem stepB_1 (c : Dev nD) (t : Fin cfg0.N) (h : ¬ t.val % 16 = 0) : Step 1
      (subf (extractStridedSlice S256x1 ![0, 1] (gat m c t) slices_S256x128_o0_1_S256x1) (extractStridedSlice S256x1 ![0, 5] (cms m c t) slices_S256x128_o0_5_S256x1))
      (k0_pay34 (k0_pay9 (cms m c t))) (k0_pay33 (k0_pay8 (gat m c t))) (k0_pay46 (k0_pay9 (cms m c t)))
      (View.ld (iblk m c 0 t) (Rect.unit ![0, 0, 128] ![1, 256, 128] inb_S1x256x1024_S1x256x128_0_0_128))
      (View.ld (iblk m c 0 t) (Rect.unit ![0, 0, 640] ![1, 256, 128] inb_S1x256x1024_S1x256x128_0_0_640))
      (View.ld (iblk m c 1 t) (Rect.unit ![0, 0, 256] ![1, 256, 256] inb_S1x256x1024_S1x256x256_0_0_256))
      (View.ld (iblk m c 2 t) (Rect.unit ![0, 0, 256] ![1, 256, 256] inb_S1x256x1024_S1x256x256_0_0_256))
      (View.ld (iblk m c 5 t) (Rect.unit ![256, 0] ![256, 256] inb_S1024x256_S256x256_256_0))
      (outsAt0 m c (t.val - 1) (Nat.lt_of_le_of_lt (Nat.sub_le _ _) t.isLt))
      (outsAt0 m c t.val t.isLt) := by
  rw [outsAt0_B m c t h]
  apply Exists.intro
  apply Exists.intro
  apply Exists.intro
  refine ⟨?_, ?_, ?_, ?_, ?_, ?_, ?_⟩
  · intro s j
    frame_out
    refine (canon_skip _ _ _ _ (2 : Fin 3) (Or.inl ?_)).trans ?_
    · show 256 * 1 + j.val < 768
      omega
    refine (canon_skip _ _ _ _ (2 : Fin 3) (Or.inl ?_)).trans ?_
    · show 256 * 1 + j.val < 512
      omega
    refine (canon_hit _ _ _ _ (ix3 0 s j) ?_).trans ?_
    · exact Fin.forall_fin_succ.mpr ⟨rfl, Fin.forall_fin_two.mpr ⟨(Nat.zero_add _).symm, rfl⟩⟩
    rfl
  · intro j d
    frame_out
    refine (canon_skip _ _ _ _ (0 : Fin 3) (Or.inl ?_)).trans ?_
    · show 1 < 3
      omega
    refine (canon_skip _ _ _ _ (0 : Fin 3) (Or.inl ?_)).trans ?_
    · show 1 < 2
      omega
    refine (canon_hit _ _ _ _ (ix3 0 j d) ?_).trans ?_
    · exact Fin.forall_fin_succ.mpr ⟨rfl, Fin.forall_fin_two.mpr ⟨(Nat.zero_add _).symm, (Nat.zero_add _).symm⟩⟩
    rfl
  · intro d
    frame_out
    refine (View.read_writes_cons_unit_of_not_mem _ _ _ _ _ _ rfl 0 (Or.inl ?_)).trans ?_
    · show 1 < 3
      omega
    refine (View.read_writes_cons_unit_of_not_mem _ _ _ _ _ _ rfl 0 (Or.inl ?_)).trans ?_
    · show 1 < 2
      omega
    refine (View.read_writes_cons_unit_of_mem _ _ _ _ _ _ (ix2 0 d) rfl ?_).trans ?_
    · exact Fin.forall_fin_two.mpr ⟨rfl, (Nat.zero_add _).symm⟩
    rfl
  · frame_out
    refine (View.read_writes_cons_unit_of_not_mem _ _ _ _ _ _ rfl 0 (Or.inl ?_)).trans ?_
    · show 1 < 3
      omega
    refine (View.read_writes_cons_unit_of_not_mem _ _ _ _ _ _ rfl 0 (Or.inl ?_)).trans ?_
    · show 1 < 2
      omega
    refine (View.read_writes_cons_unit_of_mem _ _ _ _ _ _ (ix2 0 0) rfl ?_).trans ?_
    · exact Fin.forall_fin_two.mpr ⟨rfl, (Nat.zero_add _).symm⟩
    exact m_53 _
  · rw [read_unread_whole]
    refine View.ld_unit_apply_of _ _ _ _ _ _ ?_
    exact Fin.forall_fin_two.mpr ⟨rfl, rfl⟩
  · intro j d
    rw [read_unread_whole]
    refine View.ld_unit_apply_of _ _ _ _ _ _ ?_
    exact Fin.forall_fin_succ.mpr ⟨rfl, Fin.forall_fin_two.mpr ⟨(Nat.zero_add _).symm, (Nat.zero_add _).symm⟩⟩
  · intro d
    rw [read_unread_whole]
    refine View.ld_unit_apply_of _ _ _ _ _ _ ?_
    exact Fin.forall_fin_two.mpr ⟨rfl, (Nat.zero_add _).symm⟩

theorem stepB_2 (c : Dev nD) (t : Fin cfg0.N) (h : ¬ t.val % 16 = 0) : Step 2
      (subf (extractStridedSlice S256x1 ![0, 2] (gat m c t) slices_S256x128_o0_2_S256x1) (extractStridedSlice S256x1 ![0, 6] (cms m c t) slices_S256x128_o0_6_S256x1))
      (k0_pay55 (k0_pay9 (cms m c t))) (k0_pay54 (k0_pay8 (gat m c t))) (k0_pay67 (k0_pay9 (cms m c t)))
      (View.ld (iblk m c 0 t) (Rect.unit ![0, 0, 256] ![1, 256, 128] inb_S1x256x1024_S1x256x128_0_0_256))
      (View.ld (iblk m c 0 t) (Rect.unit ![0, 0, 768] ![1, 256, 128] inb_S1x256x1024_S1x256x128_0_0_768))
      (View.ld (iblk m c 1 t) (Rect.unit ![0, 0, 512] ![1, 256, 256] inb_S1x256x1024_S1x256x256_0_0_512))
      (View.ld (iblk m c 2 t) (Rect.unit ![0, 0, 512] ![1, 256, 256] inb_S1x256x1024_S1x256x256_0_0_512))
      (View.ld (iblk m c 5 t) (Rect.unit ![512, 0] ![256, 256] inb_S1024x256_S256x256_512_0))
      (outsAt0 m c (t.val - 1) (Nat.lt_of_le_of_lt (Nat.sub_le _ _) t.isLt))
      (outsAt0 m c t.val t.isLt) := by
  rw [outsAt0_B m c t h]
  apply Exists.intro
  apply Exists.intro
  apply Exists.intro
  refine ⟨?_, ?_, ?_, ?_, ?_, ?_, ?_⟩
  · intro s j
    frame_out
    refine (canon_skip _ _ _ _ (2 : Fin 3) (Or.inl ?_)).trans ?_
    · show 256 * 2 + j.val < 768
      omega
    refine (canon_hit _ _ _ _ (ix3 0 s j) ?_).trans ?_
    · exact Fin.forall_fin_succ.mpr ⟨rfl, Fin.forall_fin_two.mpr ⟨(Nat.zero_add _).symm, rfl⟩⟩
    rfl
  · intro j d
    frame_out
    refine (canon_skip _ _ _ _ (0 : Fin 3) (Or.inl ?_)).trans ?_
    · show 2 < 3
      omega
    refine (canon_hit _ _ _ _ (ix3 0 j d) ?_).trans ?_
    · exact Fin.forall_fin_succ.mpr ⟨rfl, Fin.forall_fin_two.mpr ⟨(Nat.zero_add _).symm, (Nat.zero_add _).symm⟩⟩
    rfl
  · intro d
    frame_out
    refine (View.read_writes_cons_unit_of_not_mem _ _ _ _ _ _ rfl 0 (Or.inl ?_)).trans ?_
    · show 2 < 3
      omega
    refine (View.read_writes_cons_unit_of_mem _ _ _ _ _ _ (ix2 0 d) rfl ?_).trans ?_
    · exact Fin.forall_fin_two.mpr ⟨rfl, (Nat.zero_add _).symm⟩
    rfl
  · frame_out
    refine (View.read_writes_cons_unit_of_not_mem _ _ _ _ _ _ rfl 0 (Or.inl ?_)).trans ?_
    · show 2 < 3
      omega
    refine (View.read_writes_cons_unit_of_mem _ _ _ _ _ _ (ix2 0 0) rfl ?_).trans ?_
    · exact Fin.forall_fin_two.mpr ⟨rfl, (Nat.zero_add _).symm⟩
    exact m_75 _
  · rw [read_unread_whole]
    refine View.ld_unit_apply_of _ _ _ _ _ _ ?_
    exact Fin.forall_fin_two.mpr ⟨rfl, rfl⟩
  · intro j d
    rw [read_unread_whole]
    refine View.ld_unit_apply_of _ _ _ _ _ _ ?_
    exact Fin.forall_fin_succ.mpr ⟨rfl, Fin.forall_fin_two.mpr ⟨(Nat.zero_add _).symm, (Nat.zero_add _).symm⟩⟩
  · intro d
    rw [read_unread_whole]
    refine View.ld_unit_apply_of _ _ _ _ _ _ ?_
    exact Fin.forall_fin_two.mpr ⟨rfl, (Nat.zero_add _).symm⟩

theorem stepB_3 (c : Dev nD) (t : Fin cfg0.N) (h : ¬ t.val % 16 = 0) : Step 3
      (subf (extractStridedSlice S256x1 ![0, 3] (gat m c t) slices_S256x128_o0_3_S256x1) (extractStridedSlice S256x1 ![0, 7] (cms m c t) slices_S256x128_o0_7_S256x1))
      (k0_pay77 (k0_pay9 (cms m c t))) (k0_pay76 (k0_pay8 (gat m c t))) (k0_pay88 (k0_pay9 (cms m c t)))
      (View.ld (iblk m c 0 t) (Rect.unit ![0, 0, 384] ![1, 256, 128] inb_S1x256x1024_S1x256x128_0_0_384))
      (View.ld (iblk m c 0 t) (Rect.unit ![0, 0, 896] ![1, 256, 128] inb_S1x256x1024_S1x256x128_0_0_896))
      (View.ld (iblk m c 1 t) (Rect.unit ![0, 0, 768] ![1, 256, 256] inb_S1x256x1024_S1x256x256_0_0_768))
      (View.ld (iblk m c 2 t) (Rect.unit ![0, 0, 768] ![1, 256, 256] inb_S1x256x1024_S1x256x256_0_0_768))
      (View.ld (iblk m c 5 t) (Rect.unit ![768, 0] ![256, 256] inb_S1024x256_S256x256_768_0))
      (outsAt0 m c (t.val - 1) (Nat.lt_of_le_of_lt (Nat.sub_le _ _) t.isLt))
      (outsAt0 m c t.val t.isLt) := by
  rw [outsAt0_B m c t h]
  apply Exists.intro
  apply Exists.intro
  apply Exists.intro
  refine ⟨?_, ?_, ?_, ?_, ?_, ?_, ?_⟩
  · intro s j
    frame_out
    refine (canon_hit _ _ _ _ (ix3 0 s j) ?_).trans ?_
    · exact Fin.forall_fin_succ.mpr ⟨rfl, Fin.forall_fin_two.mpr ⟨(Nat.zero_add _).symm, rfl⟩⟩
    rfl
  · intro j d
    frame_out
    refine (canon_hit _ _ _ _ (ix3 0 j d) ?_).trans ?_
    · exact Fin.forall_fin_succ.mpr ⟨rfl, Fin.forall_fin_two.mpr ⟨(Nat.zero_add _).symm, (Nat.zero_add _).symm⟩⟩
    rfl
  · intro d
    frame_out
    refine (View.read_writes_cons_unit_of_mem _ _ _ _ _ _ (ix2 0 d) rfl ?_).trans ?_
    · exact Fin.forall_fin_two.mpr ⟨rfl, (Nat.zero_add _).symm⟩
    rfl
  · frame_out
    refine (View.read_writes_cons_unit_of_mem _ _ _ _ _ _ (ix2 0 0) rfl ?_).trans ?_
    · exact Fin.forall_fin_two.mpr ⟨rfl, (Nat.zero_add _).symm⟩
    exact m_2 _
  · rw [read_unread_whole]
    refine View.ld_unit_apply_of _ _ _ _ _ _ ?_
    exact Fin.forall_fin_two.mpr ⟨rfl, rfl⟩
  · intro j d
    rw [read_unread_whole]
    refine View.ld_unit_apply_of _ _ _ _ _ _ ?_
    exact Fin.forall_fin_succ.mpr ⟨rfl, Fin.forall_fin_two.mpr ⟨(Nat.zero_add _).symm, (Nat.zero_add _).symm⟩⟩
  · intro d
    rw [read_unread_whole]
    refine View.ld_unit_apply_of _ _ _ _ _ _ ?_
    exact Fin.forall_fin_two.mpr ⟨rfl, (Nat.zero_add _).symm⟩

theorem stepA_0 (c : Dev nD) (t : Fin cfg0.N) (h : t.val % 16 = 0) : Step 0
      (subf (extractStridedSlice S256x1 ![0, 0] (gat m c t) slices_S256x128_o0_0_S256x1) (extractStridedSlice S256x1 ![0, 4] (cms m c t) slices_S256x128_o0_4_S256x1))
      (k0_pay12 (cms m c t)) (k0_pay11 (gat m c t)) (k0_pay24 (k0_pay9 (cms m c t)))
      (View.ld (iblk m c 0 t) (Rect.unit ![0, 0, 0] ![1, 256, 128] inb_S1x256x1024_S1x256x128_0_0_0))
      (View.ld (iblk m c 0 t) (Rect.unit ![0, 0, 512] ![1, 256, 128] inb_S1x256x1024_S1x256x128_0_0_512))
      (View.ld (iblk m c 1 t) (Rect.unit ![0, 0, 0] ![1, 256, 256] inb_S1x256x1024_S1x256x256_0_0_0))
      (View.ld (iblk m c 2 t) (Rect.unit ![0, 0, 0] ![1, 256, 256] inb_S1x256x1024_S1x256x256_0_0_0))
      (View.ld (iblk m c 5 t) (Rect.unit ![0, 0] ![256, 256] inb_S1024x256_S256x256_0_0))
      (fun _ => (0 : EReal), fun _ => (0 : EReal), fun _ => (0 : EReal), fun _ => (0 : EReal))
      (outsAt0 m c t.val t.isLt) := by
  rw [outsAt0_A m c t h]
  apply Exists.intro
  apply Exists.intro
  apply Exists.intro
  refine ⟨?_, ?_, ?_, ?_, ?_, ?_, ?_⟩
  · intro s j
    frame_out
    refine (canon_skip _ _ _ _ (2 : Fin 3) (Or.inl ?_)).trans ?_
    · show 256 * 0 + j.val < 768
      omega
    refine (canon_skip _ _ _ _ (2 : Fin 3) (Or.inl ?_)).trans ?_
    · show 256 * 0 + j.val < 512
      omega
    refine (canon_skip _ _ _ _ (2 : Fin 3) (Or.inl ?_)).trans ?_
    · show 256 * 0 + j.val < 256
      omega
    refine (canon_hit _ _ _ _ (ix3 0 s j) ?_).trans ?_
    · exact Fin.forall_fin_succ.mpr ⟨rfl, Fin.forall_fin_two.mpr ⟨(Nat.zero_add _).symm, rfl⟩⟩
    rfl
  · intro j d
    frame_out
    refine (canon_skip _ _ _ _ (0 : Fin 3) (Or.inl ?_)).trans ?_
    · show 0 < 3
      omega
    refine (canon_skip _ _ _ _ (0 : Fin 3) (Or.inl ?_)).trans ?_
    · show 0 < 2
      omega
    refine (canon_skip _ _ _ _ (0 : Fin 3) (Or.inl ?_)).trans ?_
    · show 0 < 1
      omega
    refine (canon_hit _ _ _ _ (ix3 0 j d) ?_).trans ?_
    · exact Fin.forall_fin_succ.mpr ⟨rfl, Fin.forall_fin_two.mpr ⟨(Nat.zero_add _).symm, (Nat.zero_add _).symm⟩⟩
    rfl
  · intro d
    frame_out
    refine (canon_skip _ _ _ _ (0 : Fin 2) (Or.inl ?_)).trans ?_
    · show 0 < 3
      omega
    refine (canon_skip _ _ _ _ (0 : Fin 2) (Or.inl ?_)).trans ?_
    · show 0 < 2
      omega
    refine (canon_skip _ _ _ _ (0 : Fin 2) (Or.inl ?_)).trans ?_
    · show 0 < 1
      omega
    refine (canon_hit _ _ _ _ (ix2 0 d) ?_).trans ?_
    · exact Fin.forall_fin_two.mpr ⟨rfl, (Nat.zero_add _).symm⟩
    rfl
  · frame_out
    refine (canon_skip _ _ _ _ (0 : Fin 2) (Or.inl ?_)).trans ?_
    · show 0 < 3
      omega
    refine (canon_skip _ _ _ _ (0 : Fin 2) (Or.inl ?_)).trans ?_
    · show 0 < 2
      omega
    refine (canon_skip _ _ _ _ (0 : Fin 2) (Or.inl ?_)).trans ?_
    · show 0 < 1
      omega
    refine (canon_hit _ _ _ _ (ix2 0 0) ?_).trans ?_
    · exact Fin.forall_fin_two.mpr ⟨rfl, (Nat.zero_add _).symm⟩
    exact (m_32 _).trans (m_31 _ _ _ _)
  · rw [View.readCov_eq_canon']
    refine (canon_hit _ _ _ _ (ix2 0 0) ?_).trans ?_
    · exact Fin.forall_fin_two.mpr ⟨rfl, rfl⟩
    pointwise [k0_pay5]
  · intro j d
    rw [View.readCov_eq_canon']
    refine (canon_hit _ _ _ _ (ix3 0 j d) ?_).trans ?_
    · exact Fin.forall_fin_succ.mpr ⟨rfl, Fin.forall_fin_two.mpr ⟨by show 0 + 1 * j.val = 0 + j.val; omega, by show 0 + 1 * d.val = 0 + d.val; omega⟩⟩
    pointwise [k0_pay3]
  · intro d
    rw [View.readCov_eq_canon']
    refine (canon_hit _ _ _ _ (ix2 0 d) ?_).trans ?_
    · exact Fin.forall_fin_two.mpr ⟨rfl, by show 0 + 1 * d.val = 0 + d.val; omega⟩
    pointwise [k0_pay4]

theorem stepA_1 (c : Dev nD) (t : Fin cfg0.N) (h : t.val % 16 = 0) : Step 1
      (subf (extractStridedSlice S256x1 ![0, 1] (gat m c t) slices_S256x128_o0_1_S256x1) (extractStridedSlice S256x1 ![0, 5] (cms m c t) slices_S256x128_o0_5_S256x1))
      (k0_pay34 (k0_pay9 (cms m c t))) (k0_pay33 (k0_pay8 (gat m c t))) (k0_pay46 (k0_pay9 (cms m c t)))
      (View.ld (iblk m c 0 t) (Rect.unit ![0, 0, 128] ![1, 256, 128] inb_S1x256x1024_S1x256x128_0_0_128))
      (View.ld (iblk m c 0 t) (Rect.unit ![0, 0, 640] ![1, 256, 128] inb_S1x256x1024_S1x256x128_0_0_640))
      (View.ld (iblk m c 1 t) (Rect.unit ![0, 0, 256] ![1, 256, 256] inb_S1x256x1024_S1x256x256_0_0_256))
      (View.ld (iblk m c 2 t) (Rect.unit ![0, 0, 256] ![1, 256, 256] inb_S1x256x1024_S1x256x256_0_0_256))
      (View.ld (iblk m c 5 t) (Rect.unit ![256, 0] ![256, 256] inb_S1024x256_S256x256_256_0))
      (fun _ => (0 : EReal), fun _ => (0 : EReal), fun _ => (0 : EReal), fun _ => (0 : EReal))
      (outsAt0 m c t.val t.isLt) := by
  rw [outsAt0_A m c t h]
  apply Exists.intro
  apply Exists.intro
  apply Exists.intro
  refine ⟨?_, ?_, ?_, ?_, ?_, ?_, ?_⟩
  · intro s j
    frame_out
    refine (canon_skip _ _ _ _ (2 : Fin 3) (Or.inl ?_)).trans ?_
    · show 256 * 1 + j.val < 768
      omega
    refine (canon_skip _ _ _ _ (2 : Fin 3) (Or.inl ?_)).trans ?_
    · show 256 * 1 + j.val < 512
      omega
    refine (canon_hit _ _ _ _ (ix3 0 s j) ?_).trans ?_
    · exact Fin.forall_fin_succ.mpr ⟨rfl, Fin.forall_fin_two.mpr ⟨(Nat.zero_add _).symm, rfl⟩⟩
    rfl
  · intro j d
    frame_out
    refine (canon_skip _ _ _ _ (0 : Fin 3) (Or.inl ?_)).trans ?_
    · show 1 < 3
      omega
    refine (canon_skip _ _ _ _ (0 : Fin 3) (Or.inl ?_)).trans ?_
    · show 1 < 2
      omega
    refine (canon_hit _ _ _ _ (ix3 0 j d) ?_).trans ?_
    · exact Fin.forall_fin_succ.mpr ⟨rfl, Fin.forall_fin_two.mpr ⟨(Nat.zero_add _).symm, (Nat.zero_add _).symm⟩⟩
    rfl
  · intro d
    frame_out
    refine (canon_skip _ _ _ _ (0 : Fin 2) (Or.inl ?_)).trans ?_
    · show 1 < 3
      omega
    refine (canon_skip _ _ _ _ (0 : Fin 2) (Or.inl ?_)).trans ?_
    · show 1 < 2
      omega
    refine (canon_hit _ _ _ _ (ix2 0 d) ?_).trans ?_
    · exact Fin.forall_fin_two.mpr ⟨rfl, (Nat.zero_add _).symm⟩
    rfl
  · frame_out
    refine (canon_skip _ _ _ _ (0 : Fin 2) (Or.inl ?_)).trans ?_
    · show 1 < 3
      omega
    refine (canon_skip _ _ _ _ (0 : Fin 2) (Or.inl ?_)).trans ?_
    · show 1 < 2
      omega
    refine (canon_hit _ _ _ _ (ix2 0 0) ?_).trans ?_
    · exact Fin.forall_fin_two.mpr ⟨rfl, (Nat.zero_add _).symm⟩
    exact m_53 _
  · rw [View.readCov_eq_canon']
    refine (canon_skip _ _ _ _ (0 : Fin 2) (Or.inr ?_)).trans ?_
    · show 0 + 1 ≤ 1 + 1 * 0
      omega
    refine (canon_hit _ _ _ _ (ix2 1 0) ?_).trans ?_
    · exact Fin.forall_fin_two.mpr ⟨rfl, rfl⟩
    pointwise [k0_pay5]
  · intro j d
    rw [View.readCov_eq_canon']
    refine (canon_skip _ _ _ _ (0 : Fin 3) (Or.inr ?_)).trans ?_
    · show 0 + 1 ≤ 1 + 1 * 0
      omega
    refine (canon_hit _ _ _ _ (ix3 1 j d) ?_).trans ?_
    · exact Fin.forall_fin_succ.mpr ⟨rfl, Fin.forall_fin_two.mpr ⟨by show 0 + 1 * j.val = 0 + j.val; omega, by show 0 + 1 * d.val = 0 + d.val; omega⟩⟩
    pointwise [k0_pay3]
  · intro d
    rw [View.readCov_eq_canon']
    refine (canon_skip _ _ _ _ (0 : Fin 2) (Or.inr ?_)).trans ?_
    · show 0 + 1 ≤ 1 + 1 * 0
      omega
    refine (canon_hit _ _ _ _ (ix2 1 d) ?_).trans ?_
    · exact Fin.forall_fin_two.mpr ⟨rfl, by show 0 + 1 * d.val = 0 + d.val; omega⟩
    pointwise [k0_pay4]

theorem stepA_2 (c : Dev nD) (t : Fin cfg0.N) (h : t.val % 16 = 0) : Step 2
      (subf (extractStridedSlice S256x1 ![0, 2] (gat m c t) slices_S256x128_o0_2_S256x1) (extractStridedSlice S256x1 ![0, 6] (cms m c t) slices_S256x128_o0_6_S256x1))
      (k0_pay55 (k0_pay9 (cms m c t))) (k0_pay54 (k0_pay8 (gat m c t))) (k0_pay67 (k0_pay9 (cms m c t)))
      (View.ld (iblk m c 0 t) (Rect.unit ![0, 0, 256] ![1, 256, 128] inb_S1x256x1024_S1x256x128_0_0_256))
      (View.ld (iblk m c 0 t) (Rect.unit ![0, 0, 768] ![1, 256, 128] inb_S1x256x1024_S1x256x128_0_0_768))
      (View.ld (iblk m c 1 t) (Rect.unit ![0, 0, 512] ![1, 256, 256] inb_S1x256x1024_S1x256x256_0_0_512))
      (View.ld (iblk m c 2 t) (Rect.unit ![0, 0, 512] ![1, 256, 256] inb_S1x256x1024_S1x256x256_0_0_512))
      (View.ld (iblk m c 5 t) (Rect.unit ![512, 0] ![256, 256] inb_S1024x256_S256x256_512_0))
      (fun _ => (0 : EReal), fun _ => (0 : EReal), fun _ => (0 : EReal), fun _ => (0 : EReal))
      (outsAt0 m c t.val t.isLt) := by
  rw [outsAt0_A m c t h]
  apply Exists.intro
  apply Exists.intro
  apply Exists.intro
  refine ⟨?_, ?_, ?_, ?_, ?_, ?_, ?_⟩
  · intro s j
    frame_out
    refine (canon_skip _ _ _ _ (2 : Fin 3) (Or.inl ?_)).trans ?_
    · show 256 * 2 + j.val < 768
      omega
    refine (canon_hit _ _ _ _ (ix3 0 s j) ?_).trans ?_
    · exact Fin.forall_fin_succ.mpr ⟨rfl, Fin.forall_fin_two.mpr ⟨(Nat.zero_add _).symm, rfl⟩⟩
    rfl
  · intro j d
    frame_out
    refine (canon_skip _ _ _ _ (0 : Fin 3) (Or.inl ?_)).trans ?_
    · show 2 < 3
      omega
    refine (canon_hit _ _ _ _ (ix3 0 j d) ?_).trans ?_
    · exact Fin.forall_fin_succ.mpr ⟨rfl, Fin.forall_fin_two.mpr ⟨(Nat.zero_add _).symm, (Nat.zero_add _).symm⟩⟩
    rfl
  · intro d
    frame_out
    refine (canon_skip _ _ _ _ (0 : Fin 2) (Or.inl ?_)).trans ?_
    · show 2 < 3
      omega
    refine (canon_hit _ _ _ _ (ix2 0 d) ?_).trans ?_
    · exact Fin.forall_fin_two.mpr ⟨rfl, (Nat.zero_add _).symm⟩
    rfl
  · frame_out
    refine (canon_skip _ _ _ _ (0 : Fin 2) (Or.inl ?_)).trans ?_
    · show 2 < 3
      omega
    refine (canon_hit _ _ _ _ (ix2 0 0) ?_).trans ?_
    · exact Fin.forall_fin_two.mpr ⟨rfl, (Nat.zero_add _).symm⟩
    exact m_75 _
  · rw [View.readCov_eq_canon']
    refine (canon_skip _ _ _ _ (0 : Fin 2) (Or.inr ?_)).trans ?_
    · show 1 + 1 ≤ 2 + 1 * 0
      omega
    refine (canon_skip _ _ _ _ (0 : Fin 2) (Or.inr ?_)).trans ?_
    · show 0 + 1 ≤ 2 + 1 * 0
      omega
    refine (canon_hit _ _ _ _ (ix2 2 0) ?_).trans ?_
    · exact Fin.forall_fin_two.mpr ⟨rfl, rfl⟩
    pointwise [k0_pay5]
  · intro j d
    rw [View.readCov_eq_canon']
    refine (canon_skip _ _ _ _ (0 : Fin 3) (Or.inr ?_)).trans ?_
    · show 1 + 1 ≤ 2 + 1 * 0
      omega
    refine (canon_skip _ _ _ _ (0 : Fin 3) (Or.inr ?_)).trans ?_
    · show 0 + 1 ≤ 2 + 1 * 0
      omega
    refine (canon_hit _ _ _ _ (ix3 2 j d) ?_).trans ?_
    · exact Fin.forall_fin_succ.mpr ⟨rfl, Fin.forall_fin_two.mpr ⟨by show 0 + 1 * j.val = 0 + j.val; omega, by show 0 + 1 * d.val = 0 + d.val; omega⟩⟩
    pointwise [k0_pay3]
  · intro d
    rw [View.readCov_eq_canon']
    refine (canon_skip _ _ _ _ (0 : Fin 2) (Or.inr ?_)).trans ?_
    · show 1 + 1 ≤ 2 + 1 * 0
      omega
    refine (canon_skip _ _ _ _ (0 : Fin 2) (Or.inr ?_)).trans ?_
    · show 0 + 1 ≤ 2 + 1 * 0
      omega
    refine (canon_hit _ _ _ _ (ix2 2 d) ?_).trans ?_
    · exact Fin.forall_fin_two.mpr ⟨rfl, by show 0 + 1 * d.val = 0 + d.val; omega⟩
    pointwise [k0_pay4]

theorem stepA_3 (c : Dev nD) (t : Fin cfg0.N) (h : t.val % 16 = 0) : Step 3
      (subf (extractStridedSlice S256x1 ![0, 3] (gat m c t) slices_S256x128_o0_3_S256x1) (extractStridedSlice S256x1 ![0, 7] (cms m c t) slices_S256x128_o0_7_S256x1))
      (k0_pay77 (k0_pay9 (cms m c t))) (k0_pay76 (k0_pay8 (gat m c t))) (k0_pay88 (k0_pay9 (cms m c t)))
      (View.ld (iblk m c 0 t) (Rect.unit ![0, 0, 384] ![1, 256, 128] inb_S1x256x1024_S1x256x128_0_0_384))
      (View.ld (iblk m c 0 t) (Rect.unit ![0, 0, 896] ![1, 256, 128] inb_S1x256x1024_S1x256x128_0_0_896))
      (View.ld (iblk m c 1 t) (Rect.unit ![0, 0, 768] ![1, 256, 256] inb_S1x256x1024_S1x256x256_0_0_768))
      (View.ld (iblk m c 2 t) (Rect.unit ![0, 0, 768] ![1, 256, 256] inb_S1x256x1024_S1x256x256_0_0_768))
      (View.ld (iblk m c 5 t) (Rect.unit ![768, 0] ![256, 256] inb_S1024x256_S256x256_768_0))
      (fun _ => (0 : EReal), fun _ => (0 : EReal), fun _ => (0 : EReal), fun _ => (0 : EReal))
      (outsAt0 m c t.val t.isLt) := by
  rw [outsAt0_A m c t h]
  apply Exists.intro
  apply Exists.intro
  apply Exists.intro
  refine ⟨?_, ?_, ?_, ?_, ?_, ?_, ?_⟩
  · intro s j
    frame_out
    refine (canon_hit _ _ _ _ (ix3 0 s j) ?_).trans ?_
    · exact Fin.forall_fin_succ.mpr ⟨rfl, Fin.forall_fin_two.mpr ⟨(Nat.zero_add _).symm, rfl⟩⟩
    rfl
  · intro j d
    frame_out
    refine (canon_hit _ _ _ _ (ix3 0 j d) ?_).trans ?_
    · exact Fin.forall_fin_succ.mpr ⟨rfl, Fin.forall_fin_two.mpr ⟨(Nat.zero_add _).symm, (Nat.zero_add _).symm⟩⟩
    rfl
  · intro d
    frame_out
    refine (canon_hit _ _ _ _ (ix2 0 d) ?_).trans ?_
    · exact Fin.forall_fin_two.mpr ⟨rfl, (Nat.zero_add _).symm⟩
    rfl
  · frame_out
    refine (canon_hit _ _ _ _ (ix2 0 0) ?_).trans ?_
    · exact Fin.forall_fin_two.mpr ⟨rfl, (Nat.zero_add _).symm⟩
    exact m_2 _
  · rw [View.readCov_eq_canon']
    refine (canon_skip _ _ _ _ (0 : Fin 2) (Or.inr ?_)).trans ?_
    · show 2 + 1 ≤ 3 + 1 * 0
      omega
    refine (canon_skip _ _ _ _ (0 : Fin 2) (Or.inr ?_)).trans ?_
    · show 1 + 1 ≤ 3 + 1 * 0
      omega
    refine (canon_skip _ _ _ _ (0 : Fin 2) (Or.inr ?_)).trans ?_
    · show 0 + 1 ≤ 3 + 1 * 0
      omega
    refine (canon_hit _ _ _ _ (ix2 3 0) ?_).trans ?_
    · exact Fin.forall_fin_two.mpr ⟨rfl, rfl⟩
    pointwise [k0_pay5]
  · intro j d
    rw [View.readCov_eq_canon']
    refine (canon_skip _ _ _ _ (0 : Fin 3) (Or.inr ?_)).trans ?_
    · show 2 + 1 ≤ 3 + 1 * 0
      omega
    refine (canon_skip _ _ _ _ (0 : Fin 3) (Or.inr ?_)).trans ?_
    · show 1 + 1 ≤ 3 + 1 * 0
      omega
    refine (canon_skip _ _ _ _ (0 : Fin 3) (Or.inr ?_)).trans ?_
    · show 0 + 1 ≤ 3 + 1 * 0
      omega
    refine (canon_hit _ _ _ _ (ix3 3 j d) ?_).trans ?_
    · exact Fin.forall_fin_succ.mpr ⟨rfl, Fin.forall_fin_two.mpr ⟨by show 0 + 1 * j.val = 0 + j.val; omega, by show 0 + 1 * d.val = 0 + d.val; omega⟩⟩
    pointwise [k0_pay3]
  · intro d
    rw [View.readCov_eq_canon']
    refine (canon_skip _ _ _ _ (0 : Fin 2) (Or.inr ?_)).trans ?_
    · show 2 + 1 ≤ 3 + 1 * 0
      omega
    refine (canon_skip _ _ _ _ (0 : Fin 2) (Or.inr ?_)).trans ?_
    · show 1 + 1 ≤ 3 + 1 * 0
      omega
    refine (canon_skip _ _ _ _ (0 : Fin 2) (Or.inr ?_)).trans ?_
    · show 0 + 1 ≤ 3 + 1 * 0
      omega
    refine (canon_hit _ _ _ _ (ix2 3 d) ?_).trans ?_
    · exact Fin.forall_fin_two.mpr ⟨rfl, by show 0 + 1 * d.val = 0 + d.val; omega⟩
    pointwise [k0_pay4]

end Cert.Proof.Mlstm

end

end
-- ==== Proof.MlstmIn.lean ====
/-
  What one block of the mLSTM call (`Kernel7Ideal`) is given: the rows of its inputs, the gates' biases, the norm's weights
  and the triangle of ones.
-/
module

public import proofs.«01_k».proof.Proof.Gen.Kernel7Ideal.Value
public import Idealize.ShloMosaic.Lib.Pipeline.ValueKit

@[expose] public section

set_option maxRecDepth 16384

noncomputable section

namespace Cert.Proof.Mlstm

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies: the sequence and the chunk, or the origin. -/
theorem idx : ∀ t : Fin cfg0.N,
    win0_0.index t = ![t.val / 16, t.val % 16, 0] ∧ win0_1.index t = ![t.val / 16, t.val % 16, 0]
    ∧ win0_2.index t = ![t.val / 16, t.val % 16, 0] ∧ win0_3.index t = ![t.val / 16, t.val % 16, 0]
    ∧ win0_4.index t = ![0, 0] ∧ win0_5.index t = ![0, 0] ∧ win0_6.index t = ![0, 0]
    ∧ win0_7.index t = ![t.val / 16, t.val % 16, 0] := by
  decide +kernel

/-- The sequence of block `t`. -/
def sq (t : Fin cfg0.N) : Fin 16 := ⟨t.val / 16, by have h : t.val < 256 := t.isLt; omega⟩
/-- Step `i` of block `t` within its sequence. -/
def stp (t : Fin cfg0.N) (i : Fin 256) : Fin 4096 := ⟨t.val % 16 * 256 + i.val, by omega⟩
/-- Step `i` of block `t` among all rows. -/
def row (t : Fin cfg0.N) (i : Fin 256) : Fin 65536 := ⟨(sq t).val * 4096 + (stp t i).val, by omega⟩

theorem emb0 (t : Fin cfg0.N) (i : Fin 256) (k : Fin 1024) :
    (((cfg0.win 0).blk t).view.emb (ix3 0 i k) : S16x4096x1024.Idx) = ix3 (sq t) (stp t i) k := by
  have i0 := idx t
  unfold sq stp
  blk_ext [i0]
theorem emb1 (t : Fin cfg0.N) (i : Fin 256) (k : Fin 1024) :
    (((cfg0.win 1).blk t).view.emb (ix3 0 i k) : S16x4096x1024.Idx) = ix3 (sq t) (stp t i) k := by
  have i0 := idx t
  unfold sq stp
  blk_ext [i0]
theorem emb2 (t : Fin cfg0.N) (i : Fin 256) (k : Fin 1024) :
    (((cfg0.win 2).blk t).view.emb (ix3 0 i k) : S16x4096x1024.Idx) = ix3 (sq t) (stp t i) k := by
  have i0 := idx t
  unfold sq stp
  blk_ext [i0]
theorem emb3 (t : Fin cfg0.N) (i : Fin 256) (k : Fin 128) :
    (((cfg0.win 3).blk t).view.emb (ix3 0 i k) : S16x4096x128.Idx) = ix3 (sq t) (stp t i) k := by
  have i0 := idx t
  unfold sq stp
  blk_ext [i0]
theorem emb4 (t : Fin cfg0.N) (k : Fin 128) :
    (((cfg0.win 4).blk t).view.emb (ix2 0 k) : S1x128.Idx) = ix2 0 k := by
  have i0 := idx t
  blk_ext [i0]
theorem emb5 (t : Fin cfg0.N) (i : Fin 1024) (k : Fin 256) :
    (((cfg0.win 5).blk t).view.emb (ix2 i k) : S1024x256.Idx) = ix2 i k := by
  have i0 := idx t
  blk_ext [i0]
theorem emb6 (t : Fin cfg0.N) (i : Fin 256) (k : Fin 256) :
    (((cfg0.win 6).blk t).view.emb (ix2 i k) : S256x256.Idx) = ix2 i k := by
  have i0 := idx t
  blk_ext [i0]
theorem emb7 (t : Fin cfg0.N) (i : Fin 256) (k : Fin 1024) :
    (((cfg0.win 7).blk t).view.emb (ix3 0 i k) : S16x4096x1024.Idx) = ix3 (sq t) (stp t i) k := by
  have i0 := idx t
  unfold sq stp
  blk_ext [i0]

theorem rows1024 (x : FVec Ideal S65536x1024 .bf16) (n : Fin 16) (s : Fin 4096) (k : Fin 1024) :
    (shapeCast S16x4096x1024 x shapeCasts_S65536x1024_S16x4096x1024 : FVec Ideal S16x4096x1024 .bf16) (ix3 n s k)
      = x (ix2 ⟨n.val * 4096 + s.val, by omega⟩ k) := by
  pointwise
theorem rows128 (x : FVec Ideal S65536x128 .f32) (n : Fin 16) (s : Fin 4096) (k : Fin 128) :
    (shapeCast S16x4096x128 x shapeCasts_S65536x128_S16x4096x128 : FVec Ideal S16x4096x128 .f32) (ix3 n s k)
      = x (ix2 ⟨n.val * 4096 + s.val, by omega⟩ k) := by
  pointwise

theorem blk0 (c : Dev nD) (t : Fin cfg0.N) (i : Fin 256) (k : Fin 1024) :
    iblk m c 0 t (ix3 0 i k) = m ((c.tc : Thread nD τ).loc main_arg0) (ix2 (row t i) k) := by
  have e : V m c main_v5 = (shapeCast S16x4096x1024 (m ((c.tc : Thread nD τ).loc main_arg0)) shapeCasts_S65536x1024_S16x4096x1024 : FVec Ideal S16x4096x1024 .bf16) := by
    entry_read
    rfl
  refine Eq.trans ?_ (rows1024 (m ((c.tc : Thread nD τ).loc main_arg0)) (sq t) (stp t i) k)
  rw [← e]
  exact congrArg (V m c main_v5) (emb0 t i k)
theorem blk1 (c : Dev nD) (t : Fin cfg0.N) (i : Fin 256) (k : Fin 1024) :
    iblk m c 1 t (ix3 0 i k) = m ((c.tc : Thread nD τ).loc main_arg1) (ix2 (row t i) k) := by
  have e : V m c main_v6 = (shapeCast S16x4096x1024 (m ((c.tc : Thread nD τ).loc main_arg1)) shapeCasts_S65536x1024_S16x4096x1024 : FVec Ideal S16x4096x1024 .bf16) := by
    entry_read
    rfl
  refine Eq.trans ?_ (rows1024 (m ((c.tc : Thread nD τ).loc main_arg1)) (sq t) (stp t i) k)
  rw [← e]
  exact congrArg (V m c main_v6) (emb1 t i k)
theorem blk2 (c : Dev nD) (t : Fin cfg0.N) (i : Fin 256) (k : Fin 1024) :
    iblk m c 2 t (ix3 0 i k) = m ((c.tc : Thread nD τ).loc main_arg2) (ix2 (row t i) k) := by
  have e : V m c main_v7 = (shapeCast S16x4096x1024 (m ((c.tc : Thread nD τ).loc main_arg2)) shapeCasts_S65536x1024_S16x4096x1024 : FVec Ideal S16x4096x1024 .bf16) := by
    entry_read
    rfl
  refine Eq.trans ?_ (rows1024 (m ((c.tc : Thread nD τ).loc main_arg2)) (sq t) (stp t i) k)
  rw [← e]
  exact congrArg (V m c main_v7) (emb2 t i k)
theorem blk3 (c : Dev nD) (t : Fin cfg0.N) (i : Fin 256) (k : Fin 128) :
    iblk m c 3 t (ix3 0 i k) = m ((c.tc : Thread nD τ).loc main_arg3) (ix2 (row t i) k) := by
  have e : V m c main_v8 = (shapeCast S16x4096x128 (m ((c.tc : Thread nD τ).loc main_arg3)) shapeCasts_S65536x128_S16x4096x128 : FVec Ideal S16x4096x128 .f32) := by
    entry_read
    rfl
  refine Eq.trans ?_ (rows128 (m ((c.tc : Thread nD τ).loc main_arg3)) (sq t) (stp t i) k)
  rw [← e]
  exact congrArg (V m c main_v8) (emb3 t i k)

/-- The gates' biases side by side, as the call is given them. -/
def biasOf (x0 x1 : FVec Ideal S4 .f32) (x2 : FVec Ideal S120 .f32) : FVec Ideal S1x128 .f32 :=
  shapeCast S1x128 (concatenate S128 0 [⟨S4, x0⟩, ⟨S4, x1⟩, ⟨S120, x2⟩] concatenates_S4_S4_S120_S128_d0 : FVec Ideal S128 .f32) shapeCasts_S128_S1x128

theorem bias_in (x0 x1 : FVec Ideal S4 .f32) (x2 : FVec Ideal S120 .f32) (h : Fin 4) :
    biasOf x0 x1 x2 (ix2 0 ⟨h.val, by omega⟩) = x0 (ix1 h) := by
  pointwise [biasOf]
theorem bias_forget (x0 x1 : FVec Ideal S4 .f32) (x2 : FVec Ideal S120 .f32) (h : Fin 4) :
    biasOf x0 x1 x2 (ix2 0 ⟨4 + h.val, by omega⟩) = x1 (ix1 h) := by
  pointwise [biasOf]

theorem bias_entry (c : Dev nD) : V m c main_v2 = biasOf (m ((c.tc : Thread nD τ).loc main_arg4)) (m ((c.tc : Thread nD τ).loc main_arg5))
    (broadcastInDim S120 ![] bcast_S_S120 (constant (F := Ideal) S_ .f32 0x00000000#32)) := by
  entry_read
  rfl

theorem blk4 (c : Dev nD) (t : Fin cfg0.N) (k : Fin 128) :
    iblk m c 4 t (ix2 0 k) = biasOf (m ((c.tc : Thread nD τ).loc main_arg4)) (m ((c.tc : Thread nD τ).loc main_arg5))
    (broadcastInDim S120 ![] bcast_S_S120 (constant (F := Ideal) S_ .f32 0x00000000#32)) (ix2 0 k) := by
  rw [← bias_entry m c]
  exact congrArg (V m c main_v2) (emb4 t k)

theorem blk5 (c : Dev nD) (t : Fin cfg0.N) (i : Fin 1024) (k : Fin 256) :
    iblk m c 5 t (ix2 i k) = m ((c.tc : Thread nD τ).loc main_arg6) (ix1 i) := by
  have e : V m c main_v10 = (broadcastInDim S1024x256 ![0, 1] bcast_S1024x1_S1024x256_0_1 (shapeCast S1024x1 (m ((c.tc : Thread nD τ).loc main_arg6)) shapeCasts_S1024_S1024x1 : FVec Ideal S1024x1 .f32) : FVec Ideal S1024x256 .f32) := by
    entry_read
    rfl
  have r : ∀ x : FVec Ideal S1024 .f32, (broadcastInDim S1024x256 ![0, 1] bcast_S1024x1_S1024x256_0_1 (shapeCast S1024x1 x shapeCasts_S1024_S1024x1 : FVec Ideal S1024x1 .f32) : FVec Ideal S1024x256 .f32) (ix2 i k) = x (ix1 i) := by
    intro x
    pointwise
  refine Eq.trans ?_ (r _)
  rw [← e]
  exact congrArg (V m c main_v10) (emb5 t i k)

/-- The triangle of ones. -/
def tri : FVec Ideal S256x256 .bf16 :=
  select (cmpi .sge (addi (iotaInDim S256x256 32 0) (broadcastInDim S256x256 ![] bcast_S_S256x256 (constantI S_ 32 0#32))) (iotaInDim S256x256 32 1))
    (broadcastInDim S256x256 ![] bcast_S_S256x256 (constant (F := Ideal) S_ .bf16 0x3F80#16))
    (broadcastInDim S256x256 ![] bcast_S_S256x256 (constant (F := Ideal) S_ .bf16 0x0000#16))

theorem tri_at (r s : Fin 256) : tri (ix2 r s) = ((if s.val ≤ r.val then 1 else 0 : ℝ) : EReal) := by
  have h : tri (ix2 r s) = Scalar.select (IntOp.cmpi .sge (IntOp.addi (BitVec.ofNat 32 r.val) 0#32) (BitVec.ofNat 32 s.val)) (1 : EReal) (0 : EReal) := by
    pointwise [tri]
  have z : IntOp.addi (BitVec.ofNat 32 r.val) 0#32 = BitVec.ofNat 32 r.val := by
    simp [IntOp.addi]
  rw [h, z]
  unfold Scalar.select
  have hr := r.isLt
  have hs := s.isLt
  refine (if_congr (Idealize.ShloMosaic.WordCmp.cmpi_sge_ofNat_eq_one_iff (w := 32) (by omega) (by omega)) rfl rfl).trans ?_
  split_ifs <;> simp

theorem blk6 (c : Dev nD) (t : Fin cfg0.N) (r s : Fin 256) :
    iblk m c 6 t (ix2 r s) = ((if s.val ≤ r.val then 1 else 0 : ℝ) : EReal) := by
  have e : V m c main_v4 = tri := by
    entry_read
    rfl
  rw [← tri_at, ← e]
  exact congrArg (V m c main_v4) (emb6 t r s)

end Cert.Proof.Mlstm

end

end
-- ==== Proof.MlstmHead.lean ====
/-
  One head of the mLSTM call over finite arrays: its result and the state it leaves, as real numbers.
-/
module

public import proofs.«01_k».proof.Proof.MlstmGen

@[expose] public section

set_option maxRecDepth 16384

noncomputable section

namespace Cert.Proof.Mlstm

open Cert.Kernel7Ideal Cert.Kernel7Ideal.Gen Idealize.ShloMosaic Idealize.ShloMosaic.TcCoe Idealize.SL.Sem

theorem sel_le {A : Type} (s t : Fin 256) (x y : A) :
    Scalar.select (IntOp.cmpi .sle (BitVec.ofNat 32 s.val) (BitVec.ofNat 32 t.val)) x y = if s ≤ t then x else y := by
  unfold Scalar.select
  refine if_congr ?_ rfl rfl
  rw [show (1 : BitVec 1) = 1#1 from rfl, Idealize.ShloMosaic.WordCmp.cmpi_sle_ofNat_eq_one_iff (by have := s.isLt; omega) (by have := t.isLt; omega)]
  exact Fin.le_def.symm

theorem exp_kept (p : Prop) [Decidable p] (x μ : ℝ) :
    Ideal.exp ((if p then (x : EReal) else ⊥) - (μ : EReal)) = ((if p then Real.exp (x - μ) else 0 : ℝ) : EReal) := by
  split
  · rw [← EReal.coe_sub, Ideal.exp_coe]
  · rw [EReal.bot_sub]
    rfl

theorem fold_lt_top {ι : Type} [Fintype ι] (f : ι → EReal) (h : ∀ x, f x < ⊤) :
    Finset.fold max (Ideal.ofBits .f32 4286578688#32) f Finset.univ < ⊤ := by
  rw [Finset.fold_max_lt, neg_inf]
  exact ⟨bot_lt_top, fun x _ => h x⟩

theorem abs_coe (x : ℝ) : FloatOps.absf (F := Ideal) (φ := .f32) (x : EReal) = ((|x| : ℝ) : EReal) := by
  show max (x : EReal) (-(x : EReal)) = _
  rw [← EReal.coe_neg, ← coe_max]
  rfl

section head

variable {a : FVec Ideal S256x1 .f32} {b i : FVec Ideal S1x256 .f32} {l m : FVec Ideal S1x1 .f32}
  {q k : FVec Ideal S1x256x128 .bf16} {v : FVec Ideal S1x256x256 .bf16} {C : FVec Ideal S1x256x128 .f32}
  {n : FVec Ideal S1x128 .f32} {w : FVec Ideal S256x256 .f32} {o : FVec Ideal S1x256x256 .bf16}
  {b' i' : Fin 256 → ℝ} {M : ℝ} {q' k' : Fin 256 → Fin 128 → ℝ} {v' : Fin 256 → Fin 256 → ℝ}
  {X : Fin 256 → Fin 128 → ℝ} {Y : Fin 128 → ℝ}
  (ha : ∀ s, a (ix2 s 0) = ((i' s - b' s : ℝ) : EReal)) (hb : ∀ t, b (ix2 0 t) = ((b' t : ℝ) : EReal))
  (hi : ∀ t, i (ix2 0 t) = ((i' t : ℝ) : EReal)) (hl : l (ix2 0 0) = ((b' 255 : ℝ) : EReal))
  (hm : m (ix2 0 0) = (M : EReal))
  (hq : ∀ t d, q (ix3 0 t d) = ((q' t d : ℝ) : EReal)) (hk : ∀ t d, k (ix3 0 t d) = ((k' t d : ℝ) : EReal))
  (hv : ∀ s j, v (ix3 0 s j) = ((v' s j : ℝ) : EReal))
  (hC : ∀ j d, C (ix3 0 j d) = ((X j d * Real.exp (-M) : ℝ) : EReal))
  (hn : ∀ d, n (ix2 0 d) = ((Y d * Real.exp (-M) : ℝ) : EReal))

include ha hb in
theorem gDl_real (s t : Fin 256) : gDl a b (ix2 s t) = if s ≤ t then ((i' s - b' s + b' t : ℝ) : EReal) else ⊥ := by
  rw [gDl_at, sel_le, ha, hb, neg_inf, ← EReal.coe_add]

include ha hb hm in
theorem gM_real (t : Fin 256) : ∃ μ : ℝ, gM a b m (ix2 0 t) = (μ : EReal) := by
  rw [gM_at, hb, hm, ← EReal.coe_add]
  refine real_max _ _ (fold_lt_top _ fun x => fold_lt_top _ fun y => ?_)
  rw [gDl_real ha hb]
  split
  · exact EReal.coe_lt_top _
  · exact bot_lt_top

include ha hb hq hk in
theorem gSc_real (mt : FVec Ideal S1x256 .f32) (s t : Fin 256) (μ : ℝ) (h : mt (ix2 0 t) = (μ : EReal)) :
    gSc a b mt q k (ix2 s t) = (((∑ d, k' s d * q' t d) * kap * (if s ≤ t then Real.exp (i' s - b' s + b' t - μ) else 0) : ℝ) : EReal) := by
  have h1 : ∑ d, k (ix3 0 s d) * q (ix3 0 t d) = ((∑ d, k' s d * q' t d : ℝ) : EReal) := by
    rw [coe_sum]
    exact Finset.sum_congr rfl fun d _ => by rw [hk, hq, ← EReal.coe_mul]
  rw [gSc_at, h1, gDl_real ha hb, h, exp_kept, kap_eq, ← EReal.coe_mul, ← EReal.coe_mul]

include ha hb hm hq hk hv hC hn in
/-- The weighted mean of a head's values. -/
theorem gHv_real (j t : Fin 256) :
    gHv (gM a b m) (k0_pay16 q) (k0_pay18 v) (gSc a b (gM a b m) q k) (exp (subf (gInter b m) (gM a b m))) C n (ix2 j t)
      = ((hV (hN b' i' q' k' kap (X j) (fun s => v' s j) t) (hN b' i' q' k' kap Y (fun _ => 1) t) : ℝ) : EReal) := by
  obtain ⟨μ, hμ⟩ := gM_real ha hb hm t
  have hq2 : ∀ t d, k0_pay16 (F := Ideal) q (ix2 t d) = ((q' t d : ℝ) : EReal) := fun t d => (pay16_at q t d).trans (hq t d)
  have hv2 : ∀ j s, k0_pay18 (F := Ideal) v (ix2 j s) = ((v' s j : ℝ) : EReal) := fun j s => (pay18_at v j s).trans (hv s j)
  generalize k0_pay16 (F := Ideal) q = q2 at hq2 ⊢
  generalize k0_pay18 (F := Ideal) v = v2 at hv2 ⊢
  have h1 : ∑ d, C (ix3 0 j d) * q2 (ix2 t d) = ((∑ d, X j d * Real.exp (-M) * q' t d : ℝ) : EReal) := by
    rw [coe_sum]
    exact Finset.sum_congr rfl fun d _ => by rw [hC, hq2, ← EReal.coe_mul]
  have h2 : ∑ d, n (ix2 0 d) * q2 (ix2 t d) = ((∑ d, Y d * Real.exp (-M) * q' t d : ℝ) : EReal) := by
    rw [coe_sum]
    exact Finset.sum_congr rfl fun d _ => by rw [hn, hq2, ← EReal.coe_mul]
  have h3 : ∑ s, v2 (ix2 j s) * gSc a b (gM a b m) q k (ix2 s t) = ((∑ s, v' s j * ((∑ d, k' s d * q' t d) * kap
      * (if s ≤ t then Real.exp (i' s - b' s + b' t - μ) else 0)) : ℝ) : EReal) := by
    rw [coe_sum]
    exact Finset.sum_congr rfl fun s _ => by rw [hv2, gSc_real ha hb hq hk _ s t μ hμ, ← EReal.coe_mul]
  have h4 : ∑ s, gSc a b (gM a b m) q k (ix2 s t) = ((∑ s, (∑ d, k' s d * q' t d) * kap
      * (if s ≤ t then Real.exp (i' s - b' s + b' t - μ) else 0) : ℝ) : EReal) := by
    rw [coe_sum]
    exact Finset.sum_congr rfl fun s _ => gSc_real ha hb hq hk _ s t μ hμ
  rw [gHv_at, h1, h2, h3, sum_rows (fun s => gSc a b (gM a b m) q k (ix2 s t)), h4, gIn_at, hμ, hb, hm, ← EReal.coe_add,
    ← EReal.coe_sub, Ideal.exp_coe, ← EReal.coe_mul, ← EReal.coe_mul, ← EReal.coe_add, ← EReal.coe_add,
    abs_coe, ← EReal.coe_zero, ← EReal.coe_sub, Ideal.exp_coe, ← coe_max, zero_sub]
  have e := hN_kept b' i' q' k' kap M μ Y (fun _ => 1) t
  simp only [one_mul] at e
  rw [hN_kept b' i' q' k' kap M μ (X j) (fun s => v' s j) t, e, Ideal.div_coe, ← EReal.coe_mul, quot]
  exact (lt_max_of_lt_right (Real.exp_pos _)).ne'

include ha hb hm hq hk hv hC hn in
/-- A head's result. -/
theorem gOut_real (j t : Fin 256) : gOut a b m q k v C n w o (ix3 0 t j)
    = o (ix3 0 t j) * (((hV (hN b' i' q' k' kap (X j) (fun s => v' s j) t) (hN b' i' q' k' kap Y (fun _ => 1) t) : ℝ) : EReal)
      * Ideal.rsqrt ((((∑ j, hV (hN b' i' q' k' kap (X j) (fun s => v' s j) t) (hN b' i' q' k' kap Y (fun _ => 1) t)
          * hV (hN b' i' q' k' kap (X j) (fun s => v' s j) t) (hN b' i' q' k' kap Y (fun _ => 1) t)) : ℝ) : EReal)
        * Ideal.ofBits .f32 998244352#32 + Ideal.ofBits .f32 897988541#32) * w (ix2 j t)) := by
  unfold gOut
  rw [pay23_at, pay22_eq, gNm_at, gHv_real ha hb hm hq hk hv hC hn j t, coe_sum]
  simp only [EReal.coe_mul]
  rw [← sum_rows (A := EReal)]
  simp only [gHv_real ha hb hm hq hk hv hC hn]

include hb hi hl hm in
theorem gMn_real : ∃ μ : ℝ, gMn l i b m (ix2 0 0) = (μ : EReal) := by
  rw [gMn_at, hl, hm, ← EReal.coe_add]
  refine real_max _ _ (fold_lt_top _ fun x => ?_)
  rw [hb, hi, ← EReal.coe_sub, ← EReal.coe_add]
  exact EReal.coe_lt_top _

include hb hi hl hm hk hv hC hn in
/-- The state a head leaves. -/
theorem state_real : ∃ μ : ℝ, gMn l i b m (ix2 0 0) = (μ : EReal)
    ∧ (∀ j d, gC (gDec l m (gMn l i b m)) (gUpd (gWk l i b (gMn l i b m)) k v) C (ix3 0 j d)
      = ((hX b' i' k' kap (X j) (fun s => v' s j) d * Real.exp (-μ) : ℝ) : EReal))
    ∧ ∀ d, gN (gDec l m (gMn l i b m)) (gUpd (gWk l i b (gMn l i b m)) k v) n (ix2 0 d)
      = ((hX b' i' k' kap Y (fun _ => 1) d * Real.exp (-μ) : ℝ) : EReal) := by
  obtain ⟨μ, hμ⟩ := gMn_real hb hi hl hm
  have hw : ∀ s, gWk l i b (gMn l i b m) (ix2 0 s) = ((Real.exp (b' 255 - b' s + i' s - μ) * kap : ℝ) : EReal) := fun s => by
    rw [gWk_at, hμ, hl, hb, hi, kap_eq, ← EReal.coe_sub, ← EReal.coe_add, ← EReal.coe_sub, Ideal.exp_coe, ← EReal.coe_mul]
  have hd : gDec l m (gMn l i b m) (ix2 0 0) = ((Real.exp (b' 255 + M - μ) : ℝ) : EReal) := by
    rw [gDec_at, hμ, hl, hm, ← EReal.coe_add, ← EReal.coe_sub, Ideal.exp_coe]
  refine ⟨μ, hμ, fun j d => ?_, fun d => ?_⟩
  · have h1 : ∑ s, v (ix3 0 s j) * gWk l i b (gMn l i b m) (ix2 0 s) * k (ix3 0 s d)
        = ((∑ s, v' s j * (Real.exp (b' 255 - b' s + i' s - μ) * kap) * k' s d : ℝ) : EReal) := by
      rw [coe_sum]
      exact Finset.sum_congr rfl fun s _ => by rw [hv, hw, hk, ← EReal.coe_mul, ← EReal.coe_mul]
    rw [gC_at, hd, hC, gUpd_at, h1, ← EReal.coe_mul, ← EReal.coe_add, hX_kept b' i' k' kap M μ (X j) (fun s => v' s j) d]
  · have h1 : ∑ s, gWk l i b (gMn l i b m) (ix2 0 s) * k (ix3 0 s d)
        = ((∑ s, Real.exp (b' 255 - b' s + i' s - μ) * kap * k' s d : ℝ) : EReal) := by
      rw [coe_sum]
      exact Finset.sum_congr rfl fun s _ => by rw [hw, hk, ← EReal.coe_mul]
    rw [gN_at, hd, hn, gUpd_last, h1, ← EReal.coe_mul, ← EReal.coe_add]
    have e := hX_kept b' i' k' kap M μ Y (fun _ => 1) d
    simp only [one_mul] at e
    rw [e]

end head

end Cert.Proof.Mlstm

end

end
-- ==== Proof.MlstmEq.lean ====
/-
  The mLSTM call (`Kernel7Ideal`) chunk by chunk: the gates of a block, what each head starts its block with, and what all the
  blocks leave.
-/
module

public import proofs.«01_k».proof.Proof.MlstmBlk
public import proofs.«01_k».proof.Proof.MlstmIn
public import proofs.«01_k».proof.Proof.MlstmHead

@[expose] public section

set_option maxRecDepth 16384

noncomputable section

namespace Cert.Proof.Mlstm

open Cert.Kernel7Ideal Cert.Kernel7Ideal.Gen Idealize.ShloMosaic Idealize.ShloMosaic.TcCoe Idealize.SL.Sem

/-! ## The gates -/

theorem pay6_at (x3 : FVec Ideal S1x256x128 .f32) (x4 : FVec Ideal S1x128 .f32) (r : Fin 256) (k : Fin 128) :
    k0_pay6 (F := Ideal) x3 x4 (ix2 r k) = (Scalar.select
      (IntOp.andi (IntOp.cmpi CmpIPredicate.sge (BitVec.ofNat 32 k.val) 4#32)
        (IntOp.cmpi CmpIPredicate.slt (BitVec.ofNat 32 k.val) 8#32))
      (min (x3 (ix3 0 r k) + x4 (ix2 0 k)) 0 -
        Ideal.log (1 + Ideal.exp (0 - FloatOps.absf (F := Ideal) (φ := .f32) (x3 (ix3 0 r k) + x4 (ix2 0 k)))))
      (x3 (ix3 0 r k) + x4 (ix2 0 k)) : EReal) := by
  pointwise [k0_pay6]

theorem lane_in : ∀ h : Fin 4, IntOp.andi (IntOp.cmpi CmpIPredicate.sge (BitVec.ofNat 32 h.val) 4#32)
    (IntOp.cmpi CmpIPredicate.slt (BitVec.ofNat 32 h.val) 8#32) = 0#1 := by decide
theorem lane_forget : ∀ h : Fin 4, IntOp.andi (IntOp.cmpi CmpIPredicate.sge (BitVec.ofNat 32 (4 + h.val)) 4#32)
    (IntOp.cmpi CmpIPredicate.slt (BitVec.ofNat 32 (4 + h.val)) 8#32) = 1#1 := by decide

/-- The logarithm of a forget gate. -/
def lgt (x : ℝ) : ℝ := -Real.log (1 + Real.exp (-x))

theorem log_one_add (x : ℝ) : Ideal.log (1 + Ideal.exp (x : EReal)) = ((Real.log (1 + Real.exp x) : ℝ) : EReal) := by
  have p : 0 < 1 + Real.exp x := by positivity
  rw [Ideal.exp_coe, ← EReal.coe_one, ← EReal.coe_add, Ideal.log_coe, if_neg (not_le.mpr p)]

theorem pay6_in (x3 : FVec Ideal S1x256x128 .f32) (x4 : FVec Ideal S1x128 .f32) (r : Fin 256) (h : Fin 4) (x b : ℝ)
    (hx : x3 (ix3 0 r ⟨h.val, by omega⟩) = (x : EReal)) (hb : x4 (ix2 0 ⟨h.val, by omega⟩) = (b : EReal)) :
    k0_pay6 (F := Ideal) x3 x4 (ix2 r ⟨h.val, by omega⟩) = ((x + b : ℝ) : EReal) := by
  rw [pay6_at, hx, hb, lane_in h, EReal.coe_add]
  rfl

theorem pay6_forget (x3 : FVec Ideal S1x256x128 .f32) (x4 : FVec Ideal S1x128 .f32) (r : Fin 256) (h : Fin 4) (x b : ℝ)
    (hx : x3 (ix3 0 r ⟨4 + h.val, by omega⟩) = (x : EReal)) (hb : x4 (ix2 0 ⟨4 + h.val, by omega⟩) = (b : EReal)) :
    k0_pay6 (F := Ideal) x3 x4 (ix2 r ⟨4 + h.val, by omega⟩) = ((lgt (x + b) : ℝ) : EReal) := by
  have e : (0 : EReal) - ((|x + b| : ℝ) : EReal) = ((0 - max (x + b) (-(x + b)) : ℝ) : EReal) := by
    rw [EReal.coe_sub]
    rfl
  have e' : min ((x + b : ℝ) : EReal) 0 = ((min (x + b) 0 : ℝ) : EReal) :=
    (EReal.coe_strictMono.monotone.map_min (a := x + b) (b := 0)).symm
  rw [pay6_at, hx, hb, lane_forget h, ← EReal.coe_add, abs_coe, e, e', log_one_add, ← EReal.coe_sub, logsig]
  rfl

/-- The sums over a triangle of three groups of columns, added up. -/
def gCs (x6 : FVec Ideal S256x256 .bf16) (y1 y2 y3 : FVec Ideal S256x128 .bf16) : FVec Ideal S256x128 .f32 :=
  addf (addf
    (extractStridedSlice S256x128 ![0, 0] (matmul dot_S256x256_S256x384_S256x384_1_0_0_1_n_n none (shapeCast S256x256 x6 shapeCasts_S256x256_S256x256)
      (concatenate S256x384 1 [⟨S256x128, y1⟩, ⟨S256x128, y2⟩, ⟨S256x128, y3⟩] concatenates_S256x128_S256x128_S256x128_S256x384_d1) (constant S256x384 FTy.f32 0#32)) slices_S256x384_o0_0_S256x128)
    (extractStridedSlice S256x128 ![0, 128] (matmul dot_S256x256_S256x384_S256x384_1_0_0_1_n_n none (shapeCast S256x256 x6 shapeCasts_S256x256_S256x256)
      (concatenate S256x384 1 [⟨S256x128, y1⟩, ⟨S256x128, y2⟩, ⟨S256x128, y3⟩] concatenates_S256x128_S256x128_S256x128_S256x384_d1) (constant S256x384 FTy.f32 0#32)) slices_S256x384_o0_128_S256x128))
    (extractStridedSlice S256x128 ![0, 256] (matmul dot_S256x256_S256x384_S256x384_1_0_0_1_n_n none (shapeCast S256x256 x6 shapeCasts_S256x256_S256x256)
      (concatenate S256x384 1 [⟨S256x128, y1⟩, ⟨S256x128, y2⟩, ⟨S256x128, y3⟩] concatenates_S256x128_S256x128_S256x128_S256x384_d1) (constant S256x384 FTy.f32 0#32)) slices_S256x384_o0_256_S256x128)

theorem gCs_at (x6 : FVec Ideal S256x256 .bf16) (y1 y2 y3 : FVec Ideal S256x128 .bf16) (r : Fin 256) (k : Fin 128) :
    gCs x6 y1 y2 y3 (ix2 r k) = ((∑ s : Fin 256, (x6 (ix2 r s) : EReal) * y1 (ix2 s k)) + (∑ s : Fin 256, (x6 (ix2 r s) : EReal) * y2 (ix2 s k))
      + (∑ s : Fin 256, (x6 (ix2 r s) : EReal) * y3 (ix2 s k)) : EReal) := by
  have f : (⟨256 + k.val - 128 - 128, by omega⟩ : Fin 128) = k := Fin.ext (by show 256 + k.val - 128 - 128 = k.val; omega)
  pointwise [gCs]
  congr 1
  refine Finset.sum_congr rfl fun s _ => ?_
  rw [dif_neg (by omega), dif_neg (by omega), f]

/-- What rounding to half the width leaves over. -/
def rest (g : FVec Ideal S256x128 .f32) : FVec Ideal S256x128 .f32 := subf g (extf FTy.f32 (truncf FTy.bf16 g bitsLt_bf16_f32) bitsLt_bf16_f32)

theorem rest_at (g : FVec Ideal S256x128 .f32) (s : Fin 256) (k : Fin 128) (y : ℝ) (h : g (ix2 s k) = (y : EReal)) : rest g (ix2 s k) = ((0 : ℝ) : EReal) := by
  have e : rest g (ix2 s k) = (g (ix2 s k) - g (ix2 s k) : EReal) := by
    pointwise [rest]
  rw [e, h, ← EReal.coe_sub, sub_self]

theorem pay7_real (x3 : FVec Ideal S1x256x128 .f32) (x4 : FVec Ideal S1x128 .f32) (x6 : FVec Ideal S256x256 .bf16) (y : ℕ → ℝ) (r : Fin 256) (k : Fin 128)
    (h6 : ∀ s : Fin 256, x6 (ix2 r s) = ((if s.val ≤ r.val then 1 else 0 : ℝ) : EReal))
    (hy : ∀ s : Fin 256, k0_pay6 (F := Ideal) x3 x4 (ix2 s k) = ((y s.val : ℝ) : EReal)) :
    k0_pay7 (F := Ideal) x3 x4 x6 (ix2 r k) = ((∑ s ∈ Finset.range (r.val + 1), y s : ℝ) : EReal) := by
  have e : k0_pay7 (F := Ideal) x3 x4 x6 = gCs x6 (truncf FTy.bf16 (k0_pay6 (F := Ideal) x3 x4) bitsLt_bf16_f32)
    (truncf FTy.bf16 (rest (k0_pay6 (F := Ideal) x3 x4)) bitsLt_bf16_f32) (truncf FTy.bf16 (rest (rest (k0_pay6 (F := Ideal) x3 x4))) bitsLt_bf16_f32) := rfl
  rw [e]
  generalize k0_pay6 (F := Ideal) x3 x4 = g at hy
  have z : ∀ s, rest g (ix2 s k) = ((0 : ℝ) : EReal) := fun s => rest_at g s k _ (hy s)
  have z' : ∀ s, rest (rest g) (ix2 s k) = ((0 : ℝ) : EReal) := fun s => rest_at _ s k _ (z s)
  have t : ∀ (g : FVec Ideal S256x128 .f32) (s : Fin 256), (truncf FTy.bf16 g bitsLt_bf16_f32 : FVec Ideal S256x128 .bf16) (ix2 s k) = (g (ix2 s k) : EReal) := fun _ _ => rfl
  have s0 : (∑ s : Fin 256, (x6 (ix2 r s) : EReal) * ((0 : ℝ) : EReal)) = 0 := Finset.sum_eq_zero fun s _ => by rw [EReal.coe_zero, mul_zero]
  rw [gCs_at]
  simp only [t, z, z', s0, add_zero]
  rw [← sum_upto _ _ r.isLt, coe_sum]
  refine Finset.sum_congr rfl fun s _ => ?_
  rw [h6, hy, ← EReal.coe_mul]
  congr 1
  split_ifs <;> simp

/-! ## One head of one block -/

/-- The reals that a head of the sequences is given: `q`, `k`, `v` and the gates `xi + bi`, `xf + bf`. -/
structure Reals (a0 a1 : FVec Ideal S65536x1024 .bf16) (a3 : FVec Ideal S65536x128 .f32) (a4 a5 : FVec Ideal S4 .f32) (h : Fin 4)
    (q k : Fin 16 → ℕ → Fin 128 → ℝ) (v : Fin 16 → ℕ → Fin 256 → ℝ) (xi xf : Fin 16 → ℕ → ℝ) (bi bf : ℝ) : Prop where
  hq : ∀ (n : Fin 16) (s : Fin 4096) (d : Fin 128), a0 (ix2 ⟨n.val * 4096 + s.val, by omega⟩ ⟨h.val * 128 + d.val, by omega⟩) = ((q n s.val d : ℝ) : EReal)
  hk : ∀ (n : Fin 16) (s : Fin 4096) (d : Fin 128), a0 (ix2 ⟨n.val * 4096 + s.val, by omega⟩ ⟨512 + (h.val * 128 + d.val), by omega⟩) = ((k n s.val d : ℝ) : EReal)
  hv : ∀ (n : Fin 16) (s : Fin 4096) (j : Fin 256), a1 (ix2 ⟨n.val * 4096 + s.val, by omega⟩ ⟨h.val * 256 + j.val, by omega⟩) = ((v n s.val j : ℝ) : EReal)
  hxi : ∀ (n : Fin 16) (s : Fin 4096), a3 (ix2 ⟨n.val * 4096 + s.val, by omega⟩ ⟨h.val, by omega⟩) = ((xi n s.val : ℝ) : EReal)
  hxf : ∀ (n : Fin 16) (s : Fin 4096), a3 (ix2 ⟨n.val * 4096 + s.val, by omega⟩ ⟨4 + h.val, by omega⟩) = ((xf n s.val : ℝ) : EReal)
  hbi : a4 (ix1 h) = (bi : EReal)
  hbf : a5 (ix1 h) = (bf : EReal)

/-- What a head starts a block with, `T` steps into the sequence. -/
structure Ins (lf ig : ℕ → ℝ) (q' k' : ℕ → Fin 128 → ℝ) (v' : ℕ → Fin 256 → ℝ) (T : ℕ) (a : FVec Ideal S256x1 .f32) (b i : FVec Ideal S1x256 .f32) (l : FVec Ideal S1x1 .f32)
    (q k : FVec Ideal S1x256x128 .bf16) (v : FVec Ideal S1x256x256 .bf16) : Prop where
  ha : ∀ s : Fin 256, a (ix2 s 0) = ((ig (T + s.val) - (cumR lf (T + s.val + 1) - cumR lf T) : ℝ) : EReal)
  hb : ∀ t : Fin 256, b (ix2 0 t) = ((cumR lf (T + t.val + 1) - cumR lf T : ℝ) : EReal)
  hi : ∀ t : Fin 256, i (ix2 0 t) = ((ig (T + t.val) : ℝ) : EReal)
  hl : l (ix2 0 0) = ((cumR lf (T + 255 + 1) - cumR lf T : ℝ) : EReal)
  hq : ∀ (t : Fin 256) (d : Fin 128), q (ix3 0 t d) = ((q' (T + t.val) d : ℝ) : EReal)
  hk : ∀ (t : Fin 256) (d : Fin 128), k (ix3 0 t d) = ((k' (T + t.val) d : ℝ) : EReal)
  hv : ∀ (t : Fin 256) (j : Fin 256), v (ix3 0 t j) = ((v' (T + t.val) j : ℝ) : EReal)

/-- What a head's state is, `T` steps into the sequence. -/
def St (h : Fin 4) (lf ig : ℕ → ℝ) (k : ℕ → Fin 128 → ℝ) (v : ℕ → Fin 256 → ℝ) (T : ℕ)
    (p : Vec Ideal S1x256x1024 .bf16 × Vec Ideal S4x256x128 .f32 × Vec Ideal S8x128 .f32 × Vec Ideal S8x128 .f32) : Prop :=
  ∃ M : ℝ, p.2.2.2 (ix2 ⟨h.val, by omega⟩ 0) = (M : EReal)
    ∧ (∀ (j : Fin 256) (d : Fin 128), p.2.1 (ix3 h j d) = ((sX lf ig k kap (fun s => v s j) T d * Real.exp (-M) : ℝ) : EReal))
    ∧ ∀ d : Fin 128, p.2.2.1 (ix2 ⟨h.val, by omega⟩ d) = ((sX lf ig k kap (fun _ => 1) T d * Real.exp (-M) : ℝ) : EReal)

/-- One block of one head. -/
theorem step_real {h : Fin 4} {lf ig : ℕ → ℝ} {q' k' : ℕ → Fin 128 → ℝ} {v' : ℕ → Fin 256 → ℝ} {T : ℕ} {a : FVec Ideal S256x1 .f32} {b i : FVec Ideal S1x256 .f32} {l : FVec Ideal S1x1 .f32}
    {q k : FVec Ideal S1x256x128 .bf16} {v o : FVec Ideal S1x256x256 .bf16} {w : FVec Ideal S256x256 .f32}
    {p r : Vec Ideal S1x256x1024 .bf16 × Vec Ideal S4x256x128 .f32 × Vec Ideal S8x128 .f32 × Vec Ideal S8x128 .f32}
    (I : Ins lf ig q' k' v' T a b i l q k v) (S : Step h a b i l q k v o w p r) (P : St h lf ig k' v' T p) :
    St h lf ig k' v' (T + 256) r ∧ ∀ t j : Fin 256, r.1 (ix3 0 t ⟨256 * h.val + j.val, by omega⟩)
      = ((o (ix3 0 t j) : EReal) * (((hV (sN lf ig q' k' kap (fun s => v' s j) (T + t.val)) (sN lf ig q' k' kap (fun _ => 1) (T + t.val)) : ℝ) : EReal)
        * Ideal.rsqrt (((∑ j : Fin 256, hV (sN lf ig q' k' kap (fun s => v' s j) (T + t.val)) (sN lf ig q' k' kap (fun _ => 1) (T + t.val))
          * hV (sN lf ig q' k' kap (fun s => v' s j) (T + t.val)) (sN lf ig q' k' kap (fun _ => 1) (T + t.val)) : ℝ) : EReal) * Ideal.ofBits .f32 998244352#32 + Ideal.ofBits .f32 897988541#32)
        * w (ix2 j t)) : EReal) := by
  obtain ⟨m1, C1, n1, hr, hC, hn, hm, em, eC, en⟩ := S
  obtain ⟨M, pm, pC, pn⟩ := P
  have gm : m1 (ix2 0 0) = (M : EReal) := em.trans pm
  have gC' : ∀ (j : Fin 256) (d : Fin 128), C1 (ix3 0 j d) = ((sX lf ig k' kap (fun s => v' s j) T d * Real.exp (-M) : ℝ) : EReal) := fun j d => (eC j d).trans (pC j d)
  have gn : ∀ d : Fin 128, n1 (ix2 0 d) = ((sX lf ig k' kap (fun _ => 1) T d * Real.exp (-M) : ℝ) : EReal) := fun d => (en d).trans (pn d)
  constructor
  · obtain ⟨μ, hμ, sC, sn⟩ := state_real (b' := fun t : Fin 256 => cumR lf (T + t.val + 1) - cumR lf T) (i' := fun t : Fin 256 => ig (T + t.val))
      (k' := fun t : Fin 256 => k' (T + t.val)) (v' := fun t : Fin 256 => v' (T + t.val)) (X := fun j => sX lf ig k' kap (fun s => v' s j) T) (Y := sX lf ig k' kap (fun _ => 1) T)
      I.hb I.hi I.hl gm I.hk I.hv gC' gn
    refine ⟨μ, hm.trans hμ, fun j d => ?_, fun d => ?_⟩
    · rw [hC, sC, ← hX_chunk]
    · rw [hn, sn, ← hX_chunk]
  · intro t j
    rw [hr, gOut_real (b' := fun t : Fin 256 => cumR lf (T + t.val + 1) - cumR lf T) (i' := fun t : Fin 256 => ig (T + t.val))
      (q' := fun t : Fin 256 => q' (T + t.val)) (k' := fun t : Fin 256 => k' (T + t.val)) (v' := fun t : Fin 256 => v' (T + t.val)) (X := fun j => sX lf ig k' kap (fun s => v' s j) T) (Y := sX lf ig k' kap (fun _ => 1) T)
      I.ha I.hb gm I.hq I.hk I.hv gC' gn]
    have e1 := fun j => hN_chunk lf ig q' k' kap (fun s => v' s j) T t
    have e2 := hN_chunk lf ig q' k' kap (fun _ => 1) T t
    simp only [e1, e2]

/-! ## What each head reads -/

section

variable (g : FVec Ideal S256x128 .f32) (r : Fin 256)

theorem p8 (k : Fin 128) : k0_pay8 g (ix2 k r) = g (ix2 r k) := by pointwise [k0_pay8]
theorem p9 (k : Fin 128) : k0_pay9 g (ix2 k r) = g (ix2 r k) := by pointwise [k0_pay9]
theorem p12 : k0_pay12 g (ix2 0 r) = g (ix2 r 4) := by pointwise [k0_pay12, k0_pay9]
theorem p11 : k0_pay11 g (ix2 0 r) = g (ix2 r 0) := by pointwise [k0_pay11, k0_pay8]
theorem p33 (g : FVec Ideal S128x256 .f32) : k0_pay33 g (ix2 0 r) = g (ix2 1 r) := by pointwise [k0_pay33]
theorem p34 (g : FVec Ideal S128x256 .f32) : k0_pay34 g (ix2 0 r) = g (ix2 5 r) := by pointwise [k0_pay34]
theorem p54 (g : FVec Ideal S128x256 .f32) : k0_pay54 g (ix2 0 r) = g (ix2 2 r) := by pointwise [k0_pay54]
theorem p55 (g : FVec Ideal S128x256 .f32) : k0_pay55 g (ix2 0 r) = g (ix2 6 r) := by pointwise [k0_pay55]
theorem p76 (g : FVec Ideal S128x256 .f32) : k0_pay76 g (ix2 0 r) = g (ix2 3 r) := by pointwise [k0_pay76]
theorem p77 (g : FVec Ideal S128x256 .f32) : k0_pay77 g (ix2 0 r) = g (ix2 7 r) := by pointwise [k0_pay77]
theorem p24 (g : FVec Ideal S128x256 .f32) : k0_pay24 g (ix2 0 0) = g (ix2 4 255) := by pointwise [k0_pay24]
theorem p46 (g : FVec Ideal S128x256 .f32) : k0_pay46 g (ix2 0 0) = g (ix2 5 255) := by pointwise [k0_pay46]
theorem p67 (g : FVec Ideal S128x256 .f32) : k0_pay67 g (ix2 0 0) = g (ix2 6 255) := by pointwise [k0_pay67]
theorem p88 (g : FVec Ideal S128x256 .f32) : k0_pay88 g (ix2 0 0) = g (ix2 7 255) := by pointwise [k0_pay88]
theorem pa_0 (cs : FVec Ideal S256x128 .f32) : subf (extractStridedSlice S256x1 ![0, 0] g slices_S256x128_o0_0_S256x1) (extractStridedSlice S256x1 ![0, 4] cs slices_S256x128_o0_4_S256x1) (ix2 r 0)
    = (g (ix2 r 0) - cs (ix2 r 4) : EReal) := by pointwise
theorem pa_1 (cs : FVec Ideal S256x128 .f32) : subf (extractStridedSlice S256x1 ![0, 1] g slices_S256x128_o0_1_S256x1) (extractStridedSlice S256x1 ![0, 5] cs slices_S256x128_o0_5_S256x1) (ix2 r 0)
    = (g (ix2 r 1) - cs (ix2 r 5) : EReal) := by pointwise
theorem pa_2 (cs : FVec Ideal S256x128 .f32) : subf (extractStridedSlice S256x1 ![0, 2] g slices_S256x128_o0_2_S256x1) (extractStridedSlice S256x1 ![0, 6] cs slices_S256x128_o0_6_S256x1) (ix2 r 0)
    = (g (ix2 r 2) - cs (ix2 r 6) : EReal) := by pointwise
theorem pa_3 (cs : FVec Ideal S256x128 .f32) : subf (extractStridedSlice S256x1 ![0, 3] g slices_S256x128_o0_3_S256x1) (extractStridedSlice S256x1 ![0, 7] cs slices_S256x128_o0_7_S256x1) (ix2 r 0)
    = (g (ix2 r 3) - cs (ix2 r 7) : EReal) := by pointwise

end

variable (m : (ℓ : Loc nD τ sig) → Buf (Elt Ideal) ℓ) (c : Dev nD) {q k : Fin 16 → ℕ → Fin 128 → ℝ} {v : Fin 16 → ℕ → Fin 256 → ℝ} {xi xf : Fin 16 → ℕ → ℝ} {bi bf : ℝ}

/-- The reals that a head of the call is given. -/
abbrev Call (h : Fin 4) (q k : Fin 16 → ℕ → Fin 128 → ℝ) (v : Fin 16 → ℕ → Fin 256 → ℝ) (xi xf : Fin 16 → ℕ → ℝ) (bi bf : ℝ) : Prop :=
  Reals (m ((c.tc : Thread nD τ).loc main_arg0)) (m ((c.tc : Thread nD τ).loc main_arg1)) (m ((c.tc : Thread nD τ).loc main_arg3))
    (m ((c.tc : Thread nD τ).loc main_arg4)) (m ((c.tc : Thread nD τ).loc main_arg5)) h q k v xi xf bi bf

variable {h : Fin 4} (t : Fin cfg0.N)

/-- The steps before block `t`. -/
abbrev before (t : Fin cfg0.N) : ℕ := t.val % 16 * 256

variable {m c}

theorem gat_in (D : Call m c h q k v xi xf bi bf) (r : Fin 256) : gat m c t (ix2 r ⟨h.val, by omega⟩) = ((xi (sq t) (before t + r.val) + bi : ℝ) : EReal) :=
  pay6_in _ _ r h _ _ ((blk3 m c t r _).trans (D.hxi (sq t) (stp t r))) ((blk4 m c t _).trans ((bias_in _ _ _ h).trans D.hbi))
theorem gat_forget (D : Call m c h q k v xi xf bi bf) (r : Fin 256) : gat m c t (ix2 r ⟨4 + h.val, by omega⟩) = ((lgt (xf (sq t) (before t + r.val) + bf) : ℝ) : EReal) :=
  pay6_forget _ _ r h _ _ ((blk3 m c t r _).trans (D.hxf (sq t) (stp t r))) ((blk4 m c t _).trans ((bias_forget _ _ _ h).trans D.hbf))

theorem cumR_add (lf : ℕ → ℝ) (T r : ℕ) : ∑ s ∈ Finset.range r, lf (T + s) = cumR lf (T + r) - cumR lf T := by
  unfold cumR
  rw [Finset.sum_range_add]
  ring

theorem cms_forget (D : Call m c h q k v xi xf bi bf) (r : Fin 256) : cms m c t (ix2 r ⟨4 + h.val, by omega⟩)
    = ((cumR (fun s => lgt (xf (sq t) s + bf)) (before t + r.val + 1) - cumR (fun s => lgt (xf (sq t) s + bf)) (before t) : ℝ) : EReal) := by
  refine (pay7_real _ _ _ (fun s => lgt (xf (sq t) (before t + s) + bf)) r _ (blk6 m c t r) (gat_forget t D)).trans ?_
  rw [add_assoc, ← cumR_add]

theorem ins_0 (D : Call m c 0 q k v xi xf bi bf) : Ins (fun s => lgt (xf (sq t) s + bf)) (fun s => xi (sq t) s + bi) (q (sq t)) (k (sq t)) (v (sq t)) (before t)
      (subf (extractStridedSlice S256x1 ![0, 0] (gat m c t) slices_S256x128_o0_0_S256x1) (extractStridedSlice S256x1 ![0, 4] (cms m c t) slices_S256x128_o0_4_S256x1))
      (k0_pay12 (cms m c t)) (k0_pay11 (gat m c t)) (k0_pay24 (k0_pay9 (cms m c t)))
      (View.ld (iblk m c 0 t) (Rect.unit ![0, 0, 0] ![1, 256, 128] inb_S1x256x1024_S1x256x128_0_0_0))
      (View.ld (iblk m c 0 t) (Rect.unit ![0, 0, 512] ![1, 256, 128] inb_S1x256x1024_S1x256x128_0_0_512))
      (View.ld (iblk m c 1 t) (Rect.unit ![0, 0, 0] ![1, 256, 256] inb_S1x256x1024_S1x256x256_0_0_0)) where
  ha s := by
    rw [EReal.coe_sub]
    exact (pa_0 _ s _).trans (congrArg₂ (fun x y : EReal => x - y) (gat_in t D s) (cms_forget t D s))
  hb s := (p12 _ s).trans (cms_forget t D s)
  hi s := (p11 _ s).trans (gat_in t D s)
  hl := (p24 _).trans ((p9 _ 255 4).trans (cms_forget t D 255))
  hq := by
    intro s d
    refine (View.ld_unit_apply_of (iblk m c 0 t) _ _ _ (ix3 0 s d) (ix3 0 s ⟨0 * 128 + d.val, by omega⟩) ?_).trans ?_
    · intro a
      fin_cases a
      · rfl
      · exact (Nat.zero_add _).symm
      · first | rfl | exact Nat.add_assoc _ _ _ |>.symm | (show 0 * 128 + d.val = _ + d.val; norm_num; try omega)
    · exact (blk0 m c t s _).trans (D.hq (sq t) (stp t s) d)
  hk := by
    intro s d
    refine (View.ld_unit_apply_of (iblk m c 0 t) _ _ _ (ix3 0 s d) (ix3 0 s ⟨512 + (0 * 128 + d.val), by omega⟩) ?_).trans ?_
    · intro a
      fin_cases a
      · rfl
      · exact (Nat.zero_add _).symm
      · first | rfl | exact Nat.add_assoc _ _ _ |>.symm | (show 512 + (0 * 128 + d.val) = _ + d.val; norm_num; try omega)
    · exact (blk0 m c t s _).trans (D.hk (sq t) (stp t s) d)
  hv := by
    intro s d
    refine (View.ld_unit_apply_of (iblk m c 1 t) _ _ _ (ix3 0 s d) (ix3 0 s ⟨0 * 256 + d.val, by omega⟩) ?_).trans ?_
    · intro a
      fin_cases a
      · rfl
      · exact (Nat.zero_add _).symm
      · first | rfl | exact Nat.add_assoc _ _ _ |>.symm | (show 0 * 256 + d.val = _ + d.val; norm_num; try omega)
    · exact (blk1 m c t s _).trans (D.hv (sq t) (stp t s) d)

theorem out_0 (s j : Fin 256) : (View.ld (iblk m c 2 t) (Rect.unit ![0, 0, 0] ![1, 256, 256] inb_S1x256x1024_S1x256x256_0_0_0)) (ix3 0 s j)
    = m ((c.tc : Thread nD τ).loc main_arg2) (ix2 (row t s) ⟨0 * 256 + j.val, by omega⟩) := by
  refine (View.ld_unit_apply_of (iblk m c 2 t) _ _ _ (ix3 0 s j) (ix3 0 s ⟨0 * 256 + j.val, by omega⟩) ?_).trans (blk2 m c t s _)
  intro a
  fin_cases a
  · rfl
  · exact (Nat.zero_add _).symm
  · first | rfl | (show 0 * 256 + j.val = _ + j.val; norm_num)

theorem nrm_0 (s j : Fin 256) : (View.ld (iblk m c 5 t) (Rect.unit ![0, 0] ![256, 256] inb_S1024x256_S256x256_0_0)) (ix2 j s)
    = m ((c.tc : Thread nD τ).loc main_arg6) (ix1 ⟨0 * 256 + j.val, by omega⟩) := by
  refine (View.ld_unit_apply_of (iblk m c 5 t) _ _ _ (ix2 j s) (ix2 ⟨0 * 256 + j.val, by omega⟩ s) ?_).trans (blk5 m c t _ s)
  intro a
  fin_cases a
  · first | rfl | (show 0 * 256 + j.val = _ + j.val; norm_num)
  · exact (Nat.zero_add _).symm

theorem ins_1 (D : Call m c 1 q k v xi xf bi bf) : Ins (fun s => lgt (xf (sq t) s + bf)) (fun s => xi (sq t) s + bi) (q (sq t)) (k (sq t)) (v (sq t)) (before t)
      (subf (extractStridedSlice S256x1 ![0, 1] (gat m c t) slices_S256x128_o0_1_S256x1) (extractStridedSlice S256x1 ![0, 5] (cms m c t) slices_S256x128_o0_5_S256x1))
      (k0_pay34 (k0_pay9 (cms m c t))) (k0_pay33 (k0_pay8 (gat m c t))) (k0_pay46 (k0_pay9 (cms m c t)))
      (View.ld (iblk m c 0 t) (Rect.unit ![0, 0, 128] ![1, 256, 128] inb_S1x256x1024_S1x256x128_0_0_128))
      (View.ld (iblk m c 0 t) (Rect.unit ![0, 0, 640] ![1, 256, 128] inb_S1x256x1024_S1x256x128_0_0_640))
      (View.ld (iblk m c 1 t) (Rect.unit ![0, 0, 256] ![1, 256, 256] inb_S1x256x1024_S1x256x256_0_0_256)) where
  ha s := by
    rw [EReal.coe_sub]
    exact (pa_1 _ s _).trans (congrArg₂ (fun x y : EReal => x - y) (gat_in t D s) (cms_forget t D s))
  hb s := (p34 s _).trans ((p9 _ s 5).trans (cms_forget t D s))
  hi s := (p33 s _).trans ((p8 _ s 1).trans (gat_in t D s))
  hl := (p46 _).trans ((p9 _ 255 5).trans (cms_forget t D 255))
  hq := by
    intro s d
    refine (View.ld_unit_apply_of (iblk m c 0 t) _ _ _ (ix3 0 s d) (ix3 0 s ⟨1 * 128 + d.val, by omega⟩) ?_).trans ?_
    · intro a
      fin_cases a
      · rfl
      · exact (Nat.zero_add _).symm
      · first | rfl | exact Nat.add_assoc _ _ _ |>.symm | (show 1 * 128 + d.val = _ + d.val; norm_num; try omega)
    · exact (blk0 m c t s _).trans (D.hq (sq t) (stp t s) d)
  hk := by
    intro s d
    refine (View.ld_unit_apply_of (iblk m c 0 t) _ _ _ (ix3 0 s d) (ix3 0 s ⟨512 + (1 * 128 + d.val), by omega⟩) ?_).trans ?_
    · intro a
      fin_cases a
      · rfl
      · exact (Nat.zero_add _).symm
      · first | rfl | exact Nat.add_assoc _ _ _ |>.symm | (show 512 + (1 * 128 + d.val) = _ + d.val; norm_num; try omega)
    · exact (blk0 m c t s _).trans (D.hk (sq t) (stp t s) d)
  hv := by
    intro s d
    refine (View.ld_unit_apply_of (iblk m c 1 t) _ _ _ (ix3 0 s d) (ix3 0 s ⟨1 * 256 + d.val, by omega⟩) ?_).trans ?_
    · intro a
      fin_cases a
      · rfl
      · exact (Nat.zero_add _).symm
      · first | rfl | exact Nat.add_assoc _ _ _ |>.symm | (show 1 * 256 + d.val = _ + d.val; norm_num; try omega)
    · exact (blk1 m c t s _).trans (D.hv (sq t) (stp t s) d)

theorem out_1 (s j : Fin 256) : (View.ld (iblk m c 2 t) (Rect.unit ![0, 0, 256] ![1, 256, 256] inb_S1x256x1024_S1x256x256_0_0_256)) (ix3 0 s j)
    = m ((c.tc : Thread nD τ).loc main_arg2) (ix2 (row t s) ⟨1 * 256 + j.val, by omega⟩) := by
  refine (View.ld_unit_apply_of (iblk m c 2 t) _ _ _ (ix3 0 s j) (ix3 0 s ⟨1 * 256 + j.val, by omega⟩) ?_).trans (blk2 m c t s _)
  intro a
  fin_cases a
  · rfl
  · exact (Nat.zero_add _).symm
  · first | rfl | (show 1 * 256 + j.val = _ + j.val; norm_num)

theorem nrm_1 (s j : Fin 256) : (View.ld (iblk m c 5 t) (Rect.unit ![256, 0] ![256, 256] inb_S1024x256_S256x256_256_0)) (ix2 j s)
    = m ((c.tc : Thread nD τ).loc main_arg6) (ix1 ⟨1 * 256 + j.val, by omega⟩) := by
  refine (View.ld_unit_apply_of (iblk m c 5 t) _ _ _ (ix2 j s) (ix2 ⟨1 * 256 + j.val, by omega⟩ s) ?_).trans (blk5 m c t _ s)
  intro a
  fin_cases a
  · first | rfl | (show 1 * 256 + j.val = _ + j.val; norm_num)
  · exact (Nat.zero_add _).symm

theorem ins_2 (D : Call m c 2 q k v xi xf bi bf) : Ins (fun s => lgt (xf (sq t) s + bf)) (fun s => xi (sq t) s + bi) (q (sq t)) (k (sq t)) (v (sq t)) (before t)
      (subf (extractStridedSlice S256x1 ![0, 2] (gat m c t) slices_S256x128_o0_2_S256x1) (extractStridedSlice S256x1 ![0, 6] (cms m c t) slices_S256x128_o0_6_S256x1))
      (k0_pay55 (k0_pay9 (cms m c t))) (k0_pay54 (k0_pay8 (gat m c t))) (k0_pay67 (k0_pay9 (cms m c t)))
      (View.ld (iblk m c 0 t) (Rect.unit ![0, 0, 256] ![1, 256, 128] inb_S1x256x1024_S1x256x128_0_0_256))
      (View.ld (iblk m c 0 t) (Rect.unit ![0, 0, 768] ![1, 256, 128] inb_S1x256x1024_S1x256x128_0_0_768))
      (View.ld (iblk m c 1 t) (Rect.unit ![0, 0, 512] ![1, 256, 256] inb_S1x256x1024_S1x256x256_0_0_512)) where
  ha s := by
    rw [EReal.coe_sub]
    exact (pa_2 _ s _).trans (congrArg₂ (fun x y : EReal => x - y) (gat_in t D s) (cms_forget t D s))
  hb s := (p55 s _).trans ((p9 _ s 6).trans (cms_forget t D s))
  hi s := (p54 s _).trans ((p8 _ s 2).trans (gat_in t D s))
  hl := (p67 _).trans ((p9 _ 255 6).trans (cms_forget t D 255))
  hq := by
    intro s d
    refine (View.ld_unit_apply_of (iblk m c 0 t) _ _ _ (ix3 0 s d) (ix3 0 s ⟨2 * 128 + d.val, by omega⟩) ?_).trans ?_
    · intro a
      fin_cases a
      · rfl
      · exact (Nat.zero_add _).symm
      · first | rfl | exact Nat.add_assoc _ _ _ |>.symm | (show 2 * 128 + d.val = _ + d.val; norm_num; try omega)
    · exact (blk0 m c t s _).trans (D.hq (sq t) (stp t s) d)
  hk := by
    intro s d
    refine (View.ld_unit_apply_of (iblk m c 0 t) _ _ _ (ix3 0 s d) (ix3 0 s ⟨512 + (2 * 128 + d.val), by omega⟩) ?_).trans ?_
    · intro a
      fin_cases a
      · rfl
      · exact (Nat.zero_add _).symm
      · first | rfl | exact Nat.add_assoc _ _ _ |>.symm | (show 512 + (2 * 128 + d.val) = _ + d.val; norm_num; try omega)
    · exact (blk0 m c t s _).trans (D.hk (sq t) (stp t s) d)
  hv := by
    intro s d
    refine (View.ld_unit_apply_of (iblk m c 1 t) _ _ _ (ix3 0 s d) (ix3 0 s ⟨2 * 256 + d.val, by omega⟩) ?_).trans ?_
    · intro a
      fin_cases a
      · rfl
      · exact (Nat.zero_add _).symm
      · first | rfl | exact Nat.add_assoc _ _ _ |>.symm | (show 2 * 256 + d.val = _ + d.val; norm_num; try omega)
    · exact (blk1 m c t s _).trans (D.hv (sq t) (stp t s) d)

theorem out_2 (s j : Fin 256) : (View.ld (iblk m c 2 t) (Rect.unit ![0, 0, 512] ![1, 256, 256] inb_S1x256x1024_S1x256x256_0_0_512)) (ix3 0 s j)
    = m ((c.tc : Thread nD τ).loc main_arg2) (ix2 (row t s) ⟨2 * 256 + j.val, by omega⟩) := by
  refine (View.ld_unit_apply_of (iblk m c 2 t) _ _ _ (ix3 0 s j) (ix3 0 s ⟨2 * 256 + j.val, by omega⟩) ?_).trans (blk2 m c t s _)
  intro a
  fin_cases a
  · rfl
  · exact (Nat.zero_add _).symm
  · first | rfl | (show 2 * 256 + j.val = _ + j.val; norm_num)

theorem nrm_2 (s j : Fin 256) : (View.ld (iblk m c 5 t) (Rect.unit ![512, 0] ![256, 256] inb_S1024x256_S256x256_512_0)) (ix2 j s)
    = m ((c.tc : Thread nD τ).loc main_arg6) (ix1 ⟨2 * 256 + j.val, by omega⟩) := by
  refine (View.ld_unit_apply_of (iblk m c 5 t) _ _ _ (ix2 j s) (ix2 ⟨2 * 256 + j.val, by omega⟩ s) ?_).trans (blk5 m c t _ s)
  intro a
  fin_cases a
  · first | rfl | (show 2 * 256 + j.val = _ + j.val; norm_num)
  · exact (Nat.zero_add _).symm

theorem ins_3 (D : Call m c 3 q k v xi xf bi bf) : Ins (fun s => lgt (xf (sq t) s + bf)) (fun s => xi (sq t) s + bi) (q (sq t)) (k (sq t)) (v (sq t)) (before t)
      (subf (extractStridedSlice S256x1 ![0, 3] (gat m c t) slices_S256x128_o0_3_S256x1) (extractStridedSlice S256x1 ![0, 7] (cms m c t) slices_S256x128_o0_7_S256x1))
      (k0_pay77 (k0_pay9 (cms m c t))) (k0_pay76 (k0_pay8 (gat m c t))) (k0_pay88 (k0_pay9 (cms m c t)))
      (View.ld (iblk m c 0 t) (Rect.unit ![0, 0, 384] ![1, 256, 128] inb_S1x256x1024_S1x256x128_0_0_384))
      (View.ld (iblk m c 0 t) (Rect.unit ![0, 0, 896] ![1, 256, 128] inb_S1x256x1024_S1x256x128_0_0_896))
      (View.ld (iblk m c 1 t) (Rect.unit ![0, 0, 768] ![1, 256, 256] inb_S1x256x1024_S1x256x256_0_0_768)) where
  ha s := by
    rw [EReal.coe_sub]
    exact (pa_3 _ s _).trans (congrArg₂ (fun x y : EReal => x - y) (gat_in t D s) (cms_forget t D s))
  hb s := (p77 s _).trans ((p9 _ s 7).trans (cms_forget t D s))
  hi s := (p76 s _).trans ((p8 _ s 3).trans (gat_in t D s))
  hl := (p88 _).trans ((p9 _ 255 7).trans (cms_forget t D 255))
  hq := by
    intro s d
    refine (View.ld_unit_apply_of (iblk m c 0 t) _ _ _ (ix3 0 s d) (ix3 0 s ⟨3 * 128 + d.val, by omega⟩) ?_).trans ?_
    · intro a
      fin_cases a
      · rfl
      · exact (Nat.zero_add _).symm
      · first | rfl | exact Nat.add_assoc _ _ _ |>.symm | (show 3 * 128 + d.val = _ + d.val; norm_num; try omega)
    · exact (blk0 m c t s _).trans (D.hq (sq t) (stp t s) d)
  hk := by
    intro s d
    refine (View.ld_unit_apply_of (iblk m c 0 t) _ _ _ (ix3 0 s d) (ix3 0 s ⟨512 + (3 * 128 + d.val), by omega⟩) ?_).trans ?_
    · intro a
      fin_cases a
      · rfl
      · exact (Nat.zero_add _).symm
      · first | rfl | exact Nat.add_assoc _ _ _ |>.symm | (show 512 + (3 * 128 + d.val) = _ + d.val; norm_num; try omega)
    · exact (blk0 m c t s _).trans (D.hk (sq t) (stp t s) d)
  hv := by
    intro s d
    refine (View.ld_unit_apply_of (iblk m c 1 t) _ _ _ (ix3 0 s d) (ix3 0 s ⟨3 * 256 + d.val, by omega⟩) ?_).trans ?_
    · intro a
      fin_cases a
      · rfl
      · exact (Nat.zero_add _).symm
      · first | rfl | exact Nat.add_assoc _ _ _ |>.symm | (show 3 * 256 + d.val = _ + d.val; norm_num; try omega)
    · exact (blk1 m c t s _).trans (D.hv (sq t) (stp t s) d)

theorem out_3 (s j : Fin 256) : (View.ld (iblk m c 2 t) (Rect.unit ![0, 0, 768] ![1, 256, 256] inb_S1x256x1024_S1x256x256_0_0_768)) (ix3 0 s j)
    = m ((c.tc : Thread nD τ).loc main_arg2) (ix2 (row t s) ⟨3 * 256 + j.val, by omega⟩) := by
  refine (View.ld_unit_apply_of (iblk m c 2 t) _ _ _ (ix3 0 s j) (ix3 0 s ⟨3 * 256 + j.val, by omega⟩) ?_).trans (blk2 m c t s _)
  intro a
  fin_cases a
  · rfl
  · exact (Nat.zero_add _).symm
  · first | rfl | (show 3 * 256 + j.val = _ + j.val; norm_num)

theorem nrm_3 (s j : Fin 256) : (View.ld (iblk m c 5 t) (Rect.unit ![768, 0] ![256, 256] inb_S1024x256_S256x256_768_0)) (ix2 j s)
    = m ((c.tc : Thread nD τ).loc main_arg6) (ix1 ⟨3 * 256 + j.val, by omega⟩) := by
  refine (View.ld_unit_apply_of (iblk m c 5 t) _ _ _ (ix2 j s) (ix2 ⟨3 * 256 + j.val, by omega⟩ s) ?_).trans (blk5 m c t _ s)
  intro a
  fin_cases a
  · first | rfl | (show 3 * 256 + j.val = _ + j.val; norm_num)
  · exact (Nat.zero_add _).symm

end Cert.Proof.Mlstm

end

end
-- ==== Proof.MlstmRef.lean ====
/-
  The mLSTM memory as the reference (`Reference7Ideal`) computes it: over a whole sequence, every target with every source.
-/
module

public import proofs.«01_k».proof.Proof.MlstmHead
public import proofs.«01_k».proof.Proof.Gen.Reference7Ideal.Run
public import Idealize.ShloMosaic.Lib.Pipeline.ValueKit

@[expose] public section

set_option maxRecDepth 16384

noncomputable section

namespace Cert.Proof.Mlstm.Ref

open Cert.Reference7Ideal Cert.Reference7Ideal.Gen Idealize.ShloMosaic

/-- Which sources a target sees. -/
def causal : IVec S16x4x4096x4096 1 :=
  broadcastInDim S16x4x4096x4096 ![2, 3] bcast_S4096x4096_S16x4x4096x4096_2_3 (select (cmpi .sge (addi (iotaInDim S4096x4096 32 0) (broadcastInDim S4096x4096 ![] bcast_S_S4096x4096 (constantI S_ 32 0#32))) (iotaInDim S4096x4096 32 1)) (broadcastInDim S4096x4096 ![] bcast_S_S4096x4096 (constantI S_ 1 1#1)) (broadcastInDim S4096x4096 ![] bcast_S_S4096x4096 (constantI S_ 1 0#1)))

/-- The logarithms of the forget gates. -/
def lfg (a3 : FVec Ideal S65536x128 .f32) (a5 : FVec Ideal S4 .f32) : FVec Ideal S16x4x4096 .f32 :=
  Host.negf (transpose S16x4x4096 [0, 2, 1] (shapeCast _ (Host.log (addf (broadcastInDim S65536x4 ![] bcast_S_S65536x4 (constant S_ .f32 0x3F800000#32)) (Host.exp (Host.negf (addf (extractStridedSlice S65536x4 ![0, 4] a3 slices_S65536x128_S65536x4_0_4) (broadcastInDim S65536x4 ![0, 1] bcast_S1x4_S65536x4_0_1 (broadcastInDim S1x4 ![1] bcast_S4_S1x4_1 a5))))))) shapeCasts_S65536x4_S16x4096x4) transposes_S16x4096x4_S16x4x4096_0_2_1)

/-- The logarithms of the input gates. -/
def igg (a3 : FVec Ideal S65536x128 .f32) (a4 : FVec Ideal S4 .f32) : FVec Ideal S16x4x4096 .f32 :=
  transpose S16x4x4096 [0, 2, 1] (shapeCast _ (addf (extractStridedSlice S65536x4 ![0, 0] a3 slices_S65536x128_S65536x4_0_0) (broadcastInDim S65536x4 ![0, 1] bcast_S1x4_S65536x4_0_1 (broadcastInDim S1x4 ![1] bcast_S4_S1x4_1 a4))) shapeCasts_S65536x4_S16x4096x4) transposes_S16x4096x4_S16x4x4096_0_2_1

/-- The sums of the forget gates' logarithms up to each step. -/
def cum (lf : FVec Ideal S16x4x4096 .f32) : FVec Ideal S16x4x4096 .f32 :=
  Host.reduceAdd (select causal (broadcastInDim S16x4x4096x4096 ![0, 1, 2, 3] bcast_S16x4x1x4096_S16x4x4096x4096_0_1_2_3 (broadcastInDim S16x4x1x4096 ![0, 1, 3] bcast_S16x4x4096_S16x4x1x4096_0_1_3 lf)) (broadcastInDim S16x4x4096x4096 ![] bcast_S_S16x4x4096x4096 (id (constant S_ .f32 0x00000000#32)))) (constant S_ .f32 0x00000000#32) reducesTo_S16x4x4096x4096_S16x4x4096_d3 h_S_

/-- The weight of each source at each target. -/
def wts (b ig : FVec Ideal S16x4x4096 .f32) : FVec Ideal S16x4x4096x4096 .f32 :=
  select causal (Host.exp (addf (subf (broadcastInDim S16x4x4096x4096 ![0, 1, 2, 3] bcast_S16x4x4096x1_S16x4x4096x4096_0_1_2_3 (broadcastInDim S16x4x4096x1 ![0, 1, 2] bcast_S16x4x4096_S16x4x4096x1_0_1_2 b)) (broadcastInDim S16x4x4096x4096 ![0, 1, 2, 3] bcast_S16x4x1x4096_S16x4x4096x4096_0_1_2_3 (broadcastInDim S16x4x1x4096 ![0, 1, 3] bcast_S16x4x4096_S16x4x1x4096_0_1_3 b))) (broadcastInDim S16x4x4096x4096 ![0, 1, 2, 3] bcast_S16x4x1x4096_S16x4x4096x4096_0_1_2_3 (broadcastInDim S16x4x1x4096 ![0, 1, 3] bcast_S16x4x4096_S16x4x1x4096_0_1_3 ig)))) (broadcastInDim S16x4x4096x4096 ![] bcast_S_S16x4x4096x4096 (id (constant S_ .f32 0x00000000#32)))

/-- The weighted products of queries and keys. -/
def scs (a0 : FVec Ideal S65536x1024 .bf16) (w : FVec Ideal S16x4x4096x4096 .f32) : FVec Ideal S16x4x4096x4096 .f32 :=
  mulf (Host.dotGeneral dot_S16x4096x4x128_S16x4096x4x128_S16x4x4096x4096_3_3_1_1_02_02 none (shapeCast _ (extf .f32 (extractStridedSlice S65536x512 ![0, 0] a0 slices_S65536x1024_S65536x512_0_0) bitsLt_bf16_f32) shapeCasts_S65536x512_S16x4096x4x128) (mulf (shapeCast _ (extf .f32 (extractStridedSlice S65536x512 ![0, 512] a0 slices_S65536x1024_S65536x512_0_512) bitsLt_bf16_f32) shapeCasts_S65536x512_S16x4096x4x128) (broadcastInDim S16x4096x4x128 ![] bcast_S_S16x4096x4x128 (constant S_ .f32 0x3DB504F3#32)))) w

/-- The weighted mean of the values. -/
def hvs (sc : FVec Ideal S16x4x4096x4096 .f32) (a1 : FVec Ideal S65536x1024 .bf16) : FVec Ideal S16x4x4096x256 .f32 :=
  Host.divf (Host.dotGeneral dot_S16x4x4096x4096_S16x4096x4x256_S16x4x4096x256_3_1_2_3_01_02 none sc (shapeCast _ (extf .f32 a1 bitsLt_bf16_f32) shapeCasts_S65536x1024_S16x4096x4x256)) (broadcastInDim S16x4x4096x256 ![0, 1, 2, 3] bcast_S16x4x4096x1_S16x4x4096x256_0_1_2_3 (maximumf (Host.absf (broadcastInDim S16x4x4096x1 ![0, 1, 2] bcast_S16x4x4096_S16x4x4096x1_0_1_2 (Host.reduceAdd sc (constant S_ .f32 0x00000000#32) reducesTo_S16x4x4096x4096_S16x4x4096_d3 h_S_))) (broadcastInDim S16x4x4096x1 ![] bcast_S_S16x4x4096x1 (constant S_ .f32 0x3F800000#32))))

/-- The normed result, gated. -/
def res (hv : FVec Ideal S16x4x4096x256 .f32) (a2 : FVec Ideal S65536x1024 .bf16) (a6 : FVec Ideal S1024 .f32) : FVec Ideal S16x4096x1024 .bf16 :=
  truncf .bf16 (mulf (shapeCast _ (extf .f32 a2 bitsLt_bf16_f32) shapeCasts_S65536x1024_S16x4096x1024) (mulf (shapeCast _ (transpose S16x4096x4x256 [0, 2, 1, 3] (mulf hv (broadcastInDim S16x4x4096x256 ![0, 1, 2, 3] bcast_S16x4x4096x1_S16x4x4096x256_0_1_2_3 (Host.rsqrt (addf (Host.divf (broadcastInDim S16x4x4096x1 ![0, 1, 2] bcast_S16x4x4096_S16x4x4096x1_0_1_2 (Host.reduceAdd (mulf hv hv) (constant S_ .f32 0x00000000#32) reducesTo_S16x4x4096x256_S16x4x4096_d3 h_S_)) (broadcastInDim S16x4x4096x1 ![] bcast_S_S16x4x4096x1 (constant S_ .f32 0x43800000#32))) (broadcastInDim S16x4x4096x1 ![] bcast_S_S16x4x4096x1 (constant S_ .f32 0x358637BD#32)))))) transposes_S16x4x4096x256_S16x4096x4x256_0_2_1_3) shapeCasts_S16x4096x4x256_S16x4096x1024) (broadcastInDim S16x4096x1024 ![0, 1, 2] bcast_S1x1x1024_S16x4096x1024_0_1_2 (broadcastInDim S1x1x1024 ![2] bcast_S1024_S1x1x1024_2 a6)))) bitsLt_bf16_f32

theorem res_eq (m : (ℓ : Loc nD τ sig) → Buf (Elt Ideal) ℓ) (c : Dev nD) :
    Value.res_main_v71 m c = res (hvs (scs (m ((c.tc : Thread nD τ).loc main_arg0))
      (wts (cum (lfg (m ((c.tc : Thread nD τ).loc main_arg3)) (m ((c.tc : Thread nD τ).loc main_arg5))))
        (igg (m ((c.tc : Thread nD τ).loc main_arg3)) (m ((c.tc : Thread nD τ).loc main_arg4)))))
      (m ((c.tc : Thread nD τ).loc main_arg1))) (m ((c.tc : Thread nD τ).loc main_arg2)) (m ((c.tc : Thread nD τ).loc main_arg6)) := rfl

theorem causal_at (n : Fin 16) (h : Fin 4) (t s : Fin 4096) :
    causal (ix4 n h t s) = if s.val ≤ t.val then 1#1 else 0#1 := by
  have e : causal (ix4 n h t s) = Scalar.select (IntOp.cmpi .sge (IntOp.addi (BitVec.ofNat 32 t.val) 0#32) (BitVec.ofNat 32 s.val)) 1#1 0#1 := by
    pointwise [causal]
  have z : IntOp.addi (BitVec.ofNat 32 t.val) 0#32 = BitVec.ofNat 32 t.val := by
    simp [IntOp.addi]
  rw [e, z]
  unfold Scalar.select
  have ht := t.isLt
  have hs := s.isLt
  exact if_congr (Idealize.ShloMosaic.WordCmp.cmpi_sge_ofNat_eq_one_iff (w := 32) (by omega) (by omega)) rfl rfl

/-- What the mask keeps. -/
theorem sel_causal (n : Fin 16) (h : Fin 4) (t s : Fin 4096) (x y : EReal) :
    Scalar.select (causal (ix4 n h t s)) x y = if s.val ≤ t.val then x else y := by
  rw [causal_at]
  unfold Scalar.select
  split_ifs <;> simp_all

theorem zero_at : (id (constant (F := Ideal) S_ FTy.f32 0#32) : FVec Ideal S_ .f32) ix0 = (0 : EReal) := by
  show (constant (F := Ideal) S_ FTy.f32 0#32 : FVec Ideal S_ .f32) ix0 = (0 : EReal)
  pointwise

theorem lfg_at (a3 : FVec Ideal S65536x128 .f32) (a5 : FVec Ideal S4 .f32) (n : Fin 16) (h : Fin 4) (t : Fin 4096) :
    lfg a3 a5 (ix3 n h t) = (-Ideal.log (1 + Ideal.exp (-(a3 (ix2 ⟨n.val * 4096 + t.val, by omega⟩ ⟨4 + h.val, by omega⟩) + a5 (ix1 h)))) : EReal) := by
  pointwise [lfg]
theorem igg_at (a3 : FVec Ideal S65536x128 .f32) (a4 : FVec Ideal S4 .f32) (n : Fin 16) (h : Fin 4) (t : Fin 4096) :
    igg a3 a4 (ix3 n h t) = (a3 (ix2 ⟨n.val * 4096 + t.val, by omega⟩ ⟨h.val, by omega⟩) + a4 (ix1 h) : EReal) := by
  pointwise [igg]
theorem cum_at (lf : FVec Ideal S16x4x4096 .f32) (n : Fin 16) (h : Fin 4) (t : Fin 4096) :
    cum lf (ix3 n h t) = ∑ x : Fin 4096, Scalar.select (causal (ix4 n h t x)) (lf (ix3 n h x) : EReal) ((id (constant (F := Ideal) S_ FTy.f32 0#32) : FVec Ideal S_ .f32) ix0) := by
  pointwise [cum]
theorem wts_at (b ig : FVec Ideal S16x4x4096 .f32) (n : Fin 16) (h : Fin 4) (t s : Fin 4096) :
    wts b ig (ix4 n h t s) = Scalar.select (causal (ix4 n h t s)) (Ideal.exp (b (ix3 n h t) - b (ix3 n h s) + ig (ix3 n h s)) : EReal) ((id (constant (F := Ideal) S_ FTy.f32 0#32) : FVec Ideal S_ .f32) ix0) := by
  pointwise [wts]
theorem scs_at (a0 : FVec Ideal S65536x1024 .bf16) (w : FVec Ideal S16x4x4096x4096 .f32) (n : Fin 16) (h : Fin 4) (t s : Fin 4096) :
    scs a0 w (ix4 n h t s) = ((∑ x : Fin 128, (a0 (ix2 ⟨n.val * 4096 + t.val, by omega⟩ ⟨h.val * 128 + x.val, by omega⟩) : EReal)
      * ((a0 (ix2 ⟨n.val * 4096 + s.val, by omega⟩ ⟨512 + (h.val * 128 + x.val), by omega⟩) : EReal) * Ideal.ofBits .f32 1035273459#32)) * w (ix4 n h t s) : EReal) := by
  pointwise [scs]
theorem hvs_at (sc : FVec Ideal S16x4x4096x4096 .f32) (a1 : FVec Ideal S65536x1024 .bf16) (n : Fin 16) (h : Fin 4) (t : Fin 4096) (j : Fin 256) :
    hvs sc a1 (ix4 n h t j) = (Ideal.div (∑ x : Fin 4096, (sc (ix4 n h t x) : EReal) * (a1 (ix2 ⟨n.val * 4096 + x.val, by omega⟩ ⟨h.val * 256 + j.val, by omega⟩) : EReal))
      (max (FloatOps.absf (F := Ideal) (φ := .f32) (∑ x : Fin 4096, sc (ix4 n h t x) : EReal)) 1) : EReal) := by
  pointwise [hvs]
theorem res_at (hv : FVec Ideal S16x4x4096x256 .f32) (a2 : FVec Ideal S65536x1024 .bf16) (a6 : FVec Ideal S1024 .f32) (n : Fin 16) (h : Fin 4) (t : Fin 4096) (j : Fin 256) :
    res hv a2 a6 (ix3 n t ⟨h.val * 256 + j.val, by omega⟩) = ((a2 (ix2 ⟨n.val * 4096 + t.val, by omega⟩ ⟨h.val * 256 + j.val, by omega⟩) : EReal)
      * ((hv (ix4 n h t j) : EReal) * Ideal.rsqrt (Ideal.div (∑ x : Fin 256, (hv (ix4 n h t x) : EReal) * hv (ix4 n h t x)) (Ideal.ofBits .f32 1132462080#32) + Ideal.ofBits .f32 897988541#32)
        * a6 (ix1 ⟨h.val * 256 + j.val, by omega⟩)) : EReal) := by
  pointwise [res]

section

variable {lf ig : ℕ → ℝ} {q k : ℕ → Fin 128 → ℝ} {v : ℕ → Fin 256 → ℝ} {n : Fin 16} {h : Fin 4}
  {L I : FVec Ideal S16x4x4096 .f32} {a0 a1 : FVec Ideal S65536x1024 .bf16}
  (hL : ∀ s : Fin 4096, L (ix3 n h s) = ((lf s.val : ℝ) : EReal)) (hI : ∀ s : Fin 4096, I (ix3 n h s) = ((ig s.val : ℝ) : EReal))
  (hq : ∀ (s : Fin 4096) (d : Fin 128), a0 (ix2 ⟨n.val * 4096 + s.val, by omega⟩ ⟨h.val * 128 + d.val, by omega⟩) = ((q s.val d : ℝ) : EReal))
  (hk : ∀ (s : Fin 4096) (d : Fin 128), a0 (ix2 ⟨n.val * 4096 + s.val, by omega⟩ ⟨512 + (h.val * 128 + d.val), by omega⟩) = ((k s.val d : ℝ) : EReal))
  (hv : ∀ (s : Fin 4096) (j : Fin 256), a1 (ix2 ⟨n.val * 4096 + s.val, by omega⟩ ⟨h.val * 256 + j.val, by omega⟩) = ((v s.val j : ℝ) : EReal))
include hL

theorem cum_real (t : Fin 4096) : cum L (ix3 n h t) = ((cumR lf (t.val + 1) : ℝ) : EReal) := by
  rw [cum_at, cumR, ← sum_upto _ _ t.isLt, coe_sum]
  refine Finset.sum_congr rfl fun s _ => ?_
  rw [sel_causal, zero_at, hL]
  split_ifs <;> rfl

include hI

theorem wts_real (t s : Fin 4096) : wts (cum L) I (ix4 n h t s)
    = (((if s.val ≤ t.val then Real.exp (cumR lf (t.val + 1) - cumR lf (s.val + 1) + ig s.val) else 0 : ℝ)) : EReal) := by
  rw [wts_at, sel_causal, zero_at, cum_real hL, cum_real hL, hI, ← EReal.coe_sub, ← EReal.coe_add, Ideal.exp_coe]
  split_ifs <;> rfl

include hq hk

theorem scs_real (t s : Fin 4096) : scs a0 (wts (cum L) I) (ix4 n h t s)
    = (((if s.val ≤ t.val then Real.exp (cumR lf (t.val + 1) - cumR lf (s.val + 1) + ig s.val) * ((∑ d, k s.val d * q t.val d) * kap) else 0 : ℝ)) : EReal) := by
  have e : (∑ x : Fin 128, (a0 (ix2 ⟨n.val * 4096 + t.val, by omega⟩ ⟨h.val * 128 + x.val, by omega⟩) : EReal)
      * ((a0 (ix2 ⟨n.val * 4096 + s.val, by omega⟩ ⟨512 + (h.val * 128 + x.val), by omega⟩) : EReal) * Ideal.ofBits .f32 1035273459#32))
      = (((∑ d, k s.val d * q t.val d) * kap : ℝ) : EReal) := by
    rw [Finset.sum_mul, coe_sum]
    refine Finset.sum_congr rfl fun d _ => ?_
    rw [hq, hk, kap_eq, ← EReal.coe_mul, ← EReal.coe_mul]
    congr 1
    ring
  rw [scs_at, e, wts_real hL hI, ← EReal.coe_mul]
  congr 1
  split_ifs
  · ring
  · ring

theorem den_real (t : Fin 4096) : (∑ x : Fin 4096, scs a0 (wts (cum L) I) (ix4 n h t x) : EReal) = ((sN lf ig q k kap (fun _ => 1) t.val : ℝ) : EReal) := by
  unfold sN
  rw [← sum_upto _ _ t.isLt, coe_sum]
  refine Finset.sum_congr rfl fun s _ => ?_
  rw [scs_real hL hI hq hk]
  congr 1
  split_ifs
  · ring
  · rfl

include hv

theorem num_real (t : Fin 4096) (j : Fin 256) : (∑ x : Fin 4096, (scs a0 (wts (cum L) I) (ix4 n h t x) : EReal) * (a1 (ix2 ⟨n.val * 4096 + x.val, by omega⟩ ⟨h.val * 256 + j.val, by omega⟩) : EReal))
    = ((sN lf ig q k kap (fun s => v s j) t.val : ℝ) : EReal) := by
  unfold sN
  rw [← sum_upto _ _ t.isLt, coe_sum]
  refine Finset.sum_congr rfl fun s _ => ?_
  rw [scs_real hL hI hq hk, hv, ← EReal.coe_mul]
  congr 1
  split_ifs
  · ring
  · ring

theorem hvs_real (t : Fin 4096) (j : Fin 256) : hvs (scs a0 (wts (cum L) I)) a1 (ix4 n h t j)
    = ((hV (sN lf ig q k kap (fun s => v s j) t.val) (sN lf ig q k kap (fun _ => 1) t.val) : ℝ) : EReal) := by
  have p : (0 : ℝ) < max |sN lf ig q k kap (fun _ => 1) t.val| 1 := lt_max_of_lt_right one_pos
  rw [hvs_at, num_real hL hI hq hk hv, den_real hL hI hq hk, abs_coe, ← EReal.coe_one, ← coe_max, Ideal.div_coe p.ne', ← EReal.coe_mul, hV]
  congr 1
  ring

end

theorem mean256 (x : ℝ) : Ideal.div (x : EReal) (Ideal.ofBits .f32 1132462080#32) = (x : EReal) * Ideal.ofBits .f32 998244352#32 := by
  have e : Ideal.ofBits .f32 1132462080#32 = ((256 : ℝ) : EReal) := by
    simp [Ideal.ofBits, Ideal.ieee, -EReal.coe_mul]
    norm_num
  have e' : Ideal.ofBits .f32 998244352#32 = ((1 / 256 : ℝ) : EReal) := by
    simp [Ideal.ofBits, Ideal.ieee, -EReal.coe_mul]
    norm_num
  rw [e, e', Ideal.div_coe (by norm_num)]

/-- The reference's result at one place, from the reals of its sequence and head. -/
theorem out_real {H : FVec Ideal S16x4x4096x256 .f32} {a2 : FVec Ideal S65536x1024 .bf16} {a6 : FVec Ideal S1024 .f32} {n : Fin 16} {h : Fin 4} {t : Fin 4096}
    {y : Fin 256 → ℝ} (hH : ∀ j, H (ix4 n h t j) = ((y j : ℝ) : EReal)) (j : Fin 256) :
    res H a2 a6 (ix3 n t ⟨h.val * 256 + j.val, by omega⟩) = ((a2 (ix2 ⟨n.val * 4096 + t.val, by omega⟩ ⟨h.val * 256 + j.val, by omega⟩) : EReal)
      * ((y j : EReal) * Ideal.rsqrt (((∑ j, y j * y j : ℝ) : EReal) * Ideal.ofBits .f32 998244352#32 + Ideal.ofBits .f32 897988541#32)
        * a6 (ix1 ⟨h.val * 256 + j.val, by omega⟩)) : EReal) := by
  have e : (∑ x : Fin 256, (H (ix4 n h t x) : EReal) * H (ix4 n h t x)) = ((∑ j, y j * y j : ℝ) : EReal) := by
    rw [coe_sum]
    refine Finset.sum_congr rfl fun x _ => ?_
    rw [hH, EReal.coe_mul]
  rw [res_at, e, mean256, hH]

end Cert.Proof.Mlstm.Ref

end

end
-- ==== Proof.MlstmVal.lean ====
/-
  The mLSTM call (`Kernel7Ideal`): block after block, every head keeps its state, and the array that the blocks fill is the
  reference's (`Reference7Ideal`).
-/
module

public import proofs.«01_k».proof.Proof.MlstmEq
public import proofs.«01_k».proof.Proof.MlstmRef

@[expose] public section

set_option maxRecDepth 16384

noncomputable section

namespace Cert.Proof.Mlstm

open Cert.Kernel7Ideal Cert.Kernel7Ideal.Gen Idealize.ShloMosaic Idealize.ShloMosaic.TcCoe Idealize.SL.Sem

/-- The logarithms of a sequence's forget gates. -/
def L (xf : Fin 16 → ℕ → ℝ) (bf : ℝ) (n : Fin 16) : ℕ → ℝ := fun s => lgt (xf n s + bf)
/-- The logarithms of a sequence's input gates. -/
def G (xi : Fin 16 → ℕ → ℝ) (bi : ℝ) (n : Fin 16) : ℕ → ℝ := fun s => xi n s + bi
/-- A head's result before the norm. -/
def Y (q k : Fin 16 → ℕ → Fin 128 → ℝ) (v : Fin 16 → ℕ → Fin 256 → ℝ) (xi xf : Fin 16 → ℕ → ℝ) (bi bf : ℝ) (n : Fin 16) (s : ℕ) (j : Fin 256) : ℝ :=
  hV (sN (L xf bf n) (G xi bi n) (q n) (k n) kap (fun s => v n s j) s) (sN (L xf bf n) (G xi bi n) (q n) (k n) kap (fun _ => 1) s)

/-- A place of the result: the head's values normed, weighted and gated. -/
def gated (a2 : FVec Ideal S65536x1024 .bf16) (a6 : FVec Ideal S1024 .f32) (r : Fin 65536) (e : Fin 1024) (y : Fin 256 → ℝ) (j : Fin 256) : EReal :=
  (a2 (ix2 r e) : EReal) * ((y j : EReal) * Ideal.rsqrt (((∑ j, y j * y j : ℝ) : EReal) * Ideal.ofBits .f32 998244352#32 + Ideal.ofBits .f32 897988541#32)
    * a6 (ix1 e))

variable {m : (ℓ : Loc nD τ sig) → Buf (Elt Ideal) ℓ} {c : Dev nD} {q k : Fin 16 → ℕ → Fin 128 → ℝ} {v : Fin 16 → ℕ → Fin 256 → ℝ} {xi xf : Fin 16 → ℕ → ℝ} {bi bf : ℝ}

/-- What a block leaves of a head: its state, and its rows of the result. -/
def Left (m : (ℓ : Loc nD τ sig) → Buf (Elt Ideal) ℓ) (c : Dev nD) (h : Fin 4) (q k : Fin 16 → ℕ → Fin 128 → ℝ) (v : Fin 16 → ℕ → Fin 256 → ℝ) (xi xf : Fin 16 → ℕ → ℝ) (bi bf : ℝ) (t : Fin cfg0.N)
    (r : Vec Ideal S1x256x1024 .bf16 × Vec Ideal S4x256x128 .f32 × Vec Ideal S8x128 .f32 × Vec Ideal S8x128 .f32) : Prop :=
  St h (L xf bf (sq t)) (G xi bi (sq t)) (k (sq t)) (v (sq t)) (before t + 256) r
    ∧ ∀ s j : Fin 256, r.1 (ix3 0 s ⟨256 * h.val + j.val, by omega⟩)
      = gated (m ((c.tc : Thread nD τ).loc main_arg2)) (m ((c.tc : Thread nD τ).loc main_arg6)) (row t s) ⟨h.val * 256 + j.val, by omega⟩
        (Y q k v xi xf bi bf (sq t) (before t + s.val)) j

theorem left_of {h : Fin 4} {t : Fin cfg0.N} {a : FVec Ideal S256x1 .f32} {b i : FVec Ideal S1x256 .f32} {l : FVec Ideal S1x1 .f32}
    {qa ka : FVec Ideal S1x256x128 .bf16} {va o : FVec Ideal S1x256x256 .bf16} {w : FVec Ideal S256x256 .f32}
    {p r : Vec Ideal S1x256x1024 .bf16 × Vec Ideal S4x256x128 .f32 × Vec Ideal S8x128 .f32 × Vec Ideal S8x128 .f32}
    (I : Ins (fun s => lgt (xf (sq t) s + bf)) (fun s => xi (sq t) s + bi) (q (sq t)) (k (sq t)) (v (sq t)) (before t) a b i l qa ka va)
    (S : Step h a b i l qa ka va o w p r)
    (ho : ∀ s j : Fin 256, o (ix3 0 s j) = m ((c.tc : Thread nD τ).loc main_arg2) (ix2 (row t s) ⟨h.val * 256 + j.val, by omega⟩))
    (hw : ∀ s j : Fin 256, w (ix2 j s) = m ((c.tc : Thread nD τ).loc main_arg6) (ix1 ⟨h.val * 256 + j.val, by omega⟩))
    (P : St h (L xf bf (sq t)) (G xi bi (sq t)) (k (sq t)) (v (sq t)) (before t) p) :
    Left m c h q k v xi xf bi bf t r := by
  obtain ⟨s1, s2⟩ := step_real I S P
  refine ⟨s1, fun s j => ?_⟩
  rw [s2, ho, hw]
  rfl

/-- A sequence starts from nothing. -/
theorem st_zero (h : Fin 4) (lf ig : ℕ → ℝ) (k : ℕ → Fin 128 → ℝ) (v : ℕ → Fin 256 → ℝ) :
    St h lf ig k v 0 (fun _ => (0 : EReal), fun _ => (0 : EReal), fun _ => (0 : EReal), fun _ => (0 : EReal)) := by
  refine ⟨0, rfl, fun j d => ?_, fun d => ?_⟩
  · show (0 : EReal) = _
    rw [sX, Finset.range_zero, Finset.sum_empty, zero_mul]
    rfl
  · show (0 : EReal) = _
    rw [sX, Finset.range_zero, Finset.sum_empty, zero_mul]
    rfl

theorem leftA {h : Fin 4} (D : Call m c h q k v xi xf bi bf) (t : Fin cfg0.N) (ht : t.val % 16 = 0) :
    Left m c h q k v xi xf bi bf t (outsAt0 m c t.val t.isLt) := by
  have P : St h (L xf bf (sq t)) (G xi bi (sq t)) (k (sq t)) (v (sq t)) (before t) (fun _ => (0 : EReal), fun _ => (0 : EReal), fun _ => (0 : EReal), fun _ => (0 : EReal)) := by
    have e : before t = 0 := by
      show t.val % 16 * 256 = 0
      rw [ht, zero_mul]
    rw [e]
    exact st_zero _ _ _ _ _
  match h, D, P with
  | 0, D, P => exact left_of (ins_0 t D) (stepA_0 m c t ht) (out_0 t) (nrm_0 t) P
  | 1, D, P => exact left_of (ins_1 t D) (stepA_1 m c t ht) (out_1 t) (nrm_1 t) P
  | 2, D, P => exact left_of (ins_2 t D) (stepA_2 m c t ht) (out_2 t) (nrm_2 t) P
  | 3, D, P => exact left_of (ins_3 t D) (stepA_3 m c t ht) (out_3 t) (nrm_3 t) P

theorem leftB {h : Fin 4} (D : Call m c h q k v xi xf bi bf) (t : Fin cfg0.N) (ht : ¬ t.val % 16 = 0)
    (P : St h (L xf bf (sq t)) (G xi bi (sq t)) (k (sq t)) (v (sq t)) (before t) (outsAt0 m c (t.val - 1) (Nat.lt_of_le_of_lt (Nat.sub_le _ _) t.isLt))) :
    Left m c h q k v xi xf bi bf t (outsAt0 m c t.val t.isLt) := by
  match h, D, P with
  | 0, D, P => exact left_of (ins_0 t D) (stepB_0 m c t ht) (out_0 t) (nrm_0 t) P
  | 1, D, P => exact left_of (ins_1 t D) (stepB_1 m c t ht) (out_1 t) (nrm_1 t) P
  | 2, D, P => exact left_of (ins_2 t D) (stepB_2 m c t ht) (out_2 t) (nrm_2 t) P
  | 3, D, P => exact left_of (ins_3 t D) (stepB_3 m c t ht) (out_3 t) (nrm_3 t) P

/-- Every block leaves every head its state and its rows. -/
theorem left_all {h : Fin 4} (D : Call m c h q k v xi xf bi bf) : ∀ (N : ℕ) (hN : N < cfg0.N),
    Left m c h q k v xi xf bi bf ⟨N, hN⟩ (outsAt0 m c N hN) := by
  intro N
  induction N with
  | zero => exact fun hN => leftA D ⟨0, hN⟩ rfl
  | succ N ih =>
    intro hN
    by_cases ht : (N + 1) % 16 = 0
    · exact leftA D ⟨N + 1, hN⟩ ht
    · refine leftB D ⟨N + 1, hN⟩ ht ?_
      have P := (ih (Nat.lt_of_succ_lt hN)).1
      have e1 : sq ⟨N, Nat.lt_of_succ_lt hN⟩ = sq ⟨N + 1, hN⟩ := Fin.ext (by show N / 16 = (N + 1) / 16; omega)
      have e2 : before ⟨N, Nat.lt_of_succ_lt hN⟩ + 256 = before ⟨N + 1, hN⟩ := by show N % 16 * 256 + 256 = (N + 1) % 16 * 256; omega
      rw [e1, e2] at P
      exact P

/-- The reference's result, as a function of what the call is given. -/
abbrev wanted (m : (ℓ : Loc nD τ sig) → Buf (Elt Ideal) ℓ) (c : Dev nD) : FVec Ideal S16x4096x1024 .bf16 :=
  Ref.res (Ref.hvs (Ref.scs (m ((c.tc : Thread nD τ).loc main_arg0))
      (Ref.wts (Ref.cum (Ref.lfg (m ((c.tc : Thread nD τ).loc main_arg3)) (m ((c.tc : Thread nD τ).loc main_arg5))))
        (Ref.igg (m ((c.tc : Thread nD τ).loc main_arg3)) (m ((c.tc : Thread nD τ).loc main_arg4)))))
      (m ((c.tc : Thread nD τ).loc main_arg1))) (m ((c.tc : Thread nD τ).loc main_arg2)) (m ((c.tc : Thread nD τ).loc main_arg6))

theorem wanted_at {h : Fin 4} (D : Call m c h q k v xi xf bi bf) (n : Fin 16) (s : Fin 4096) (j : Fin 256) :
    wanted m c (ix3 n s ⟨h.val * 256 + j.val, by omega⟩)
      = gated (m ((c.tc : Thread nD τ).loc main_arg2)) (m ((c.tc : Thread nD τ).loc main_arg6)) ⟨n.val * 4096 + s.val, by omega⟩ ⟨h.val * 256 + j.val, by omega⟩
        (Y q k v xi xf bi bf n s.val) j := by
  refine Ref.out_real (y := Y q k v xi xf bi bf n s.val) (fun j => ?_) j
  refine Ref.hvs_real (lf := L xf bf n) (ig := G xi bi n) (fun s => ?_) (fun s => ?_) (D.hq n) (D.hk n) (D.hv n) s j
  · rw [Ref.lfg_at, D.hxf, D.hbf, ← EReal.coe_add, ← EReal.coe_neg, log_one_add, ← EReal.coe_neg]
    rfl
  · rw [Ref.igg_at, D.hxi, D.hbi, ← EReal.coe_add]
    rfl

/-- The array after the run, for inputs that are reals. -/
theorem value (D : ∀ h : Fin 4, ∃ q k v xi xf bi bf, Call m c h q k v xi xf bi bf) : (Gen.dats m 0 c).arrAt 7 (cfgs 0).N = wanted m c := by
  refine (Gen.dats m 0 c).arrAt_eq_of_covers 7 _ (by decide +kernel) fun t hf y => ?_
  blk_simp
  rw [after0_7]
  obtain ⟨s, e, rfl⟩ : ∃ (s : Fin 256) (e : Fin 1024), y = ix3 0 s e := ⟨y 1, y 2, by funext a; fin_cases a <;> first | rfl | exact Fin.ext (Nat.lt_one_iff.mp (y 0).isLt)⟩
  obtain ⟨h, j, rfl⟩ : ∃ (h : Fin 4) (j : Fin 256), e = ⟨h.val * 256 + j.val, by omega⟩ :=
    ⟨⟨e.val / 256, by omega⟩, ⟨e.val % 256, by omega⟩, Fin.ext (by show e.val = e.val / 256 * 256 + e.val % 256; omega)⟩
  obtain ⟨q, k, v, xi, xf, bi, bf, D⟩ := D h
  have l := (left_all D t.val t.isLt).2 s j
  have w := wanted_at D (sq t) (stp t s) j
  have f : (⟨256 * h.val + j.val, by omega⟩ : Fin 1024) = ⟨h.val * 256 + j.val, by omega⟩ := Fin.ext (by show 256 * h.val + j.val = h.val * 256 + j.val; omega)
  rw [f] at l
  refine l.trans (w.symm.trans ?_)
  exact congrArg (wanted m c) (emb7 t s _).symm

end Cert.Proof.Mlstm

end

end
-- ==== Proof.MlstmPre.lean ====
/-
  The mLSTM call's precondition read back: entries whose absolute value is below infinity are reals.
-/
module

public import proofs.«01_k».proof.Proof.MlstmVal
public import proofs.«01_k».proof.Pre_finite7
public import Idealize.ShloMosaic.Lib.ReduceAll

@[expose] public section

set_option maxRecDepth 16384

noncomputable section

namespace Cert.Proof.Mlstm.Pre

open Cert.Pre_finite7 Cert.Pre_finite7.Facts Idealize.ShloMosaic Idealize.ShloMosaic.TcCoe Idealize.SL.Sem

/-- The shapes that the precondition's operations take. -/
theorem facts : Cert.Pre_finite7.Facts where
  bitsLt_bf16_f32 := by decide
  bcast_S_S65536x1024 := by decide
  reducesTo_S65536x1024_S_d0_1 := by decide
  h_S_ := by decide
  bcast_S_S65536x128 := by decide
  reducesTo_S65536x128_S_d0_1 := by decide
  bcast_S_S4 := by decide
  reducesTo_S4_S_d0 := by decide

theorem top_eq : Ideal.ofBits .f32 0x7F800000#32 = (⊤ : EReal) := by
  simp [Ideal.ofBits, Ideal.ieee]

/-- Below infinity in absolute value is a real. -/
theorem real_of (x : EReal) (h : Ideal.cmp .olt (max x (-x)) (Ideal.ofBits .f32 0x7F800000#32) = 1#1) :
    x = ((x.toReal : ℝ) : EReal) := by
  have l : max x (-x) < ⊤ := by
    rw [top_eq] at h
    by_contra hn
    have z : Ideal.cmp .olt (max x (-x)) (⊤ : EReal) = 0#1 := by
      show BitVec.ofBool (decide (max x (-x) < ⊤)) = 0#1
      rw [decide_eq_false hn]
      rfl
    rw [z] at h
    exact absurd h (by decide)
  refine (EReal.coe_toReal ?_ ?_).symm
  · exact (lt_of_le_of_lt (le_max_left _ _) l).ne
  · intro e
    rw [e, EReal.neg_bot] at l
    exact absurd (lt_of_le_of_lt (le_max_right _ _) l) (lt_irrefl _)

variable [Cert.Pre_finite7.Facts]

theorem fn_eq (a0 a1 a2 : FVec Ideal S65536x1024 .bf16) (a3 : FVec Ideal S65536x128 .f32) (a4 a5 : FVec Ideal S4 .f32) (a6 : FVec Ideal S1024 .f32) :
    Cert.Pre_finite7.fn (F := Ideal) a0 a1 a2 a3 a4 a5 a6 = andi (andi (andi (andi
      (Host.reduce IntOp.andi (cmpf .olt (Host.absf (extf .f32 a0 bitsLt_bf16_f32)) (broadcastInDim S65536x1024 ![] bcast_S_S65536x1024 (constant (F := Ideal) S_ .f32 0x7F800000#32))) (constantI S_ 1 1#1) reducesTo_S65536x1024_S_d0_1 h_S_)
      (Host.reduce IntOp.andi (cmpf .olt (Host.absf (extf .f32 a1 bitsLt_bf16_f32)) (broadcastInDim S65536x1024 ![] bcast_S_S65536x1024 (constant (F := Ideal) S_ .f32 0x7F800000#32))) (constantI S_ 1 1#1) reducesTo_S65536x1024_S_d0_1 h_S_))
      (Host.reduce IntOp.andi (cmpf .olt (Host.absf a3) (broadcastInDim S65536x128 ![] bcast_S_S65536x128 (constant (F := Ideal) S_ .f32 0x7F800000#32))) (constantI S_ 1 1#1) reducesTo_S65536x128_S_d0_1 h_S_))
      (Host.reduce IntOp.andi (cmpf .olt (Host.absf a4) (broadcastInDim S4 ![] bcast_S_S4 (constant (F := Ideal) S_ .f32 0x7F800000#32))) (constantI S_ 1 1#1) reducesTo_S4_S_d0 h_S_))
      (Host.reduce IntOp.andi (cmpf .olt (Host.absf a5) (broadcastInDim S4 ![] bcast_S_S4 (constant (F := Ideal) S_ .f32 0x7F800000#32))) (constantI S_ 1 1#1) reducesTo_S4_S_d0 h_S_) := rfl

theorem reals (a0 a1 a2 : FVec Ideal S65536x1024 .bf16) (a3 : FVec Ideal S65536x128 .f32) (a4 a5 : FVec Ideal S4 .f32) (a6 : FVec Ideal S1024 .f32)
    (h : Cert.Pre_finite7.fn (F := Ideal) a0 a1 a2 a3 a4 a5 a6 = fun _ => 1#1) :
    (∀ i, (a0 i : EReal) = ((EReal.toReal (a0 i) : ℝ) : EReal)) ∧ (∀ i, (a1 i : EReal) = ((EReal.toReal (a1 i) : ℝ) : EReal))
    ∧ (∀ i, (a3 i : EReal) = ((EReal.toReal (a3 i) : ℝ) : EReal)) ∧ (∀ i, (a4 i : EReal) = ((EReal.toReal (a4 i) : ℝ) : EReal))
    ∧ (∀ i, (a5 i : EReal) = ((EReal.toReal (a5 i) : ℝ) : EReal)) := by
  rw [fn_eq] at h
  have h0 := congrFun h ix0
  haveI : Subsingleton S_.Idx := ⟨fun a b => funext fun x => x.elim0⟩
  obtain ⟨h0, h5⟩ := IntOp.andi_eq_one.1 h0
  obtain ⟨h0, h4⟩ := IntOp.andi_eq_one.1 h0
  obtain ⟨h0, h3⟩ := IntOp.andi_eq_one.1 h0
  obtain ⟨h0, h1⟩ := IntOp.andi_eq_one.1 h0
  exact ⟨fun i => real_of _ (Host.reduce_andi_all _ _ _ _ _ h0 i), fun i => real_of _ (Host.reduce_andi_all _ _ _ _ _ h1 i), fun i => real_of _ (Host.reduce_andi_all _ _ _ _ _ h3 i),
    fun i => real_of _ (Host.reduce_andi_all _ _ _ _ _ h4 i), fun i => real_of _ (Host.reduce_andi_all _ _ _ _ _ h5 i)⟩

/-- Finite inputs give every head its reals. -/
theorem call_of {a0 a1 : FVec Ideal S65536x1024 .bf16} {a3 : FVec Ideal S65536x128 .f32} {a4 a5 : FVec Ideal S4 .f32}
    (h0 : ∀ i, (a0 i : EReal) = ((EReal.toReal (a0 i) : ℝ) : EReal)) (h1 : ∀ i, (a1 i : EReal) = ((EReal.toReal (a1 i) : ℝ) : EReal))
    (h3 : ∀ i, (a3 i : EReal) = ((EReal.toReal (a3 i) : ℝ) : EReal)) (h4 : ∀ i, (a4 i : EReal) = ((EReal.toReal (a4 i) : ℝ) : EReal))
    (h5 : ∀ i, (a5 i : EReal) = ((EReal.toReal (a5 i) : ℝ) : EReal)) (h : Fin 4) :
    ∃ q k v xi xf bi bf, Reals a0 a1 a3 a4 a5 h q k v xi xf bi bf := by
  have e : ∀ s : Fin 4096, (⟨s.val % 4096, Nat.mod_lt _ (by decide)⟩ : Fin 4096) = s := fun s => Fin.ext (Nat.mod_eq_of_lt s.isLt)
  have w : ∀ {A : Type} (f : Fin 4096 → A) (s : Fin 4096), f ⟨s.val % 4096, Nat.mod_lt _ (by decide)⟩ = f s := fun f s => congrArg f (e s)
  let ex {A : Type} (f : Fin 4096 → A) : ℕ → A := fun u => f ⟨u % 4096, Nat.mod_lt _ (by decide)⟩
  have we : ∀ {A : Type} (f : Fin 4096 → A) (s : Fin 4096), ex f s.val = f s := fun f s => w f s
  refine ⟨fun n => ex fun s d => EReal.toReal (a0 (ix2 ⟨n.val * 4096 + s.val, by omega⟩ ⟨h.val * 128 + d.val, by omega⟩)),
    fun n => ex fun s d => EReal.toReal (a0 (ix2 ⟨n.val * 4096 + s.val, by omega⟩ ⟨512 + (h.val * 128 + d.val), by omega⟩)),
    fun n => ex fun s j => EReal.toReal (a1 (ix2 ⟨n.val * 4096 + s.val, by omega⟩ ⟨h.val * 256 + j.val, by omega⟩)),
    fun n => ex fun s => EReal.toReal (a3 (ix2 ⟨n.val * 4096 + s.val, by omega⟩ ⟨h.val, by omega⟩)),
    fun n => ex fun s => EReal.toReal (a3 (ix2 ⟨n.val * 4096 + s.val, by omega⟩ ⟨4 + h.val, by omega⟩)),
    EReal.toReal (a4 (ix1 h)), EReal.toReal (a5 (ix1 h)), ?_, ?_, ?_, ?_, ?_, h4 _, h5 _⟩
  · intro n s d
    simp only [we]
    exact h0 _
  · intro n s d
    simp only [we]
    exact h0 _
  · intro n s d
    simp only [we]
    exact h1 _
  · intro n s
    simp only [we]
    exact h3 _
  · intro n s
    simp only [we]
    exact h3 _

end Cert.Proof.Mlstm.Pre

end

end
-- ==== Proof.lean ====
module

public import proofs.«01_k».proof.Defs
public import proofs.«01_k».proof.Proof.Dsa
public import proofs.«01_k».proof.Proof.Ffn1
public import proofs.«01_k».proof.Proof.Ffn2
public import proofs.«01_k».proof.Proof.Ffn3
public import proofs.«01_k».proof.Proof.MixOut
public import proofs.«01_k».proof.Proof.MixIn
public import proofs.«01_k».proof.Proof.MixInEq
public import proofs.«01_k».proof.Proof.MlstmVal
public import proofs.«01_k».proof.Proof.MlstmPre
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import Idealize.ShloMosaic.Lib.Quiescent
public import Idealize.ShloMosaic.Lib.StableHlo.RunHlo

@[expose] public section

set_option maxRecDepth 16384

noncomputable section

open Idealize.ShloMosaic Idealize.ShloMosaic.TcCoe Idealize.SL.Sem

/-- The reference of the second feed-forward block leaves its arguments as they were and every counter at zero. -/
theorem Cert.Proof.Ffn2.reference_quiescent : Cert.quiescent_Reference2Ideal := fun m g _ =>
  θ_run_mono (Cert.Reference2Ideal.Value.run m g) fun r h =>
    ⟨fun c => (h c).2, sem_eq_zero_of_no_sems rfl r.2⟩

/-- The second feed-forward block computes its reference's result. -/
theorem Cert.Proof.Ffn2.algebraic : Cert.algebraic_Kernel2Ideal_Reference2Ideal := by
  intro m g m' g' _ hargs
  refine ⟨fun c => (Cert.Kernel2Ideal.Gen.dats m 0 c).arrAt 9 (Cert.Kernel2Ideal.cfgs 0).N,
    Cert.Kernel2Ideal.Value.run_blocks m g, ?_⟩
  refine θ_run_mono (Cert.Reference2Ideal.Value.run m' g') fun r h c => ⟨?_, (h c).2⟩
  obtain ⟨e0, e1, e2, e3, e4, e5, e6, e7, e8⟩ := hargs c
  refine (h c).1.trans (Eq.trans ?_ (Cert.Proof.Ffn2.value m c).symm)
  rw [← e0, ← e1, ← e2, ← e3, ← e4, ← e5, ← e6, ← e7, ← e8]
  rfl

/-- The reference of the first layer's second feed-forward block leaves its arguments as they were and every counter at
    zero. -/
theorem Cert.Proof.Ffn3.reference_quiescent : Cert.quiescent_Reference6Ideal := fun m g _ =>
  θ_run_mono (Cert.Reference6Ideal.Value.run m g) fun r h =>
    ⟨fun c => (h c).2, sem_eq_zero_of_no_sems rfl r.2⟩

/-- The first layer's second feed-forward block computes its reference's result. -/
theorem Cert.Proof.Ffn3.algebraic : Cert.algebraic_Kernel6Ideal_Reference6Ideal := by
  intro m g m' g' _ hargs
  refine ⟨fun c => (Cert.Kernel6Ideal.Gen.dats m 0 c).arrAt 8 (Cert.Kernel6Ideal.cfgs 0).N,
    Cert.Kernel6Ideal.Value.run_blocks m g, ?_⟩
  refine θ_run_mono (Cert.Reference6Ideal.Value.run m' g') fun r h c => ⟨?_, (h c).2⟩
  obtain ⟨e0, e1, e2, e3, e4, e5, e6, e7⟩ := hargs c
  refine (h c).1.trans (Eq.trans ?_ (Cert.Proof.Ffn3.value m c).symm)
  rw [← e0, ← e1, ← e2, ← e3, ← e4, ← e5, ← e6, ← e7]
  rfl

/-- The reference of the first feed-forward block leaves its arguments as they were and every counter at zero. -/
theorem Cert.Proof.Ffn1.reference_quiescent : Cert.quiescent_Reference3Ideal := fun m g _ =>
  θ_run_mono (Cert.Reference3Ideal.Value.run m g) fun r h =>
    ⟨fun c => (h c).2, sem_eq_zero_of_no_sems rfl r.2⟩

/-- The first feed-forward block computes its reference's result. -/
theorem Cert.Proof.Ffn1.algebraic : Cert.algebraic_Kernel3Ideal_Reference3Ideal := by
  intro m g m' g' _ hargs
  refine ⟨fun c => (Cert.Kernel3Ideal.Gen.dats m 0 c).arrAt 4 (Cert.Kernel3Ideal.cfgs 0).N,
    Cert.Kernel3Ideal.Value.run_blocks m g, ?_⟩
  refine θ_run_mono (Cert.Reference3Ideal.Value.run m' g') fun r h c => ⟨?_, (h c).2⟩
  obtain ⟨e0, e1, e2, e3⟩ := hargs c
  refine (h c).1.trans (Eq.trans ?_ (Cert.Proof.Ffn1.value m c).symm)
  rw [← e0, ← e1, ← e2, ← e3]
  rfl

/-- The reference of the mixer's output projection leaves its arguments as they were and every counter at zero. -/
theorem Cert.Proof.MixOut.reference_quiescent : Cert.quiescent_Reference4Ideal := fun m g _ =>
  θ_run_mono (Cert.Reference4Ideal.Value.run m g) fun r h =>
    ⟨fun c => (h c).2, sem_eq_zero_of_no_sems rfl r.2⟩

/-- The mixer's output projection computes its reference's result. -/
theorem Cert.Proof.MixOut.algebraic : Cert.algebraic_Kernel4Ideal_Reference4Ideal := by
  intro m g m' g' _ hargs
  refine ⟨fun c => (Cert.Kernel4Ideal.Gen.dats m 0 c).arrAt 8 (Cert.Kernel4Ideal.cfgs 0).N,
    Cert.Kernel4Ideal.Value.run_blocks m g, ?_⟩
  refine θ_run_mono (Cert.Reference4Ideal.Value.run m' g') fun r h c => ⟨?_, (h c).2⟩
  obtain ⟨e0, e1, e2, e3, e4, e5, e6, e7⟩ := hargs c
  refine (h c).1.trans (Eq.trans ?_ (Cert.Proof.MixOut.value m c).symm)
  rw [← e0, ← e1, ← e2, ← e3, ← e4, ← e5, ← e6, ← e7]
  rfl

/-- The reference of the mixer's input projections leaves its arguments as they were and every counter at zero. -/
theorem Cert.Proof.MixIn.reference_quiescent : Cert.quiescent_Reference5Ideal := fun m g _ =>
  θ_run_mono (Cert.Reference5Ideal.Value.run m g) fun r h =>
    ⟨fun c => (h c).2.2.2.2.2.2.2.2.2, sem_eq_zero_of_no_sems rfl r.2⟩

set_option maxHeartbeats 4000000 in
/-- The mixer's input projections compute their reference's nine results. -/
theorem Cert.Proof.MixIn.algebraic : Cert.algebraic_Kernel5Ideal_Reference5Ideal := by
  intro m g m' g' _ hargs
  refine ⟨fun c => (Cert.Kernel5Ideal.Gen.dats m 0 c).arrAt 13 (Cert.Kernel5Ideal.cfgs 0).N,
    fun c => (Cert.Kernel5Ideal.Gen.dats m 0 c).arrAt 14 (Cert.Kernel5Ideal.cfgs 0).N,
    fun c => (Cert.Kernel5Ideal.Gen.dats m 0 c).arrAt 15 (Cert.Kernel5Ideal.cfgs 0).N,
    fun c => (Cert.Kernel5Ideal.Gen.dats m 0 c).arrAt 16 (Cert.Kernel5Ideal.cfgs 0).N,
    fun c => (Cert.Kernel5Ideal.Gen.dats m 0 c).arrAt 17 (Cert.Kernel5Ideal.cfgs 0).N,
    fun c => (Cert.Kernel5Ideal.Gen.dats m 0 c).arrAt 18 (Cert.Kernel5Ideal.cfgs 0).N,
    fun c => (Cert.Kernel5Ideal.Gen.dats m 0 c).arrAt 19 (Cert.Kernel5Ideal.cfgs 0).N,
    fun c => (Cert.Kernel5Ideal.Gen.dats m 0 c).arrAt 20 (Cert.Kernel5Ideal.cfgs 0).N,
    fun c => (Cert.Kernel5Ideal.Gen.dats m 0 c).arrAt 21 (Cert.Kernel5Ideal.cfgs 0).N,
    Cert.Kernel5Ideal.Value.run_blocks m g, ?_⟩
  refine θ_run_mono (Cert.Proof.MixIn.ref_run m' g') fun r h c => ?_
  obtain ⟨e0, e1, e2, e3, e4⟩ := hargs c
  have e : Cert.Proof.MixIn.projAt m' c = Cert.Proof.MixIn.Q m c := by
    unfold Cert.Proof.MixIn.projAt Cert.Proof.MixIn.Q Cert.Proof.MixIn.A
    rw [← e0, ← e1, ← e2]
  obtain ⟨h0, h1, h2, h3, h4, h5, h6, h7, h8, hk⟩ := h c
  rw [e] at h0 h1 h2 h3 h4 h5 h6 h7 h8
  rw [e3, e4] at h0
  exact ⟨h0.trans (Cert.Proof.MixIn.value13 m c).symm, h1.trans (Cert.Proof.MixIn.value14 m c).symm,
    h2.trans (Cert.Proof.MixIn.value15 m c).symm, h3.trans (Cert.Proof.MixIn.value16 m c).symm,
    h4.trans (Cert.Proof.MixIn.value17 m c).symm, h5.trans (Cert.Proof.MixIn.value18 m c).symm,
    h6.trans (Cert.Proof.MixIn.value19 m c).symm, h7.trans (Cert.Proof.MixIn.value20 m c).symm,
    h8.trans (Cert.Proof.MixIn.value21 m c).symm, hk⟩

/-- The reference of the mLSTM memory leaves its arguments as they were and every counter at zero. -/
theorem Cert.Proof.Mlstm.reference_quiescent : Cert.quiescent_Reference7Ideal := fun m g _ =>
  θ_run_mono (Cert.Reference7Ideal.Value.run m g) fun r h =>
    ⟨fun c => (h c).2, sem_eq_zero_of_no_sems rfl r.2⟩

/-- The mLSTM memory computes its reference's result from finite inputs. -/
theorem Cert.Proof.Mlstm.algebraic :
    Cert.algebraic_Kernel7Ideal_Reference7Ideal_pre_finite7 (hPre_finite7 := Cert.Proof.Mlstm.Pre.facts) := by
  haveI := Cert.Proof.Mlstm.Pre.facts
  intro m g m' g' hpre hargs
  refine ⟨fun c => (Cert.Kernel7Ideal.Gen.dats m 0 c).arrAt 7 (Cert.Kernel7Ideal.cfgs 0).N,
    Cert.Kernel7Ideal.Value.run_blocks m g, ?_⟩
  refine θ_run_mono (Cert.Reference7Ideal.Value.run m' g') fun r h c => ⟨?_, (h c).2⟩
  obtain ⟨e0, e1, e2, e3, e4, e5, e6⟩ := hargs c
  obtain ⟨f0, f1, f3, f4, f5⟩ := @Cert.Proof.Mlstm.Pre.reals Cert.Proof.Mlstm.Pre.facts _ _ _ _ _ _ _ (hpre c)
  refine (h c).1.trans (Eq.trans ?_ (Cert.Proof.Mlstm.value (m := m) (c := c) (Cert.Proof.Mlstm.Pre.call_of f0 f1 f3 f4 f5)).symm)
  refine (Cert.Proof.Mlstm.Ref.res_eq m' c).trans ?_
  rw [e0, e1, e2, e3, e4, e5, e6]

/-- The sparse attention, the mLSTM memory, the feed-forward blocks and the mixer's projections leave their arguments as
    they were and every semaphore counter at zero; all but the sparse attention compute their references' results. -/
theorem Cert.Proof.claim : Cert.Claim :=
  ⟨Cert.Kernel.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Proof.Mlstm.Pre.facts,
    fun m g _ => Cert.Proof.Dsa.quiescent m g,
    fun m g _ => Cert.Kernel2.Gen.frame m g, fun m g _ => Cert.Kernel2Ideal.Gen.frame m g,
    Cert.Proof.Ffn2.reference_quiescent,
    fun m g _ => Cert.Kernel3.Gen.frame m g, fun m g _ => Cert.Kernel3Ideal.Gen.frame m g,
    Cert.Proof.Ffn1.reference_quiescent,
    fun m g _ => Cert.Kernel4.Gen.frame m g, fun m g _ => Cert.Kernel4Ideal.Gen.frame m g,
    Cert.Proof.MixOut.reference_quiescent,
    fun m g _ => Cert.Kernel5.Gen.frame m g, fun m g _ => Cert.Kernel5Ideal.Gen.frame m g,
    Cert.Proof.MixIn.reference_quiescent,
    fun m g _ => Cert.Kernel6.Gen.frame m g, fun m g _ => Cert.Kernel6Ideal.Gen.frame m g,
    Cert.Proof.Ffn3.reference_quiescent,
    fun m g _ => Cert.Kernel7.Gen.frame m g, fun m g _ => Cert.Kernel7Ideal.Gen.frame m g,
    fun m g _ => Cert.Kernel7Ideal.Gen.frame m g, Cert.Proof.Mlstm.reference_quiescent,
    fun m g _ => Cert.Proof.Mlstm.reference_quiescent m g trivial,
    trivial, Cert.Proof.Ffn2.algebraic,
    trivial, Cert.Proof.Ffn1.algebraic,
    trivial, Cert.Proof.MixOut.algebraic,
    trivial, Cert.Proof.MixIn.algebraic,
    trivial, Cert.Proof.Ffn3.algebraic,
    trivial, Cert.Proof.Mlstm.algebraic⟩

end
